-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_Shared (m : (ℓ : Loc Cert.Shared.nD Cert.Shared.τ Cert.Shared.sig) → Buf (Elt Bits) ℓ) : Prop :=
  True

def Pre_SharedIdeal (m : (ℓ : Loc Cert.SharedIdeal.nD Cert.SharedIdeal.τ Cert.SharedIdeal.sig) → Buf (Elt Ideal) ℓ) : Prop :=
  True

def Pre_SharedReferenceIdeal (m : (ℓ : Loc Cert.SharedReferenceIdeal.nD Cert.SharedReferenceIdeal.τ Cert.SharedReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_SharedLast (m : (ℓ : Loc Cert.SharedLast.nD Cert.SharedLast.τ Cert.SharedLast.sig) → Buf (Elt Bits) ℓ) : Prop :=
  True

def Pre_SharedLastIdeal (m : (ℓ : Loc Cert.SharedLastIdeal.nD Cert.SharedLastIdeal.τ Cert.SharedLastIdeal.sig) → Buf (Elt Ideal) ℓ) : Prop :=
  True

def Pre_SharedLastReferenceIdeal (m : (ℓ : Loc Cert.SharedLastReferenceIdeal.nD Cert.SharedLastReferenceIdeal.τ Cert.SharedLastReferenceIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojReferenceIdeal (m : (ℓ : Loc Cert.OutprojReferenceIdeal.nD Cert.OutprojReferenceIdeal.τ Cert.OutprojReferenceIdeal.sig) → Buf (Elt Ideal) ℓ) : Prop :=
  True

def Pre_Mods (m : (ℓ : Loc Cert.Mods.nD Cert.Mods.τ Cert.Mods.sig) → Buf (Elt Bits) ℓ) : Prop :=
  True

def Pre_ModsIdeal (m : (ℓ : Loc Cert.ModsIdeal.nD Cert.ModsIdeal.τ Cert.ModsIdeal.sig) → Buf (Elt Ideal) ℓ) : Prop :=
  True

def Pre_ModsReferenceIdeal (m : (ℓ : Loc Cert.ModsReferenceIdeal.nD Cert.ModsReferenceIdeal.τ Cert.ModsReferenceIdeal.sig) → Buf (Elt Ideal) ℓ) : Prop :=
  True

def Pre_Dest (m : (ℓ : Loc Cert.Dest.nD Cert.Dest.τ Cert.Dest.sig) → Buf (Elt Bits) ℓ) : Prop :=
  True

def Pre_DestIdeal (m : (ℓ : Loc Cert.DestIdeal.nD Cert.DestIdeal.τ Cert.DestIdeal.sig) → Buf (Elt Ideal) ℓ) : Prop :=
  True

def Pre_DestReferenceIdeal (m : (ℓ : Loc Cert.DestReferenceIdeal.nD Cert.DestReferenceIdeal.τ Cert.DestReferenceIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineReferenceIdeal (m : (ℓ : Loc Cert.CombineReferenceIdeal.nD Cert.CombineReferenceIdeal.τ Cert.CombineReferenceIdeal.sig) → Buf (Elt Ideal) ℓ) : Prop :=
  True

def Pre_DestLast (m : (ℓ : Loc Cert.DestLast.nD Cert.DestLast.τ Cert.DestLast.sig) → Buf (Elt Bits) ℓ) : Prop :=
  True

def Pre_DestLastIdeal (m : (ℓ : Loc Cert.DestLastIdeal.nD Cert.DestLastIdeal.τ Cert.DestLastIdeal.sig) → Buf (Elt Ideal) ℓ) : Prop :=
  True

def Pre_DestLastReferenceIdeal (m : (ℓ : Loc Cert.DestLastReferenceIdeal.nD Cert.DestLastReferenceIdeal.τ Cert.DestLastReferenceIdeal.sig) → Buf (Elt Ideal) ℓ) : Prop :=
  True

def Pre_CombineFirst (m : (ℓ : Loc Cert.CombineFirst.nD Cert.CombineFirst.τ Cert.CombineFirst.sig) → Buf (Elt Bits) ℓ) : Prop :=
  True

def Pre_CombineFirstIdeal (m : (ℓ : Loc Cert.CombineFirstIdeal.nD Cert.CombineFirstIdeal.τ Cert.CombineFirstIdeal.sig) → Buf (Elt Ideal) ℓ) : Prop :=
  True

def Pre_CombineFirstReferenceIdeal (m : (ℓ : Loc Cert.CombineFirstReferenceIdeal.nD Cert.CombineFirstReferenceIdeal.τ Cert.CombineFirstReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8)
      ∧ r.2.mem ((c.tc : Thread Cert.Qkv.nD Cert.Qkv.τ).loc Cert.Qkv.main_arg9) = m ((c.tc : Thread Cert.Qkv.nD Cert.Qkv.τ).loc Cert.Qkv.main_arg9))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
      ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4)
      ∧ r.2.mem ((c.tc : Thread Cert.QkvReferenceIdeal.nD Cert.QkvReferenceIdeal.τ).loc Cert.QkvReferenceIdeal.main_arg5) = m ((c.tc : Thread Cert.QkvReferenceIdeal.nD Cert.QkvReferenceIdeal.τ).loc Cert.QkvReferenceIdeal.main_arg5)
      ∧ r.2.mem ((c.tc : Thread Cert.QkvReferenceIdeal.nD Cert.QkvReferenceIdeal.τ).loc Cert.QkvReferenceIdeal.main_arg6) = m ((c.tc : Thread Cert.QkvReferenceIdeal.nD Cert.QkvReferenceIdeal.τ).loc Cert.QkvReferenceIdeal.main_arg6)
      ∧ r.2.mem ((c.tc : Thread Cert.QkvReferenceIdeal.nD Cert.QkvReferenceIdeal.τ).loc Cert.QkvReferenceIdeal.main_arg7) = m ((c.tc : Thread Cert.QkvReferenceIdeal.nD Cert.QkvReferenceIdeal.τ).loc Cert.QkvReferenceIdeal.main_arg7)
      ∧ r.2.mem ((c.tc : Thread Cert.QkvReferenceIdeal.nD Cert.QkvReferenceIdeal.τ).loc Cert.QkvReferenceIdeal.main_arg8) = m ((c.tc : Thread Cert.QkvReferenceIdeal.nD Cert.QkvReferenceIdeal.τ).loc Cert.QkvReferenceIdeal.main_arg8)
      ∧ r.2.mem ((c.tc : Thread Cert.QkvReferenceIdeal.nD Cert.QkvReferenceIdeal.τ).loc Cert.QkvReferenceIdeal.main_arg9) = m ((c.tc : Thread Cert.QkvReferenceIdeal.nD Cert.QkvReferenceIdeal.τ).loc Cert.QkvReferenceIdeal.main_arg9))
      ∧ r.2.sem = fun _ => 0)

def quiescent_Shared [hShared : Cert.Shared.Facts] : Prop :=
  ∀ (m : (ℓ : Loc Cert.Shared.nD Cert.Shared.τ Cert.Shared.sig) → Buf (Elt Bits) ℓ) (g : Dev Cert.Shared.nD → PrngReg), Pre_Shared m →
    θ_run (Cert.Shared.defs (F := Bits)) (onTc (τ := Cert.Shared.τ) (Cert.Shared.main (F := Bits))) ⟨m, fun _ => 0, g⟩ (fun r => (∀ c : Dev Cert.Shared.nD,
      r.2.mem ((c.tc : Thread Cert.Shared.nD Cert.Shared.τ).loc Cert.Shared.main_arg0) = m ((c.tc : Thread Cert.Shared.nD Cert.Shared.τ).loc Cert.Shared.main_arg0)
      ∧ r.2.mem ((c.tc : Thread Cert.Shared.nD Cert.Shared.τ).loc Cert.Shared.main_arg1) = m ((c.tc : Thread Cert.Shared.nD Cert.Shared.τ).loc Cert.Shared.main_arg1)
      ∧ r.2.mem ((c.tc : Thread Cert.Shared.nD Cert.Shared.τ).loc Cert.Shared.main_arg2) = m ((c.tc : Thread Cert.Shared.nD Cert.Shared.τ).loc Cert.Shared.main_arg2)
      ∧ r.2.mem ((c.tc : Thread Cert.Shared.nD Cert.Shared.τ).loc Cert.Shared.main_arg3) = m ((c.tc : Thread Cert.Shared.nD Cert.Shared.τ).loc Cert.Shared.main_arg3))
      ∧ r.2.sem = fun _ => 0)

def quiescent_SharedIdeal [hSharedIdeal : Cert.SharedIdeal.Facts] : Prop :=
  ∀ (m : (ℓ : Loc Cert.SharedIdeal.nD Cert.SharedIdeal.τ Cert.SharedIdeal.sig) → Buf (Elt Ideal) ℓ) (g : Dev Cert.SharedIdeal.nD → PrngReg), Pre_SharedIdeal m →
    θ_run (Cert.SharedIdeal.defs (F := Ideal)) (onTc (τ := Cert.SharedIdeal.τ) (Cert.SharedIdeal.main (F := Ideal))) ⟨m, fun _ => 0, g⟩ (fun r => (∀ c : Dev Cert.SharedIdeal.nD,
      r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
      ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1)
      ∧ r.2.mem ((c.tc : Thread Cert.SharedIdeal.nD Cert.SharedIdeal.τ).loc Cert.SharedIdeal.main_arg2) = m ((c.tc : Thread Cert.SharedIdeal.nD Cert.SharedIdeal.τ).loc Cert.SharedIdeal.main_arg2)
      ∧ r.2.mem ((c.tc : Thread Cert.SharedIdeal.nD Cert.SharedIdeal.τ).loc Cert.SharedIdeal.main_arg3) = m ((c.tc : Thread Cert.SharedIdeal.nD Cert.SharedIdeal.τ).loc Cert.SharedIdeal.main_arg3))
      ∧ r.2.sem = fun _ => 0)

def quiescent_SharedReferenceIdeal [hSharedReferenceIdeal : Cert.SharedReferenceIdeal.Facts] : Prop :=
  ∀ (m : (ℓ : Loc Cert.SharedReferenceIdeal.nD Cert.SharedReferenceIdeal.τ Cert.SharedReferenceIdeal.sig) → Buf (Elt Ideal) ℓ) (g : Dev Cert.SharedReferenceIdeal.nD → PrngReg), Pre_SharedReferenceIdeal m →
    θ_run (Cert.SharedReferenceIdeal.defs (F := Ideal)) (onTc (τ := Cert.SharedReferenceIdeal.τ) (Cert.SharedReferenceIdeal.main (F := Ideal))) ⟨m, fun _ => 0, g⟩ (fun r => (∀ c : Dev Cert.SharedReferenceIdeal.nD,
      r.2.mem ((c.tc : Thread Cert.SharedReferenceIdeal.nD Cert.SharedReferenceIdeal.τ).loc Cert.SharedReferenceIdeal.main_arg0) = m ((c.tc : Thread Cert.SharedReferenceIdeal.nD Cert.SharedReferenceIdeal.τ).loc Cert.SharedReferenceIdeal.main_arg0)
      ∧ r.2.mem ((c.tc : Thread Cert.SharedReferenceIdeal.nD Cert.SharedReferenceIdeal.τ).loc Cert.SharedReferenceIdeal.main_arg1) = m ((c.tc : Thread Cert.SharedReferenceIdeal.nD Cert.SharedReferenceIdeal.τ).loc Cert.SharedReferenceIdeal.main_arg1)
      ∧ r.2.mem ((c.tc : Thread Cert.SharedReferenceIdeal.nD Cert.SharedReferenceIdeal.τ).loc Cert.SharedReferenceIdeal.main_arg2) = m ((c.tc : Thread Cert.SharedReferenceIdeal.nD Cert.SharedReferenceIdeal.τ).loc Cert.SharedReferenceIdeal.main_arg2)
      ∧ r.2.mem ((c.tc : Thread Cert.SharedReferenceIdeal.nD Cert.SharedReferenceIdeal.τ).loc Cert.SharedReferenceIdeal.main_arg3) = m ((c.tc : Thread Cert.SharedReferenceIdeal.nD Cert.SharedReferenceIdeal.τ).loc Cert.SharedReferenceIdeal.main_arg3))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7)
      ∧ r.2.mem ((c.tc : Thread Cert.Inproj.nD Cert.Inproj.τ).loc Cert.Inproj.main_arg8) = m ((c.tc : Thread Cert.Inproj.nD Cert.Inproj.τ).loc Cert.Inproj.main_arg8)
      ∧ r.2.mem ((c.tc : Thread Cert.Inproj.nD Cert.Inproj.τ).loc Cert.Inproj.main_arg9) = m ((c.tc : Thread Cert.Inproj.nD Cert.Inproj.τ).loc Cert.Inproj.main_arg9))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
      ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5)
      ∧ r.2.mem ((c.tc : Thread Cert.InprojReferenceIdeal.nD Cert.InprojReferenceIdeal.τ).loc Cert.InprojReferenceIdeal.main_arg6) = m ((c.tc : Thread Cert.InprojReferenceIdeal.nD Cert.InprojReferenceIdeal.τ).loc Cert.InprojReferenceIdeal.main_arg6)
      ∧ r.2.mem ((c.tc : Thread Cert.InprojReferenceIdeal.nD Cert.InprojReferenceIdeal.τ).loc Cert.InprojReferenceIdeal.main_arg7) = m ((c.tc : Thread Cert.InprojReferenceIdeal.nD Cert.InprojReferenceIdeal.τ).loc Cert.InprojReferenceIdeal.main_arg7)
      ∧ r.2.mem ((c.tc : Thread Cert.InprojReferenceIdeal.nD Cert.InprojReferenceIdeal.τ).loc Cert.InprojReferenceIdeal.main_arg8) = m ((c.tc : Thread Cert.InprojReferenceIdeal.nD Cert.InprojReferenceIdeal.τ).loc Cert.InprojReferenceIdeal.main_arg8)
      ∧ r.2.mem ((c.tc : Thread Cert.InprojReferenceIdeal.nD Cert.InprojReferenceIdeal.τ).loc Cert.InprojReferenceIdeal.main_arg9) = m ((c.tc : Thread Cert.InprojReferenceIdeal.nD Cert.InprojReferenceIdeal.τ).loc Cert.InprojReferenceIdeal.main_arg9))
      ∧ r.2.sem = fun _ => 0)

def quiescent_SharedLast [hSharedLast : Cert.SharedLast.Facts] : Prop :=
  ∀ (m : (ℓ : Loc Cert.SharedLast.nD Cert.SharedLast.τ Cert.SharedLast.sig) → Buf (Elt Bits) ℓ) (g : Dev Cert.SharedLast.nD → PrngReg), Pre_SharedLast m →
    θ_run (Cert.SharedLast.defs (F := Bits)) (onTc (τ := Cert.SharedLast.τ) (Cert.SharedLast.main (F := Bits))) ⟨m, fun _ => 0, g⟩ (fun r => (∀ c : Dev Cert.SharedLast.nD,
      r.2.mem ((c.tc : Thread Cert.SharedLast.nD Cert.SharedLast.τ).loc Cert.SharedLast.main_arg0) = m ((c.tc : Thread Cert.SharedLast.nD Cert.SharedLast.τ).loc Cert.SharedLast.main_arg0)
      ∧ r.2.mem ((c.tc : Thread Cert.SharedLast.nD Cert.SharedLast.τ).loc Cert.SharedLast.main_arg1) = m ((c.tc : Thread Cert.SharedLast.nD Cert.SharedLast.τ).loc Cert.SharedLast.main_arg1)
      ∧ r.2.mem ((c.tc : Thread Cert.SharedLast.nD Cert.SharedLast.τ).loc Cert.SharedLast.main_arg2) = m ((c.tc : Thread Cert.SharedLast.nD Cert.SharedLast.τ).loc Cert.SharedLast.main_arg2)
      ∧ r.2.mem ((c.tc : Thread Cert.SharedLast.nD Cert.SharedLast.τ).loc Cert.SharedLast.main_arg3) = m ((c.tc : Thread Cert.SharedLast.nD Cert.SharedLast.τ).loc Cert.SharedLast.main_arg3))
      ∧ r.2.sem = fun _ => 0)

def quiescent_SharedLastIdeal [hSharedLastIdeal : Cert.SharedLastIdeal.Facts] : Prop :=
  ∀ (m : (ℓ : Loc Cert.SharedLastIdeal.nD Cert.SharedLastIdeal.τ Cert.SharedLastIdeal.sig) → Buf (Elt Ideal) ℓ) (g : Dev Cert.SharedLastIdeal.nD → PrngReg), Pre_SharedLastIdeal m →
    θ_run (Cert.SharedLastIdeal.defs (F := Ideal)) (onTc (τ := Cert.SharedLastIdeal.τ) (Cert.SharedLastIdeal.main (F := Ideal))) ⟨m, fun _ => 0, g⟩ (fun r => (∀ c : Dev Cert.SharedLastIdeal.nD,
      r.2.mem ((c.tc : Thread Cert.SharedLastIdeal.nD Cert.SharedLastIdeal.τ).loc Cert.SharedLastIdeal.main_arg0) = m ((c.tc : Thread Cert.SharedLastIdeal.nD Cert.SharedLastIdeal.τ).loc Cert.SharedLastIdeal.main_arg0)
      ∧ r.2.mem ((c.tc : Thread Cert.SharedLastIdeal.nD Cert.SharedLastIdeal.τ).loc Cert.SharedLastIdeal.main_arg1) = m ((c.tc : Thread Cert.SharedLastIdeal.nD Cert.SharedLastIdeal.τ).loc Cert.SharedLastIdeal.main_arg1)
      ∧ r.2.mem ((c.tc : Thread Cert.SharedLastIdeal.nD Cert.SharedLastIdeal.τ).loc Cert.SharedLastIdeal.main_arg2) = m ((c.tc : Thread Cert.SharedLastIdeal.nD Cert.SharedLastIdeal.τ).loc Cert.SharedLastIdeal.main_arg2)
      ∧ r.2.mem ((c.tc : Thread Cert.SharedLastIdeal.nD Cert.SharedLastIdeal.τ).loc Cert.SharedLastIdeal.main_arg3) = m ((c.tc : Thread Cert.SharedLastIdeal.nD Cert.SharedLastIdeal.τ).loc Cert.SharedLastIdeal.main_arg3))
      ∧ r.2.sem = fun _ => 0)

def quiescent_SharedLastReferenceIdeal [hSharedLastReferenceIdeal : Cert.SharedLastReferenceIdeal.Facts] : Prop :=
  ∀ (m : (ℓ : Loc Cert.SharedLastReferenceIdeal.nD Cert.SharedLastReferenceIdeal.τ Cert.SharedLastReferenceIdeal.sig) → Buf (Elt Ideal) ℓ) (g : Dev Cert.SharedLastReferenceIdeal.nD → PrngReg), Pre_SharedLastReferenceIdeal m →
    θ_run (Cert.SharedLastReferenceIdeal.defs (F := Ideal)) (onTc (τ := Cert.SharedLastReferenceIdeal.τ) (Cert.SharedLastReferenceIdeal.main (F := Ideal))) ⟨m, fun _ => 0, g⟩ (fun r => (∀ c : Dev Cert.SharedLastReferenceIdeal.nD,
      r.2.mem ((c.tc : Thread Cert.SharedLastReferenceIdeal.nD Cert.SharedLastReferenceIdeal.τ).loc Cert.SharedLastReferenceIdeal.main_arg0) = m ((c.tc : Thread Cert.SharedLastReferenceIdeal.nD Cert.SharedLastReferenceIdeal.τ).loc Cert.SharedLastReferenceIdeal.main_arg0)
      ∧ r.2.mem ((c.tc : Thread Cert.SharedLastReferenceIdeal.nD Cert.SharedLastReferenceIdeal.τ).loc Cert.SharedLastReferenceIdeal.main_arg1) = m ((c.tc : Thread Cert.SharedLastReferenceIdeal.nD Cert.SharedLastReferenceIdeal.τ).loc Cert.SharedLastReferenceIdeal.main_arg1)
      ∧ r.2.mem ((c.tc : Thread Cert.SharedLastReferenceIdeal.nD Cert.SharedLastReferenceIdeal.τ).loc Cert.SharedLastReferenceIdeal.main_arg2) = m ((c.tc : Thread Cert.SharedLastReferenceIdeal.nD Cert.SharedLastReferenceIdeal.τ).loc Cert.SharedLastReferenceIdeal.main_arg2)
      ∧ r.2.mem ((c.tc : Thread Cert.SharedLastReferenceIdeal.nD Cert.SharedLastReferenceIdeal.τ).loc Cert.SharedLastReferenceIdeal.main_arg3) = m ((c.tc : Thread Cert.SharedLastReferenceIdeal.nD Cert.SharedLastReferenceIdeal.τ).loc Cert.SharedLastReferenceIdeal.main_arg3))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5)
      ∧ r.2.mem ((c.tc : Thread Cert.Outproj.nD Cert.Outproj.τ).loc Cert.Outproj.main_arg6) = m ((c.tc : Thread Cert.Outproj.nD Cert.Outproj.τ).loc Cert.Outproj.main_arg6)
      ∧ r.2.mem ((c.tc : Thread Cert.Outproj.nD Cert.Outproj.τ).loc Cert.Outproj.main_arg7) = m ((c.tc : Thread Cert.Outproj.nD Cert.Outproj.τ).loc Cert.Outproj.main_arg7)
      ∧ r.2.mem ((c.tc : Thread Cert.Outproj.nD Cert.Outproj.τ).loc Cert.Outproj.main_arg8) = m ((c.tc : Thread Cert.Outproj.nD Cert.Outproj.τ).loc Cert.Outproj.main_arg8)
      ∧ r.2.mem ((c.tc : Thread Cert.Outproj.nD Cert.Outproj.τ).loc Cert.Outproj.main_arg9) = m ((c.tc : Thread Cert.Outproj.nD Cert.Outproj.τ).loc Cert.Outproj.main_arg9))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
      ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
      ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8)
      ∧ r.2.mem ((c.tc : Thread Cert.OutprojIdeal.nD Cert.OutprojIdeal.τ).loc Cert.OutprojIdeal.main_arg9) = m ((c.tc : Thread Cert.OutprojIdeal.nD Cert.OutprojIdeal.τ).loc Cert.OutprojIdeal.main_arg9))
      ∧ r.2.sem = fun _ => 0)

def quiescent_OutprojReferenceIdeal [hOutprojReferenceIdeal : Cert.OutprojReferenceIdeal.Facts] : Prop :=
  ∀ (m : (ℓ : Loc Cert.OutprojReferenceIdeal.nD Cert.OutprojReferenceIdeal.τ Cert.OutprojReferenceIdeal.sig) → Buf (Elt Ideal) ℓ) (g : Dev Cert.OutprojReferenceIdeal.nD → PrngReg), Pre_OutprojReferenceIdeal m →
    θ_run (Cert.OutprojReferenceIdeal.defs (F := Ideal)) (onTc (τ := Cert.OutprojReferenceIdeal.τ) (Cert.OutprojReferenceIdeal.main (F := Ideal))) ⟨m, fun _ => 0, g⟩ (fun r => (∀ c : Dev Cert.OutprojReferenceIdeal.nD,
      r.2.mem ((c.tc : Thread Cert.OutprojReferenceIdeal.nD Cert.OutprojReferenceIdeal.τ).loc Cert.OutprojReferenceIdeal.main_arg0) = m ((c.tc : Thread Cert.OutprojReferenceIdeal.nD Cert.OutprojReferenceIdeal.τ).loc Cert.OutprojReferenceIdeal.main_arg0)
      ∧ r.2.mem ((c.tc : Thread Cert.OutprojReferenceIdeal.nD Cert.OutprojReferenceIdeal.τ).loc Cert.OutprojReferenceIdeal.main_arg1) = m ((c.tc : Thread Cert.OutprojReferenceIdeal.nD Cert.OutprojReferenceIdeal.τ).loc Cert.OutprojReferenceIdeal.main_arg1)
      ∧ r.2.mem ((c.tc : Thread Cert.OutprojReferenceIdeal.nD Cert.OutprojReferenceIdeal.τ).loc Cert.OutprojReferenceIdeal.main_arg2) = m ((c.tc : Thread Cert.OutprojReferenceIdeal.nD Cert.OutprojReferenceIdeal.τ).loc Cert.OutprojReferenceIdeal.main_arg2)
      ∧ r.2.mem ((c.tc : Thread Cert.OutprojReferenceIdeal.nD Cert.OutprojReferenceIdeal.τ).loc Cert.OutprojReferenceIdeal.main_arg3) = m ((c.tc : Thread Cert.OutprojReferenceIdeal.nD Cert.OutprojReferenceIdeal.τ).loc Cert.OutprojReferenceIdeal.main_arg3)
      ∧ r.2.mem ((c.tc : Thread Cert.OutprojReferenceIdeal.nD Cert.OutprojReferenceIdeal.τ).loc Cert.OutprojReferenceIdeal.main_arg4) = m ((c.tc : Thread Cert.OutprojReferenceIdeal.nD Cert.OutprojReferenceIdeal.τ).loc Cert.OutprojReferenceIdeal.main_arg4)
      ∧ r.2.mem ((c.tc : Thread Cert.OutprojReferenceIdeal.nD Cert.OutprojReferenceIdeal.τ).loc Cert.OutprojReferenceIdeal.main_arg5) = m ((c.tc : Thread Cert.OutprojReferenceIdeal.nD Cert.OutprojReferenceIdeal.τ).loc Cert.OutprojReferenceIdeal.main_arg5)
      ∧ r.2.mem ((c.tc : Thread Cert.OutprojReferenceIdeal.nD Cert.OutprojReferenceIdeal.τ).loc Cert.OutprojReferenceIdeal.main_arg6) = m ((c.tc : Thread Cert.OutprojReferenceIdeal.nD Cert.OutprojReferenceIdeal.τ).loc Cert.OutprojReferenceIdeal.main_arg6)
      ∧ r.2.mem ((c.tc : Thread Cert.OutprojReferenceIdeal.nD Cert.OutprojReferenceIdeal.τ).loc Cert.OutprojReferenceIdeal.main_arg7) = m ((c.tc : Thread Cert.OutprojReferenceIdeal.nD Cert.OutprojReferenceIdeal.τ).loc Cert.OutprojReferenceIdeal.main_arg7)
      ∧ r.2.mem ((c.tc : Thread Cert.OutprojReferenceIdeal.nD Cert.OutprojReferenceIdeal.τ).loc Cert.OutprojReferenceIdeal.main_arg8) = m ((c.tc : Thread Cert.OutprojReferenceIdeal.nD Cert.OutprojReferenceIdeal.τ).loc Cert.OutprojReferenceIdeal.main_arg8)
      ∧ r.2.mem ((c.tc : Thread Cert.OutprojReferenceIdeal.nD Cert.OutprojReferenceIdeal.τ).loc Cert.OutprojReferenceIdeal.main_arg9) = m ((c.tc : Thread Cert.OutprojReferenceIdeal.nD Cert.OutprojReferenceIdeal.τ).loc Cert.OutprojReferenceIdeal.main_arg9))
      ∧ r.2.sem = fun _ => 0)

def quiescent_Mods [hMods : Cert.Mods.Facts] : Prop :=
  ∀ (m : (ℓ : Loc Cert.Mods.nD Cert.Mods.τ Cert.Mods.sig) → Buf (Elt Bits) ℓ) (g : Dev Cert.Mods.nD → PrngReg), Pre_Mods m →
    θ_run (Cert.Mods.defs (F := Bits)) (onTc (τ := Cert.Mods.τ) (Cert.Mods.main (F := Bits))) ⟨m, fun _ => 0, g⟩ (fun r => (∀ c : Dev Cert.Mods.nD,
      r.2.mem ((c.tc : Thread Cert.Mods.nD Cert.Mods.τ).loc Cert.Mods.main_arg0) = m ((c.tc : Thread Cert.Mods.nD Cert.Mods.τ).loc Cert.Mods.main_arg0)
      ∧ r.2.mem ((c.tc : Thread Cert.Mods.nD Cert.Mods.τ).loc Cert.Mods.main_arg1) = m ((c.tc : Thread Cert.Mods.nD Cert.Mods.τ).loc Cert.Mods.main_arg1)
      ∧ r.2.mem ((c.tc : Thread Cert.Mods.nD Cert.Mods.τ).loc Cert.Mods.main_arg2) = m ((c.tc : Thread Cert.Mods.nD Cert.Mods.τ).loc Cert.Mods.main_arg2)
      ∧ r.2.mem ((c.tc : Thread Cert.Mods.nD Cert.Mods.τ).loc Cert.Mods.main_arg3) = m ((c.tc : Thread Cert.Mods.nD Cert.Mods.τ).loc Cert.Mods.main_arg3))
      ∧ r.2.sem = fun _ => 0)

def quiescent_ModsIdeal [hModsIdeal : Cert.ModsIdeal.Facts] : Prop :=
  ∀ (m : (ℓ : Loc Cert.ModsIdeal.nD Cert.ModsIdeal.τ Cert.ModsIdeal.sig) → Buf (Elt Ideal) ℓ) (g : Dev Cert.ModsIdeal.nD → PrngReg), Pre_ModsIdeal m →
    θ_run (Cert.ModsIdeal.defs (F := Ideal)) (onTc (τ := Cert.ModsIdeal.τ) (Cert.ModsIdeal.main (F := Ideal))) ⟨m, fun _ => 0, g⟩ (fun r => (∀ c : Dev Cert.ModsIdeal.nD,
      r.2.mem ((c.tc : Thread Cert.ModsIdeal.nD Cert.ModsIdeal.τ).loc Cert.ModsIdeal.main_arg0) = m ((c.tc : Thread Cert.ModsIdeal.nD Cert.ModsIdeal.τ).loc Cert.ModsIdeal.main_arg0)
      ∧ r.2.mem ((c.tc : Thread Cert.ModsIdeal.nD Cert.ModsIdeal.τ).loc Cert.ModsIdeal.main_arg1) = m ((c.tc : Thread Cert.ModsIdeal.nD Cert.ModsIdeal.τ).loc Cert.ModsIdeal.main_arg1)
      ∧ r.2.mem ((c.tc : Thread Cert.ModsIdeal.nD Cert.ModsIdeal.τ).loc Cert.ModsIdeal.main_arg2) = m ((c.tc : Thread Cert.ModsIdeal.nD Cert.ModsIdeal.τ).loc Cert.ModsIdeal.main_arg2)
      ∧ r.2.mem ((c.tc : Thread Cert.ModsIdeal.nD Cert.ModsIdeal.τ).loc Cert.ModsIdeal.main_arg3) = m ((c.tc : Thread Cert.ModsIdeal.nD Cert.ModsIdeal.τ).loc Cert.ModsIdeal.main_arg3))
      ∧ r.2.sem = fun _ => 0)

def quiescent_ModsReferenceIdeal [hModsReferenceIdeal : Cert.ModsReferenceIdeal.Facts] : Prop :=
  ∀ (m : (ℓ : Loc Cert.ModsReferenceIdeal.nD Cert.ModsReferenceIdeal.τ Cert.ModsReferenceIdeal.sig) → Buf (Elt Ideal) ℓ) (g : Dev Cert.ModsReferenceIdeal.nD → PrngReg), Pre_ModsReferenceIdeal m →
    θ_run (Cert.ModsReferenceIdeal.defs (F := Ideal)) (onTc (τ := Cert.ModsReferenceIdeal.τ) (Cert.ModsReferenceIdeal.main (F := Ideal))) ⟨m, fun _ => 0, g⟩ (fun r => (∀ c : Dev Cert.ModsReferenceIdeal.nD,
      r.2.mem ((c.tc : Thread Cert.ModsReferenceIdeal.nD Cert.ModsReferenceIdeal.τ).loc Cert.ModsReferenceIdeal.main_arg0) = m ((c.tc : Thread Cert.ModsReferenceIdeal.nD Cert.ModsReferenceIdeal.τ).loc Cert.ModsReferenceIdeal.main_arg0)
      ∧ r.2.mem ((c.tc : Thread Cert.ModsReferenceIdeal.nD Cert.ModsReferenceIdeal.τ).loc Cert.ModsReferenceIdeal.main_arg1) = m ((c.tc : Thread Cert.ModsReferenceIdeal.nD Cert.ModsReferenceIdeal.τ).loc Cert.ModsReferenceIdeal.main_arg1)
      ∧ r.2.mem ((c.tc : Thread Cert.ModsReferenceIdeal.nD Cert.ModsReferenceIdeal.τ).loc Cert.ModsReferenceIdeal.main_arg2) = m ((c.tc : Thread Cert.ModsReferenceIdeal.nD Cert.ModsReferenceIdeal.τ).loc Cert.ModsReferenceIdeal.main_arg2)
      ∧ r.2.mem ((c.tc : Thread Cert.ModsReferenceIdeal.nD Cert.ModsReferenceIdeal.τ).loc Cert.ModsReferenceIdeal.main_arg3) = m ((c.tc : Thread Cert.ModsReferenceIdeal.nD Cert.ModsReferenceIdeal.τ).loc Cert.ModsReferenceIdeal.main_arg3))
      ∧ r.2.sem = fun _ => 0)

def quiescent_Dest [hDest : Cert.Dest.Facts] : Prop :=
  ∀ (m : (ℓ : Loc Cert.Dest.nD Cert.Dest.τ Cert.Dest.sig) → Buf (Elt Bits) ℓ) (g : Dev Cert.Dest.nD → PrngReg), Pre_Dest m →
    θ_run (Cert.Dest.defs (F := Bits)) (onTc (τ := Cert.Dest.τ) (Cert.Dest.main (F := Bits))) ⟨m, fun _ => 0, g⟩ (fun r => (∀ c : Dev Cert.Dest.nD,
      r.2.mem ((c.tc : Thread Cert.Dest.nD Cert.Dest.τ).loc Cert.Dest.main_arg0) = m ((c.tc : Thread Cert.Dest.nD Cert.Dest.τ).loc Cert.Dest.main_arg0)
      ∧ r.2.mem ((c.tc : Thread Cert.Dest.nD Cert.Dest.τ).loc Cert.Dest.main_arg1) = m ((c.tc : Thread Cert.Dest.nD Cert.Dest.τ).loc Cert.Dest.main_arg1)
      ∧ r.2.mem ((c.tc : Thread Cert.Dest.nD Cert.Dest.τ).loc Cert.Dest.main_arg2) = m ((c.tc : Thread Cert.Dest.nD Cert.Dest.τ).loc Cert.Dest.main_arg2))
      ∧ r.2.sem = fun _ => 0)

def quiescent_DestIdeal [hDestIdeal : Cert.DestIdeal.Facts] : Prop :=
  ∀ (m : (ℓ : Loc Cert.DestIdeal.nD Cert.DestIdeal.τ Cert.DestIdeal.sig) → Buf (Elt Ideal) ℓ) (g : Dev Cert.DestIdeal.nD → PrngReg), Pre_DestIdeal m →
    θ_run (Cert.DestIdeal.defs (F := Ideal)) (onTc (τ := Cert.DestIdeal.τ) (Cert.DestIdeal.main (F := Ideal))) ⟨m, fun _ => 0, g⟩ (fun r => (∀ c : Dev Cert.DestIdeal.nD,
      r.2.mem ((c.tc : Thread Cert.DestIdeal.nD Cert.DestIdeal.τ).loc Cert.DestIdeal.main_arg0) = m ((c.tc : Thread Cert.DestIdeal.nD Cert.DestIdeal.τ).loc Cert.DestIdeal.main_arg0)
      ∧ r.2.mem ((c.tc : Thread Cert.DestIdeal.nD Cert.DestIdeal.τ).loc Cert.DestIdeal.main_arg1) = m ((c.tc : Thread Cert.DestIdeal.nD Cert.DestIdeal.τ).loc Cert.DestIdeal.main_arg1)
      ∧ r.2.mem ((c.tc : Thread Cert.DestIdeal.nD Cert.DestIdeal.τ).loc Cert.DestIdeal.main_arg2) = m ((c.tc : Thread Cert.DestIdeal.nD Cert.DestIdeal.τ).loc Cert.DestIdeal.main_arg2))
      ∧ r.2.sem = fun _ => 0)

def quiescent_DestReferenceIdeal [hDestReferenceIdeal : Cert.DestReferenceIdeal.Facts] : Prop :=
  ∀ (m : (ℓ : Loc Cert.DestReferenceIdeal.nD Cert.DestReferenceIdeal.τ Cert.DestReferenceIdeal.sig) → Buf (Elt Ideal) ℓ) (g : Dev Cert.DestReferenceIdeal.nD → PrngReg), Pre_DestReferenceIdeal m →
    θ_run (Cert.DestReferenceIdeal.defs (F := Ideal)) (onTc (τ := Cert.DestReferenceIdeal.τ) (Cert.DestReferenceIdeal.main (F := Ideal))) ⟨m, fun _ => 0, g⟩ (fun r => (∀ c : Dev Cert.DestReferenceIdeal.nD,
      r.2.mem ((c.tc : Thread Cert.DestReferenceIdeal.nD Cert.DestReferenceIdeal.τ).loc Cert.DestReferenceIdeal.main_arg0) = m ((c.tc : Thread Cert.DestReferenceIdeal.nD Cert.DestReferenceIdeal.τ).loc Cert.DestReferenceIdeal.main_arg0)
      ∧ r.2.mem ((c.tc : Thread Cert.DestReferenceIdeal.nD Cert.DestReferenceIdeal.τ).loc Cert.DestReferenceIdeal.main_arg1) = m ((c.tc : Thread Cert.DestReferenceIdeal.nD Cert.DestReferenceIdeal.τ).loc Cert.DestReferenceIdeal.main_arg1)
      ∧ r.2.mem ((c.tc : Thread Cert.DestReferenceIdeal.nD Cert.DestReferenceIdeal.τ).loc Cert.DestReferenceIdeal.main_arg2) = m ((c.tc : Thread Cert.DestReferenceIdeal.nD Cert.DestReferenceIdeal.τ).loc Cert.DestReferenceIdeal.main_arg2))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3)
      ∧ r.2.mem ((c.tc : Thread Cert.CombineReferenceIdeal.nD Cert.CombineReferenceIdeal.τ).loc Cert.CombineReferenceIdeal.main_arg4) = m ((c.tc : Thread Cert.CombineReferenceIdeal.nD Cert.CombineReferenceIdeal.τ).loc Cert.CombineReferenceIdeal.main_arg4)
      ∧ r.2.mem ((c.tc : Thread Cert.CombineReferenceIdeal.nD Cert.CombineReferenceIdeal.τ).loc Cert.CombineReferenceIdeal.main_arg5) = m ((c.tc : Thread Cert.CombineReferenceIdeal.nD Cert.CombineReferenceIdeal.τ).loc Cert.CombineReferenceIdeal.main_arg5))
      ∧ r.2.sem = fun _ => 0)

def quiescent_DestLast [hDestLast : Cert.DestLast.Facts] : Prop :=
  ∀ (m : (ℓ : Loc Cert.DestLast.nD Cert.DestLast.τ Cert.DestLast.sig) → Buf (Elt Bits) ℓ) (g : Dev Cert.DestLast.nD → PrngReg), Pre_DestLast m →
    θ_run (Cert.DestLast.defs (F := Bits)) (onTc (τ := Cert.DestLast.τ) (Cert.DestLast.main (F := Bits))) ⟨m, fun _ => 0, g⟩ (fun r => (∀ c : Dev Cert.DestLast.nD,
      r.2.mem ((c.tc : Thread Cert.DestLast.nD Cert.DestLast.τ).loc Cert.DestLast.main_arg0) = m ((c.tc : Thread Cert.DestLast.nD Cert.DestLast.τ).loc Cert.DestLast.main_arg0)
      ∧ r.2.mem ((c.tc : Thread Cert.DestLast.nD Cert.DestLast.τ).loc Cert.DestLast.main_arg1) = m ((c.tc : Thread Cert.DestLast.nD Cert.DestLast.τ).loc Cert.DestLast.main_arg1)
      ∧ r.2.mem ((c.tc : Thread Cert.DestLast.nD Cert.DestLast.τ).loc Cert.DestLast.main_arg2) = m ((c.tc : Thread Cert.DestLast.nD Cert.DestLast.τ).loc Cert.DestLast.main_arg2))
      ∧ r.2.sem = fun _ => 0)

def quiescent_DestLastIdeal [hDestLastIdeal : Cert.DestLastIdeal.Facts] : Prop :=
  ∀ (m : (ℓ : Loc Cert.DestLastIdeal.nD Cert.DestLastIdeal.τ Cert.DestLastIdeal.sig) → Buf (Elt Ideal) ℓ) (g : Dev Cert.DestLastIdeal.nD → PrngReg), Pre_DestLastIdeal m →
    θ_run (Cert.DestLastIdeal.defs (F := Ideal)) (onTc (τ := Cert.DestLastIdeal.τ) (Cert.DestLastIdeal.main (F := Ideal))) ⟨m, fun _ => 0, g⟩ (fun r => (∀ c : Dev Cert.DestLastIdeal.nD,
      r.2.mem ((c.tc : Thread Cert.DestLastIdeal.nD Cert.DestLastIdeal.τ).loc Cert.DestLastIdeal.main_arg0) = m ((c.tc : Thread Cert.DestLastIdeal.nD Cert.DestLastIdeal.τ).loc Cert.DestLastIdeal.main_arg0)
      ∧ r.2.mem ((c.tc : Thread Cert.DestLastIdeal.nD Cert.DestLastIdeal.τ).loc Cert.DestLastIdeal.main_arg1) = m ((c.tc : Thread Cert.DestLastIdeal.nD Cert.DestLastIdeal.τ).loc Cert.DestLastIdeal.main_arg1)
      ∧ r.2.mem ((c.tc : Thread Cert.DestLastIdeal.nD Cert.DestLastIdeal.τ).loc Cert.DestLastIdeal.main_arg2) = m ((c.tc : Thread Cert.DestLastIdeal.nD Cert.DestLastIdeal.τ).loc Cert.DestLastIdeal.main_arg2))
      ∧ r.2.sem = fun _ => 0)

def quiescent_DestLastReferenceIdeal [hDestLastReferenceIdeal : Cert.DestLastReferenceIdeal.Facts] : Prop :=
  ∀ (m : (ℓ : Loc Cert.DestLastReferenceIdeal.nD Cert.DestLastReferenceIdeal.τ Cert.DestLastReferenceIdeal.sig) → Buf (Elt Ideal) ℓ) (g : Dev Cert.DestLastReferenceIdeal.nD → PrngReg), Pre_DestLastReferenceIdeal m →
    θ_run (Cert.DestLastReferenceIdeal.defs (F := Ideal)) (onTc (τ := Cert.DestLastReferenceIdeal.τ) (Cert.DestLastReferenceIdeal.main (F := Ideal))) ⟨m, fun _ => 0, g⟩ (fun r => (∀ c : Dev Cert.DestLastReferenceIdeal.nD,
      r.2.mem ((c.tc : Thread Cert.DestLastReferenceIdeal.nD Cert.DestLastReferenceIdeal.τ).loc Cert.DestLastReferenceIdeal.main_arg0) = m ((c.tc : Thread Cert.DestLastReferenceIdeal.nD Cert.DestLastReferenceIdeal.τ).loc Cert.DestLastReferenceIdeal.main_arg0)
      ∧ r.2.mem ((c.tc : Thread Cert.DestLastReferenceIdeal.nD Cert.DestLastReferenceIdeal.τ).loc Cert.DestLastReferenceIdeal.main_arg1) = m ((c.tc : Thread Cert.DestLastReferenceIdeal.nD Cert.DestLastReferenceIdeal.τ).loc Cert.DestLastReferenceIdeal.main_arg1)
      ∧ r.2.mem ((c.tc : Thread Cert.DestLastReferenceIdeal.nD Cert.DestLastReferenceIdeal.τ).loc Cert.DestLastReferenceIdeal.main_arg2) = m ((c.tc : Thread Cert.DestLastReferenceIdeal.nD Cert.DestLastReferenceIdeal.τ).loc Cert.DestLastReferenceIdeal.main_arg2))
      ∧ r.2.sem = fun _ => 0)

def quiescent_CombineFirst [hCombineFirst : Cert.CombineFirst.Facts] : Prop :=
  ∀ (m : (ℓ : Loc Cert.CombineFirst.nD Cert.CombineFirst.τ Cert.CombineFirst.sig) → Buf (Elt Bits) ℓ) (g : Dev Cert.CombineFirst.nD → PrngReg), Pre_CombineFirst m →
    θ_run (Cert.CombineFirst.defs (F := Bits)) (onTc (τ := Cert.CombineFirst.τ) (Cert.CombineFirst.main (F := Bits))) ⟨m, fun _ => 0, g⟩ (fun r => (∀ c : Dev Cert.CombineFirst.nD,
      r.2.mem ((c.tc : Thread Cert.CombineFirst.nD Cert.CombineFirst.τ).loc Cert.CombineFirst.main_arg0) = m ((c.tc : Thread Cert.CombineFirst.nD Cert.CombineFirst.τ).loc Cert.CombineFirst.main_arg0)
      ∧ r.2.mem ((c.tc : Thread Cert.CombineFirst.nD Cert.CombineFirst.τ).loc Cert.CombineFirst.main_arg1) = m ((c.tc : Thread Cert.CombineFirst.nD Cert.CombineFirst.τ).loc Cert.CombineFirst.main_arg1)
      ∧ r.2.mem ((c.tc : Thread Cert.CombineFirst.nD Cert.CombineFirst.τ).loc Cert.CombineFirst.main_arg2) = m ((c.tc : Thread Cert.CombineFirst.nD Cert.CombineFirst.τ).loc Cert.CombineFirst.main_arg2)
      ∧ r.2.mem ((c.tc : Thread Cert.CombineFirst.nD Cert.CombineFirst.τ).loc Cert.CombineFirst.main_arg3) = m ((c.tc : Thread Cert.CombineFirst.nD Cert.CombineFirst.τ).loc Cert.CombineFirst.main_arg3)
      ∧ r.2.mem ((c.tc : Thread Cert.CombineFirst.nD Cert.CombineFirst.τ).loc Cert.CombineFirst.main_arg4) = m ((c.tc : Thread Cert.CombineFirst.nD Cert.CombineFirst.τ).loc Cert.CombineFirst.main_arg4)
      ∧ r.2.mem ((c.tc : Thread Cert.CombineFirst.nD Cert.CombineFirst.τ).loc Cert.CombineFirst.main_arg5) = m ((c.tc : Thread Cert.CombineFirst.nD Cert.CombineFirst.τ).loc Cert.CombineFirst.main_arg5)
      ∧ r.2.mem ((c.tc : Thread Cert.CombineFirst.nD Cert.CombineFirst.τ).loc Cert.CombineFirst.main_arg6) = m ((c.tc : Thread Cert.CombineFirst.nD Cert.CombineFirst.τ).loc Cert.CombineFirst.main_arg6)
      ∧ r.2.mem ((c.tc : Thread Cert.CombineFirst.nD Cert.CombineFirst.τ).loc Cert.CombineFirst.main_arg7) = m ((c.tc : Thread Cert.CombineFirst.nD Cert.CombineFirst.τ).loc Cert.CombineFirst.main_arg7))
      ∧ r.2.sem = fun _ => 0)

def quiescent_CombineFirstIdeal [hCombineFirstIdeal : Cert.CombineFirstIdeal.Facts] : Prop :=
  ∀ (m : (ℓ : Loc Cert.CombineFirstIdeal.nD Cert.CombineFirstIdeal.τ Cert.CombineFirstIdeal.sig) → Buf (Elt Ideal) ℓ) (g : Dev Cert.CombineFirstIdeal.nD → PrngReg), Pre_CombineFirstIdeal m →
    θ_run (Cert.CombineFirstIdeal.defs (F := Ideal)) (onTc (τ := Cert.CombineFirstIdeal.τ) (Cert.CombineFirstIdeal.main (F := Ideal))) ⟨m, fun _ => 0, g⟩ (fun r => (∀ c : Dev Cert.CombineFirstIdeal.nD,
      r.2.mem ((c.tc : Thread Cert.CombineFirstIdeal.nD Cert.CombineFirstIdeal.τ).loc Cert.CombineFirstIdeal.main_arg0) = m ((c.tc : Thread Cert.CombineFirstIdeal.nD Cert.CombineFirstIdeal.τ).loc Cert.CombineFirstIdeal.main_arg0)
      ∧ r.2.mem ((c.tc : Thread Cert.CombineFirstIdeal.nD Cert.CombineFirstIdeal.τ).loc Cert.CombineFirstIdeal.main_arg1) = m ((c.tc : Thread Cert.CombineFirstIdeal.nD Cert.CombineFirstIdeal.τ).loc Cert.CombineFirstIdeal.main_arg1)
      ∧ r.2.mem ((c.tc : Thread Cert.CombineFirstIdeal.nD Cert.CombineFirstIdeal.τ).loc Cert.CombineFirstIdeal.main_arg2) = m ((c.tc : Thread Cert.CombineFirstIdeal.nD Cert.CombineFirstIdeal.τ).loc Cert.CombineFirstIdeal.main_arg2)
      ∧ r.2.mem ((c.tc : Thread Cert.CombineFirstIdeal.nD Cert.CombineFirstIdeal.τ).loc Cert.CombineFirstIdeal.main_arg3) = m ((c.tc : Thread Cert.CombineFirstIdeal.nD Cert.CombineFirstIdeal.τ).loc Cert.CombineFirstIdeal.main_arg3)
      ∧ r.2.mem ((c.tc : Thread Cert.CombineFirstIdeal.nD Cert.CombineFirstIdeal.τ).loc Cert.CombineFirstIdeal.main_arg4) = m ((c.tc : Thread Cert.CombineFirstIdeal.nD Cert.CombineFirstIdeal.τ).loc Cert.CombineFirstIdeal.main_arg4)
      ∧ r.2.mem ((c.tc : Thread Cert.CombineFirstIdeal.nD Cert.CombineFirstIdeal.τ).loc Cert.CombineFirstIdeal.main_arg5) = m ((c.tc : Thread Cert.CombineFirstIdeal.nD Cert.CombineFirstIdeal.τ).loc Cert.CombineFirstIdeal.main_arg5)
      ∧ r.2.mem ((c.tc : Thread Cert.CombineFirstIdeal.nD Cert.CombineFirstIdeal.τ).loc Cert.CombineFirstIdeal.main_arg6) = m ((c.tc : Thread Cert.CombineFirstIdeal.nD Cert.CombineFirstIdeal.τ).loc Cert.CombineFirstIdeal.main_arg6)
      ∧ r.2.mem ((c.tc : Thread Cert.CombineFirstIdeal.nD Cert.CombineFirstIdeal.τ).loc Cert.CombineFirstIdeal.main_arg7) = m ((c.tc : Thread Cert.CombineFirstIdeal.nD Cert.CombineFirstIdeal.τ).loc Cert.CombineFirstIdeal.main_arg7))
      ∧ r.2.sem = fun _ => 0)

def quiescent_CombineFirstReferenceIdeal [hCombineFirstReferenceIdeal : Cert.CombineFirstReferenceIdeal.Facts] : Prop :=
  ∀ (m : (ℓ : Loc Cert.CombineFirstReferenceIdeal.nD Cert.CombineFirstReferenceIdeal.τ Cert.CombineFirstReferenceIdeal.sig) → Buf (Elt Ideal) ℓ) (g : Dev Cert.CombineFirstReferenceIdeal.nD → PrngReg), Pre_CombineFirstReferenceIdeal m →
    θ_run (Cert.CombineFirstReferenceIdeal.defs (F := Ideal)) (onTc (τ := Cert.CombineFirstReferenceIdeal.τ) (Cert.CombineFirstReferenceIdeal.main (F := Ideal))) ⟨m, fun _ => 0, g⟩ (fun r => (∀ c : Dev Cert.CombineFirstReferenceIdeal.nD,
      r.2.mem ((c.tc : Thread Cert.CombineFirstReferenceIdeal.nD Cert.CombineFirstReferenceIdeal.τ).loc Cert.CombineFirstReferenceIdeal.main_arg0) = m ((c.tc : Thread Cert.CombineFirstReferenceIdeal.nD Cert.CombineFirstReferenceIdeal.τ).loc Cert.CombineFirstReferenceIdeal.main_arg0)
      ∧ r.2.mem ((c.tc : Thread Cert.CombineFirstReferenceIdeal.nD Cert.CombineFirstReferenceIdeal.τ).loc Cert.CombineFirstReferenceIdeal.main_arg1) = m ((c.tc : Thread Cert.CombineFirstReferenceIdeal.nD Cert.CombineFirstReferenceIdeal.τ).loc Cert.CombineFirstReferenceIdeal.main_arg1)
      ∧ r.2.mem ((c.tc : Thread Cert.CombineFirstReferenceIdeal.nD Cert.CombineFirstReferenceIdeal.τ).loc Cert.CombineFirstReferenceIdeal.main_arg2) = m ((c.tc : Thread Cert.CombineFirstReferenceIdeal.nD Cert.CombineFirstReferenceIdeal.τ).loc Cert.CombineFirstReferenceIdeal.main_arg2)
      ∧ r.2.mem ((c.tc : Thread Cert.CombineFirstReferenceIdeal.nD Cert.CombineFirstReferenceIdeal.τ).loc Cert.CombineFirstReferenceIdeal.main_arg3) = m ((c.tc : Thread Cert.CombineFirstReferenceIdeal.nD Cert.CombineFirstReferenceIdeal.τ).loc Cert.CombineFirstReferenceIdeal.main_arg3)
      ∧ r.2.mem ((c.tc : Thread Cert.CombineFirstReferenceIdeal.nD Cert.CombineFirstReferenceIdeal.τ).loc Cert.CombineFirstReferenceIdeal.main_arg4) = m ((c.tc : Thread Cert.CombineFirstReferenceIdeal.nD Cert.CombineFirstReferenceIdeal.τ).loc Cert.CombineFirstReferenceIdeal.main_arg4)
      ∧ r.2.mem ((c.tc : Thread Cert.CombineFirstReferenceIdeal.nD Cert.CombineFirstReferenceIdeal.τ).loc Cert.CombineFirstReferenceIdeal.main_arg5) = m ((c.tc : Thread Cert.CombineFirstReferenceIdeal.nD Cert.CombineFirstReferenceIdeal.τ).loc Cert.CombineFirstReferenceIdeal.main_arg5)
      ∧ r.2.mem ((c.tc : Thread Cert.CombineFirstReferenceIdeal.nD Cert.CombineFirstReferenceIdeal.τ).loc Cert.CombineFirstReferenceIdeal.main_arg6) = m ((c.tc : Thread Cert.CombineFirstReferenceIdeal.nD Cert.CombineFirstReferenceIdeal.τ).loc Cert.CombineFirstReferenceIdeal.main_arg6)
      ∧ r.2.mem ((c.tc : Thread Cert.CombineFirstReferenceIdeal.nD Cert.CombineFirstReferenceIdeal.τ).loc Cert.CombineFirstReferenceIdeal.main_arg7) = m ((c.tc : Thread Cert.CombineFirstReferenceIdeal.nD Cert.CombineFirstReferenceIdeal.τ).loc Cert.CombineFirstReferenceIdeal.main_arg7))
      ∧ r.2.sem = fun _ => 0)

def preserves_Kernel_KernelIdeal : Prop :=
  IdealRules.named_const.Statement Cert.KernelIdeal.κ "q_scale" .f32 0x3E38AA3B#32 (((8 * (Real.log 2))⁻¹ : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)
      ∧ m' ((c.tc : Thread Cert.QkvReferenceIdeal.nD Cert.QkvReferenceIdeal.τ).loc Cert.QkvReferenceIdeal.main_arg3) = m ((c.tc : Thread Cert.QkvIdeal.nD Cert.QkvIdeal.τ).loc Cert.QkvIdeal.main_arg3)
      ∧ m' ((c.tc : Thread Cert.QkvReferenceIdeal.nD Cert.QkvReferenceIdeal.τ).loc Cert.QkvReferenceIdeal.main_arg4) = m ((c.tc : Thread Cert.QkvIdeal.nD Cert.QkvIdeal.τ).loc Cert.QkvIdeal.main_arg4)
      ∧ m' ((c.tc : Thread Cert.QkvReferenceIdeal.nD Cert.QkvReferenceIdeal.τ).loc Cert.QkvReferenceIdeal.main_arg5) = m ((c.tc : Thread Cert.QkvIdeal.nD Cert.QkvIdeal.τ).loc Cert.QkvIdeal.main_arg5)
      ∧ m' ((c.tc : Thread Cert.QkvReferenceIdeal.nD Cert.QkvReferenceIdeal.τ).loc Cert.QkvReferenceIdeal.main_arg6) = m ((c.tc : Thread Cert.QkvIdeal.nD Cert.QkvIdeal.τ).loc Cert.QkvIdeal.main_arg6)
      ∧ m' ((c.tc : Thread Cert.QkvReferenceIdeal.nD Cert.QkvReferenceIdeal.τ).loc Cert.QkvReferenceIdeal.main_arg7) = m ((c.tc : Thread Cert.QkvIdeal.nD Cert.QkvIdeal.τ).loc Cert.QkvIdeal.main_arg7)
      ∧ m' ((c.tc : Thread Cert.QkvReferenceIdeal.nD Cert.QkvReferenceIdeal.τ).loc Cert.QkvReferenceIdeal.main_arg8) = m ((c.tc : Thread Cert.QkvIdeal.nD Cert.QkvIdeal.τ).loc Cert.QkvIdeal.main_arg8)
      ∧ m' ((c.tc : Thread Cert.QkvReferenceIdeal.nD Cert.QkvReferenceIdeal.τ).loc Cert.QkvReferenceIdeal.main_arg9) = m ((c.tc : Thread Cert.QkvIdeal.nD Cert.QkvIdeal.τ).loc Cert.QkvIdeal.main_arg9)) →
    ∃ (v0 : (c : Dev Cert.QkvIdeal.nD) → Buf (Elt Ideal) ((c.tc : Thread Cert.QkvIdeal.nD Cert.QkvIdeal.τ).loc Cert.QkvIdeal.main_v15_0)) (v1 : (c : Dev Cert.QkvIdeal.nD) → Buf (Elt Ideal) ((c.tc : Thread Cert.QkvIdeal.nD Cert.QkvIdeal.τ).loc Cert.QkvIdeal.main_v15_1)) (v2 : (c : Dev Cert.QkvIdeal.nD) → Buf (Elt Ideal) ((c.tc : Thread Cert.QkvIdeal.nD Cert.QkvIdeal.τ).loc Cert.QkvIdeal.main_v15_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v15_0) = v0 c
          ∧ r.2.mem ((c.tc : Thread Cert.QkvIdeal.nD Cert.QkvIdeal.τ).loc Cert.QkvIdeal.main_v15_1) = v1 c
          ∧ r.2.mem ((c.tc : Thread Cert.QkvIdeal.nD Cert.QkvIdeal.τ).loc Cert.QkvIdeal.main_v15_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
          ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v87) = v0 c
          ∧ r.2.mem ((c.tc : Thread Cert.QkvReferenceIdeal.nD Cert.QkvReferenceIdeal.τ).loc Cert.QkvReferenceIdeal.main_v89) = v1 c
          ∧ r.2.mem ((c.tc : Thread Cert.QkvReferenceIdeal.nD Cert.QkvReferenceIdeal.τ).loc Cert.QkvReferenceIdeal.main_v91) = v2 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4)
          ∧ r.2.mem ((c.tc : Thread Cert.QkvReferenceIdeal.nD Cert.QkvReferenceIdeal.τ).loc Cert.QkvReferenceIdeal.main_arg5) = m' ((c.tc : Thread Cert.QkvReferenceIdeal.nD Cert.QkvReferenceIdeal.τ).loc Cert.QkvReferenceIdeal.main_arg5)
          ∧ r.2.mem ((c.tc : Thread Cert.QkvReferenceIdeal.nD Cert.QkvReferenceIdeal.τ).loc Cert.QkvReferenceIdeal.main_arg6) = m' ((c.tc : Thread Cert.QkvReferenceIdeal.nD Cert.QkvReferenceIdeal.τ).loc Cert.QkvReferenceIdeal.main_arg6)
          ∧ r.2.mem ((c.tc : Thread Cert.QkvReferenceIdeal.nD Cert.QkvReferenceIdeal.τ).loc Cert.QkvReferenceIdeal.main_arg7) = m' ((c.tc : Thread Cert.QkvReferenceIdeal.nD Cert.QkvReferenceIdeal.τ).loc Cert.QkvReferenceIdeal.main_arg7)
          ∧ r.2.mem ((c.tc : Thread Cert.QkvReferenceIdeal.nD Cert.QkvReferenceIdeal.τ).loc Cert.QkvReferenceIdeal.main_arg8) = m' ((c.tc : Thread Cert.QkvReferenceIdeal.nD Cert.QkvReferenceIdeal.τ).loc Cert.QkvReferenceIdeal.main_arg8)
          ∧ r.2.mem ((c.tc : Thread Cert.QkvReferenceIdeal.nD Cert.QkvReferenceIdeal.τ).loc Cert.QkvReferenceIdeal.main_arg9) = m' ((c.tc : Thread Cert.QkvReferenceIdeal.nD Cert.QkvReferenceIdeal.τ).loc Cert.QkvReferenceIdeal.main_arg9))

def preserves_Shared_SharedIdeal : Prop :=
  True

def algebraic_SharedIdeal_SharedReferenceIdeal [hSharedIdeal : Cert.SharedIdeal.Facts] [hSharedReferenceIdeal : Cert.SharedReferenceIdeal.Facts] : Prop :=
  ∀ (m : (ℓ : Loc Cert.SharedIdeal.nD Cert.SharedIdeal.τ Cert.SharedIdeal.sig) → Buf (Elt Ideal) ℓ) (g : Dev Cert.SharedIdeal.nD → PrngReg)
    (m' : (ℓ : Loc Cert.SharedReferenceIdeal.nD Cert.SharedReferenceIdeal.τ Cert.SharedReferenceIdeal.sig) → Buf (Elt Ideal) ℓ) (g' : Dev Cert.SharedReferenceIdeal.nD → PrngReg), Pre_SharedIdeal m →
    (∀ c : Dev Cert.SharedIdeal.nD,
      m' ((c.tc : Thread Cert.SharedReferenceIdeal.nD Cert.SharedReferenceIdeal.τ).loc Cert.SharedReferenceIdeal.main_arg0) = m ((c.tc : Thread Cert.SharedIdeal.nD Cert.SharedIdeal.τ).loc Cert.SharedIdeal.main_arg0)
      ∧ m' ((c.tc : Thread Cert.SharedReferenceIdeal.nD Cert.SharedReferenceIdeal.τ).loc Cert.SharedReferenceIdeal.main_arg1) = m ((c.tc : Thread Cert.SharedIdeal.nD Cert.SharedIdeal.τ).loc Cert.SharedIdeal.main_arg1)
      ∧ m' ((c.tc : Thread Cert.SharedReferenceIdeal.nD Cert.SharedReferenceIdeal.τ).loc Cert.SharedReferenceIdeal.main_arg2) = m ((c.tc : Thread Cert.SharedIdeal.nD Cert.SharedIdeal.τ).loc Cert.SharedIdeal.main_arg2)
      ∧ m' ((c.tc : Thread Cert.SharedReferenceIdeal.nD Cert.SharedReferenceIdeal.τ).loc Cert.SharedReferenceIdeal.main_arg3) = m ((c.tc : Thread Cert.SharedIdeal.nD Cert.SharedIdeal.τ).loc Cert.SharedIdeal.main_arg3)) →
    ∃ (v0 : (c : Dev Cert.SharedIdeal.nD) → Buf (Elt Ideal) ((c.tc : Thread Cert.SharedIdeal.nD Cert.SharedIdeal.τ).loc Cert.SharedIdeal.main_v4)),
      θ_run (Cert.SharedIdeal.defs (F := Ideal)) (onTc (τ := Cert.SharedIdeal.τ) (Cert.SharedIdeal.main (F := Ideal))) ⟨m, fun _ => 0, g⟩ (fun r => ∀ c : Dev Cert.SharedIdeal.nD,
          r.2.mem ((c.tc : Thread Cert.SharedIdeal.nD Cert.SharedIdeal.τ).loc Cert.SharedIdeal.main_v4) = v0 c
          ∧ r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
          ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1)
          ∧ r.2.mem ((c.tc : Thread Cert.SharedIdeal.nD Cert.SharedIdeal.τ).loc Cert.SharedIdeal.main_arg2) = m ((c.tc : Thread Cert.SharedIdeal.nD Cert.SharedIdeal.τ).loc Cert.SharedIdeal.main_arg2)
          ∧ r.2.mem ((c.tc : Thread Cert.SharedIdeal.nD Cert.SharedIdeal.τ).loc Cert.SharedIdeal.main_arg3) = m ((c.tc : Thread Cert.SharedIdeal.nD Cert.SharedIdeal.τ).loc Cert.SharedIdeal.main_arg3))
      ∧ θ_run (Cert.SharedReferenceIdeal.defs (F := Ideal)) (onTc (τ := Cert.SharedReferenceIdeal.τ) (Cert.SharedReferenceIdeal.main (F := Ideal))) ⟨m', fun _ => 0, g'⟩ (fun r => ∀ c : Dev Cert.SharedReferenceIdeal.nD,
          r.2.mem ((c.tc : Thread Cert.SharedReferenceIdeal.nD Cert.SharedReferenceIdeal.τ).loc Cert.SharedReferenceIdeal.main_v5) = v0 c
          ∧ r.2.mem ((c.tc : Thread Cert.SharedReferenceIdeal.nD Cert.SharedReferenceIdeal.τ).loc Cert.SharedReferenceIdeal.main_arg0) = m' ((c.tc : Thread Cert.SharedReferenceIdeal.nD Cert.SharedReferenceIdeal.τ).loc Cert.SharedReferenceIdeal.main_arg0)
          ∧ r.2.mem ((c.tc : Thread Cert.SharedReferenceIdeal.nD Cert.SharedReferenceIdeal.τ).loc Cert.SharedReferenceIdeal.main_arg1) = m' ((c.tc : Thread Cert.SharedReferenceIdeal.nD Cert.SharedReferenceIdeal.τ).loc Cert.SharedReferenceIdeal.main_arg1)
          ∧ r.2.mem ((c.tc : Thread Cert.SharedReferenceIdeal.nD Cert.SharedReferenceIdeal.τ).loc Cert.SharedReferenceIdeal.main_arg2) = m' ((c.tc : Thread Cert.SharedReferenceIdeal.nD Cert.SharedReferenceIdeal.τ).loc Cert.SharedReferenceIdeal.main_arg2)
          ∧ r.2.mem ((c.tc : Thread Cert.SharedReferenceIdeal.nD Cert.SharedReferenceIdeal.τ).loc Cert.SharedReferenceIdeal.main_arg3) = m' ((c.tc : Thread Cert.SharedReferenceIdeal.nD Cert.SharedReferenceIdeal.τ).loc Cert.SharedReferenceIdeal.main_arg3))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)
      ∧ m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)
      ∧ m' ((c.tc : Thread Cert.InprojReferenceIdeal.nD Cert.InprojReferenceIdeal.τ).loc Cert.InprojReferenceIdeal.main_arg5) = m ((c.tc : Thread Cert.InprojIdeal.nD Cert.InprojIdeal.τ).loc Cert.InprojIdeal.main_arg5)
      ∧ m' ((c.tc : Thread Cert.InprojReferenceIdeal.nD Cert.InprojReferenceIdeal.τ).loc Cert.InprojReferenceIdeal.main_arg6) = m ((c.tc : Thread Cert.InprojIdeal.nD Cert.InprojIdeal.τ).loc Cert.InprojIdeal.main_arg6)
      ∧ m' ((c.tc : Thread Cert.InprojReferenceIdeal.nD Cert.InprojReferenceIdeal.τ).loc Cert.InprojReferenceIdeal.main_arg7) = m ((c.tc : Thread Cert.InprojIdeal.nD Cert.InprojIdeal.τ).loc Cert.InprojIdeal.main_arg7)
      ∧ m' ((c.tc : Thread Cert.InprojReferenceIdeal.nD Cert.InprojReferenceIdeal.τ).loc Cert.InprojReferenceIdeal.main_arg8) = m ((c.tc : Thread Cert.InprojIdeal.nD Cert.InprojIdeal.τ).loc Cert.InprojIdeal.main_arg8)
      ∧ m' ((c.tc : Thread Cert.InprojReferenceIdeal.nD Cert.InprojReferenceIdeal.τ).loc Cert.InprojReferenceIdeal.main_arg9) = m ((c.tc : Thread Cert.InprojIdeal.nD Cert.InprojIdeal.τ).loc Cert.InprojIdeal.main_arg9)) →
    ∃ (v0 : (c : Dev Cert.InprojIdeal.nD) → Buf (Elt Ideal) ((c.tc : Thread Cert.InprojIdeal.nD Cert.InprojIdeal.τ).loc Cert.InprojIdeal.main_v10_0)) (v1 : (c : Dev Cert.InprojIdeal.nD) → Buf (Elt Ideal) ((c.tc : Thread Cert.InprojIdeal.nD Cert.InprojIdeal.τ).loc Cert.InprojIdeal.main_v10_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v10_0) = v0 c
          ∧ r.2.mem ((c.tc : Thread Cert.InprojIdeal.nD Cert.InprojIdeal.τ).loc Cert.InprojIdeal.main_v10_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
          ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
          ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v75) = v0 c
          ∧ r.2.mem ((c.tc : Thread Cert.InprojReferenceIdeal.nD Cert.InprojReferenceIdeal.τ).loc Cert.InprojReferenceIdeal.main_v76) = v1 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4)
          ∧ r.2.mem ((c.tc : Thread Cert.InprojReferenceIdeal.nD Cert.InprojReferenceIdeal.τ).loc Cert.InprojReferenceIdeal.main_arg5) = m' ((c.tc : Thread Cert.InprojReferenceIdeal.nD Cert.InprojReferenceIdeal.τ).loc Cert.InprojReferenceIdeal.main_arg5)
          ∧ r.2.mem ((c.tc : Thread Cert.InprojReferenceIdeal.nD Cert.InprojReferenceIdeal.τ).loc Cert.InprojReferenceIdeal.main_arg6) = m' ((c.tc : Thread Cert.InprojReferenceIdeal.nD Cert.InprojReferenceIdeal.τ).loc Cert.InprojReferenceIdeal.main_arg6)
          ∧ r.2.mem ((c.tc : Thread Cert.InprojReferenceIdeal.nD Cert.InprojReferenceIdeal.τ).loc Cert.InprojReferenceIdeal.main_arg7) = m' ((c.tc : Thread Cert.InprojReferenceIdeal.nD Cert.InprojReferenceIdeal.τ).loc Cert.InprojReferenceIdeal.main_arg7)
          ∧ r.2.mem ((c.tc : Thread Cert.InprojReferenceIdeal.nD Cert.InprojReferenceIdeal.τ).loc Cert.InprojReferenceIdeal.main_arg8) = m' ((c.tc : Thread Cert.InprojReferenceIdeal.nD Cert.InprojReferenceIdeal.τ).loc Cert.InprojReferenceIdeal.main_arg8)
          ∧ r.2.mem ((c.tc : Thread Cert.InprojReferenceIdeal.nD Cert.InprojReferenceIdeal.τ).loc Cert.InprojReferenceIdeal.main_arg9) = m' ((c.tc : Thread Cert.InprojReferenceIdeal.nD Cert.InprojReferenceIdeal.τ).loc Cert.InprojReferenceIdeal.main_arg9))

def preserves_SharedLast_SharedLastIdeal : Prop :=
  True

def algebraic_SharedLastIdeal_SharedLastReferenceIdeal [hSharedLastIdeal : Cert.SharedLastIdeal.Facts] [hSharedLastReferenceIdeal : Cert.SharedLastReferenceIdeal.Facts] : Prop :=
  ∀ (m : (ℓ : Loc Cert.SharedLastIdeal.nD Cert.SharedLastIdeal.τ Cert.SharedLastIdeal.sig) → Buf (Elt Ideal) ℓ) (g : Dev Cert.SharedLastIdeal.nD → PrngReg)
    (m' : (ℓ : Loc Cert.SharedLastReferenceIdeal.nD Cert.SharedLastReferenceIdeal.τ Cert.SharedLastReferenceIdeal.sig) → Buf (Elt Ideal) ℓ) (g' : Dev Cert.SharedLastReferenceIdeal.nD → PrngReg), Pre_SharedLastIdeal m →
    (∀ c : Dev Cert.SharedLastIdeal.nD,
      m' ((c.tc : Thread Cert.SharedLastReferenceIdeal.nD Cert.SharedLastReferenceIdeal.τ).loc Cert.SharedLastReferenceIdeal.main_arg0) = m ((c.tc : Thread Cert.SharedLastIdeal.nD Cert.SharedLastIdeal.τ).loc Cert.SharedLastIdeal.main_arg0)
      ∧ m' ((c.tc : Thread Cert.SharedLastReferenceIdeal.nD Cert.SharedLastReferenceIdeal.τ).loc Cert.SharedLastReferenceIdeal.main_arg1) = m ((c.tc : Thread Cert.SharedLastIdeal.nD Cert.SharedLastIdeal.τ).loc Cert.SharedLastIdeal.main_arg1)
      ∧ m' ((c.tc : Thread Cert.SharedLastReferenceIdeal.nD Cert.SharedLastReferenceIdeal.τ).loc Cert.SharedLastReferenceIdeal.main_arg2) = m ((c.tc : Thread Cert.SharedLastIdeal.nD Cert.SharedLastIdeal.τ).loc Cert.SharedLastIdeal.main_arg2)
      ∧ m' ((c.tc : Thread Cert.SharedLastReferenceIdeal.nD Cert.SharedLastReferenceIdeal.τ).loc Cert.SharedLastReferenceIdeal.main_arg3) = m ((c.tc : Thread Cert.SharedLastIdeal.nD Cert.SharedLastIdeal.τ).loc Cert.SharedLastIdeal.main_arg3)) →
    ∃ (v0 : (c : Dev Cert.SharedLastIdeal.nD) → Buf (Elt Ideal) ((c.tc : Thread Cert.SharedLastIdeal.nD Cert.SharedLastIdeal.τ).loc Cert.SharedLastIdeal.main_v4)),
      θ_run (Cert.SharedLastIdeal.defs (F := Ideal)) (onTc (τ := Cert.SharedLastIdeal.τ) (Cert.SharedLastIdeal.main (F := Ideal))) ⟨m, fun _ => 0, g⟩ (fun r => ∀ c : Dev Cert.SharedLastIdeal.nD,
          r.2.mem ((c.tc : Thread Cert.SharedLastIdeal.nD Cert.SharedLastIdeal.τ).loc Cert.SharedLastIdeal.main_v4) = v0 c
          ∧ r.2.mem ((c.tc : Thread Cert.SharedLastIdeal.nD Cert.SharedLastIdeal.τ).loc Cert.SharedLastIdeal.main_arg0) = m ((c.tc : Thread Cert.SharedLastIdeal.nD Cert.SharedLastIdeal.τ).loc Cert.SharedLastIdeal.main_arg0)
          ∧ r.2.mem ((c.tc : Thread Cert.SharedLastIdeal.nD Cert.SharedLastIdeal.τ).loc Cert.SharedLastIdeal.main_arg1) = m ((c.tc : Thread Cert.SharedLastIdeal.nD Cert.SharedLastIdeal.τ).loc Cert.SharedLastIdeal.main_arg1)
          ∧ r.2.mem ((c.tc : Thread Cert.SharedLastIdeal.nD Cert.SharedLastIdeal.τ).loc Cert.SharedLastIdeal.main_arg2) = m ((c.tc : Thread Cert.SharedLastIdeal.nD Cert.SharedLastIdeal.τ).loc Cert.SharedLastIdeal.main_arg2)
          ∧ r.2.mem ((c.tc : Thread Cert.SharedLastIdeal.nD Cert.SharedLastIdeal.τ).loc Cert.SharedLastIdeal.main_arg3) = m ((c.tc : Thread Cert.SharedLastIdeal.nD Cert.SharedLastIdeal.τ).loc Cert.SharedLastIdeal.main_arg3))
      ∧ θ_run (Cert.SharedLastReferenceIdeal.defs (F := Ideal)) (onTc (τ := Cert.SharedLastReferenceIdeal.τ) (Cert.SharedLastReferenceIdeal.main (F := Ideal))) ⟨m', fun _ => 0, g'⟩ (fun r => ∀ c : Dev Cert.SharedLastReferenceIdeal.nD,
          r.2.mem ((c.tc : Thread Cert.SharedLastReferenceIdeal.nD Cert.SharedLastReferenceIdeal.τ).loc Cert.SharedLastReferenceIdeal.main_v5) = v0 c
          ∧ r.2.mem ((c.tc : Thread Cert.SharedLastReferenceIdeal.nD Cert.SharedLastReferenceIdeal.τ).loc Cert.SharedLastReferenceIdeal.main_arg0) = m' ((c.tc : Thread Cert.SharedLastReferenceIdeal.nD Cert.SharedLastReferenceIdeal.τ).loc Cert.SharedLastReferenceIdeal.main_arg0)
          ∧ r.2.mem ((c.tc : Thread Cert.SharedLastReferenceIdeal.nD Cert.SharedLastReferenceIdeal.τ).loc Cert.SharedLastReferenceIdeal.main_arg1) = m' ((c.tc : Thread Cert.SharedLastReferenceIdeal.nD Cert.SharedLastReferenceIdeal.τ).loc Cert.SharedLastReferenceIdeal.main_arg1)
          ∧ r.2.mem ((c.tc : Thread Cert.SharedLastReferenceIdeal.nD Cert.SharedLastReferenceIdeal.τ).loc Cert.SharedLastReferenceIdeal.main_arg2) = m' ((c.tc : Thread Cert.SharedLastReferenceIdeal.nD Cert.SharedLastReferenceIdeal.τ).loc Cert.SharedLastReferenceIdeal.main_arg2)
          ∧ r.2.mem ((c.tc : Thread Cert.SharedLastReferenceIdeal.nD Cert.SharedLastReferenceIdeal.τ).loc Cert.SharedLastReferenceIdeal.main_arg3) = m' ((c.tc : Thread Cert.SharedLastReferenceIdeal.nD Cert.SharedLastReferenceIdeal.τ).loc Cert.SharedLastReferenceIdeal.main_arg3))

def preserves_Outproj_OutprojIdeal : Prop :=
  IdealRules.bf16_pair.BufferStatement Cert.OutprojIdeal.S2x32768x2x256 Cert.OutprojIdeal.S2x32768x1x256
  ∧ IdealRules.bf16_pair.BufferStatement Cert.OutprojIdeal.S2x512x2x256 Cert.OutprojIdeal.S2x512x1x256
  ∧ IdealRules.bf16_pair.PackStatement Cert.OutprojIdeal.S512x512
  ∧ IdealRules.bf16_pair.Statement Cert.OutprojIdeal.S1x512x2x256 Cert.OutprojIdeal.S1x512x1x256

def algebraic_OutprojIdeal_OutprojReferenceIdeal [hOutprojIdeal : Cert.OutprojIdeal.Facts] [hOutprojReferenceIdeal : Cert.OutprojReferenceIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojReferenceIdeal.nD Cert.OutprojReferenceIdeal.τ Cert.OutprojReferenceIdeal.sig) → Buf (Elt Ideal) ℓ) (g' : Dev Cert.OutprojReferenceIdeal.nD → PrngReg), Pre_OutprojIdeal m →
    (∀ c : Dev Cert.OutprojIdeal.nD,
      m' ((c.tc : Thread Cert.OutprojReferenceIdeal.nD Cert.OutprojReferenceIdeal.τ).loc Cert.OutprojReferenceIdeal.main_arg0) = m ((c.tc : Thread Cert.OutprojIdeal.nD Cert.OutprojIdeal.τ).loc Cert.OutprojIdeal.main_arg0)
      ∧ m' ((c.tc : Thread Cert.OutprojReferenceIdeal.nD Cert.OutprojReferenceIdeal.τ).loc Cert.OutprojReferenceIdeal.main_arg1) = m ((c.tc : Thread Cert.OutprojIdeal.nD Cert.OutprojIdeal.τ).loc Cert.OutprojIdeal.main_arg1)
      ∧ m' ((c.tc : Thread Cert.OutprojReferenceIdeal.nD Cert.OutprojReferenceIdeal.τ).loc Cert.OutprojReferenceIdeal.main_arg2) = m ((c.tc : Thread Cert.OutprojIdeal.nD Cert.OutprojIdeal.τ).loc Cert.OutprojIdeal.main_arg2)
      ∧ m' ((c.tc : Thread Cert.OutprojReferenceIdeal.nD Cert.OutprojReferenceIdeal.τ).loc Cert.OutprojReferenceIdeal.main_arg3) = m ((c.tc : Thread Cert.OutprojIdeal.nD Cert.OutprojIdeal.τ).loc Cert.OutprojIdeal.main_arg3)
      ∧ m' ((c.tc : Thread Cert.OutprojReferenceIdeal.nD Cert.OutprojReferenceIdeal.τ).loc Cert.OutprojReferenceIdeal.main_arg4) = m ((c.tc : Thread Cert.OutprojIdeal.nD Cert.OutprojIdeal.τ).loc Cert.OutprojIdeal.main_arg4)
      ∧ m' ((c.tc : Thread Cert.OutprojReferenceIdeal.nD Cert.OutprojReferenceIdeal.τ).loc Cert.OutprojReferenceIdeal.main_arg5) = m ((c.tc : Thread Cert.OutprojIdeal.nD Cert.OutprojIdeal.τ).loc Cert.OutprojIdeal.main_arg5)
      ∧ m' ((c.tc : Thread Cert.OutprojReferenceIdeal.nD Cert.OutprojReferenceIdeal.τ).loc Cert.OutprojReferenceIdeal.main_arg6) = m ((c.tc : Thread Cert.OutprojIdeal.nD Cert.OutprojIdeal.τ).loc Cert.OutprojIdeal.main_arg6)
      ∧ m' ((c.tc : Thread Cert.OutprojReferenceIdeal.nD Cert.OutprojReferenceIdeal.τ).loc Cert.OutprojReferenceIdeal.main_arg7) = m ((c.tc : Thread Cert.OutprojIdeal.nD Cert.OutprojIdeal.τ).loc Cert.OutprojIdeal.main_arg7)
      ∧ m' ((c.tc : Thread Cert.OutprojReferenceIdeal.nD Cert.OutprojReferenceIdeal.τ).loc Cert.OutprojReferenceIdeal.main_arg8) = m ((c.tc : Thread Cert.OutprojIdeal.nD Cert.OutprojIdeal.τ).loc Cert.OutprojIdeal.main_arg8)
      ∧ m' ((c.tc : Thread Cert.OutprojReferenceIdeal.nD Cert.OutprojReferenceIdeal.τ).loc Cert.OutprojReferenceIdeal.main_arg9) = m ((c.tc : Thread Cert.OutprojIdeal.nD Cert.OutprojIdeal.τ).loc Cert.OutprojIdeal.main_arg9)) →
    ∃ (v0 : (c : Dev Cert.OutprojIdeal.nD) → Buf (Elt Ideal) ((c.tc : Thread Cert.OutprojIdeal.nD Cert.OutprojIdeal.τ).loc Cert.OutprojIdeal.main_v18_0)) (v1 : (c : Dev Cert.OutprojIdeal.nD) → Buf (Elt Ideal) ((c.tc : Thread Cert.OutprojIdeal.nD Cert.OutprojIdeal.τ).loc Cert.OutprojIdeal.main_v18_1)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v18_0) = v0 c
          ∧ r.2.mem ((c.tc : Thread Cert.OutprojIdeal.nD Cert.OutprojIdeal.τ).loc Cert.OutprojIdeal.main_v18_1) = v1 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
          ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
          ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
          ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8)
          ∧ r.2.mem ((c.tc : Thread Cert.OutprojIdeal.nD Cert.OutprojIdeal.τ).loc Cert.OutprojIdeal.main_arg9) = m ((c.tc : Thread Cert.OutprojIdeal.nD Cert.OutprojIdeal.τ).loc Cert.OutprojIdeal.main_arg9))
      ∧ θ_run (Cert.OutprojReferenceIdeal.defs (F := Ideal)) (onTc (τ := Cert.OutprojReferenceIdeal.τ) (Cert.OutprojReferenceIdeal.main (F := Ideal))) ⟨m', fun _ => 0, g'⟩ (fun r => ∀ c : Dev Cert.OutprojReferenceIdeal.nD,
          r.2.mem ((c.tc : Thread Cert.OutprojReferenceIdeal.nD Cert.OutprojReferenceIdeal.τ).loc Cert.OutprojReferenceIdeal.main_v36) = v0 c
          ∧ r.2.mem ((c.tc : Thread Cert.OutprojReferenceIdeal.nD Cert.OutprojReferenceIdeal.τ).loc Cert.OutprojReferenceIdeal.main_v38) = v1 c
          ∧ r.2.mem ((c.tc : Thread Cert.OutprojReferenceIdeal.nD Cert.OutprojReferenceIdeal.τ).loc Cert.OutprojReferenceIdeal.main_arg0) = m' ((c.tc : Thread Cert.OutprojReferenceIdeal.nD Cert.OutprojReferenceIdeal.τ).loc Cert.OutprojReferenceIdeal.main_arg0)
          ∧ r.2.mem ((c.tc : Thread Cert.OutprojReferenceIdeal.nD Cert.OutprojReferenceIdeal.τ).loc Cert.OutprojReferenceIdeal.main_arg1) = m' ((c.tc : Thread Cert.OutprojReferenceIdeal.nD Cert.OutprojReferenceIdeal.τ).loc Cert.OutprojReferenceIdeal.main_arg1)
          ∧ r.2.mem ((c.tc : Thread Cert.OutprojReferenceIdeal.nD Cert.OutprojReferenceIdeal.τ).loc Cert.OutprojReferenceIdeal.main_arg2) = m' ((c.tc : Thread Cert.OutprojReferenceIdeal.nD Cert.OutprojReferenceIdeal.τ).loc Cert.OutprojReferenceIdeal.main_arg2)
          ∧ r.2.mem ((c.tc : Thread Cert.OutprojReferenceIdeal.nD Cert.OutprojReferenceIdeal.τ).loc Cert.OutprojReferenceIdeal.main_arg3) = m' ((c.tc : Thread Cert.OutprojReferenceIdeal.nD Cert.OutprojReferenceIdeal.τ).loc Cert.OutprojReferenceIdeal.main_arg3)
          ∧ r.2.mem ((c.tc : Thread Cert.OutprojReferenceIdeal.nD Cert.OutprojReferenceIdeal.τ).loc Cert.OutprojReferenceIdeal.main_arg4) = m' ((c.tc : Thread Cert.OutprojReferenceIdeal.nD Cert.OutprojReferenceIdeal.τ).loc Cert.OutprojReferenceIdeal.main_arg4)
          ∧ r.2.mem ((c.tc : Thread Cert.OutprojReferenceIdeal.nD Cert.OutprojReferenceIdeal.τ).loc Cert.OutprojReferenceIdeal.main_arg5) = m' ((c.tc : Thread Cert.OutprojReferenceIdeal.nD Cert.OutprojReferenceIdeal.τ).loc Cert.OutprojReferenceIdeal.main_arg5)
          ∧ r.2.mem ((c.tc : Thread Cert.OutprojReferenceIdeal.nD Cert.OutprojReferenceIdeal.τ).loc Cert.OutprojReferenceIdeal.main_arg6) = m' ((c.tc : Thread Cert.OutprojReferenceIdeal.nD Cert.OutprojReferenceIdeal.τ).loc Cert.OutprojReferenceIdeal.main_arg6)
          ∧ r.2.mem ((c.tc : Thread Cert.OutprojReferenceIdeal.nD Cert.OutprojReferenceIdeal.τ).loc Cert.OutprojReferenceIdeal.main_arg7) = m' ((c.tc : Thread Cert.OutprojReferenceIdeal.nD Cert.OutprojReferenceIdeal.τ).loc Cert.OutprojReferenceIdeal.main_arg7)
          ∧ r.2.mem ((c.tc : Thread Cert.OutprojReferenceIdeal.nD Cert.OutprojReferenceIdeal.τ).loc Cert.OutprojReferenceIdeal.main_arg8) = m' ((c.tc : Thread Cert.OutprojReferenceIdeal.nD Cert.OutprojReferenceIdeal.τ).loc Cert.OutprojReferenceIdeal.main_arg8)
          ∧ r.2.mem ((c.tc : Thread Cert.OutprojReferenceIdeal.nD Cert.OutprojReferenceIdeal.τ).loc Cert.OutprojReferenceIdeal.main_arg9) = m' ((c.tc : Thread Cert.OutprojReferenceIdeal.nD Cert.OutprojReferenceIdeal.τ).loc Cert.OutprojReferenceIdeal.main_arg9))

def preserves_Mods_ModsIdeal : Prop :=
  True

def algebraic_ModsIdeal_ModsReferenceIdeal [hModsIdeal : Cert.ModsIdeal.Facts] [hModsReferenceIdeal : Cert.ModsReferenceIdeal.Facts] : Prop :=
  ∀ (m : (ℓ : Loc Cert.ModsIdeal.nD Cert.ModsIdeal.τ Cert.ModsIdeal.sig) → Buf (Elt Ideal) ℓ) (g : Dev Cert.ModsIdeal.nD → PrngReg)
    (m' : (ℓ : Loc Cert.ModsReferenceIdeal.nD Cert.ModsReferenceIdeal.τ Cert.ModsReferenceIdeal.sig) → Buf (Elt Ideal) ℓ) (g' : Dev Cert.ModsReferenceIdeal.nD → PrngReg), Pre_ModsIdeal m →
    (∀ c : Dev Cert.ModsIdeal.nD,
      m' ((c.tc : Thread Cert.ModsReferenceIdeal.nD Cert.ModsReferenceIdeal.τ).loc Cert.ModsReferenceIdeal.main_arg0) = m ((c.tc : Thread Cert.ModsIdeal.nD Cert.ModsIdeal.τ).loc Cert.ModsIdeal.main_arg0)
      ∧ m' ((c.tc : Thread Cert.ModsReferenceIdeal.nD Cert.ModsReferenceIdeal.τ).loc Cert.ModsReferenceIdeal.main_arg1) = m ((c.tc : Thread Cert.ModsIdeal.nD Cert.ModsIdeal.τ).loc Cert.ModsIdeal.main_arg1)
      ∧ m' ((c.tc : Thread Cert.ModsReferenceIdeal.nD Cert.ModsReferenceIdeal.τ).loc Cert.ModsReferenceIdeal.main_arg2) = m ((c.tc : Thread Cert.ModsIdeal.nD Cert.ModsIdeal.τ).loc Cert.ModsIdeal.main_arg2)
      ∧ m' ((c.tc : Thread Cert.ModsReferenceIdeal.nD Cert.ModsReferenceIdeal.τ).loc Cert.ModsReferenceIdeal.main_arg3) = m ((c.tc : Thread Cert.ModsIdeal.nD Cert.ModsIdeal.τ).loc Cert.ModsIdeal.main_arg3)) →
    ∃ (v0 : (c : Dev Cert.ModsIdeal.nD) → Buf (Elt Ideal) ((c.tc : Thread Cert.ModsIdeal.nD Cert.ModsIdeal.τ).loc Cert.ModsIdeal.main_v4)),
      θ_run (Cert.ModsIdeal.defs (F := Ideal)) (onTc (τ := Cert.ModsIdeal.τ) (Cert.ModsIdeal.main (F := Ideal))) ⟨m, fun _ => 0, g⟩ (fun r => ∀ c : Dev Cert.ModsIdeal.nD,
          r.2.mem ((c.tc : Thread Cert.ModsIdeal.nD Cert.ModsIdeal.τ).loc Cert.ModsIdeal.main_v4) = v0 c
          ∧ r.2.mem ((c.tc : Thread Cert.ModsIdeal.nD Cert.ModsIdeal.τ).loc Cert.ModsIdeal.main_arg0) = m ((c.tc : Thread Cert.ModsIdeal.nD Cert.ModsIdeal.τ).loc Cert.ModsIdeal.main_arg0)
          ∧ r.2.mem ((c.tc : Thread Cert.ModsIdeal.nD Cert.ModsIdeal.τ).loc Cert.ModsIdeal.main_arg1) = m ((c.tc : Thread Cert.ModsIdeal.nD Cert.ModsIdeal.τ).loc Cert.ModsIdeal.main_arg1)
          ∧ r.2.mem ((c.tc : Thread Cert.ModsIdeal.nD Cert.ModsIdeal.τ).loc Cert.ModsIdeal.main_arg2) = m ((c.tc : Thread Cert.ModsIdeal.nD Cert.ModsIdeal.τ).loc Cert.ModsIdeal.main_arg2)
          ∧ r.2.mem ((c.tc : Thread Cert.ModsIdeal.nD Cert.ModsIdeal.τ).loc Cert.ModsIdeal.main_arg3) = m ((c.tc : Thread Cert.ModsIdeal.nD Cert.ModsIdeal.τ).loc Cert.ModsIdeal.main_arg3))
      ∧ θ_run (Cert.ModsReferenceIdeal.defs (F := Ideal)) (onTc (τ := Cert.ModsReferenceIdeal.τ) (Cert.ModsReferenceIdeal.main (F := Ideal))) ⟨m', fun _ => 0, g'⟩ (fun r => ∀ c : Dev Cert.ModsReferenceIdeal.nD,
          r.2.mem ((c.tc : Thread Cert.ModsReferenceIdeal.nD Cert.ModsReferenceIdeal.τ).loc Cert.ModsReferenceIdeal.main_v58) = v0 c
          ∧ r.2.mem ((c.tc : Thread Cert.ModsReferenceIdeal.nD Cert.ModsReferenceIdeal.τ).loc Cert.ModsReferenceIdeal.main_arg0) = m' ((c.tc : Thread Cert.ModsReferenceIdeal.nD Cert.ModsReferenceIdeal.τ).loc Cert.ModsReferenceIdeal.main_arg0)
          ∧ r.2.mem ((c.tc : Thread Cert.ModsReferenceIdeal.nD Cert.ModsReferenceIdeal.τ).loc Cert.ModsReferenceIdeal.main_arg1) = m' ((c.tc : Thread Cert.ModsReferenceIdeal.nD Cert.ModsReferenceIdeal.τ).loc Cert.ModsReferenceIdeal.main_arg1)
          ∧ r.2.mem ((c.tc : Thread Cert.ModsReferenceIdeal.nD Cert.ModsReferenceIdeal.τ).loc Cert.ModsReferenceIdeal.main_arg2) = m' ((c.tc : Thread Cert.ModsReferenceIdeal.nD Cert.ModsReferenceIdeal.τ).loc Cert.ModsReferenceIdeal.main_arg2)
          ∧ r.2.mem ((c.tc : Thread Cert.ModsReferenceIdeal.nD Cert.ModsReferenceIdeal.τ).loc Cert.ModsReferenceIdeal.main_arg3) = m' ((c.tc : Thread Cert.ModsReferenceIdeal.nD Cert.ModsReferenceIdeal.τ).loc Cert.ModsReferenceIdeal.main_arg3))

def preserves_Dest_DestIdeal : Prop :=
  True

def algebraic_DestIdeal_DestReferenceIdeal [hDestIdeal : Cert.DestIdeal.Facts] [hDestReferenceIdeal : Cert.DestReferenceIdeal.Facts] : Prop :=
  ∀ (m : (ℓ : Loc Cert.DestIdeal.nD Cert.DestIdeal.τ Cert.DestIdeal.sig) → Buf (Elt Ideal) ℓ) (g : Dev Cert.DestIdeal.nD → PrngReg)
    (m' : (ℓ : Loc Cert.DestReferenceIdeal.nD Cert.DestReferenceIdeal.τ Cert.DestReferenceIdeal.sig) → Buf (Elt Ideal) ℓ) (g' : Dev Cert.DestReferenceIdeal.nD → PrngReg), Pre_DestIdeal m →
    (∀ c : Dev Cert.DestIdeal.nD,
      m' ((c.tc : Thread Cert.DestReferenceIdeal.nD Cert.DestReferenceIdeal.τ).loc Cert.DestReferenceIdeal.main_arg0) = m ((c.tc : Thread Cert.DestIdeal.nD Cert.DestIdeal.τ).loc Cert.DestIdeal.main_arg0)
      ∧ m' ((c.tc : Thread Cert.DestReferenceIdeal.nD Cert.DestReferenceIdeal.τ).loc Cert.DestReferenceIdeal.main_arg1) = m ((c.tc : Thread Cert.DestIdeal.nD Cert.DestIdeal.τ).loc Cert.DestIdeal.main_arg1)
      ∧ m' ((c.tc : Thread Cert.DestReferenceIdeal.nD Cert.DestReferenceIdeal.τ).loc Cert.DestReferenceIdeal.main_arg2) = m ((c.tc : Thread Cert.DestIdeal.nD Cert.DestIdeal.τ).loc Cert.DestIdeal.main_arg2)) →
    ∃ (v0 : (c : Dev Cert.DestIdeal.nD) → Buf (Elt Ideal) ((c.tc : Thread Cert.DestIdeal.nD Cert.DestIdeal.τ).loc Cert.DestIdeal.main_v2)),
      θ_run (Cert.DestIdeal.defs (F := Ideal)) (onTc (τ := Cert.DestIdeal.τ) (Cert.DestIdeal.main (F := Ideal))) ⟨m, fun _ => 0, g⟩ (fun r => ∀ c : Dev Cert.DestIdeal.nD,
          r.2.mem ((c.tc : Thread Cert.DestIdeal.nD Cert.DestIdeal.τ).loc Cert.DestIdeal.main_v2) = v0 c
          ∧ r.2.mem ((c.tc : Thread Cert.DestIdeal.nD Cert.DestIdeal.τ).loc Cert.DestIdeal.main_arg0) = m ((c.tc : Thread Cert.DestIdeal.nD Cert.DestIdeal.τ).loc Cert.DestIdeal.main_arg0)
          ∧ r.2.mem ((c.tc : Thread Cert.DestIdeal.nD Cert.DestIdeal.τ).loc Cert.DestIdeal.main_arg1) = m ((c.tc : Thread Cert.DestIdeal.nD Cert.DestIdeal.τ).loc Cert.DestIdeal.main_arg1)
          ∧ r.2.mem ((c.tc : Thread Cert.DestIdeal.nD Cert.DestIdeal.τ).loc Cert.DestIdeal.main_arg2) = m ((c.tc : Thread Cert.DestIdeal.nD Cert.DestIdeal.τ).loc Cert.DestIdeal.main_arg2))
      ∧ θ_run (Cert.DestReferenceIdeal.defs (F := Ideal)) (onTc (τ := Cert.DestReferenceIdeal.τ) (Cert.DestReferenceIdeal.main (F := Ideal))) ⟨m', fun _ => 0, g'⟩ (fun r => ∀ c : Dev Cert.DestReferenceIdeal.nD,
          r.2.mem ((c.tc : Thread Cert.DestReferenceIdeal.nD Cert.DestReferenceIdeal.τ).loc Cert.DestReferenceIdeal.main_v15) = v0 c
          ∧ r.2.mem ((c.tc : Thread Cert.DestReferenceIdeal.nD Cert.DestReferenceIdeal.τ).loc Cert.DestReferenceIdeal.main_arg0) = m' ((c.tc : Thread Cert.DestReferenceIdeal.nD Cert.DestReferenceIdeal.τ).loc Cert.DestReferenceIdeal.main_arg0)
          ∧ r.2.mem ((c.tc : Thread Cert.DestReferenceIdeal.nD Cert.DestReferenceIdeal.τ).loc Cert.DestReferenceIdeal.main_arg1) = m' ((c.tc : Thread Cert.DestReferenceIdeal.nD Cert.DestReferenceIdeal.τ).loc Cert.DestReferenceIdeal.main_arg1)
          ∧ r.2.mem ((c.tc : Thread Cert.DestReferenceIdeal.nD Cert.DestReferenceIdeal.τ).loc Cert.DestReferenceIdeal.main_arg2) = m' ((c.tc : Thread Cert.DestReferenceIdeal.nD Cert.DestReferenceIdeal.τ).loc Cert.DestReferenceIdeal.main_arg2))

def preserves_Combine_CombineIdeal : Prop :=
  True

def algebraic_CombineIdeal_CombineReferenceIdeal [hCombineIdeal : Cert.CombineIdeal.Facts] [hCombineReferenceIdeal : Cert.CombineReferenceIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)
      ∧ m' ((c.tc : Thread Cert.CombineReferenceIdeal.nD Cert.CombineReferenceIdeal.τ).loc Cert.CombineReferenceIdeal.main_arg4) = m ((c.tc : Thread Cert.CombineIdeal.nD Cert.CombineIdeal.τ).loc Cert.CombineIdeal.main_arg4)
      ∧ m' ((c.tc : Thread Cert.CombineReferenceIdeal.nD Cert.CombineReferenceIdeal.τ).loc Cert.CombineReferenceIdeal.main_arg5) = m ((c.tc : Thread Cert.CombineIdeal.nD Cert.CombineIdeal.τ).loc Cert.CombineIdeal.main_arg5)) →
    ∃ (v0 : (c : Dev Cert.CombineIdeal.nD) → Buf (Elt Ideal) ((c.tc : Thread Cert.CombineIdeal.nD Cert.CombineIdeal.τ).loc Cert.CombineIdeal.main_v5)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v5) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v36) = v0 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3)
          ∧ r.2.mem ((c.tc : Thread Cert.CombineReferenceIdeal.nD Cert.CombineReferenceIdeal.τ).loc Cert.CombineReferenceIdeal.main_arg4) = m' ((c.tc : Thread Cert.CombineReferenceIdeal.nD Cert.CombineReferenceIdeal.τ).loc Cert.CombineReferenceIdeal.main_arg4)
          ∧ r.2.mem ((c.tc : Thread Cert.CombineReferenceIdeal.nD Cert.CombineReferenceIdeal.τ).loc Cert.CombineReferenceIdeal.main_arg5) = m' ((c.tc : Thread Cert.CombineReferenceIdeal.nD Cert.CombineReferenceIdeal.τ).loc Cert.CombineReferenceIdeal.main_arg5))

def preserves_DestLast_DestLastIdeal : Prop :=
  True

def algebraic_DestLastIdeal_DestLastReferenceIdeal [hDestLastIdeal : Cert.DestLastIdeal.Facts] [hDestLastReferenceIdeal : Cert.DestLastReferenceIdeal.Facts] : Prop :=
  ∀ (m : (ℓ : Loc Cert.DestLastIdeal.nD Cert.DestLastIdeal.τ Cert.DestLastIdeal.sig) → Buf (Elt Ideal) ℓ) (g : Dev Cert.DestLastIdeal.nD → PrngReg)
    (m' : (ℓ : Loc Cert.DestLastReferenceIdeal.nD Cert.DestLastReferenceIdeal.τ Cert.DestLastReferenceIdeal.sig) → Buf (Elt Ideal) ℓ) (g' : Dev Cert.DestLastReferenceIdeal.nD → PrngReg), Pre_DestLastIdeal m →
    (∀ c : Dev Cert.DestLastIdeal.nD,
      m' ((c.tc : Thread Cert.DestLastReferenceIdeal.nD Cert.DestLastReferenceIdeal.τ).loc Cert.DestLastReferenceIdeal.main_arg0) = m ((c.tc : Thread Cert.DestLastIdeal.nD Cert.DestLastIdeal.τ).loc Cert.DestLastIdeal.main_arg0)
      ∧ m' ((c.tc : Thread Cert.DestLastReferenceIdeal.nD Cert.DestLastReferenceIdeal.τ).loc Cert.DestLastReferenceIdeal.main_arg1) = m ((c.tc : Thread Cert.DestLastIdeal.nD Cert.DestLastIdeal.τ).loc Cert.DestLastIdeal.main_arg1)
      ∧ m' ((c.tc : Thread Cert.DestLastReferenceIdeal.nD Cert.DestLastReferenceIdeal.τ).loc Cert.DestLastReferenceIdeal.main_arg2) = m ((c.tc : Thread Cert.DestLastIdeal.nD Cert.DestLastIdeal.τ).loc Cert.DestLastIdeal.main_arg2)) →
    ∃ (v0 : (c : Dev Cert.DestLastIdeal.nD) → Buf (Elt Ideal) ((c.tc : Thread Cert.DestLastIdeal.nD Cert.DestLastIdeal.τ).loc Cert.DestLastIdeal.main_v2)),
      θ_run (Cert.DestLastIdeal.defs (F := Ideal)) (onTc (τ := Cert.DestLastIdeal.τ) (Cert.DestLastIdeal.main (F := Ideal))) ⟨m, fun _ => 0, g⟩ (fun r => ∀ c : Dev Cert.DestLastIdeal.nD,
          r.2.mem ((c.tc : Thread Cert.DestLastIdeal.nD Cert.DestLastIdeal.τ).loc Cert.DestLastIdeal.main_v2) = v0 c
          ∧ r.2.mem ((c.tc : Thread Cert.DestLastIdeal.nD Cert.DestLastIdeal.τ).loc Cert.DestLastIdeal.main_arg0) = m ((c.tc : Thread Cert.DestLastIdeal.nD Cert.DestLastIdeal.τ).loc Cert.DestLastIdeal.main_arg0)
          ∧ r.2.mem ((c.tc : Thread Cert.DestLastIdeal.nD Cert.DestLastIdeal.τ).loc Cert.DestLastIdeal.main_arg1) = m ((c.tc : Thread Cert.DestLastIdeal.nD Cert.DestLastIdeal.τ).loc Cert.DestLastIdeal.main_arg1)
          ∧ r.2.mem ((c.tc : Thread Cert.DestLastIdeal.nD Cert.DestLastIdeal.τ).loc Cert.DestLastIdeal.main_arg2) = m ((c.tc : Thread Cert.DestLastIdeal.nD Cert.DestLastIdeal.τ).loc Cert.DestLastIdeal.main_arg2))
      ∧ θ_run (Cert.DestLastReferenceIdeal.defs (F := Ideal)) (onTc (τ := Cert.DestLastReferenceIdeal.τ) (Cert.DestLastReferenceIdeal.main (F := Ideal))) ⟨m', fun _ => 0, g'⟩ (fun r => ∀ c : Dev Cert.DestLastReferenceIdeal.nD,
          r.2.mem ((c.tc : Thread Cert.DestLastReferenceIdeal.nD Cert.DestLastReferenceIdeal.τ).loc Cert.DestLastReferenceIdeal.main_v15) = v0 c
          ∧ r.2.mem ((c.tc : Thread Cert.DestLastReferenceIdeal.nD Cert.DestLastReferenceIdeal.τ).loc Cert.DestLastReferenceIdeal.main_arg0) = m' ((c.tc : Thread Cert.DestLastReferenceIdeal.nD Cert.DestLastReferenceIdeal.τ).loc Cert.DestLastReferenceIdeal.main_arg0)
          ∧ r.2.mem ((c.tc : Thread Cert.DestLastReferenceIdeal.nD Cert.DestLastReferenceIdeal.τ).loc Cert.DestLastReferenceIdeal.main_arg1) = m' ((c.tc : Thread Cert.DestLastReferenceIdeal.nD Cert.DestLastReferenceIdeal.τ).loc Cert.DestLastReferenceIdeal.main_arg1)
          ∧ r.2.mem ((c.tc : Thread Cert.DestLastReferenceIdeal.nD Cert.DestLastReferenceIdeal.τ).loc Cert.DestLastReferenceIdeal.main_arg2) = m' ((c.tc : Thread Cert.DestLastReferenceIdeal.nD Cert.DestLastReferenceIdeal.τ).loc Cert.DestLastReferenceIdeal.main_arg2))

def preserves_CombineFirst_CombineFirstIdeal : Prop :=
  True

def algebraic_CombineFirstIdeal_CombineFirstReferenceIdeal [hCombineFirstIdeal : Cert.CombineFirstIdeal.Facts] [hCombineFirstReferenceIdeal : Cert.CombineFirstReferenceIdeal.Facts] : Prop :=
  ∀ (m : (ℓ : Loc Cert.CombineFirstIdeal.nD Cert.CombineFirstIdeal.τ Cert.CombineFirstIdeal.sig) → Buf (Elt Ideal) ℓ) (g : Dev Cert.CombineFirstIdeal.nD → PrngReg)
    (m' : (ℓ : Loc Cert.CombineFirstReferenceIdeal.nD Cert.CombineFirstReferenceIdeal.τ Cert.CombineFirstReferenceIdeal.sig) → Buf (Elt Ideal) ℓ) (g' : Dev Cert.CombineFirstReferenceIdeal.nD → PrngReg), Pre_CombineFirstIdeal m →
    (∀ c : Dev Cert.CombineFirstIdeal.nD,
      m' ((c.tc : Thread Cert.CombineFirstReferenceIdeal.nD Cert.CombineFirstReferenceIdeal.τ).loc Cert.CombineFirstReferenceIdeal.main_arg0) = m ((c.tc : Thread Cert.CombineFirstIdeal.nD Cert.CombineFirstIdeal.τ).loc Cert.CombineFirstIdeal.main_arg0)
      ∧ m' ((c.tc : Thread Cert.CombineFirstReferenceIdeal.nD Cert.CombineFirstReferenceIdeal.τ).loc Cert.CombineFirstReferenceIdeal.main_arg1) = m ((c.tc : Thread Cert.CombineFirstIdeal.nD Cert.CombineFirstIdeal.τ).loc Cert.CombineFirstIdeal.main_arg1)
      ∧ m' ((c.tc : Thread Cert.CombineFirstReferenceIdeal.nD Cert.CombineFirstReferenceIdeal.τ).loc Cert.CombineFirstReferenceIdeal.main_arg2) = m ((c.tc : Thread Cert.CombineFirstIdeal.nD Cert.CombineFirstIdeal.τ).loc Cert.CombineFirstIdeal.main_arg2)
      ∧ m' ((c.tc : Thread Cert.CombineFirstReferenceIdeal.nD Cert.CombineFirstReferenceIdeal.τ).loc Cert.CombineFirstReferenceIdeal.main_arg3) = m ((c.tc : Thread Cert.CombineFirstIdeal.nD Cert.CombineFirstIdeal.τ).loc Cert.CombineFirstIdeal.main_arg3)
      ∧ m' ((c.tc : Thread Cert.CombineFirstReferenceIdeal.nD Cert.CombineFirstReferenceIdeal.τ).loc Cert.CombineFirstReferenceIdeal.main_arg4) = m ((c.tc : Thread Cert.CombineFirstIdeal.nD Cert.CombineFirstIdeal.τ).loc Cert.CombineFirstIdeal.main_arg4)
      ∧ m' ((c.tc : Thread Cert.CombineFirstReferenceIdeal.nD Cert.CombineFirstReferenceIdeal.τ).loc Cert.CombineFirstReferenceIdeal.main_arg5) = m ((c.tc : Thread Cert.CombineFirstIdeal.nD Cert.CombineFirstIdeal.τ).loc Cert.CombineFirstIdeal.main_arg5)
      ∧ m' ((c.tc : Thread Cert.CombineFirstReferenceIdeal.nD Cert.CombineFirstReferenceIdeal.τ).loc Cert.CombineFirstReferenceIdeal.main_arg6) = m ((c.tc : Thread Cert.CombineFirstIdeal.nD Cert.CombineFirstIdeal.τ).loc Cert.CombineFirstIdeal.main_arg6)
      ∧ m' ((c.tc : Thread Cert.CombineFirstReferenceIdeal.nD Cert.CombineFirstReferenceIdeal.τ).loc Cert.CombineFirstReferenceIdeal.main_arg7) = m ((c.tc : Thread Cert.CombineFirstIdeal.nD Cert.CombineFirstIdeal.τ).loc Cert.CombineFirstIdeal.main_arg7)) →
    ∃ (v0 : (c : Dev Cert.CombineFirstIdeal.nD) → Buf (Elt Ideal) ((c.tc : Thread Cert.CombineFirstIdeal.nD Cert.CombineFirstIdeal.τ).loc Cert.CombineFirstIdeal.main_v7)),
      θ_run (Cert.CombineFirstIdeal.defs (F := Ideal)) (onTc (τ := Cert.CombineFirstIdeal.τ) (Cert.CombineFirstIdeal.main (F := Ideal))) ⟨m, fun _ => 0, g⟩ (fun r => ∀ c : Dev Cert.CombineFirstIdeal.nD,
          r.2.mem ((c.tc : Thread Cert.CombineFirstIdeal.nD Cert.CombineFirstIdeal.τ).loc Cert.CombineFirstIdeal.main_v7) = v0 c
          ∧ r.2.mem ((c.tc : Thread Cert.CombineFirstIdeal.nD Cert.CombineFirstIdeal.τ).loc Cert.CombineFirstIdeal.main_arg0) = m ((c.tc : Thread Cert.CombineFirstIdeal.nD Cert.CombineFirstIdeal.τ).loc Cert.CombineFirstIdeal.main_arg0)
          ∧ r.2.mem ((c.tc : Thread Cert.CombineFirstIdeal.nD Cert.CombineFirstIdeal.τ).loc Cert.CombineFirstIdeal.main_arg1) = m ((c.tc : Thread Cert.CombineFirstIdeal.nD Cert.CombineFirstIdeal.τ).loc Cert.CombineFirstIdeal.main_arg1)
          ∧ r.2.mem ((c.tc : Thread Cert.CombineFirstIdeal.nD Cert.CombineFirstIdeal.τ).loc Cert.CombineFirstIdeal.main_arg2) = m ((c.tc : Thread Cert.CombineFirstIdeal.nD Cert.CombineFirstIdeal.τ).loc Cert.CombineFirstIdeal.main_arg2)
          ∧ r.2.mem ((c.tc : Thread Cert.CombineFirstIdeal.nD Cert.CombineFirstIdeal.τ).loc Cert.CombineFirstIdeal.main_arg3) = m ((c.tc : Thread Cert.CombineFirstIdeal.nD Cert.CombineFirstIdeal.τ).loc Cert.CombineFirstIdeal.main_arg3)
          ∧ r.2.mem ((c.tc : Thread Cert.CombineFirstIdeal.nD Cert.CombineFirstIdeal.τ).loc Cert.CombineFirstIdeal.main_arg4) = m ((c.tc : Thread Cert.CombineFirstIdeal.nD Cert.CombineFirstIdeal.τ).loc Cert.CombineFirstIdeal.main_arg4)
          ∧ r.2.mem ((c.tc : Thread Cert.CombineFirstIdeal.nD Cert.CombineFirstIdeal.τ).loc Cert.CombineFirstIdeal.main_arg5) = m ((c.tc : Thread Cert.CombineFirstIdeal.nD Cert.CombineFirstIdeal.τ).loc Cert.CombineFirstIdeal.main_arg5)
          ∧ r.2.mem ((c.tc : Thread Cert.CombineFirstIdeal.nD Cert.CombineFirstIdeal.τ).loc Cert.CombineFirstIdeal.main_arg6) = m ((c.tc : Thread Cert.CombineFirstIdeal.nD Cert.CombineFirstIdeal.τ).loc Cert.CombineFirstIdeal.main_arg6)
          ∧ r.2.mem ((c.tc : Thread Cert.CombineFirstIdeal.nD Cert.CombineFirstIdeal.τ).loc Cert.CombineFirstIdeal.main_arg7) = m ((c.tc : Thread Cert.CombineFirstIdeal.nD Cert.CombineFirstIdeal.τ).loc Cert.CombineFirstIdeal.main_arg7))
      ∧ θ_run (Cert.CombineFirstReferenceIdeal.defs (F := Ideal)) (onTc (τ := Cert.CombineFirstReferenceIdeal.τ) (Cert.CombineFirstReferenceIdeal.main (F := Ideal))) ⟨m', fun _ => 0, g'⟩ (fun r => ∀ c : Dev Cert.CombineFirstReferenceIdeal.nD,
          r.2.mem ((c.tc : Thread Cert.CombineFirstReferenceIdeal.nD Cert.CombineFirstReferenceIdeal.τ).loc Cert.CombineFirstReferenceIdeal.main_v44) = v0 c
          ∧ r.2.mem ((c.tc : Thread Cert.CombineFirstReferenceIdeal.nD Cert.CombineFirstReferenceIdeal.τ).loc Cert.CombineFirstReferenceIdeal.main_arg0) = m' ((c.tc : Thread Cert.CombineFirstReferenceIdeal.nD Cert.CombineFirstReferenceIdeal.τ).loc Cert.CombineFirstReferenceIdeal.main_arg0)
          ∧ r.2.mem ((c.tc : Thread Cert.CombineFirstReferenceIdeal.nD Cert.CombineFirstReferenceIdeal.τ).loc Cert.CombineFirstReferenceIdeal.main_arg1) = m' ((c.tc : Thread Cert.CombineFirstReferenceIdeal.nD Cert.CombineFirstReferenceIdeal.τ).loc Cert.CombineFirstReferenceIdeal.main_arg1)
          ∧ r.2.mem ((c.tc : Thread Cert.CombineFirstReferenceIdeal.nD Cert.CombineFirstReferenceIdeal.τ).loc Cert.CombineFirstReferenceIdeal.main_arg2) = m' ((c.tc : Thread Cert.CombineFirstReferenceIdeal.nD Cert.CombineFirstReferenceIdeal.τ).loc Cert.CombineFirstReferenceIdeal.main_arg2)
          ∧ r.2.mem ((c.tc : Thread Cert.CombineFirstReferenceIdeal.nD Cert.CombineFirstReferenceIdeal.τ).loc Cert.CombineFirstReferenceIdeal.main_arg3) = m' ((c.tc : Thread Cert.CombineFirstReferenceIdeal.nD Cert.CombineFirstReferenceIdeal.τ).loc Cert.CombineFirstReferenceIdeal.main_arg3)
          ∧ r.2.mem ((c.tc : Thread Cert.CombineFirstReferenceIdeal.nD Cert.CombineFirstReferenceIdeal.τ).loc Cert.CombineFirstReferenceIdeal.main_arg4) = m' ((c.tc : Thread Cert.CombineFirstReferenceIdeal.nD Cert.CombineFirstReferenceIdeal.τ).loc Cert.CombineFirstReferenceIdeal.main_arg4)
          ∧ r.2.mem ((c.tc : Thread Cert.CombineFirstReferenceIdeal.nD Cert.CombineFirstReferenceIdeal.τ).loc Cert.CombineFirstReferenceIdeal.main_arg5) = m' ((c.tc : Thread Cert.CombineFirstReferenceIdeal.nD Cert.CombineFirstReferenceIdeal.τ).loc Cert.CombineFirstReferenceIdeal.main_arg5)
          ∧ r.2.mem ((c.tc : Thread Cert.CombineFirstReferenceIdeal.nD Cert.CombineFirstReferenceIdeal.τ).loc Cert.CombineFirstReferenceIdeal.main_arg6) = m' ((c.tc : Thread Cert.CombineFirstReferenceIdeal.nD Cert.CombineFirstReferenceIdeal.τ).loc Cert.CombineFirstReferenceIdeal.main_arg6)
          ∧ r.2.mem ((c.tc : Thread Cert.CombineFirstReferenceIdeal.nD Cert.CombineFirstReferenceIdeal.τ).loc Cert.CombineFirstReferenceIdeal.main_arg7) = m' ((c.tc : Thread Cert.CombineFirstReferenceIdeal.nD Cert.CombineFirstReferenceIdeal.τ).loc Cert.CombineFirstReferenceIdeal.main_arg7))

def Claim : Prop :=
  ∃ (hKernel : Cert.Kernel.Facts) (hKernelIdeal : Cert.KernelIdeal.Facts) (hReferenceIdeal : Cert.ReferenceIdeal.Facts) (hQkv : Cert.Qkv.Facts) (hQkvIdeal : Cert.QkvIdeal.Facts) (hQkvReferenceIdeal : Cert.QkvReferenceIdeal.Facts) (hShared : Cert.Shared.Facts) (hSharedIdeal : Cert.SharedIdeal.Facts) (hSharedReferenceIdeal : Cert.SharedReferenceIdeal.Facts) (hInproj : Cert.Inproj.Facts) (hInprojIdeal : Cert.InprojIdeal.Facts) (hInprojReferenceIdeal : Cert.InprojReferenceIdeal.Facts) (hSharedLast : Cert.SharedLast.Facts) (hSharedLastIdeal : Cert.SharedLastIdeal.Facts) (hSharedLastReferenceIdeal : Cert.SharedLastReferenceIdeal.Facts) (hOutproj : Cert.Outproj.Facts) (hOutprojIdeal : Cert.OutprojIdeal.Facts) (hOutprojReferenceIdeal : Cert.OutprojReferenceIdeal.Facts) (hMods : Cert.Mods.Facts) (hModsIdeal : Cert.ModsIdeal.Facts) (hModsReferenceIdeal : Cert.ModsReferenceIdeal.Facts) (hDest : Cert.Dest.Facts) (hDestIdeal : Cert.DestIdeal.Facts) (hDestReferenceIdeal : Cert.DestReferenceIdeal.Facts) (hCombine : Cert.Combine.Facts) (hCombineIdeal : Cert.CombineIdeal.Facts) (hCombineReferenceIdeal : Cert.CombineReferenceIdeal.Facts) (hDestLast : Cert.DestLast.Facts) (hDestLastIdeal : Cert.DestLastIdeal.Facts) (hDestLastReferenceIdeal : Cert.DestLastReferenceIdeal.Facts) (hCombineFirst : Cert.CombineFirst.Facts) (hCombineFirstIdeal : Cert.CombineFirstIdeal.Facts) (hCombineFirstReferenceIdeal : Cert.CombineFirstReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Qkv (hQkv := hQkv)
    ∧ quiescent_QkvIdeal (hQkvIdeal := hQkvIdeal)
    ∧ quiescent_QkvReferenceIdeal (hQkvReferenceIdeal := hQkvReferenceIdeal)
    ∧ quiescent_Shared (hShared := hShared)
    ∧ quiescent_SharedIdeal (hSharedIdeal := hSharedIdeal)
    ∧ quiescent_SharedReferenceIdeal (hSharedReferenceIdeal := hSharedReferenceIdeal)
    ∧ quiescent_Inproj (hInproj := hInproj)
    ∧ quiescent_InprojIdeal (hInprojIdeal := hInprojIdeal)
    ∧ quiescent_InprojReferenceIdeal (hInprojReferenceIdeal := hInprojReferenceIdeal)
    ∧ quiescent_SharedLast (hSharedLast := hSharedLast)
    ∧ quiescent_SharedLastIdeal (hSharedLastIdeal := hSharedLastIdeal)
    ∧ quiescent_SharedLastReferenceIdeal (hSharedLastReferenceIdeal := hSharedLastReferenceIdeal)
    ∧ quiescent_Outproj (hOutproj := hOutproj)
    ∧ quiescent_OutprojIdeal (hOutprojIdeal := hOutprojIdeal)
    ∧ quiescent_OutprojReferenceIdeal (hOutprojReferenceIdeal := hOutprojReferenceIdeal)
    ∧ quiescent_Mods (hMods := hMods)
    ∧ quiescent_ModsIdeal (hModsIdeal := hModsIdeal)
    ∧ quiescent_ModsReferenceIdeal (hModsReferenceIdeal := hModsReferenceIdeal)
    ∧ quiescent_Dest (hDest := hDest)
    ∧ quiescent_DestIdeal (hDestIdeal := hDestIdeal)
    ∧ quiescent_DestReferenceIdeal (hDestReferenceIdeal := hDestReferenceIdeal)
    ∧ quiescent_Combine (hCombine := hCombine)
    ∧ quiescent_CombineIdeal (hCombineIdeal := hCombineIdeal)
    ∧ quiescent_CombineReferenceIdeal (hCombineReferenceIdeal := hCombineReferenceIdeal)
    ∧ quiescent_DestLast (hDestLast := hDestLast)
    ∧ quiescent_DestLastIdeal (hDestLastIdeal := hDestLastIdeal)
    ∧ quiescent_DestLastReferenceIdeal (hDestLastReferenceIdeal := hDestLastReferenceIdeal)
    ∧ quiescent_CombineFirst (hCombineFirst := hCombineFirst)
    ∧ quiescent_CombineFirstIdeal (hCombineFirstIdeal := hCombineFirstIdeal)
    ∧ quiescent_CombineFirstReferenceIdeal (hCombineFirstReferenceIdeal := hCombineFirstReferenceIdeal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Qkv_QkvIdeal
    ∧ algebraic_QkvIdeal_QkvReferenceIdeal (hQkvIdeal := hQkvIdeal) (hQkvReferenceIdeal := hQkvReferenceIdeal)
    ∧ preserves_Shared_SharedIdeal
    ∧ algebraic_SharedIdeal_SharedReferenceIdeal (hSharedIdeal := hSharedIdeal) (hSharedReferenceIdeal := hSharedReferenceIdeal)
    ∧ preserves_Inproj_InprojIdeal
    ∧ algebraic_InprojIdeal_InprojReferenceIdeal (hInprojIdeal := hInprojIdeal) (hInprojReferenceIdeal := hInprojReferenceIdeal)
    ∧ preserves_SharedLast_SharedLastIdeal
    ∧ algebraic_SharedLastIdeal_SharedLastReferenceIdeal (hSharedLastIdeal := hSharedLastIdeal) (hSharedLastReferenceIdeal := hSharedLastReferenceIdeal)
    ∧ preserves_Outproj_OutprojIdeal
    ∧ algebraic_OutprojIdeal_OutprojReferenceIdeal (hOutprojIdeal := hOutprojIdeal) (hOutprojReferenceIdeal := hOutprojReferenceIdeal)
    ∧ preserves_Mods_ModsIdeal
    ∧ algebraic_ModsIdeal_ModsReferenceIdeal (hModsIdeal := hModsIdeal) (hModsReferenceIdeal := hModsReferenceIdeal)
    ∧ preserves_Dest_DestIdeal
    ∧ algebraic_DestIdeal_DestReferenceIdeal (hDestIdeal := hDestIdeal) (hDestReferenceIdeal := hDestReferenceIdeal)
    ∧ preserves_Combine_CombineIdeal
    ∧ algebraic_CombineIdeal_CombineReferenceIdeal (hCombineIdeal := hCombineIdeal) (hCombineReferenceIdeal := hCombineReferenceIdeal)
    ∧ preserves_DestLast_DestLastIdeal
    ∧ algebraic_DestLastIdeal_DestLastReferenceIdeal (hDestLastIdeal := hDestLastIdeal) (hDestLastReferenceIdeal := hDestLastReferenceIdeal)
    ∧ preserves_CombineFirst_CombineFirstIdeal
    ∧ algebraic_CombineFirstIdeal_CombineFirstReferenceIdeal (hCombineFirstIdeal := hCombineFirstIdeal) (hCombineFirstReferenceIdeal := hCombineFirstReferenceIdeal)
-- ==== Pre_finite_inputs.lean ====
abbrev S8x4096x8x2x64 : Shape := ⟨5, ![8, 4096, 8, 2, 64]⟩
abbrev S8x4352x8x2x64 : Shape := ⟨5, ![8, 4352, 8, 2, 64]⟩
abbrev S8x4352x8x128 : Shape := ⟨4, ![8, 4352, 8, 128]⟩
abbrev S1x4x64 : Shape := ⟨3, ![1, 4, 64]⟩
abbrev S1x128 : Shape := ⟨2, ![1, 128]⟩
abbrev S_ : Shape := ⟨0, ![]⟩

class Facts : Prop where
  bcast_S_S8x4096x8x2x64 : S_.BroadcastsInDim S8x4096x8x2x64 (![] : Fin 0 → Fin S8x4096x8x2x64.rank)
  bcast_S_S8x4352x8x2x64 : S_.BroadcastsInDim S8x4352x8x2x64 (![] : Fin 0 → Fin S8x4352x8x2x64.rank)
  bcast_S_S8x4352x8x128 : S_.BroadcastsInDim S8x4352x8x128 (![] : Fin 0 → Fin S8x4352x8x128.rank)
  bcast_S_S1x4x64 : S_.BroadcastsInDim S1x4x64 (![] : Fin 0 → Fin S1x4x64.rank)

variable [Facts]

def fn {F : FTy → Type} [FloatOps F] (main_arg0 : FVec F S8x4096x8x2x64 .f32) (main_arg1 : FVec F S8x4352x8x2x64 .f32) (main_arg2 : FVec F S8x4352x8x128 .f32) (main_arg3 : FVec F S1x4x64 .f32) (main_arg4 : FVec F S1x128 .f32) : IVec S8x4096x8x2x64 1 × IVec S8x4352x8x2x64 1 × IVec S8x4352x8x128 1 × IVec S1x4x64 1 :=
  let main_v0 : FVec F S8x4096x8x2x64 .f32 := Host.absf main_arg0
  let main_cst : FVec F S_ .f32 := constant S_ .f32 0x7F800000#32
  let main_v1 : FVec F S8x4096x8x2x64 .f32 := broadcastInDim S8x4096x8x2x64 ![] bcast_S_S8x4096x8x2x64 main_cst
  let main_v2 : IVec S8x4096x8x2x64 1 := cmpf .olt main_v0 main_v1
  let main_v3 : FVec F S8x4352x8x2x64 .f32 := Host.absf main_arg1
  let main_cst_0 : FVec F S_ .f32 := constant S_ .f32 0x7F800000#32
  let main_v4 : FVec F S8x4352x8x2x64 .f32 := broadcastInDim S8x4352x8x2x64 ![] bcast_S_S8x4352x8x2x64 main_cst_0
  let main_v5 : IVec S8x4352x8x2x64 1 := cmpf .olt main_v3 main_v4
  let main_v6 : FVec F S8x4352x8x128 .f32 := Host.absf main_arg2
  let main_cst_1 : FVec F S_ .f32 := constant S_ .f32 0x7F800000#32
  let main_v7 : FVec F S8x4352x8x128 .f32 := broadcastInDim S8x4352x8x128 ![] bcast_S_S8x4352x8x128 main_cst_1
  let main_v8 : IVec S8x4352x8x128 1 := cmpf .olt main_v6 main_v7
  let main_v9 : FVec F S1x4x64 .f32 := Host.absf main_arg3
  let main_cst_2 : FVec F S_ .f32 := constant S_ .f32 0x7F800000#32
  let main_v10 : FVec F S1x4x64 .f32 := broadcastInDim S1x4x64 ![] bcast_S_S1x4x64 main_cst_2
  let main_v11 : IVec S1x4x64 1 := cmpf .olt main_v9 main_v10
  (main_v2, main_v5, main_v8, main_v11)
-- ==== Kernel.lean ====
abbrev S8x4096x8x2x64 : Shape := ⟨5, ![8, 4096, 8, 2, 64]⟩
abbrev S8x4352x8x2x64 : Shape := ⟨5, ![8, 4352, 8, 2, 64]⟩
abbrev S8x4352x8x128 : Shape := ⟨4, ![8, 4352, 8, 128]⟩
abbrev S1x4x64 : Shape := ⟨3, ![1, 4, 64]⟩
abbrev S1x128 : Shape := ⟨2, ![1, 128]⟩
abbrev S32768x1024 : Shape := ⟨2, ![32768, 1024]⟩
abbrev S8x4352x1024 : Shape := ⟨3, ![8, 4352, 1024]⟩
abbrev S4x64 : Shape := ⟨2, ![4, 64]⟩
abbrev S128 : Shape := ⟨1, ![128]⟩
abbrev S1024x128 : Shape := ⟨2, ![1024, 128]⟩
abbrev S1x4352x128 : Shape := ⟨3, ![1, 4352, 128]⟩
abbrev S4352x256 : Shape := ⟨2, ![4352, 256]⟩
abbrev S4352x128 : Shape := ⟨2, ![4352, 128]⟩
abbrev S1x64 : Shape := ⟨2, ![1, 64]⟩
abbrev S1 : Shape := ⟨1, ![1]⟩
abbrev S1x1 : Shape := ⟨2, ![1, 1]⟩
abbrev S128x128 : Shape := ⟨2, ![128, 128]⟩
abbrev S256x128 : Shape := ⟨2, ![256, 128]⟩
abbrev S256x4352 : Shape := ⟨2, ![256, 4352]⟩
abbrev S256 : Shape := ⟨1, ![256]⟩
abbrev S256x1 : Shape := ⟨2, ![256, 1]⟩
abbrev S256x256 : Shape := ⟨2, ![256, 256]⟩
abbrev S128x1 : Shape := ⟨2, ![128, 1]⟩

abbrev nBuf : Space → Nat
  | .hbm => 15
  | .vmem => 11
  | .smem => 0
  | _ => 0

abbrev bufTy : (tb : Table) → Fin (tcTables nBuf tb) → BufTy
  | .hbm, ⟨0, _⟩ => ⟨S8x4096x8x2x64, .f32⟩
  | .hbm, ⟨1, _⟩ => ⟨S8x4352x8x2x64, .f32⟩
  | .hbm, ⟨2, _⟩ => ⟨S8x4352x8x128, .f32⟩
  | .hbm, ⟨3, _⟩ => ⟨S1x4x64, .f32⟩
  | .hbm, ⟨4, _⟩ => ⟨S1x128, .f32⟩
  | .hbm, ⟨5, _⟩ => ⟨S32768x1024, .f32⟩
  | .hbm, ⟨6, _⟩ => ⟨S32768x1024, .bf16⟩
  | .hbm, ⟨7, _⟩ => ⟨S8x4352x1024, .f32⟩
  | .hbm, ⟨8, _⟩ => ⟨S8x4352x1024, .bf16⟩
  | .hbm, ⟨9, _⟩ => ⟨S8x4352x1024, .f32⟩
  | .hbm, ⟨10, _⟩ => ⟨S8x4352x1024, .bf16⟩
  | .hbm, ⟨11, _⟩ => ⟨S4x64, .f32⟩
  | .hbm, ⟨12, _⟩ => ⟨S128, .f32⟩
  | .hbm, ⟨13, _⟩ => ⟨S1x128, .f32⟩
  | .hbm, ⟨14, _⟩ => ⟨S32768x1024, .bf16⟩
  | .local _ .vmem, ⟨0, _⟩ => ⟨S4x64, .f32⟩
  | .local _ .vmem, ⟨1, _⟩ => ⟨S1024x128, .bf16⟩
  | .local _ .vmem, ⟨2, _⟩ => ⟨S1024x128, .bf16⟩
  | .local _ .vmem, ⟨3, _⟩ => ⟨S1x4352x128, .bf16⟩
  | .local _ .vmem, ⟨4, _⟩ => ⟨S1x4352x128, .bf16⟩
  | .local _ .vmem, ⟨5, _⟩ => ⟨S1x4352x128, .bf16⟩
  | .local _ .vmem, ⟨6, _⟩ => ⟨S1x4352x128, .bf16⟩
  | .local _ .vmem, ⟨7, _⟩ => ⟨S1x128, .f32⟩
  | .local _ .vmem, ⟨8, _⟩ => ⟨S1024x128, .bf16⟩
  | .local _ .vmem, ⟨9, _⟩ => ⟨S1024x128, .bf16⟩
  | .local _ .vmem, ⟨10, _⟩ => ⟨S4352x256, .bf16⟩
  | _, _ => ⟨S8x4096x8x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 8, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4352x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "q_scale" => some (((8 * (Real.log 2))⁻¹ : ℝ) : EReal)
  | _ => none
-- ==== ReferenceIdeal.lean ====
abbrev S8x4096x8x2x64 : Shape := ⟨5, ![8, 4096, 8, 2, 64]⟩
abbrev S8x4352x8x2x64 : Shape := ⟨5, ![8, 4352, 8, 2, 64]⟩
abbrev S8x4352x8x128 : Shape := ⟨4, ![8, 4352, 8, 128]⟩
abbrev S1x4x64 : Shape := ⟨3, ![1, 4, 64]⟩
abbrev S1x128 : Shape := ⟨2, ![1, 128]⟩
abbrev S4x64 : Shape := ⟨2, ![4, 64]⟩
abbrev S1x64 : Shape := ⟨2, ![1, 64]⟩
abbrev S64 : Shape := ⟨1, ![64]⟩
abbrev S_ : Shape := ⟨0, ![]⟩
abbrev S8x2x8x4096x4352 : Shape := ⟨5, ![8, 2, 8, 4096, 4352]⟩
abbrev S8x2x8x4096 : Shape := ⟨4, ![8, 2, 8, 4096]⟩
abbrev S8x2x8x4096x1 : Shape := ⟨5, ![8, 2, 8, 4096, 1]⟩
abbrev S8x1x8x4096x4352 : Shape := ⟨5, ![8, 1, 8, 4096, 4352]⟩
abbrev S8x8x4096x4352 : Shape := ⟨4, ![8, 8, 4096, 4352]⟩
abbrev S8x8x128x4096 : Shape := ⟨4, ![8, 8, 128, 4096]⟩
abbrev S8x4096x8x128 : Shape := ⟨4, ![8, 4096, 8, 128]⟩
abbrev S128 : Shape := ⟨1, ![128]⟩
abbrev S8x4096x8 : Shape := ⟨3, ![8, 4096, 8]⟩
abbrev S8x4096x8x1 : Shape := ⟨4, ![8, 4096, 8, 1]⟩
abbrev S1x1x1x128 : Shape := ⟨4, ![1, 1, 1, 128]⟩
abbrev S32768x1024 : Shape := ⟨2, ![32768, 1024]⟩

abbrev nBuf : Space → Nat
  | .hbm => 74
  | .vmem => 0
  | .smem => 0
  | _ => 0

abbrev bufTy : (tb : Table) → Fin (tcTables nBuf tb) → BufTy
  | .hbm, ⟨0, _⟩ => ⟨S8x4096x8x2x64, .f32⟩
  | .hbm, ⟨1, _⟩ => ⟨S8x4352x8x2x64, .f32⟩
  | .hbm, ⟨2, _⟩ => ⟨S8x4352x8x128, .f32⟩
  | .hbm, ⟨3, _⟩ => ⟨S1x4x64, .f32⟩
  | .hbm, ⟨4, _⟩ => ⟨S1x128, .f32⟩
  | .hbm, ⟨5, _⟩ => ⟨S4x64, .f32⟩
  | .hbm, ⟨6, _⟩ => ⟨S1x64, .f32⟩
  | .hbm, ⟨7, _⟩ => ⟨S64, .f32⟩
  | .hbm, ⟨8, _⟩ => ⟨S1x64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8x2x8x4096x4352, .f32⟩
  | .hbm, ⟨26, _⟩ => ⟨S_, .f32⟩
  | .hbm, ⟨27, _⟩ => ⟨S8x2x8x4096x4352, .f32⟩
  | .hbm, ⟨28, _⟩ => ⟨S8x2x8x4096x4352, .f32⟩
  | .hbm, ⟨29, _⟩ => ⟨S_, .f32⟩
  | .hbm, ⟨30, _⟩ => ⟨S8x2x8x4096, .f32⟩
  | .hbm, ⟨31, _⟩ => ⟨S_, .f32⟩
  | .hbm, ⟨32, _⟩ => ⟨S8x2x8x4096, .f32⟩
  | .hbm, ⟨33, _⟩ => ⟨S8x2x8x4096, .f32⟩
  | .hbm, ⟨34, _⟩ => ⟨S8x2x8x4096x1, .f32⟩
  | .hbm, ⟨35, _⟩ => ⟨S8x2x8x4096x4352, .f32⟩
  | .hbm, ⟨36, _⟩ => ⟨S8x2x8x4096x4352, .f32⟩
  | .hbm, ⟨37, _⟩ => ⟨S8x2x8x4096x4352, .f32⟩
  | .hbm, ⟨38, _⟩ => ⟨S_, .f32⟩
  | .hbm, ⟨39, _⟩ => ⟨S8x2x8x4096, .f32⟩
  | .hbm, ⟨40, _⟩ => ⟨S8x2x8x4096x1, .f32⟩
  | .hbm, ⟨41, _⟩ => ⟨S8x2x8x4096x4352, .f32⟩
  | .hbm, ⟨42, _⟩ => ⟨S8x2x8x4096x4352, .f32⟩
  | .hbm, ⟨43, _⟩ => ⟨S8x1x8x4096x4352, .f32⟩
  | .hbm, ⟨44, _⟩ => ⟨S8x8x4096x4352, .f32⟩
  | .hbm, ⟨45, _⟩ => ⟨S8x1x8x4096x4352, .f32⟩
  | .hbm, ⟨46, _⟩ => ⟨S8x8x4096x4352, .f32⟩
  | .hbm, ⟨47, _⟩ => ⟨S8x8x4096x4352, .f32⟩
  | .hbm, ⟨48, _⟩ => ⟨S8x8x4096x4352, .f32⟩
  | .hbm, ⟨49, _⟩ => ⟨S8x8x4096x4352, .f32⟩
  | .hbm, ⟨50, _⟩ => ⟨S8x8x128x4096, .f32⟩
  | .hbm, ⟨51, _⟩ => ⟨S8x4096x8x128, .f32⟩
  | .hbm, ⟨52, _⟩ => ⟨S128, .f32⟩
  | .hbm, ⟨53, _⟩ => ⟨S8x4096x8x128, .f32⟩
  | .hbm, ⟨54, _⟩ => ⟨S_, .f32⟩
  | .hbm, ⟨55, _⟩ => ⟨S8x4096x8, .f32⟩
  | .hbm, ⟨56, _⟩ => ⟨S8x4096x8x1, .f32⟩
  | .hbm, ⟨57, _⟩ => ⟨S_, .f32⟩
  | .hbm, ⟨58, _⟩ => ⟨S8x4096x8x1, .f32⟩
  | .hbm, ⟨59, _⟩ => ⟨S8x4096x8x1, .f32⟩
  | .hbm, ⟨60, _⟩ => ⟨S_, .f32⟩
  | .hbm, ⟨61, _⟩ => ⟨S8x4096x8x1, .f32⟩
  | .hbm, ⟨62, _⟩ => ⟨S8x4096x8x1, .f32⟩
  | .hbm, ⟨63, _⟩ => ⟨S8x4096x8x1, .f32⟩
  | .hbm, ⟨64, _⟩ => ⟨S8x4096x8x128, .f32⟩
  | .hbm, ⟨65, _⟩ => ⟨S8x4096x8x128, .f32⟩
  | .hbm, ⟨66, _⟩ => ⟨S1x1x1x128, .f32⟩
  | .hbm, ⟨67, _⟩ => ⟨S8x4096x8x128, .f32⟩
  | .hbm, ⟨68, _⟩ => ⟨S8x4096x8x128, .f32⟩
  | .hbm, ⟨69, _⟩ => ⟨S_, .f32⟩
  | .hbm, ⟨70, _⟩ => ⟨S8x4096x8x128, .f32⟩
  | .hbm, ⟨71, _⟩ => ⟨S8x4096x8x128, .f32⟩
  | .hbm, ⟨72, _⟩ => ⟨S32768x1024, .f32⟩
  | .hbm, ⟨73, _⟩ => ⟨S32768x1024, .bf16⟩
  | _, _ => ⟨S8x4096x8x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_cst_8 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_9 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩

abbrev nD : Nat := 1
abbrev τ : Topo := Topo.v7x

variable {F : FTy → Type} [FloatOps F]
-- ==== Qkv.lean ====
abbrev S8x4096x1024 : Shape := ⟨3, ![8, 4096, 1024]⟩
abbrev S8x256x1024 : Shape := ⟨3, ![8, 256, 1024]⟩
abbrev S1024 : Shape := ⟨1, ![1024]⟩
abbrev S8x1x1024 : Shape := ⟨3, ![8, 1, 1024]⟩
abbrev S1x1x1024 : Shape := ⟨3, ![1, 1, 1024]⟩
abbrev S1024x3072 : Shape := ⟨2, ![1024, 3072]⟩
abbrev S4096x64 : Shape := ⟨2, ![4096, 64]⟩
abbrev S32768x1024 : Shape := ⟨2, ![32768, 1024]⟩
abbrev S2048x1024 : Shape := ⟨2, ![2048, 1024]⟩
abbrev S34816x1024 : Shape := ⟨2, ![34816, 1024]⟩
abbrev S4096x128 : Shape := ⟨2, ![4096, 128]⟩
abbrev S_ : Shape := ⟨0, ![]⟩
abbrev S256x128 : Shape := ⟨2, ![256, 128]⟩
abbrev S4352x128 : Shape := ⟨2, ![4352, 128]⟩
abbrev S1x1024 : Shape := ⟨2, ![1, 1024]⟩
abbrev S7x1x1024 : Shape := ⟨3, ![7, 1, 1024]⟩
abbrev S16x1x1024 : Shape := ⟨3, ![16, 1, 1024]⟩
abbrev S8x4352x1024 : Shape := ⟨3, ![8, 4352, 1024]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩
abbrev S256x3072 : Shape := ⟨2, ![256, 3072]⟩
abbrev S1x256x128 : Shape := ⟨3, ![1, 256, 128]⟩

abbrev nBuf : Space → Nat
  | .hbm => 32
  | .vmem => 18
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S1024, .f32⟩
  | .hbm, ⟨3, _⟩ => ⟨S8x1x1024, .f32⟩
  | .hbm, ⟨4, _⟩ => ⟨S8x1x1024, .f32⟩
  | .hbm, ⟨5, _⟩ => ⟨S1x1x1024, .f32⟩
  | .hbm, ⟨6, _⟩ => ⟨S1x1x1024, .f32⟩
  | .hbm, ⟨7, _⟩ => ⟨S1024x3072, .f32⟩
  | .hbm, ⟨8, _⟩ => ⟨S4096x64, .f32⟩
  | .hbm, ⟨9, _⟩ => ⟨S4096x64, .f32⟩
  | .hbm, ⟨10, _⟩ => ⟨S32768x1024, .f32⟩
  | .hbm, ⟨11, _⟩ => ⟨S2048x1024, .f32⟩
  | .hbm, ⟨12, _⟩ => ⟨S34816x1024, .f32⟩
  | .hbm, ⟨13, _⟩ => ⟨S4096x128, .f32⟩
  | .hbm, ⟨14, _⟩ => ⟨S_, .f32⟩
  | .hbm, ⟨15, _⟩ => ⟨S256x128, .f32⟩
  | .hbm, ⟨16, _⟩ => ⟨S4352x128, .f32⟩
  | .hbm, ⟨17, _⟩ => ⟨S4096x128, .f32⟩
  | .hbm, ⟨18, _⟩ => ⟨S_, .f32⟩
  | .hbm, ⟨19, _⟩ => ⟨S256x128, .f32⟩
  | .hbm, ⟨20, _⟩ => ⟨S4352x128, .f32⟩
  | .hbm, ⟨21, _⟩ => ⟨S1x1024, .f32⟩
  | .hbm, ⟨22, _⟩ => ⟨S_, .f32⟩
  | .hbm, ⟨23, _⟩ => ⟨S7x1x1024, .f32⟩
  | .hbm, ⟨24, _⟩ => ⟨S16x1x1024, .f32⟩
  | .hbm, ⟨25, _⟩ => ⟨S_, .f32⟩
  | .hbm, ⟨26, _⟩ => ⟨S7x1x1024, .f32⟩
  | .hbm, ⟨27, _⟩ => ⟨S16x1x1024, .f32⟩
  | .hbm, ⟨28, _⟩ => ⟨S1024x3072, .bf16⟩
  | .hbm, ⟨29, _⟩ => ⟨S34816x1024, .bf16⟩
  | .hbm, ⟨30, _⟩ => ⟨S8x4352x1024, .bf16⟩
  | .hbm, ⟨31, _⟩ => ⟨S8x4352x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3072, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x1024, .bf16⟩
  | .local _ .vmem, ⟨13, _⟩ => ⟨S256x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .bf16⟩
  | .local _ .vmem, ⟨17, _⟩ => ⟨S1x256x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15_0 : Ref sig .tc := ⟨.hbm, 29, rfl⟩
abbrev main_v15_1 : Ref sig .tc := ⟨.hbm, 30, rfl⟩
abbrev main_v15_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![136], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.minsi v17 c8_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.minsi v17 c8_i32
  let c0_i32_4 : BitVec 32 := 0#32
  let c0_i32_5 : BitVec 32 := 0#32
  let c0_i32_6 : BitVec 32 := 0#32
  ![v18.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c128_i32 : BitVec 32 := 128#32
  let v0 : BitVec 1 := Scalar.cmpi .slt arg0 c128_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c16_i32_3 : BitVec 32 := 16#32
  let v11 : BitVec 32 := Scalar.select v0 v10 c16_i32_3
  let c0_i32_4 : BitVec 32 := 0#32
  let c0_i32_5 : BitVec 32 := 0#32
  ![v11.toNat, c0_i32_4.toNat]

def cc0_transform_6 (i : grid0.Coords) : Fin 2 → Nat :=
  let arg0 : BitVec 32 := BitVec.ofNat 32 (i 0).val
  let c128_i32 : BitVec 32 := 128#32
  let v0 : BitVec 1 := Scalar.cmpi .slt arg0 c128_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c16_i32_3 : BitVec 32 := 16#32
  let v11 : BitVec 32 := Scalar.select v0 v10 c16_i32_3
  let c0_i32_4 : BitVec 32 := 0#32
  let c0_i32_5 : BitVec 32 := 0#32
  ![v11.toNat, c0_i32_4.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c128_i32 : BitVec 32 := 128#32
  let v0 : BitVec 32 := Scalar.subi arg0 c128_i32
  let c128_i32_0 : BitVec 32 := 128#32
  let v1 : BitVec 1 := Scalar.cmpi .slt arg0 c128_i32_0
  let c16_i32 : BitVec 32 := 16#32
  let v2 : BitVec 32 := Scalar.divsi arg0 c16_i32
  let c0_i32 : BitVec 32 := 0#32
  let v3 : BitVec 1 := Scalar.cmpi .sgt arg0 c0_i32
  let v4 : BitVec 32 := Scalar.extui v3
  let c0_i32_1 : BitVec 32 := 0#32
  let v5 : BitVec 1 := Scalar.cmpi .slt arg0 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi arg0 c16_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.divsi v0 c1_i32_5
  let c0_i32_6 : BitVec 32 := 0#32
  let v20 : BitVec 1 := Scalar.cmpi .sgt v0 c0_i32_6
  let v21 : BitVec 32 := Scalar.extui v20
  let c0_i32_7 : BitVec 32 := 0#32
  let v22 : BitVec 1 := Scalar.cmpi .slt v0 c0_i32_7
  let v23 : BitVec 32 := Scalar.extui v22
  let v24 : BitVec 32 := Scalar.subi v21 v23
  let c0_i32_8 : BitVec 32 := 0#32
  let v25 : BitVec 1 := Scalar.cmpi .sgt c1_i32_5 c0_i32_8
  let v26 : BitVec 32 := Scalar.extui v25
  let c0_i32_9 : BitVec 32 := 0#32
  let v27 : BitVec 1 := Scalar.cmpi .slt c1_i32_5 c0_i32_9
  let v28 : BitVec 32 := Scalar.extui v27
  let v29 : BitVec 32 := Scalar.subi v26 v28
  let v30 : BitVec 1 := Scalar.cmpi .ne v24 v29
  let v31 : BitVec 32 := Scalar.remsi v0 c1_i32_5
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let v36 : BitVec 32 := Scalar.select v1 v18 v35
  let c16_i32_12 : BitVec 32 := 16#32
  let c0_i32_13 : BitVec 32 := 0#32
  let v37 : BitVec 1 := Scalar.cmpi .eq c16_i32_12 c0_i32_13
  let c1_i32_14 : BitVec 32 := 1#32
  let v38 : BitVec 32 := Scalar.select v37 c1_i32_14 c16_i32_12
  let v39 : BitVec 32 := Scalar.remsi arg0 v38
  let c0_i32_15 : BitVec 32 := 0#32
  let v40 : BitVec 1 := Scalar.cmpi .ne v39 c0_i32_15
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let v44 : BitVec 1 := Scalar.andi v43 v40
  let v45 : BitVec 32 := Scalar.addi v39 v38
  let v46 : BitVec 32 := Scalar.select v44 v45 v39
  let c1_i32_18 : BitVec 32 := 1#32
  let v47 : BitVec 32 := Scalar.addi c1_i32_18 v46
  let c1_i32_19 : BitVec 32 := 1#32
  let c0_i32_20 : BitVec 32 := 0#32
  let v48 : BitVec 1 := Scalar.cmpi .eq c1_i32_19 c0_i32_20
  let c1_i32_21 : BitVec 32 := 1#32
  let v49 : BitVec 32 := Scalar.select v48 c1_i32_21 c1_i32_19
  let v50 : BitVec 32 := Scalar.remsi v0 v49
  let c0_i32_22 : BitVec 32 := 0#32
  let v51 : BitVec 1 := Scalar.cmpi .ne v50 c0_i32_22
  let c0_i32_23 : BitVec 32 := 0#32
  let v52 : BitVec 1 := Scalar.cmpi .slt v50 c0_i32_23
  let c0_i32_24 : BitVec 32 := 0#32
  let v53 : BitVec 1 := Scalar.cmpi .slt v49 c0_i32_24
  let v54 : BitVec 1 := Scalar.xori v52 v53
  let v55 : BitVec 1 := Scalar.andi v54 v51
  let v56 : BitVec 32 := Scalar.addi v50 v49
  let v57 : BitVec 32 := Scalar.select v55 v56 v50
  let v58 : BitVec 32 := Scalar.select v1 v47 v57
  let c0_i32_25 : BitVec 32 := 0#32
  let c0_i32_26 : BitVec 32 := 0#32
  ![v36.toNat, v58.toNat, c0_i32_25.toNat]

def cc0_transform_9 (i : grid0.Coords) : Fin 3 → Nat :=
  let arg0 : BitVec 32 := BitVec.ofNat 32 (i 0).val
  let c128_i32 : BitVec 32 := 128#32
  let v0 : BitVec 32 := Scalar.subi arg0 c128_i32
  let c128_i32_0 : BitVec 32 := 128#32
  let v1 : BitVec 1 := Scalar.cmpi .slt arg0 c128_i32_0
  let c16_i32 : BitVec 32 := 16#32
  let v2 : BitVec 32 := Scalar.divsi arg0 c16_i32
  let c0_i32 : BitVec 32 := 0#32
  let v3 : BitVec 1 := Scalar.cmpi .sgt arg0 c0_i32
  let v4 : BitVec 32 := Scalar.extui v3
  let c0_i32_1 : BitVec 32 := 0#32
  let v5 : BitVec 1 := Scalar.cmpi .slt arg0 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi arg0 c16_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.divsi v0 c1_i32_5
  let c0_i32_6 : BitVec 32 := 0#32
  let v20 : BitVec 1 := Scalar.cmpi .sgt v0 c0_i32_6
  let v21 : BitVec 32 := Scalar.extui v20
  let c0_i32_7 : BitVec 32 := 0#32
  let v22 : BitVec 1 := Scalar.cmpi .slt v0 c0_i32_7
  let v23 : BitVec 32 := Scalar.extui v22
  let v24 : BitVec 32 := Scalar.subi v21 v23
  let c0_i32_8 : BitVec 32 := 0#32
  let v25 : BitVec 1 := Scalar.cmpi .sgt c1_i32_5 c0_i32_8
  let v26 : BitVec 32 := Scalar.extui v25
  let c0_i32_9 : BitVec 32 := 0#32
  let v27 : BitVec 1 := Scalar.cmpi .slt c1_i32_5 c0_i32_9
  let v28 : BitVec 32 := Scalar.extui v27
  let v29 : BitVec 32 := Scalar.subi v26 v28
  let v30 : BitVec 1 := Scalar.cmpi .ne v24 v29
  let v31 : BitVec 32 := Scalar.remsi v0 c1_i32_5
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let v36 : BitVec 32 := Scalar.select v1 v18 v35
  let c16_i32_12 : BitVec 32 := 16#32
  let c0_i32_13 : BitVec 32 := 0#32
  let v37 : BitVec 1 := Scalar.cmpi .eq c16_i32_12 c0_i32_13
  let c1_i32_14 : BitVec 32 := 1#32
  let v38 : BitVec 32 := Scalar.select v37 c1_i32_14 c16_i32_12
  let v39 : BitVec 32 := Scalar.remsi arg0 v38
  let c0_i32_15 : BitVec 32 := 0#32
  let v40 : BitVec 1 := Scalar.cmpi .ne v39 c0_i32_15
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let v44 : BitVec 1 := Scalar.andi v43 v40
  let v45 : BitVec 32 := Scalar.addi v39 v38
  let v46 : BitVec 32 := Scalar.select v44 v45 v39
  let c1_i32_18 : BitVec 32 := 1#32
  let v47 : BitVec 32 := Scalar.addi c1_i32_18 v46
  let c1_i32_19 : BitVec 32 := 1#32
  let c0_i32_20 : BitVec 32 := 0#32
  let v48 : BitVec 1 := Scalar.cmpi .eq c1_i32_19 c0_i32_20
  let c1_i32_21 : BitVec 32 := 1#32
  let v49 : BitVec 32 := Scalar.select v48 c1_i32_21 c1_i32_19
  let v50 : BitVec 32 := Scalar.remsi v0 v49
  let c0_i32_22 : BitVec 32 := 0#32
  let v51 : BitVec 1 := Scalar.cmpi .ne v50 c0_i32_22
  let c0_i32_23 : BitVec 32 := 0#32
  let v52 : BitVec 1 := Scalar.cmpi .slt v50 c0_i32_23
  let c0_i32_24 : BitVec 32 := 0#32
  let v53 : BitVec 1 := Scalar.cmpi .slt v49 c0_i32_24
  let v54 : BitVec 1 := Scalar.xori v52 v53
  let v55 : BitVec 1 := Scalar.andi v54 v51
  let v56 : BitVec 32 := Scalar.addi v50 v49
  let v57 : BitVec 32 := Scalar.select v55 v56 v50
  let v58 : BitVec 32 := Scalar.select v1 v47 v57
  let c0_i32_25 : BitVec 32 := 0#32
  let c0_i32_26 : BitVec 32 := 0#32
  ![v36.toNat, v58.toNat, c0_i32_25.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== QkvReferenceIdeal.lean ====
abbrev S8x4096x1024 : Shape := ⟨3, ![8, 4096, 1024]⟩
abbrev S8x256x1024 : Shape := ⟨3, ![8, 256, 1024]⟩
abbrev S1024 : Shape := ⟨1, ![1024]⟩
abbrev S8x1x1024 : Shape := ⟨3, ![8, 1, 1024]⟩
abbrev S1x1x1024 : Shape := ⟨3, ![1, 1, 1024]⟩
abbrev S1024x3072 : Shape := ⟨2, ![1024, 3072]⟩
abbrev S4096x64 : Shape := ⟨2, ![4096, 64]⟩
abbrev S_ : Shape := ⟨0, ![]⟩
abbrev S8x4096 : Shape := ⟨2, ![8, 4096]⟩
abbrev S8x4096x1 : Shape := ⟨3, ![8, 4096, 1]⟩
abbrev S8x256 : Shape := ⟨2, ![8, 256]⟩
abbrev S8x256x1 : Shape := ⟨3, ![8, 256, 1]⟩
abbrev S1024x1024 : Shape := ⟨2, ![1024, 1024]⟩
abbrev S8x4096x8x2x64 : Shape := ⟨5, ![8, 4096, 8, 2, 64]⟩
abbrev S8x4096x8x2x32 : Shape := ⟨5, ![8, 4096, 8, 2, 32]⟩
abbrev S4096x1x1x64 : Shape := ⟨4, ![4096, 1, 1, 64]⟩
abbrev S1x4096x1x1x64 : Shape := ⟨5, ![1, 4096, 1, 1, 64]⟩
abbrev S8x256x8x2x64 : Shape := ⟨5, ![8, 256, 8, 2, 64]⟩
abbrev S1024x2048 : Shape := ⟨2, ![1024, 2048]⟩
abbrev S8x4096x2048 : Shape := ⟨3, ![8, 4096, 2048]⟩
abbrev S8x4096x8x128 : Shape := ⟨4, ![8, 4096, 8, 128]⟩
abbrev S8x256x2048 : Shape := ⟨3, ![8, 256, 2048]⟩
abbrev S8x256x8x128 : Shape := ⟨4, ![8, 256, 8, 128]⟩
abbrev S8x4352x8x2x64 : Shape := ⟨5, ![8, 4352, 8, 2, 64]⟩
abbrev S8x4352x8x128 : Shape := ⟨4, ![8, 4352, 8, 128]⟩
abbrev S32768x1024 : Shape := ⟨2, ![32768, 1024]⟩
abbrev S2048x1024 : Shape := ⟨2, ![2048, 1024]⟩
abbrev S34816x1024 : Shape := ⟨2, ![34816, 1024]⟩
abbrev S8x4352x1024 : Shape := ⟨3, ![8, 4352, 1024]⟩

abbrev nBuf : Space → Nat
  | .hbm => 110
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S1024, .f32⟩
  | .hbm, ⟨3, _⟩ => ⟨S8x1x1024, .f32⟩
  | .hbm, ⟨4, _⟩ => ⟨S8x1x1024, .f32⟩
  | .hbm, ⟨5, _⟩ => ⟨S1x1x1024, .f32⟩
  | .hbm, ⟨6, _⟩ => ⟨S1x1x1024, .f32⟩
  | .hbm, ⟨7, _⟩ => ⟨S1024x3072, .f32⟩
  | .hbm, ⟨8, _⟩ => ⟨S4096x64, .f32⟩
  | .hbm, ⟨9, _⟩ => ⟨S4096x64, .f32⟩
  | .hbm, ⟨10, _⟩ => ⟨S8x4096x1024, .f32⟩
  | .hbm, ⟨11, _⟩ => ⟨S_, .f32⟩
  | .hbm, ⟨12, _⟩ => ⟨S8x4096, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S8x4096x1, .f32⟩
  | .hbm, ⟨21, _⟩ => ⟨S8x4096x1024, .f32⟩
  | .hbm, ⟨22, _⟩ => ⟨S8x4096x1024, .f32⟩
  | .hbm, ⟨23, _⟩ => ⟨S1x1x1024, .f32⟩
  | .hbm, ⟨24, _⟩ => ⟨S8x4096x1024, .f32⟩
  | .hbm, ⟨25, _⟩ => ⟨S8x4096x1024, .f32⟩
  | .hbm, ⟨26, _⟩ => ⟨S_, .f32⟩
  | .hbm, ⟨27, _⟩ => ⟨S8x1x1024, .f32⟩
  | .hbm, ⟨28, _⟩ => ⟨S8x1x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S8x256x1024, .f32⟩
  | .hbm, ⟨34, _⟩ => ⟨S_, .f32⟩
  | .hbm, ⟨35, _⟩ => ⟨S8x256, .f32⟩
  | .hbm, ⟨36, _⟩ => ⟨S8x256x1, .f32⟩
  | .hbm, ⟨37, _⟩ => ⟨S_, .f32⟩
  | .hbm, ⟨38, _⟩ => ⟨S8x256x1, .f32⟩
  | .hbm, ⟨39, _⟩ => ⟨S8x256x1, .f32⟩
  | .hbm, ⟨40, _⟩ => ⟨S_, .f32⟩
  | .hbm, ⟨41, _⟩ => ⟨S8x256x1, .f32⟩
  | .hbm, ⟨42, _⟩ => ⟨S8x256x1, .f32⟩
  | .hbm, ⟨43, _⟩ => ⟨S8x256x1, .f32⟩
  | .hbm, ⟨44, _⟩ => ⟨S8x256x1024, .f32⟩
  | .hbm, ⟨45, _⟩ => ⟨S8x256x1024, .f32⟩
  | .hbm, ⟨46, _⟩ => ⟨S1x1x1024, .f32⟩
  | .hbm, ⟨47, _⟩ => ⟨S8x256x1024, .f32⟩
  | .hbm, ⟨48, _⟩ => ⟨S8x256x1024, .f32⟩
  | .hbm, ⟨49, _⟩ => ⟨S_, .f32⟩
  | .hbm, ⟨50, _⟩ => ⟨S1x1x1024, .f32⟩
  | .hbm, ⟨51, _⟩ => ⟨S1x1x1024, .f32⟩
  | .hbm, ⟨52, _⟩ => ⟨S8x256x1024, .f32⟩
  | .hbm, ⟨53, _⟩ => ⟨S8x256x1024, .f32⟩
  | .hbm, ⟨54, _⟩ => ⟨S8x256x1024, .f32⟩
  | .hbm, ⟨55, _⟩ => ⟨S8x256x1024, .f32⟩
  | .hbm, ⟨56, _⟩ => ⟨S1024x1024, .f32⟩
  | .hbm, ⟨57, _⟩ => ⟨S8x4096x1024, .f32⟩
  | .hbm, ⟨58, _⟩ => ⟨S8x4096x8x2x64, .f32⟩
  | .hbm, ⟨59, _⟩ => ⟨S8x4096x8x2x32, .f32⟩
  | .hbm, ⟨60, _⟩ => ⟨S8x4096x8x2x32, .f32⟩
  | .hbm, ⟨61, _⟩ => ⟨S8x4096x8x2x32, .f32⟩
  | .hbm, ⟨62, _⟩ => ⟨S8x4096x8x2x64, .f32⟩
  | .hbm, ⟨63, _⟩ => ⟨S4096x1x1x64, .f32⟩
  | .hbm, ⟨64, _⟩ => ⟨S4096x1x1x64, .f32⟩
  | .hbm, ⟨65, _⟩ => ⟨S1x4096x1x1x64, .f32⟩
  | .hbm, ⟨66, _⟩ => ⟨S8x4096x8x2x64, .f32⟩
  | .hbm, ⟨67, _⟩ => ⟨S8x4096x8x2x64, .f32⟩
  | .hbm, ⟨68, _⟩ => ⟨S1x4096x1x1x64, .f32⟩
  | .hbm, ⟨69, _⟩ => ⟨S8x4096x8x2x64, .f32⟩
  | .hbm, ⟨70, _⟩ => ⟨S8x4096x8x2x64, .f32⟩
  | .hbm, ⟨71, _⟩ => ⟨S8x4096x8x2x64, .f32⟩
  | .hbm, ⟨72, _⟩ => ⟨S1024x1024, .f32⟩
  | .hbm, ⟨73, _⟩ => ⟨S8x256x1024, .f32⟩
  | .hbm, ⟨74, _⟩ => ⟨S8x256x8x2x64, .f32⟩
  | .hbm, ⟨75, _⟩ => ⟨S1024x2048, .f32⟩
  | .hbm, ⟨76, _⟩ => ⟨S8x4096x2048, .f32⟩
  | .hbm, ⟨77, _⟩ => ⟨S8x4096x1024, .f32⟩
  | .hbm, ⟨78, _⟩ => ⟨S8x4096x1024, .f32⟩
  | .hbm, ⟨79, _⟩ => ⟨S8x4096x8x2x64, .f32⟩
  | .hbm, ⟨80, _⟩ => ⟨S8x4096x8x128, .f32⟩
  | .hbm, ⟨81, _⟩ => ⟨S8x4096x8x2x32, .f32⟩
  | .hbm, ⟨82, _⟩ => ⟨S8x4096x8x2x32, .f32⟩
  | .hbm, ⟨83, _⟩ => ⟨S8x4096x8x2x32, .f32⟩
  | .hbm, ⟨84, _⟩ => ⟨S8x4096x8x2x64, .f32⟩
  | .hbm, ⟨85, _⟩ => ⟨S4096x1x1x64, .f32⟩
  | .hbm, ⟨86, _⟩ => ⟨S4096x1x1x64, .f32⟩
  | .hbm, ⟨87, _⟩ => ⟨S1x4096x1x1x64, .f32⟩
  | .hbm, ⟨88, _⟩ => ⟨S8x4096x8x2x64, .f32⟩
  | .hbm, ⟨89, _⟩ => ⟨S8x4096x8x2x64, .f32⟩
  | .hbm, ⟨90, _⟩ => ⟨S1x4096x1x1x64, .f32⟩
  | .hbm, ⟨91, _⟩ => ⟨S8x4096x8x2x64, .f32⟩
  | .hbm, ⟨92, _⟩ => ⟨S8x4096x8x2x64, .f32⟩
  | .hbm, ⟨93, _⟩ => ⟨S8x4096x8x2x64, .f32⟩
  | .hbm, ⟨94, _⟩ => ⟨S1024x2048, .f32⟩
  | .hbm, ⟨95, _⟩ => ⟨S8x256x2048, .f32⟩
  | .hbm, ⟨96, _⟩ => ⟨S8x256x1024, .f32⟩
  | .hbm, ⟨97, _⟩ => ⟨S8x256x1024, .f32⟩
  | .hbm, ⟨98, _⟩ => ⟨S8x256x8x2x64, .f32⟩
  | .hbm, ⟨99, _⟩ => ⟨S8x256x8x128, .f32⟩
  | .hbm, ⟨100, _⟩ => ⟨S8x4352x8x2x64, .f32⟩
  | .hbm, ⟨101, _⟩ => ⟨S8x4352x8x128, .f32⟩
  | .hbm, ⟨102, _⟩ => ⟨S32768x1024, .f32⟩
  | .hbm, ⟨103, _⟩ => ⟨S2048x1024, .f32⟩
  | .hbm, ⟨104, _⟩ => ⟨S34816x1024, .f32⟩
  | .hbm, ⟨105, _⟩ => ⟨S34816x1024, .bf16⟩
  | .hbm, ⟨106, _⟩ => ⟨S8x4352x1024, .f32⟩
  | .hbm, ⟨107, _⟩ => ⟨S8x4352x1024, .bf16⟩
  | .hbm, ⟨108, _⟩ => ⟨S8x4352x1024, .f32⟩
  | .hbm, ⟨109, _⟩ => ⟨S8x4352x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩

abbrev nD : Nat := 1
abbrev τ : Topo := Topo.v7x

variable {F : FTy → Type} [FloatOps F]
-- ==== Shared.lean ====
abbrev S34816x1024 : Shape := ⟨2, ![34816, 1024]⟩
abbrev S1024x256 : Shape := ⟨2, ![1024, 256]⟩
abbrev S256x1024 : Shape := ⟨2, ![256, 1024]⟩
abbrev S1024x512 : Shape := ⟨2, ![1024, 512]⟩
abbrev S512x1024 : Shape := ⟨2, ![512, 1024]⟩
abbrev S512x512 : Shape := ⟨2, ![512, 512]⟩
abbrev S512x256 : Shape := ⟨2, ![512, 256]⟩

abbrev nBuf : Space → Nat
  | .hbm => 9
  | .vmem => 6
  | .smem => 0
  | _ => 0

abbrev bufTy : (tb : Table) → Fin (tcTables nBuf tb) → BufTy
  | .hbm, ⟨0, _⟩ => ⟨S34816x1024, .f32⟩
  | .hbm, ⟨1, _⟩ => ⟨S1024x256, .f32⟩
  | .hbm, ⟨2, _⟩ => ⟨S1024x256, .f32⟩
  | .hbm, ⟨3, _⟩ => ⟨S256x1024, .f32⟩
  | .hbm, ⟨4, _⟩ => ⟨S1024x512, .f32⟩
  | .hbm, ⟨5, _⟩ => ⟨S1024x512, .bf16⟩
  | .hbm, ⟨6, _⟩ => ⟨S34816x1024, .bf16⟩
  | .hbm, ⟨7, _⟩ => ⟨S256x1024, .bf16⟩
  | .hbm, ⟨8, _⟩ => ⟨S34816x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S256x1024, .bf16⟩
  | .local _ .vmem, ⟨4, _⟩ => ⟨S512x1024, .bf16⟩
  | .local _ .vmem, ⟨5, _⟩ => ⟨S512x1024, .bf16⟩
  | _, _ => ⟨S34816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SharedIdeal.lean ====
abbrev S34816x1024 : Shape := ⟨2, ![34816, 1024]⟩
abbrev S1024x256 : Shape := ⟨2, ![1024, 256]⟩
abbrev S256x1024 : Shape := ⟨2, ![256, 1024]⟩
abbrev S1024x512 : Shape := ⟨2, ![1024, 512]⟩
abbrev S512x1024 : Shape := ⟨2, ![512, 1024]⟩
abbrev S512x512 : Shape := ⟨2, ![512, 512]⟩
abbrev S512x256 : Shape := ⟨2, ![512, 256]⟩

abbrev nBuf : Space → Nat
  | .hbm => 9
  | .vmem => 6
  | .smem => 0
  | _ => 0

abbrev bufTy : (tb : Table) → Fin (tcTables nBuf tb) → BufTy
  | .hbm, ⟨0, _⟩ => ⟨S34816x1024, .f32⟩
  | .hbm, ⟨1, _⟩ => ⟨S1024x256, .f32⟩
  | .hbm, ⟨2, _⟩ => ⟨S1024x256, .f32⟩
  | .hbm, ⟨3, _⟩ => ⟨S256x1024, .f32⟩
  | .hbm, ⟨4, _⟩ => ⟨S1024x512, .f32⟩
  | .hbm, ⟨5, _⟩ => ⟨S1024x512, .bf16⟩
  | .hbm, ⟨6, _⟩ => ⟨S34816x1024, .bf16⟩
  | .hbm, ⟨7, _⟩ => ⟨S256x1024, .bf16⟩
  | .hbm, ⟨8, _⟩ => ⟨S34816x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S256x1024, .bf16⟩
  | .local _ .vmem, ⟨4, _⟩ => ⟨S512x1024, .bf16⟩
  | .local _ .vmem, ⟨5, _⟩ => ⟨S512x1024, .bf16⟩
  | _, _ => ⟨S34816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SharedReferenceIdeal.lean ====
abbrev S34816x1024 : Shape := ⟨2, ![34816, 1024]⟩
abbrev S1024x256 : Shape := ⟨2, ![1024, 256]⟩
abbrev S256x1024 : Shape := ⟨2, ![256, 1024]⟩
abbrev S34816x256 : Shape := ⟨2, ![34816, 256]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S34816x1024, .f32⟩
  | .hbm, ⟨1, _⟩ => ⟨S1024x256, .f32⟩
  | .hbm, ⟨2, _⟩ => ⟨S1024x256, .f32⟩
  | .hbm, ⟨3, _⟩ => ⟨S256x1024, .f32⟩
  | .hbm, ⟨4, _⟩ => ⟨S34816x256, .f32⟩
  | .hbm, ⟨5, _⟩ => ⟨S34816x256, .f32⟩
  | .hbm, ⟨6, _⟩ => ⟨S34816x256, .f32⟩
  | .hbm, ⟨7, _⟩ => ⟨S_, .f32⟩
  | .hbm, ⟨8, _⟩ => ⟨S34816x256, .f32⟩
  | .hbm, ⟨9, _⟩ => ⟨S34816x256, .f32⟩
  | .hbm, ⟨10, _⟩ => ⟨S_, .f32⟩
  | .hbm, ⟨11, _⟩ => ⟨S34816x256, .f32⟩
  | .hbm, ⟨12, _⟩ => ⟨S34816x256, .f32⟩
  | .hbm, ⟨13, _⟩ => ⟨S34816x256, .f32⟩
  | .hbm, ⟨14, _⟩ => ⟨S34816x256, .f32⟩
  | .hbm, ⟨15, _⟩ => ⟨S34816x256, .f32⟩
  | .hbm, ⟨16, _⟩ => ⟨S34816x1024, .f32⟩
  | .hbm, ⟨17, _⟩ => ⟨S34816x1024, .bf16⟩
  | _, _ => ⟨S34816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩

abbrev nD : Nat := 1
abbrev τ : Topo := Topo.v7x

variable {F : FTy → Type} [FloatOps F]
-- ==== Inproj.lean ====
abbrev S8x4096x1024 : Shape := ⟨3, ![8, 4096, 1024]⟩
abbrev S8x256x1024 : Shape := ⟨3, ![8, 256, 1024]⟩
abbrev S1024 : Shape := ⟨1, ![1024]⟩
abbrev S8x1x1024 : Shape := ⟨3, ![8, 1, 1024]⟩
abbrev S1x1x1024 : Shape := ⟨3, ![1, 1, 1024]⟩
abbrev S1024x1536 : Shape := ⟨2, ![1024, 1536]⟩
abbrev S128x128 : Shape := ⟨2, ![128, 128]⟩
abbrev S128x256 : Shape := ⟨2, ![128, 256]⟩
abbrev S32768x1024 : Shape := ⟨2, ![32768, 1024]⟩
abbrev S2048x1024 : Shape := ⟨2, ![2048, 1024]⟩
abbrev S1x1024 : Shape := ⟨2, ![1, 1024]⟩
abbrev S_ : Shape := ⟨0, ![]⟩
abbrev S7x1x1024 : Shape := ⟨3, ![7, 1, 1024]⟩
abbrev S16x1x1024 : Shape := ⟨3, ![16, 1, 1024]⟩
abbrev S34816x512 : Shape := ⟨2, ![34816, 512]⟩
abbrev S34816x1024 : Shape := ⟨2, ![34816, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S512x1536 : Shape := ⟨2, ![512, 1536]⟩
abbrev S512x128 : Shape := ⟨2, ![512, 128]⟩
abbrev S512x256 : Shape := ⟨2, ![512, 256]⟩

abbrev nBuf : Space → Nat
  | .hbm => 24
  | .vmem => 15
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S1024, .f32⟩
  | .hbm, ⟨3, _⟩ => ⟨S8x1x1024, .f32⟩
  | .hbm, ⟨4, _⟩ => ⟨S8x1x1024, .f32⟩
  | .hbm, ⟨5, _⟩ => ⟨S1x1x1024, .f32⟩
  | .hbm, ⟨6, _⟩ => ⟨S1x1x1024, .f32⟩
  | .hbm, ⟨7, _⟩ => ⟨S1024x1536, .f32⟩
  | .hbm, ⟨8, _⟩ => ⟨S128x128, .f32⟩
  | .hbm, ⟨9, _⟩ => ⟨S128x128, .f32⟩
  | .hbm, ⟨10, _⟩ => ⟨S128x256, .f32⟩
  | .hbm, ⟨11, _⟩ => ⟨S128x256, .bf16⟩
  | .hbm, ⟨12, _⟩ => ⟨S32768x1024, .f32⟩
  | .hbm, ⟨13, _⟩ => ⟨S2048x1024, .f32⟩
  | .hbm, ⟨14, _⟩ => ⟨S1x1024, .f32⟩
  | .hbm, ⟨15, _⟩ => ⟨S_, .f32⟩
  | .hbm, ⟨16, _⟩ => ⟨S7x1x1024, .f32⟩
  | .hbm, ⟨17, _⟩ => ⟨S16x1x1024, .f32⟩
  | .hbm, ⟨18, _⟩ => ⟨S_, .f32⟩
  | .hbm, ⟨19, _⟩ => ⟨S7x1x1024, .f32⟩
  | .hbm, ⟨20, _⟩ => ⟨S16x1x1024, .f32⟩
  | .hbm, ⟨21, _⟩ => ⟨S1024x1536, .bf16⟩
  | .hbm, ⟨22, _⟩ => ⟨S34816x512, .f32⟩
  | .hbm, ⟨23, _⟩ => ⟨S34816x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x1536, .bf16⟩
  | .local _ .vmem, ⟨10, _⟩ => ⟨S128x256, .bf16⟩
  | .local _ .vmem, ⟨11, _⟩ => ⟨S512x512, .f32⟩
  | .local _ .vmem, ⟨12, _⟩ => ⟨S512x512, .f32⟩
  | .local _ .vmem, ⟨13, _⟩ => ⟨S512x1024, .bf16⟩
  | .local _ .vmem, ⟨14, _⟩ => ⟨S512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.minsi v17 c8_i32
  let c0_i32_4 : BitVec 32 := 0#32
  let c0_i32_5 : BitVec 32 := 0#32
  let c0_i32_6 : BitVec 32 := 0#32
  ![v18.toNat, c0_i32_4.toNat, c0_i32_5.toNat]

def cc0_transform_4 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.minsi v17 c8_i32
  let c0_i32_4 : BitVec 32 := 0#32
  let c0_i32_5 : BitVec 32 := 0#32
  let c0_i32_6 : BitVec 32 := 0#32
  ![v18.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InprojReferenceIdeal.lean ====
abbrev S8x4096x1024 : Shape := ⟨3, ![8, 4096, 1024]⟩
abbrev S8x256x1024 : Shape := ⟨3, ![8, 256, 1024]⟩
abbrev S1024 : Shape := ⟨1, ![1024]⟩
abbrev S8x1x1024 : Shape := ⟨3, ![8, 1, 1024]⟩
abbrev S1x1x1024 : Shape := ⟨3, ![1, 1, 1024]⟩
abbrev S1024x1536 : Shape := ⟨2, ![1024, 1536]⟩
abbrev S128x128 : Shape := ⟨2, ![128, 128]⟩
abbrev S_ : Shape := ⟨0, ![]⟩
abbrev S8x4096 : Shape := ⟨2, ![8, 4096]⟩
abbrev S8x4096x1 : Shape := ⟨3, ![8, 4096, 1]⟩
abbrev S8x256 : Shape := ⟨2, ![8, 256]⟩
abbrev S8x256x1 : Shape := ⟨3, ![8, 256, 1]⟩
abbrev S8x4096x1536 : Shape := ⟨3, ![8, 4096, 1536]⟩
abbrev S8x4096x512 : Shape := ⟨3, ![8, 4096, 512]⟩
abbrev S8x4096x4x128 : Shape := ⟨4, ![8, 4096, 4, 128]⟩
abbrev S32768x512 : Shape := ⟨2, ![32768, 512]⟩
abbrev S8x256x1536 : Shape := ⟨3, ![8, 256, 1536]⟩
abbrev S8x256x512 : Shape := ⟨3, ![8, 256, 512]⟩
abbrev S8x256x4x128 : Shape := ⟨4, ![8, 256, 4, 128]⟩
abbrev S2048x512 : Shape := ⟨2, ![2048, 512]⟩
abbrev S32768x1024 : Shape := ⟨2, ![32768, 1024]⟩
abbrev S2048x1024 : Shape := ⟨2, ![2048, 1024]⟩
abbrev S34816x1024 : Shape := ⟨2, ![34816, 1024]⟩
abbrev S34816x512 : Shape := ⟨2, ![34816, 512]⟩

abbrev nBuf : Space → Nat
  | .hbm => 99
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S1024, .f32⟩
  | .hbm, ⟨3, _⟩ => ⟨S8x1x1024, .f32⟩
  | .hbm, ⟨4, _⟩ => ⟨S8x1x1024, .f32⟩
  | .hbm, ⟨5, _⟩ => ⟨S1x1x1024, .f32⟩
  | .hbm, ⟨6, _⟩ => ⟨S1x1x1024, .f32⟩
  | .hbm, ⟨7, _⟩ => ⟨S1024x1536, .f32⟩
  | .hbm, ⟨8, _⟩ => ⟨S128x128, .f32⟩
  | .hbm, ⟨9, _⟩ => ⟨S128x128, .f32⟩
  | .hbm, ⟨10, _⟩ => ⟨S8x4096x1024, .f32⟩
  | .hbm, ⟨11, _⟩ => ⟨S_, .f32⟩
  | .hbm, ⟨12, _⟩ => ⟨S8x4096, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S8x4096x1, .f32⟩
  | .hbm, ⟨21, _⟩ => ⟨S8x4096x1024, .f32⟩
  | .hbm, ⟨22, _⟩ => ⟨S8x4096x1024, .f32⟩
  | .hbm, ⟨23, _⟩ => ⟨S1x1x1024, .f32⟩
  | .hbm, ⟨24, _⟩ => ⟨S8x4096x1024, .f32⟩
  | .hbm, ⟨25, _⟩ => ⟨S8x4096x1024, .f32⟩
  | .hbm, ⟨26, _⟩ => ⟨S_, .f32⟩
  | .hbm, ⟨27, _⟩ => ⟨S8x1x1024, .f32⟩
  | .hbm, ⟨28, _⟩ => ⟨S8x1x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S8x256x1024, .f32⟩
  | .hbm, ⟨34, _⟩ => ⟨S_, .f32⟩
  | .hbm, ⟨35, _⟩ => ⟨S8x256, .f32⟩
  | .hbm, ⟨36, _⟩ => ⟨S8x256x1, .f32⟩
  | .hbm, ⟨37, _⟩ => ⟨S_, .f32⟩
  | .hbm, ⟨38, _⟩ => ⟨S8x256x1, .f32⟩
  | .hbm, ⟨39, _⟩ => ⟨S8x256x1, .f32⟩
  | .hbm, ⟨40, _⟩ => ⟨S_, .f32⟩
  | .hbm, ⟨41, _⟩ => ⟨S8x256x1, .f32⟩
  | .hbm, ⟨42, _⟩ => ⟨S8x256x1, .f32⟩
  | .hbm, ⟨43, _⟩ => ⟨S8x256x1, .f32⟩
  | .hbm, ⟨44, _⟩ => ⟨S8x256x1024, .f32⟩
  | .hbm, ⟨45, _⟩ => ⟨S8x256x1024, .f32⟩
  | .hbm, ⟨46, _⟩ => ⟨S1x1x1024, .f32⟩
  | .hbm, ⟨47, _⟩ => ⟨S8x256x1024, .f32⟩
  | .hbm, ⟨48, _⟩ => ⟨S8x256x1024, .f32⟩
  | .hbm, ⟨49, _⟩ => ⟨S_, .f32⟩
  | .hbm, ⟨50, _⟩ => ⟨S1x1x1024, .f32⟩
  | .hbm, ⟨51, _⟩ => ⟨S1x1x1024, .f32⟩
  | .hbm, ⟨52, _⟩ => ⟨S8x256x1024, .f32⟩
  | .hbm, ⟨53, _⟩ => ⟨S8x256x1024, .f32⟩
  | .hbm, ⟨54, _⟩ => ⟨S8x256x1024, .f32⟩
  | .hbm, ⟨55, _⟩ => ⟨S8x256x1024, .f32⟩
  | .hbm, ⟨56, _⟩ => ⟨S8x4096x1536, .f32⟩
  | .hbm, ⟨57, _⟩ => ⟨S8x4096x512, .f32⟩
  | .hbm, ⟨58, _⟩ => ⟨S8x4096x512, .f32⟩
  | .hbm, ⟨59, _⟩ => ⟨S8x4096x512, .f32⟩
  | .hbm, ⟨60, _⟩ => ⟨S8x4096x512, .f32⟩
  | .hbm, ⟨61, _⟩ => ⟨S8x4096x512, .f32⟩
  | .hbm, ⟨62, _⟩ => ⟨S_, .f32⟩
  | .hbm, ⟨63, _⟩ => ⟨S8x4096x512, .f32⟩
  | .hbm, ⟨64, _⟩ => ⟨S8x4096x512, .f32⟩
  | .hbm, ⟨65, _⟩ => ⟨S_, .f32⟩
  | .hbm, ⟨66, _⟩ => ⟨S8x4096x512, .f32⟩
  | .hbm, ⟨67, _⟩ => ⟨S8x4096x512, .f32⟩
  | .hbm, ⟨68, _⟩ => ⟨S8x4096x512, .f32⟩
  | .hbm, ⟨69, _⟩ => ⟨S8x4096x4x128, .f32⟩
  | .hbm, ⟨70, _⟩ => ⟨S32768x512, .f32⟩
  | .hbm, ⟨71, _⟩ => ⟨S8x4096x4x128, .f32⟩
  | .hbm, ⟨72, _⟩ => ⟨S32768x512, .f32⟩
  | .hbm, ⟨73, _⟩ => ⟨S8x4096x4x128, .f32⟩
  | .hbm, ⟨74, _⟩ => ⟨S32768x512, .f32⟩
  | .hbm, ⟨75, _⟩ => ⟨S8x256x1536, .f32⟩
  | .hbm, ⟨76, _⟩ => ⟨S8x256x512, .f32⟩
  | .hbm, ⟨77, _⟩ => ⟨S8x256x512, .f32⟩
  | .hbm, ⟨78, _⟩ => ⟨S8x256x512, .f32⟩
  | .hbm, ⟨79, _⟩ => ⟨S8x256x512, .f32⟩
  | .hbm, ⟨80, _⟩ => ⟨S8x256x512, .f32⟩
  | .hbm, ⟨81, _⟩ => ⟨S_, .f32⟩
  | .hbm, ⟨82, _⟩ => ⟨S8x256x512, .f32⟩
  | .hbm, ⟨83, _⟩ => ⟨S8x256x512, .f32⟩
  | .hbm, ⟨84, _⟩ => ⟨S_, .f32⟩
  | .hbm, ⟨85, _⟩ => ⟨S8x256x512, .f32⟩
  | .hbm, ⟨86, _⟩ => ⟨S8x256x512, .f32⟩
  | .hbm, ⟨87, _⟩ => ⟨S8x256x512, .f32⟩
  | .hbm, ⟨88, _⟩ => ⟨S8x256x4x128, .f32⟩
  | .hbm, ⟨89, _⟩ => ⟨S2048x512, .f32⟩
  | .hbm, ⟨90, _⟩ => ⟨S8x256x4x128, .f32⟩
  | .hbm, ⟨91, _⟩ => ⟨S2048x512, .f32⟩
  | .hbm, ⟨92, _⟩ => ⟨S8x256x4x128, .f32⟩
  | .hbm, ⟨93, _⟩ => ⟨S2048x512, .f32⟩
  | .hbm, ⟨94, _⟩ => ⟨S32768x1024, .f32⟩
  | .hbm, ⟨95, _⟩ => ⟨S2048x1024, .f32⟩
  | .hbm, ⟨96, _⟩ => ⟨S34816x1024, .f32⟩
  | .hbm, ⟨97, _⟩ => ⟨S34816x512, .f32⟩
  | .hbm, ⟨98, _⟩ => ⟨S34816x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_9 : Ref sig .tc := ⟨.hbm, 81, rfl⟩
abbrev main_v61 : Ref sig .tc := ⟨.hbm, 82, rfl⟩
abbrev main_v62 : Ref sig .tc := ⟨.hbm, 83, rfl⟩
abbrev main_cst_10 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩

abbrev nD : Nat := 1
abbrev τ : Topo := Topo.v7x

variable {F : FTy → Type} [FloatOps F]
-- ==== SharedLast.lean ====
abbrev S32768x1024 : Shape := ⟨2, ![32768, 1024]⟩
abbrev S1024x256 : Shape := ⟨2, ![1024, 256]⟩
abbrev S256x1024 : Shape := ⟨2, ![256, 1024]⟩
abbrev S1024x512 : Shape := ⟨2, ![1024, 512]⟩
abbrev S512x1024 : Shape := ⟨2, ![512, 1024]⟩
abbrev S512x512 : Shape := ⟨2, ![512, 512]⟩
abbrev S512x256 : Shape := ⟨2, ![512, 256]⟩

abbrev nBuf : Space → Nat
  | .hbm => 9
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024x256, .f32⟩
  | .hbm, ⟨2, _⟩ => ⟨S1024x256, .f32⟩
  | .hbm, ⟨3, _⟩ => ⟨S256x1024, .f32⟩
  | .hbm, ⟨4, _⟩ => ⟨S1024x512, .f32⟩
  | .hbm, ⟨5, _⟩ => ⟨S1024x512, .bf16⟩
  | .hbm, ⟨6, _⟩ => ⟨S32768x1024, .bf16⟩
  | .hbm, ⟨7, _⟩ => ⟨S256x1024, .bf16⟩
  | .hbm, ⟨8, _⟩ => ⟨S32768x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S256x1024, .bf16⟩
  | .local _ .vmem, ⟨4, _⟩ => ⟨S512x1024, .bf16⟩
  | .local _ .vmem, ⟨5, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SharedLastReferenceIdeal.lean ====
abbrev S32768x1024 : Shape := ⟨2, ![32768, 1024]⟩
abbrev S1024x256 : Shape := ⟨2, ![1024, 256]⟩
abbrev S256x1024 : Shape := ⟨2, ![256, 1024]⟩
abbrev S32768x256 : Shape := ⟨2, ![32768, 256]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x256, .f32⟩
  | .hbm, ⟨2, _⟩ => ⟨S1024x256, .f32⟩
  | .hbm, ⟨3, _⟩ => ⟨S256x1024, .f32⟩
  | .hbm, ⟨4, _⟩ => ⟨S32768x256, .f32⟩
  | .hbm, ⟨5, _⟩ => ⟨S32768x256, .f32⟩
  | .hbm, ⟨6, _⟩ => ⟨S32768x256, .f32⟩
  | .hbm, ⟨7, _⟩ => ⟨S_, .f32⟩
  | .hbm, ⟨8, _⟩ => ⟨S32768x256, .f32⟩
  | .hbm, ⟨9, _⟩ => ⟨S32768x256, .f32⟩
  | .hbm, ⟨10, _⟩ => ⟨S_, .f32⟩
  | .hbm, ⟨11, _⟩ => ⟨S32768x256, .f32⟩
  | .hbm, ⟨12, _⟩ => ⟨S32768x256, .f32⟩
  | .hbm, ⟨13, _⟩ => ⟨S32768x256, .f32⟩
  | .hbm, ⟨14, _⟩ => ⟨S32768x256, .f32⟩
  | .hbm, ⟨15, _⟩ => ⟨S32768x256, .f32⟩
  | .hbm, ⟨16, _⟩ => ⟨S32768x1024, .f32⟩
  | .hbm, ⟨17, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩

abbrev nD : Nat := 1
abbrev τ : Topo := Topo.v7x

variable {F : FTy → Type} [FloatOps F]
-- ==== Outproj.lean ====
abbrev S8x4096x1024 : Shape := ⟨3, ![8, 4096, 1024]⟩
abbrev S1024 : Shape := ⟨1, ![1024]⟩
abbrev S8x1x1024 : Shape := ⟨3, ![8, 1, 1024]⟩
abbrev S1024x1024 : Shape := ⟨2, ![1024, 1024]⟩
abbrev S1024x64 : Shape := ⟨2, ![1024, 64]⟩
abbrev S64 : Shape := ⟨1, ![64]⟩
abbrev S32768x1024 : Shape := ⟨2, ![32768, 1024]⟩
abbrev S1x1024 : Shape := ⟨2, ![1, 1024]⟩
abbrev S_ : Shape := ⟨0, ![]⟩
abbrev S16x1x1024 : Shape := ⟨3, ![16, 1, 1024]⟩
abbrev S64x1024 : Shape := ⟨2, ![64, 1024]⟩
abbrev S64x1 : Shape := ⟨2, ![64, 1]⟩
abbrev S2x32768x256 : Shape := ⟨3, ![2, 32768, 256]⟩
abbrev S8x32768 : Shape := ⟨2, ![8, 32768]⟩
abbrev S32768x8 : Shape := ⟨2, ![32768, 8]⟩
abbrev S64x128 : Shape := ⟨2, ![64, 128]⟩
abbrev S512x1024 : Shape := ⟨2, ![512, 1024]⟩
abbrev S1x1x1024 : Shape := ⟨3, ![1, 1, 1024]⟩
abbrev S2x512x256 : Shape := ⟨3, ![2, 512, 256]⟩
abbrev S8x512 : Shape := ⟨2, ![8, 512]⟩
abbrev S512x8 : Shape := ⟨2, ![512, 8]⟩
abbrev S512 : Shape := ⟨1, ![512]⟩
abbrev S512x1 : Shape := ⟨2, ![512, 1]⟩
abbrev S512x512 : Shape := ⟨2, ![512, 512]⟩
abbrev S512x256 : Shape := ⟨2, ![512, 256]⟩
abbrev S1x512x256 : Shape := ⟨3, ![1, 512, 256]⟩
abbrev S64x512 : Shape := ⟨2, ![64, 512]⟩
abbrev S8x8x512 : Shape := ⟨3, ![8, 8, 512]⟩
abbrev S8x1x512 : Shape := ⟨3, ![8, 1, 512]⟩
abbrev S1x512 : Shape := ⟨2, ![1, 512]⟩
abbrev S2x512 : Shape := ⟨2, ![2, 512]⟩
abbrev S122x512 : Shape := ⟨2, ![122, 512]⟩
abbrev S128x512 : Shape := ⟨2, ![128, 512]⟩
abbrev S512x128 : Shape := ⟨2, ![512, 128]⟩

abbrev nBuf : Space → Nat
  | .hbm => 38
  | .vmem => 34
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1024, .f32⟩
  | .hbm, ⟨3, _⟩ => ⟨S8x1x1024, .f32⟩
  | .hbm, ⟨4, _⟩ => ⟨S1024, .f32⟩
  | .hbm, ⟨5, _⟩ => ⟨S8x1x1024, .f32⟩
  | .hbm, ⟨6, _⟩ => ⟨S8x1x1024, .f32⟩
  | .hbm, ⟨7, _⟩ => ⟨S1024x1024, .f32⟩
  | .hbm, ⟨8, _⟩ => ⟨S1024x64, .f32⟩
  | .hbm, ⟨9, _⟩ => ⟨S64, .f32⟩
  | .hbm, ⟨10, _⟩ => ⟨S32768x1024, .f32⟩
  | .hbm, ⟨11, _⟩ => ⟨S32768x1024, .bf16⟩
  | .hbm, ⟨12, _⟩ => ⟨S32768x1024, .f32⟩
  | .hbm, ⟨13, _⟩ => ⟨S1024x1024, .bf16⟩
  | .hbm, ⟨14, _⟩ => ⟨S1x1024, .f32⟩
  | .hbm, ⟨15, _⟩ => ⟨S_, .f32⟩
  | .hbm, ⟨16, _⟩ => ⟨S8x1x1024, .f32⟩
  | .hbm, ⟨17, _⟩ => ⟨S16x1x1024, .f32⟩
  | .hbm, ⟨18, _⟩ => ⟨S1x1024, .f32⟩
  | .hbm, ⟨19, _⟩ => ⟨S_, .f32⟩
  | .hbm, ⟨20, _⟩ => ⟨S8x1x1024, .f32⟩
  | .hbm, ⟨21, _⟩ => ⟨S16x1x1024, .f32⟩
  | .hbm, ⟨22, _⟩ => ⟨S_, .f32⟩
  | .hbm, ⟨23, _⟩ => ⟨S8x1x1024, .f32⟩
  | .hbm, ⟨24, _⟩ => ⟨S16x1x1024, .f32⟩
  | .hbm, ⟨25, _⟩ => ⟨S64x1024, .f32⟩
  | .hbm, ⟨26, _⟩ => ⟨S64x1024, .bf16⟩
  | .hbm, ⟨27, _⟩ => ⟨S64x1024, .f32⟩
  | .hbm, ⟨28, _⟩ => ⟨S64x1024, .f32⟩
  | .hbm, ⟨29, _⟩ => ⟨S64x1024, .bf16⟩
  | .hbm, ⟨30, _⟩ => ⟨S64x1, .f32⟩
  | .hbm, ⟨31, _⟩ => ⟨S32768x1024, .f32⟩
  | .hbm, ⟨32, _⟩ => ⟨S32768x1024, .bf16⟩
  | .hbm, ⟨33, _⟩ => ⟨S2x32768x256, .i32⟩
  | .hbm, ⟨34, _⟩ => ⟨S8x32768, .i32⟩
  | .hbm, ⟨35, _⟩ => ⟨S32768x8, .f32⟩
  | .hbm, ⟨36, _⟩ => ⟨S8x32768, .i32⟩
  | .hbm, ⟨37, _⟩ => ⟨S64x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S64x1024, .bf16⟩
  | .local _ .vmem, ⟨18, _⟩ => ⟨S64x1024, .bf16⟩
  | .local _ .vmem, ⟨19, _⟩ => ⟨S64x1, .f32⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | .local _ .vmem, ⟨24, _⟩ => ⟨S2x512x256, .i32⟩
  | .local _ .vmem, ⟨25, _⟩ => ⟨S2x512x256, .i32⟩
  | .local _ .vmem, ⟨26, _⟩ => ⟨S8x512, .i32⟩
  | .local _ .vmem, ⟨27, _⟩ => ⟨S8x512, .i32⟩
  | .local _ .vmem, ⟨28, _⟩ => ⟨S512x8, .f32⟩
  | .local _ .vmem, ⟨29, _⟩ => ⟨S512x8, .f32⟩
  | .local _ .vmem, ⟨30, _⟩ => ⟨S8x512, .i32⟩
  | .local _ .vmem, ⟨31, _⟩ => ⟨S8x512, .i32⟩
  | .local _ .vmem, ⟨32, _⟩ => ⟨S64x128, .f32⟩
  | .local _ .vmem, ⟨33, _⟩ => ⟨S64x1, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18_0 : Ref sig .tc := ⟨.hbm, 31, rfl⟩
abbrev main_v18_1 : Ref sig .tc := ⟨.hbm, 32, rfl⟩
abbrev main_v18_2 : Ref sig .tc := ⟨.hbm, 33, rfl⟩
abbrev main_v18_3 : Ref sig .tc := ⟨.hbm, 34, rfl⟩
abbrev main_v18_4 : Ref sig .tc := ⟨.hbm, 35, rfl⟩
abbrev main_v18_5 : Ref sig .tc := ⟨.hbm, 36, rfl⟩
abbrev main_v18_6 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.minsi v17 c8_i32
  let c0_i32_4 : BitVec 32 := 0#32
  let c0_i32_5 : BitVec 32 := 0#32
  let c0_i32_6 : BitVec 32 := 0#32
  ![v18.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.minsi v17 c8_i32
  let c0_i32_4 : BitVec 32 := 0#32
  let c0_i32_5 : BitVec 32 := 0#32
  let c0_i32_6 : BitVec 32 := 0#32
  ![v18.toNat, c0_i32_4.toNat, c0_i32_5.toNat]

def cc0_transform_9 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.minsi v17 c8_i32
  let c0_i32_4 : BitVec 32 := 0#32
  let c0_i32_5 : BitVec 32 := 0#32
  let c0_i32_6 : BitVec 32 := 0#32
  ![v18.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S64x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x512x256 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x512 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x8 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x512 .i32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S64x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== OutprojIdeal.lean ====
abbrev S8x4096x1024 : Shape := ⟨3, ![8, 4096, 1024]⟩
abbrev S1024 : Shape := ⟨1, ![1024]⟩
abbrev S8x1x1024 : Shape := ⟨3, ![8, 1, 1024]⟩
abbrev S1024x1024 : Shape := ⟨2, ![1024, 1024]⟩
abbrev S1024x64 : Shape := ⟨2, ![1024, 64]⟩
abbrev S64 : Shape := ⟨1, ![64]⟩
abbrev S32768x1024 : Shape := ⟨2, ![32768, 1024]⟩
abbrev S1x1024 : Shape := ⟨2, ![1, 1024]⟩
abbrev S_ : Shape := ⟨0, ![]⟩
abbrev S16x1x1024 : Shape := ⟨3, ![16, 1, 1024]⟩
abbrev S64x1024 : Shape := ⟨2, ![64, 1024]⟩
abbrev S64x1 : Shape := ⟨2, ![64, 1]⟩
abbrev S2x32768x2x256 : Shape := ⟨4, ![2, 32768, 2, 256]⟩
abbrev S8x32768 : Shape := ⟨2, ![8, 32768]⟩
abbrev S32768x8 : Shape := ⟨2, ![32768, 8]⟩
abbrev S64x128 : Shape := ⟨2, ![64, 128]⟩
abbrev S2x32768x1x256 : Shape := ⟨4, ![2, 32768, 1, 256]⟩
abbrev S2x32768x256 : Shape := ⟨3, ![2, 32768, 256]⟩
abbrev S512x1024 : Shape := ⟨2, ![512, 1024]⟩
abbrev S1x1x1024 : Shape := ⟨3, ![1, 1, 1024]⟩
abbrev S2x512x256 : Shape := ⟨3, ![2, 512, 256]⟩
abbrev S2x512x2x256 : Shape := ⟨4, ![2, 512, 2, 256]⟩
abbrev S2x512x1x256 : Shape := ⟨4, ![2, 512, 1, 256]⟩
abbrev S8x512 : Shape := ⟨2, ![8, 512]⟩
abbrev S512x8 : Shape := ⟨2, ![512, 8]⟩
abbrev S512 : Shape := ⟨1, ![512]⟩
abbrev S512x1 : Shape := ⟨2, ![512, 1]⟩
abbrev S512x512 : Shape := ⟨2, ![512, 512]⟩
abbrev S512x256 : Shape := ⟨2, ![512, 256]⟩
abbrev S1x512x256 : Shape := ⟨3, ![1, 512, 256]⟩
abbrev S1x512x2x256 : Shape := ⟨4, ![1, 512, 2, 256]⟩
abbrev S1x512x1x256 : Shape := ⟨4, ![1, 512, 1, 256]⟩
abbrev S64x512 : Shape := ⟨2, ![64, 512]⟩
abbrev S8x8x512 : Shape := ⟨3, ![8, 8, 512]⟩
abbrev S8x1x512 : Shape := ⟨3, ![8, 1, 512]⟩
abbrev S1x512 : Shape := ⟨2, ![1, 512]⟩
abbrev S2x512 : Shape := ⟨2, ![2, 512]⟩
abbrev S122x512 : Shape := ⟨2, ![122, 512]⟩
abbrev S128x512 : Shape := ⟨2, ![128, 512]⟩
abbrev S512x128 : Shape := ⟨2, ![512, 128]⟩

abbrev nBuf : Space → Nat
  | .hbm => 38
  | .vmem => 34
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1024, .f32⟩
  | .hbm, ⟨3, _⟩ => ⟨S8x1x1024, .f32⟩
  | .hbm, ⟨4, _⟩ => ⟨S1024, .f32⟩
  | .hbm, ⟨5, _⟩ => ⟨S8x1x1024, .f32⟩
  | .hbm, ⟨6, _⟩ => ⟨S8x1x1024, .f32⟩
  | .hbm, ⟨7, _⟩ => ⟨S1024x1024, .f32⟩
  | .hbm, ⟨8, _⟩ => ⟨S1024x64, .f32⟩
  | .hbm, ⟨9, _⟩ => ⟨S64, .f32⟩
  | .hbm, ⟨10, _⟩ => ⟨S32768x1024, .f32⟩
  | .hbm, ⟨11, _⟩ => ⟨S32768x1024, .bf16⟩
  | .hbm, ⟨12, _⟩ => ⟨S32768x1024, .f32⟩
  | .hbm, ⟨13, _⟩ => ⟨S1024x1024, .bf16⟩
  | .hbm, ⟨14, _⟩ => ⟨S1x1024, .f32⟩
  | .hbm, ⟨15, _⟩ => ⟨S_, .f32⟩
  | .hbm, ⟨16, _⟩ => ⟨S8x1x1024, .f32⟩
  | .hbm, ⟨17, _⟩ => ⟨S16x1x1024, .f32⟩
  | .hbm, ⟨18, _⟩ => ⟨S1x1024, .f32⟩
  | .hbm, ⟨19, _⟩ => ⟨S_, .f32⟩
  | .hbm, ⟨20, _⟩ => ⟨S8x1x1024, .f32⟩
  | .hbm, ⟨21, _⟩ => ⟨S16x1x1024, .f32⟩
  | .hbm, ⟨22, _⟩ => ⟨S_, .f32⟩
  | .hbm, ⟨23, _⟩ => ⟨S8x1x1024, .f32⟩
  | .hbm, ⟨24, _⟩ => ⟨S16x1x1024, .f32⟩
  | .hbm, ⟨25, _⟩ => ⟨S64x1024, .f32⟩
  | .hbm, ⟨26, _⟩ => ⟨S64x1024, .bf16⟩
  | .hbm, ⟨27, _⟩ => ⟨S64x1024, .f32⟩
  | .hbm, ⟨28, _⟩ => ⟨S64x1024, .f32⟩
  | .hbm, ⟨29, _⟩ => ⟨S64x1024, .bf16⟩
  | .hbm, ⟨30, _⟩ => ⟨S64x1, .f32⟩
  | .hbm, ⟨31, _⟩ => ⟨S32768x1024, .f32⟩
  | .hbm, ⟨32, _⟩ => ⟨S32768x1024, .bf16⟩
  | .hbm, ⟨33, _⟩ => ⟨S2x32768x2x256, .bf16⟩
  | .hbm, ⟨34, _⟩ => ⟨S8x32768, .i32⟩
  | .hbm, ⟨35, _⟩ => ⟨S32768x8, .f32⟩
  | .hbm, ⟨36, _⟩ => ⟨S8x32768, .i32⟩
  | .hbm, ⟨37, _⟩ => ⟨S64x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S64x1024, .bf16⟩
  | .local _ .vmem, ⟨18, _⟩ => ⟨S64x1024, .bf16⟩
  | .local _ .vmem, ⟨19, _⟩ => ⟨S64x1, .f32⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | .local _ .vmem, ⟨24, _⟩ => ⟨S2x512x2x256, .bf16⟩
  | .local _ .vmem, ⟨25, _⟩ => ⟨S2x512x2x256, .bf16⟩
  | .local _ .vmem, ⟨26, _⟩ => ⟨S8x512, .i32⟩
  | .local _ .vmem, ⟨27, _⟩ => ⟨S8x512, .i32⟩
  | .local _ .vmem, ⟨28, _⟩ => ⟨S512x8, .f32⟩
  | .local _ .vmem, ⟨29, _⟩ => ⟨S512x8, .f32⟩
  | .local _ .vmem, ⟨30, _⟩ => ⟨S8x512, .i32⟩
  | .local _ .vmem, ⟨31, _⟩ => ⟨S8x512, .i32⟩
  | .local _ .vmem, ⟨32, _⟩ => ⟨S64x128, .f32⟩
  | .local _ .vmem, ⟨33, _⟩ => ⟨S64x1, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18_0 : Ref sig .tc := ⟨.hbm, 31, rfl⟩
abbrev main_v18_1 : Ref sig .tc := ⟨.hbm, 32, rfl⟩
abbrev main_v18_2 : Ref sig .tc := ⟨.hbm, 33, rfl⟩
abbrev main_v18_3 : Ref sig .tc := ⟨.hbm, 34, rfl⟩
abbrev main_v18_4 : Ref sig .tc := ⟨.hbm, 35, rfl⟩
abbrev main_v18_5 : Ref sig .tc := ⟨.hbm, 36, rfl⟩
abbrev main_v18_6 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.minsi v17 c8_i32
  let c0_i32_4 : BitVec 32 := 0#32
  let c0_i32_5 : BitVec 32 := 0#32
  let c0_i32_6 : BitVec 32 := 0#32
  ![v18.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.minsi v17 c8_i32
  let c0_i32_4 : BitVec 32 := 0#32
  let c0_i32_5 : BitVec 32 := 0#32
  let c0_i32_6 : BitVec 32 := 0#32
  ![v18.toNat, c0_i32_4.toNat, c0_i32_5.toNat]

def cc0_transform_9 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.minsi v17 c8_i32
  let c0_i32_4 : BitVec 32 := 0#32
  let c0_i32_5 : BitVec 32 := 0#32
  let c0_i32_6 : BitVec 32 := 0#32
  ![v18.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, 0, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S64x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x512x2x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x512 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x8 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x512 .i32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S64x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== OutprojReferenceIdeal.lean ====
abbrev S8x4096x1024 : Shape := ⟨3, ![8, 4096, 1024]⟩
abbrev S1024 : Shape := ⟨1, ![1024]⟩
abbrev S8x1x1024 : Shape := ⟨3, ![8, 1, 1024]⟩
abbrev S1024x1024 : Shape := ⟨2, ![1024, 1024]⟩
abbrev S1024x64 : Shape := ⟨2, ![1024, 64]⟩
abbrev S64 : Shape := ⟨1, ![64]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S32768x1024 : Shape := ⟨2, ![32768, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1024, .f32⟩
  | .hbm, ⟨3, _⟩ => ⟨S8x1x1024, .f32⟩
  | .hbm, ⟨4, _⟩ => ⟨S1024, .f32⟩
  | .hbm, ⟨5, _⟩ => ⟨S8x1x1024, .f32⟩
  | .hbm, ⟨6, _⟩ => ⟨S8x1x1024, .f32⟩
  | .hbm, ⟨7, _⟩ => ⟨S1024x1024, .f32⟩
  | .hbm, ⟨8, _⟩ => ⟨S1024x64, .f32⟩
  | .hbm, ⟨9, _⟩ => ⟨S64, .f32⟩
  | .hbm, ⟨10, _⟩ => ⟨S8x4096x1024, .f32⟩
  | .hbm, ⟨11, _⟩ => ⟨S8x4096x1024, .f32⟩
  | .hbm, ⟨12, _⟩ => ⟨S_, .f32⟩
  | .hbm, ⟨13, _⟩ => ⟨S8x4096, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S8x4096x1, .f32⟩
  | .hbm, ⟨22, _⟩ => ⟨S8x4096x1024, .f32⟩
  | .hbm, ⟨23, _⟩ => ⟨S8x4096x1024, .f32⟩
  | .hbm, ⟨24, _⟩ => ⟨S1x1x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S_, .f32⟩
  | .hbm, ⟨32, _⟩ => ⟨S8x4096, .f32⟩
  | .hbm, ⟨33, _⟩ => ⟨S8x4096x1, .f32⟩
  | .hbm, ⟨34, _⟩ => ⟨S_, .f32⟩
  | .hbm, ⟨35, _⟩ => ⟨S8x4096x1, .f32⟩
  | .hbm, ⟨36, _⟩ => ⟨S8x4096x1, .f32⟩
  | .hbm, ⟨37, _⟩ => ⟨S_, .f32⟩
  | .hbm, ⟨38, _⟩ => ⟨S8x4096x1, .f32⟩
  | .hbm, ⟨39, _⟩ => ⟨S8x4096x1, .f32⟩
  | .hbm, ⟨40, _⟩ => ⟨S8x4096x1, .f32⟩
  | .hbm, ⟨41, _⟩ => ⟨S8x4096x1024, .f32⟩
  | .hbm, ⟨42, _⟩ => ⟨S8x4096x1024, .f32⟩
  | .hbm, ⟨43, _⟩ => ⟨S1x1x1024, .f32⟩
  | .hbm, ⟨44, _⟩ => ⟨S8x4096x1024, .f32⟩
  | .hbm, ⟨45, _⟩ => ⟨S8x4096x1024, .f32⟩
  | .hbm, ⟨46, _⟩ => ⟨S_, .f32⟩
  | .hbm, ⟨47, _⟩ => ⟨S8x1x1024, .f32⟩
  | .hbm, ⟨48, _⟩ => ⟨S8x1x1024, .f32⟩
  | .hbm, ⟨49, _⟩ => ⟨S8x4096x1024, .f32⟩
  | .hbm, ⟨50, _⟩ => ⟨S8x4096x1024, .f32⟩
  | .hbm, ⟨51, _⟩ => ⟨S8x4096x1024, .f32⟩
  | .hbm, ⟨52, _⟩ => ⟨S8x4096x1024, .f32⟩
  | .hbm, ⟨53, _⟩ => ⟨S32768x1024, .f32⟩
  | .hbm, ⟨54, _⟩ => ⟨S32768x1024, .f32⟩
  | .hbm, ⟨55, _⟩ => ⟨S32768x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]
-- ==== Mods.lean ====
abbrev S8x1024 : Shape := ⟨2, ![8, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S2x1x6144 : Shape := ⟨3, ![2, 1, 6144]⟩
abbrev S2x16x6144 : Shape := ⟨3, ![2, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 10
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S2x1x6144, .f32⟩
  | .hbm, ⟨9, _⟩ => ⟨S2x16x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModsReferenceIdeal.lean ====
abbrev S8x1024 : Shape := ⟨2, ![8, 1024]⟩
abbrev S1024 : Shape := ⟨1, ![1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x1024 : Shape := ⟨2, ![1, 1024]⟩
abbrev S7x1024 : Shape := ⟨2, ![7, 1024]⟩
abbrev S7x6144 : Shape := ⟨2, ![7, 6144]⟩
abbrev S16x6144 : Shape := ⟨2, ![16, 6144]⟩
abbrev S1x16x6144 : Shape := ⟨3, ![1, 16, 6144]⟩
abbrev S2x16x6144 : Shape := ⟨3, ![2, 16, 6144]⟩

abbrev nBuf : Space → Nat
  | .hbm => 97
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S1x1024x6144, .f32⟩
  | .hbm, ⟨14, _⟩ => ⟨S1024x6144, .f32⟩
  | .hbm, ⟨15, _⟩ => ⟨S8x6144, .f32⟩
  | .hbm, ⟨16, _⟩ => ⟨S1x6144, .f32⟩
  | .hbm, ⟨17, _⟩ => ⟨S6144, .f32⟩
  | .hbm, ⟨18, _⟩ => ⟨S1x6144, .f32⟩
  | .hbm, ⟨19, _⟩ => ⟨S8x6144, .f32⟩
  | .hbm, ⟨20, _⟩ => ⟨S8x6144, .f32⟩
  | .hbm, ⟨21, _⟩ => ⟨S1024, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S1x1024, .f32⟩
  | .hbm, ⟨31, _⟩ => ⟨S1x1024x6144, .f32⟩
  | .hbm, ⟨32, _⟩ => ⟨S1024x6144, .f32⟩
  | .hbm, ⟨33, _⟩ => ⟨S1x6144, .f32⟩
  | .hbm, ⟨34, _⟩ => ⟨S1x6144, .f32⟩
  | .hbm, ⟨35, _⟩ => ⟨S6144, .f32⟩
  | .hbm, ⟨36, _⟩ => ⟨S1x6144, .f32⟩
  | .hbm, ⟨37, _⟩ => ⟨S1x6144, .f32⟩
  | .hbm, ⟨38, _⟩ => ⟨S_, .f32⟩
  | .hbm, ⟨39, _⟩ => ⟨S7x1024, .f32⟩
  | .hbm, ⟨40, _⟩ => ⟨S1x1024x6144, .f32⟩
  | .hbm, ⟨41, _⟩ => ⟨S1024x6144, .f32⟩
  | .hbm, ⟨42, _⟩ => ⟨S7x6144, .f32⟩
  | .hbm, ⟨43, _⟩ => ⟨S1x6144, .f32⟩
  | .hbm, ⟨44, _⟩ => ⟨S6144, .f32⟩
  | .hbm, ⟨45, _⟩ => ⟨S1x6144, .f32⟩
  | .hbm, ⟨46, _⟩ => ⟨S7x6144, .f32⟩
  | .hbm, ⟨47, _⟩ => ⟨S7x6144, .f32⟩
  | .hbm, ⟨48, _⟩ => ⟨S16x6144, .f32⟩
  | .hbm, ⟨49, _⟩ => ⟨S8x1024, .f32⟩
  | .hbm, ⟨50, _⟩ => ⟨S8x1024, .f32⟩
  | .hbm, ⟨51, _⟩ => ⟨S_, .f32⟩
  | .hbm, ⟨52, _⟩ => ⟨S8x1024, .f32⟩
  | .hbm, ⟨53, _⟩ => ⟨S8x1024, .f32⟩
  | .hbm, ⟨54, _⟩ => ⟨S_, .f32⟩
  | .hbm, ⟨55, _⟩ => ⟨S8x1024, .f32⟩
  | .hbm, ⟨56, _⟩ => ⟨S8x1024, .f32⟩
  | .hbm, ⟨57, _⟩ => ⟨S8x1024, .f32⟩
  | .hbm, ⟨58, _⟩ => ⟨S1x1024x6144, .f32⟩
  | .hbm, ⟨59, _⟩ => ⟨S1024x6144, .f32⟩
  | .hbm, ⟨60, _⟩ => ⟨S8x6144, .f32⟩
  | .hbm, ⟨61, _⟩ => ⟨S1x6144, .f32⟩
  | .hbm, ⟨62, _⟩ => ⟨S6144, .f32⟩
  | .hbm, ⟨63, _⟩ => ⟨S1x6144, .f32⟩
  | .hbm, ⟨64, _⟩ => ⟨S8x6144, .f32⟩
  | .hbm, ⟨65, _⟩ => ⟨S8x6144, .f32⟩
  | .hbm, ⟨66, _⟩ => ⟨S1024, .f32⟩
  | .hbm, ⟨67, _⟩ => ⟨S1024, .f32⟩
  | .hbm, ⟨68, _⟩ => ⟨S_, .f32⟩
  | .hbm, ⟨69, _⟩ => ⟨S1024, .f32⟩
  | .hbm, ⟨70, _⟩ => ⟨S1024, .f32⟩
  | .hbm, ⟨71, _⟩ => ⟨S_, .f32⟩
  | .hbm, ⟨72, _⟩ => ⟨S1024, .f32⟩
  | .hbm, ⟨73, _⟩ => ⟨S1024, .f32⟩
  | .hbm, ⟨74, _⟩ => ⟨S1024, .f32⟩
  | .hbm, ⟨75, _⟩ => ⟨S1x1024, .f32⟩
  | .hbm, ⟨76, _⟩ => ⟨S1x1024x6144, .f32⟩
  | .hbm, ⟨77, _⟩ => ⟨S1024x6144, .f32⟩
  | .hbm, ⟨78, _⟩ => ⟨S1x6144, .f32⟩
  | .hbm, ⟨79, _⟩ => ⟨S1x6144, .f32⟩
  | .hbm, ⟨80, _⟩ => ⟨S6144, .f32⟩
  | .hbm, ⟨81, _⟩ => ⟨S1x6144, .f32⟩
  | .hbm, ⟨82, _⟩ => ⟨S1x6144, .f32⟩
  | .hbm, ⟨83, _⟩ => ⟨S_, .f32⟩
  | .hbm, ⟨84, _⟩ => ⟨S7x1024, .f32⟩
  | .hbm, ⟨85, _⟩ => ⟨S1x1024x6144, .f32⟩
  | .hbm, ⟨86, _⟩ => ⟨S1024x6144, .f32⟩
  | .hbm, ⟨87, _⟩ => ⟨S7x6144, .f32⟩
  | .hbm, ⟨88, _⟩ => ⟨S1x6144, .f32⟩
  | .hbm, ⟨89, _⟩ => ⟨S6144, .f32⟩
  | .hbm, ⟨90, _⟩ => ⟨S1x6144, .f32⟩
  | .hbm, ⟨91, _⟩ => ⟨S7x6144, .f32⟩
  | .hbm, ⟨92, _⟩ => ⟨S7x6144, .f32⟩
  | .hbm, ⟨93, _⟩ => ⟨S16x6144, .f32⟩
  | .hbm, ⟨94, _⟩ => ⟨S1x16x6144, .f32⟩
  | .hbm, ⟨95, _⟩ => ⟨S1x16x6144, .f32⟩
  | .hbm, ⟨96, _⟩ => ⟨S2x16x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_call2_v0 : Ref sig .tc := ⟨.hbm, 49, rfl⟩
abbrev main_call2_v1 : Ref sig .tc := ⟨.hbm, 50, rfl⟩
abbrev main_call2_cst : Ref sig .tc := ⟨.hbm, 51, rfl⟩
abbrev main_call2_v2 : Ref sig .tc := ⟨.hbm, 52, rfl⟩
abbrev main_call2_v3 : Ref sig .tc := ⟨.hbm, 53, rfl⟩
abbrev main_call2_cst_0 : Ref sig .tc := ⟨.hbm, 54, rfl⟩
abbrev main_call2_v4 : Ref sig .tc := ⟨.hbm, 55, rfl⟩
abbrev main_call2_v5 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_call3_v0 : Ref sig .tc := ⟨.hbm, 66, rfl⟩
abbrev main_call3_v1 : Ref sig .tc := ⟨.hbm, 67, rfl⟩
abbrev main_call3_cst : Ref sig .tc := ⟨.hbm, 68, rfl⟩
abbrev main_call3_v2 : Ref sig .tc := ⟨.hbm, 69, rfl⟩
abbrev main_call3_v3 : Ref sig .tc := ⟨.hbm, 70, rfl⟩
abbrev main_call3_cst_0 : Ref sig .tc := ⟨.hbm, 71, rfl⟩
abbrev main_call3_v4 : Ref sig .tc := ⟨.hbm, 72, rfl⟩
abbrev main_call3_v5 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_cst_0 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩

abbrev nD : Nat := 1
abbrev τ : Topo := Topo.v7x

variable {F : FTy → Type} [FloatOps F]
-- ==== Dest.lean ====
abbrev S8x34816 : Shape := ⟨2, ![8, 34816]⟩
abbrev S64 : Shape := ⟨1, ![64]⟩
abbrev S64x1 : Shape := ⟨2, ![64, 1]⟩
abbrev S2x8x34816 : Shape := ⟨3, ![2, 8, 34816]⟩
abbrev S8x512 : Shape := ⟨2, ![8, 512]⟩
abbrev S2x8x512 : Shape := ⟨3, ![2, 8, 512]⟩
abbrev S64x512 : Shape := ⟨2, ![64, 512]⟩
abbrev S1x512 : Shape := ⟨2, ![1, 512]⟩
abbrev S512 : Shape := ⟨1, ![512]⟩
abbrev S1x8x512 : Shape := ⟨3, ![1, 8, 512]⟩

abbrev nBuf : Space → Nat
  | .hbm => 6
  | .vmem => 7
  | .smem => 0
  | _ => 0

abbrev bufTy : (tb : Table) → Fin (tcTables nBuf tb) → BufTy
  | .hbm, ⟨0, _⟩ => ⟨S8x34816, .i32⟩
  | .hbm, ⟨1, _⟩ => ⟨S8x34816, .i32⟩
  | .hbm, ⟨2, _⟩ => ⟨S64, .i32⟩
  | .hbm, ⟨3, _⟩ => ⟨S64, .f32⟩
  | .hbm, ⟨4, _⟩ => ⟨S64x1, .f32⟩
  | .hbm, ⟨5, _⟩ => ⟨S2x8x34816, .i32⟩
  | .local _ .vmem, ⟨0, _⟩ => ⟨S8x512, .i32⟩
  | .local _ .vmem, ⟨1, _⟩ => ⟨S8x512, .i32⟩
  | .local _ .vmem, ⟨2, _⟩ => ⟨S8x512, .i32⟩
  | .local _ .vmem, ⟨3, _⟩ => ⟨S8x512, .i32⟩
  | .local _ .vmem, ⟨4, _⟩ => ⟨S64x1, .f32⟩
  | .local _ .vmem, ⟨5, _⟩ => ⟨S2x8x512, .i32⟩
  | .local _ .vmem, ⟨6, _⟩ => ⟨S2x8x512, .i32⟩
  | _, _ => ⟨S8x34816, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S8x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x8x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DestReferenceIdeal.lean ====
abbrev S8x34816 : Shape := ⟨2, ![8, 34816]⟩
abbrev S64 : Shape := ⟨1, ![64]⟩
abbrev S1x8x34816 : Shape := ⟨3, ![1, 8, 34816]⟩
abbrev S64x1x1 : Shape := ⟨3, ![64, 1, 1]⟩
abbrev S64x8x34816 : Shape := ⟨3, ![64, 8, 34816]⟩
abbrev S_ : Shape := ⟨0, ![]⟩
abbrev S2x8x34816 : Shape := ⟨3, ![2, 8, 34816]⟩

abbrev nBuf : Space → Nat
  | .hbm => 25
  | .vmem => 0
  | .smem => 0
  | _ => 0

abbrev bufTy : (tb : Table) → Fin (tcTables nBuf tb) → BufTy
  | .hbm, ⟨0, _⟩ => ⟨S8x34816, .i32⟩
  | .hbm, ⟨1, _⟩ => ⟨S8x34816, .i32⟩
  | .hbm, ⟨2, _⟩ => ⟨S64, .i32⟩
  | .hbm, ⟨3, _⟩ => ⟨S1x8x34816, .i32⟩
  | .hbm, ⟨4, _⟩ => ⟨S64, .i32⟩
  | .hbm, ⟨5, _⟩ => ⟨S64x1x1, .i32⟩
  | .hbm, ⟨6, _⟩ => ⟨S64x8x34816, .i32⟩
  | .hbm, ⟨7, _⟩ => ⟨S64x8x34816, .i32⟩
  | .hbm, ⟨8, _⟩ => ⟨S64x8x34816, .i1⟩
  | .hbm, ⟨9, _⟩ => ⟨S64x1x1, .i32⟩
  | .hbm, ⟨10, _⟩ => ⟨S_, .i32⟩
  | .hbm, ⟨11, _⟩ => ⟨S_, .i32⟩
  | .hbm, ⟨12, _⟩ => ⟨S64x8x34816, .i32⟩
  | .hbm, ⟨13, _⟩ => ⟨S64x8x34816, .i32⟩
  | .hbm, ⟨14, _⟩ => ⟨S64x8x34816, .i32⟩
  | .hbm, ⟨15, _⟩ => ⟨S_, .i32⟩
  | .hbm, ⟨16, _⟩ => ⟨S8x34816, .i32⟩
  | .hbm, ⟨17, _⟩ => ⟨S8x34816, .i32⟩
  | .hbm, ⟨18, _⟩ => ⟨S8x34816, .i32⟩
  | .hbm, ⟨19, _⟩ => ⟨S_, .i32⟩
  | .hbm, ⟨20, _⟩ => ⟨S8x34816, .i32⟩
  | .hbm, ⟨21, _⟩ => ⟨S8x34816, .i32⟩
  | .hbm, ⟨22, _⟩ => ⟨S1x8x34816, .i32⟩
  | .hbm, ⟨23, _⟩ => ⟨S1x8x34816, .i32⟩
  | .hbm, ⟨24, _⟩ => ⟨S2x8x34816, .i32⟩
  | _, _ => ⟨S8x34816, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Combine.lean ====
abbrev S32768x1024 : Shape := ⟨2, ![32768, 1024]⟩
abbrev S2x6x32768x256 : Shape := ⟨4, ![2, 6, 32768, 256]⟩
abbrev S32768x8 : Shape := ⟨2, ![32768, 8]⟩
abbrev S8x4096x1024 : Shape := ⟨3, ![8, 4096, 1024]⟩
abbrev S1024 : Shape := ⟨1, ![1024]⟩
abbrev S8x1x1024 : Shape := ⟨3, ![8, 1, 1024]⟩
abbrev S_ : Shape := ⟨0, ![]⟩
abbrev S16x1x1024 : Shape := ⟨3, ![16, 1, 1024]⟩
abbrev S1x1024 : Shape := ⟨2, ![1, 1024]⟩
abbrev S512x1024 : Shape := ⟨2, ![512, 1024]⟩
abbrev S2x6x512x256 : Shape := ⟨4, ![2, 6, 512, 256]⟩
abbrev S512x8 : Shape := ⟨2, ![512, 8]⟩
abbrev S1x1x1024 : Shape := ⟨3, ![1, 1, 1024]⟩
abbrev S1x1x512x256 : Shape := ⟨4, ![1, 1, 512, 256]⟩
abbrev S512x256 : Shape := ⟨2, ![512, 256]⟩
abbrev S512x512 : Shape := ⟨2, ![512, 512]⟩
abbrev S512x1 : Shape := ⟨2, ![512, 1]⟩
abbrev S512 : Shape := ⟨1, ![512]⟩

abbrev nBuf : Space → Nat
  | .hbm => 13
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S2x6x32768x256, .i32⟩
  | .hbm, ⟨2, _⟩ => ⟨S32768x8, .f32⟩
  | .hbm, ⟨3, _⟩ => ⟨S8x4096x1024, .f32⟩
  | .hbm, ⟨4, _⟩ => ⟨S1024, .f32⟩
  | .hbm, ⟨5, _⟩ => ⟨S8x1x1024, .f32⟩
  | .hbm, ⟨6, _⟩ => ⟨S_, .f32⟩
  | .hbm, ⟨7, _⟩ => ⟨S8x1x1024, .f32⟩
  | .hbm, ⟨8, _⟩ => ⟨S16x1x1024, .f32⟩
  | .hbm, ⟨9, _⟩ => ⟨S32768x1024, .bf16⟩
  | .hbm, ⟨10, _⟩ => ⟨S32768x1024, .f32⟩
  | .hbm, ⟨11, _⟩ => ⟨S1x1024, .f32⟩
  | .hbm, ⟨12, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S2x6x512x256, .i32⟩
  | .local _ .vmem, ⟨3, _⟩ => ⟨S2x6x512x256, .i32⟩
  | .local _ .vmem, ⟨4, _⟩ => ⟨S512x8, .f32⟩
  | .local _ .vmem, ⟨5, _⟩ => ⟨S512x8, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1x1024, .f32⟩
  | .local _ .vmem, ⟨10, _⟩ => ⟨S1x1x1024, .f32⟩
  | .local _ .vmem, ⟨11, _⟩ => ⟨S512x1024, .f32⟩
  | .local _ .vmem, ⟨12, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.minsi v17 c8_i32
  let c0_i32_4 : BitVec 32 := 0#32
  let c0_i32_5 : BitVec 32 := 0#32
  let c0_i32_6 : BitVec 32 := 0#32
  ![v18.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x6x512x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CombineReferenceIdeal.lean ====
abbrev S32768x1024 : Shape := ⟨2, ![32768, 1024]⟩
abbrev S2x6x32768x256 : Shape := ⟨4, ![2, 6, 32768, 256]⟩
abbrev S32768x8 : Shape := ⟨2, ![32768, 8]⟩
abbrev S8x4096x1024 : Shape := ⟨3, ![8, 4096, 1024]⟩
abbrev S1024 : Shape := ⟨1, ![1024]⟩
abbrev S8x1x1024 : Shape := ⟨3, ![8, 1, 1024]⟩
abbrev S1x6x32768x256 : Shape := ⟨4, ![1, 6, 32768, 256]⟩
abbrev S6x32768x256 : Shape := ⟨3, ![6, 32768, 256]⟩
abbrev S6x32768x512 : Shape := ⟨3, ![6, 32768, 512]⟩
abbrev S_ : Shape := ⟨0, ![]⟩
abbrev S6x32768x1024 : Shape := ⟨3, ![6, 32768, 1024]⟩
abbrev S8x32768 : Shape := ⟨2, ![8, 32768]⟩
abbrev S6x32768 : Shape := ⟨2, ![6, 32768]⟩
abbrev S6x32768x1 : Shape := ⟨3, ![6, 32768, 1]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x6x32768x256, .i32⟩
  | .hbm, ⟨2, _⟩ => ⟨S32768x8, .f32⟩
  | .hbm, ⟨3, _⟩ => ⟨S8x4096x1024, .f32⟩
  | .hbm, ⟨4, _⟩ => ⟨S1024, .f32⟩
  | .hbm, ⟨5, _⟩ => ⟨S8x1x1024, .f32⟩
  | .hbm, ⟨6, _⟩ => ⟨S1x6x32768x256, .i32⟩
  | .hbm, ⟨7, _⟩ => ⟨S6x32768x256, .i32⟩
  | .hbm, ⟨8, _⟩ => ⟨S1x6x32768x256, .i32⟩
  | .hbm, ⟨9, _⟩ => ⟨S6x32768x256, .i32⟩
  | .hbm, ⟨10, _⟩ => ⟨S6x32768x512, .i32⟩
  | .hbm, ⟨11, _⟩ => ⟨S_, .i32⟩
  | .hbm, ⟨12, _⟩ => ⟨S6x32768x512, .i32⟩
  | .hbm, ⟨13, _⟩ => ⟨S6x32768x512, .i32⟩
  | .hbm, ⟨14, _⟩ => ⟨S6x32768x512, .f32⟩
  | .hbm, ⟨15, _⟩ => ⟨S_, .i32⟩
  | .hbm, ⟨16, _⟩ => ⟨S6x32768x512, .i32⟩
  | .hbm, ⟨17, _⟩ => ⟨S6x32768x512, .i32⟩
  | .hbm, ⟨18, _⟩ => ⟨S6x32768x512, .f32⟩
  | .hbm, ⟨19, _⟩ => ⟨S6x32768x1024, .f32⟩
  | .hbm, ⟨20, _⟩ => ⟨S8x32768, .f32⟩
  | .hbm, ⟨21, _⟩ => ⟨S6x32768, .f32⟩
  | .hbm, ⟨22, _⟩ => ⟨S6x32768x1, .f32⟩
  | .hbm, ⟨23, _⟩ => ⟨S6x32768x1024, .f32⟩
  | .hbm, ⟨24, _⟩ => ⟨S6x32768x1024, .f32⟩
  | .hbm, ⟨25, _⟩ => ⟨S_, .f32⟩
  | .hbm, ⟨26, _⟩ => ⟨S32768x1024, .f32⟩
  | .hbm, ⟨27, _⟩ => ⟨S32768x1024, .f32⟩
  | .hbm, ⟨28, _⟩ => ⟨S8x4096x1024, .f32⟩
  | .hbm, ⟨29, _⟩ => ⟨S8x4096x1024, .f32⟩
  | .hbm, ⟨30, _⟩ => ⟨S_, .f32⟩
  | .hbm, ⟨31, _⟩ => ⟨S8x4096, .f32⟩
  | .hbm, ⟨32, _⟩ => ⟨S8x4096x1, .f32⟩
  | .hbm, ⟨33, _⟩ => ⟨S_, .f32⟩
  | .hbm, ⟨34, _⟩ => ⟨S8x4096x1, .f32⟩
  | .hbm, ⟨35, _⟩ => ⟨S8x4096x1, .f32⟩
  | .hbm, ⟨36, _⟩ => ⟨S_, .f32⟩
  | .hbm, ⟨37, _⟩ => ⟨S8x4096x1, .f32⟩
  | .hbm, ⟨38, _⟩ => ⟨S8x4096x1, .f32⟩
  | .hbm, ⟨39, _⟩ => ⟨S8x4096x1, .f32⟩
  | .hbm, ⟨40, _⟩ => ⟨S8x4096x1024, .f32⟩
  | .hbm, ⟨41, _⟩ => ⟨S8x4096x1024, .f32⟩
  | .hbm, ⟨42, _⟩ => ⟨S1x1x1024, .f32⟩
  | .hbm, ⟨43, _⟩ => ⟨S8x4096x1024, .f32⟩
  | .hbm, ⟨44, _⟩ => ⟨S8x4096x1024, .f32⟩
  | .hbm, ⟨45, _⟩ => ⟨S8x4096x1024, .f32⟩
  | .hbm, ⟨46, _⟩ => ⟨S8x4096x1024, .f32⟩
  | .hbm, ⟨47, _⟩ => ⟨S8x4096x1024, .f32⟩
  | .hbm, ⟨48, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== DestLast.lean ====
abbrev S8x32768 : Shape := ⟨2, ![8, 32768]⟩
abbrev S64 : Shape := ⟨1, ![64]⟩
abbrev S64x1 : Shape := ⟨2, ![64, 1]⟩
abbrev S2x8x32768 : Shape := ⟨3, ![2, 8, 32768]⟩
abbrev S8x512 : Shape := ⟨2, ![8, 512]⟩
abbrev S2x8x512 : Shape := ⟨3, ![2, 8, 512]⟩
abbrev S64x512 : Shape := ⟨2, ![64, 512]⟩
abbrev S1x512 : Shape := ⟨2, ![1, 512]⟩
abbrev S512 : Shape := ⟨1, ![512]⟩
abbrev S1x8x512 : Shape := ⟨3, ![1, 8, 512]⟩

abbrev nBuf : Space → Nat
  | .hbm => 6
  | .vmem => 7
  | .smem => 0
  | _ => 0

abbrev bufTy : (tb : Table) → Fin (tcTables nBuf tb) → BufTy
  | .hbm, ⟨0, _⟩ => ⟨S8x32768, .i32⟩
  | .hbm, ⟨1, _⟩ => ⟨S8x32768, .i32⟩
  | .hbm, ⟨2, _⟩ => ⟨S64, .i32⟩
  | .hbm, ⟨3, _⟩ => ⟨S64, .f32⟩
  | .hbm, ⟨4, _⟩ => ⟨S64x1, .f32⟩
  | .hbm, ⟨5, _⟩ => ⟨S2x8x32768, .i32⟩
  | .local _ .vmem, ⟨0, _⟩ => ⟨S8x512, .i32⟩
  | .local _ .vmem, ⟨1, _⟩ => ⟨S8x512, .i32⟩
  | .local _ .vmem, ⟨2, _⟩ => ⟨S8x512, .i32⟩
  | .local _ .vmem, ⟨3, _⟩ => ⟨S8x512, .i32⟩
  | .local _ .vmem, ⟨4, _⟩ => ⟨S64x1, .f32⟩
  | .local _ .vmem, ⟨5, _⟩ => ⟨S2x8x512, .i32⟩
  | .local _ .vmem, ⟨6, _⟩ => ⟨S2x8x512, .i32⟩
  | _, _ => ⟨S8x32768, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S8x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x8x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DestLastReferenceIdeal.lean ====
abbrev S8x32768 : Shape := ⟨2, ![8, 32768]⟩
abbrev S64 : Shape := ⟨1, ![64]⟩
abbrev S1x8x32768 : Shape := ⟨3, ![1, 8, 32768]⟩
abbrev S64x1x1 : Shape := ⟨3, ![64, 1, 1]⟩
abbrev S64x8x32768 : Shape := ⟨3, ![64, 8, 32768]⟩
abbrev S_ : Shape := ⟨0, ![]⟩
abbrev S2x8x32768 : Shape := ⟨3, ![2, 8, 32768]⟩

abbrev nBuf : Space → Nat
  | .hbm => 25
  | .vmem => 0
  | .smem => 0
  | _ => 0

abbrev bufTy : (tb : Table) → Fin (tcTables nBuf tb) → BufTy
  | .hbm, ⟨0, _⟩ => ⟨S8x32768, .i32⟩
  | .hbm, ⟨1, _⟩ => ⟨S8x32768, .i32⟩
  | .hbm, ⟨2, _⟩ => ⟨S64, .i32⟩
  | .hbm, ⟨3, _⟩ => ⟨S1x8x32768, .i32⟩
  | .hbm, ⟨4, _⟩ => ⟨S64, .i32⟩
  | .hbm, ⟨5, _⟩ => ⟨S64x1x1, .i32⟩
  | .hbm, ⟨6, _⟩ => ⟨S64x8x32768, .i32⟩
  | .hbm, ⟨7, _⟩ => ⟨S64x8x32768, .i32⟩
  | .hbm, ⟨8, _⟩ => ⟨S64x8x32768, .i1⟩
  | .hbm, ⟨9, _⟩ => ⟨S64x1x1, .i32⟩
  | .hbm, ⟨10, _⟩ => ⟨S_, .i32⟩
  | .hbm, ⟨11, _⟩ => ⟨S_, .i32⟩
  | .hbm, ⟨12, _⟩ => ⟨S64x8x32768, .i32⟩
  | .hbm, ⟨13, _⟩ => ⟨S64x8x32768, .i32⟩
  | .hbm, ⟨14, _⟩ => ⟨S64x8x32768, .i32⟩
  | .hbm, ⟨15, _⟩ => ⟨S_, .i32⟩
  | .hbm, ⟨16, _⟩ => ⟨S8x32768, .i32⟩
  | .hbm, ⟨17, _⟩ => ⟨S8x32768, .i32⟩
  | .hbm, ⟨18, _⟩ => ⟨S8x32768, .i32⟩
  | .hbm, ⟨19, _⟩ => ⟨S_, .i32⟩
  | .hbm, ⟨20, _⟩ => ⟨S8x32768, .i32⟩
  | .hbm, ⟨21, _⟩ => ⟨S8x32768, .i32⟩
  | .hbm, ⟨22, _⟩ => ⟨S1x8x32768, .i32⟩
  | .hbm, ⟨23, _⟩ => ⟨S1x8x32768, .i32⟩
  | .hbm, ⟨24, _⟩ => ⟨S2x8x32768, .i32⟩
  | _, _ => ⟨S8x32768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== CombineFirst.lean ====
abbrev S34816x1024 : Shape := ⟨2, ![34816, 1024]⟩
abbrev S2x6x34816x256 : Shape := ⟨4, ![2, 6, 34816, 256]⟩
abbrev S34816x8 : Shape := ⟨2, ![34816, 8]⟩
abbrev S8x4096x1024 : Shape := ⟨3, ![8, 4096, 1024]⟩
abbrev S8x256x1024 : Shape := ⟨3, ![8, 256, 1024]⟩
abbrev S1024 : Shape := ⟨1, ![1024]⟩
abbrev S8x1x1024 : Shape := ⟨3, ![8, 1, 1024]⟩
abbrev S1x1x1024 : Shape := ⟨3, ![1, 1, 1024]⟩
abbrev S32768x1024 : Shape := ⟨2, ![32768, 1024]⟩
abbrev S2048x1024 : Shape := ⟨2, ![2048, 1024]⟩
abbrev S_ : Shape := ⟨0, ![]⟩
abbrev S7x1x1024 : Shape := ⟨3, ![7, 1, 1024]⟩
abbrev S16x1x1024 : Shape := ⟨3, ![16, 1, 1024]⟩
abbrev S1x1024 : Shape := ⟨2, ![1, 1024]⟩
abbrev S512x1024 : Shape := ⟨2, ![512, 1024]⟩
abbrev S2x6x512x256 : Shape := ⟨4, ![2, 6, 512, 256]⟩
abbrev S512x8 : Shape := ⟨2, ![512, 8]⟩
abbrev S1x1x512x256 : Shape := ⟨4, ![1, 1, 512, 256]⟩
abbrev S512x256 : Shape := ⟨2, ![512, 256]⟩
abbrev S512x512 : Shape := ⟨2, ![512, 512]⟩
abbrev S512x1 : Shape := ⟨2, ![512, 1]⟩
abbrev S512 : Shape := ⟨1, ![512]⟩

abbrev nBuf : Space → Nat
  | .hbm => 17
  | .vmem => 13
  | .smem => 0
  | _ => 0

abbrev bufTy : (tb : Table) → Fin (tcTables nBuf tb) → BufTy
  | .hbm, ⟨0, _⟩ => ⟨S34816x1024, .f32⟩
  | .hbm, ⟨1, _⟩ => ⟨S2x6x34816x256, .i32⟩
  | .hbm, ⟨2, _⟩ => ⟨S34816x8, .f32⟩
  | .hbm, ⟨3, _⟩ => ⟨S8x4096x1024, .f32⟩
  | .hbm, ⟨4, _⟩ => ⟨S8x256x1024, .f32⟩
  | .hbm, ⟨5, _⟩ => ⟨S1024, .f32⟩
  | .hbm, ⟨6, _⟩ => ⟨S8x1x1024, .f32⟩
  | .hbm, ⟨7, _⟩ => ⟨S1x1x1024, .f32⟩
  | .hbm, ⟨8, _⟩ => ⟨S32768x1024, .f32⟩
  | .hbm, ⟨9, _⟩ => ⟨S2048x1024, .f32⟩
  | .hbm, ⟨10, _⟩ => ⟨S34816x1024, .f32⟩
  | .hbm, ⟨11, _⟩ => ⟨S_, .f32⟩
  | .hbm, ⟨12, _⟩ => ⟨S7x1x1024, .f32⟩
  | .hbm, ⟨13, _⟩ => ⟨S16x1x1024, .f32⟩
  | .hbm, ⟨14, _⟩ => ⟨S34816x1024, .bf16⟩
  | .hbm, ⟨15, _⟩ => ⟨S1x1024, .f32⟩
  | .hbm, ⟨16, _⟩ => ⟨S34816x1024, .f32⟩
  | .local _ .vmem, ⟨0, _⟩ => ⟨S512x1024, .bf16⟩
  | .local _ .vmem, ⟨1, _⟩ => ⟨S512x1024, .bf16⟩
  | .local _ .vmem, ⟨2, _⟩ => ⟨S2x6x512x256, .i32⟩
  | .local _ .vmem, ⟨3, _⟩ => ⟨S2x6x512x256, .i32⟩
  | .local _ .vmem, ⟨4, _⟩ => ⟨S512x8, .f32⟩
  | .local _ .vmem, ⟨5, _⟩ => ⟨S512x8, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1x1024, .f32⟩
  | .local _ .vmem, ⟨10, _⟩ => ⟨S1x1x1024, .f32⟩
  | .local _ .vmem, ⟨11, _⟩ => ⟨S512x1024, .f32⟩
  | .local _ .vmem, ⟨12, _⟩ => ⟨S512x1024, .f32⟩
  | _, _ => ⟨S34816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.minsi v17 c8_i32
  let c0_i32_4 : BitVec 32 := 0#32
  let c0_i32_5 : BitVec 32 := 0#32
  let c0_i32_6 : BitVec 32 := 0#32
  ![v18.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x6x512x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CombineFirstReferenceIdeal.lean ====
abbrev S34816x1024 : Shape := ⟨2, ![34816, 1024]⟩
abbrev S2x6x34816x256 : Shape := ⟨4, ![2, 6, 34816, 256]⟩
abbrev S34816x8 : Shape := ⟨2, ![34816, 8]⟩
abbrev S8x4096x1024 : Shape := ⟨3, ![8, 4096, 1024]⟩
abbrev S8x256x1024 : Shape := ⟨3, ![8, 256, 1024]⟩
abbrev S1024 : Shape := ⟨1, ![1024]⟩
abbrev S8x1x1024 : Shape := ⟨3, ![8, 1, 1024]⟩
abbrev S1x1x1024 : Shape := ⟨3, ![1, 1, 1024]⟩
abbrev S1x6x34816x256 : Shape := ⟨4, ![1, 6, 34816, 256]⟩
abbrev S6x34816x256 : Shape := ⟨3, ![6, 34816, 256]⟩
abbrev S6x34816x512 : Shape := ⟨3, ![6, 34816, 512]⟩
abbrev S_ : Shape := ⟨0, ![]⟩
abbrev S6x34816x1024 : Shape := ⟨3, ![6, 34816, 1024]⟩
abbrev S8x34816 : Shape := ⟨2, ![8, 34816]⟩
abbrev S6x34816 : Shape := ⟨2, ![6, 34816]⟩
abbrev S6x34816x1 : Shape := ⟨3, ![6, 34816, 1]⟩
abbrev S34816 : Shape := ⟨1, ![34816]⟩
abbrev S34816x1 : Shape := ⟨2, ![34816, 1]⟩
abbrev S1x1024 : Shape := ⟨2, ![1, 1024]⟩
abbrev S32768x1024 : Shape := ⟨2, ![32768, 1024]⟩
abbrev S2048x1024 : Shape := ⟨2, ![2048, 1024]⟩

abbrev nBuf : Space → Nat
  | .hbm => 59
  | .vmem => 0
  | .smem => 0
  | _ => 0

abbrev bufTy : (tb : Table) → Fin (tcTables nBuf tb) → BufTy
  | .hbm, ⟨0, _⟩ => ⟨S34816x1024, .f32⟩
  | .hbm, ⟨1, _⟩ => ⟨S2x6x34816x256, .i32⟩
  | .hbm, ⟨2, _⟩ => ⟨S34816x8, .f32⟩
  | .hbm, ⟨3, _⟩ => ⟨S8x4096x1024, .f32⟩
  | .hbm, ⟨4, _⟩ => ⟨S8x256x1024, .f32⟩
  | .hbm, ⟨5, _⟩ => ⟨S1024, .f32⟩
  | .hbm, ⟨6, _⟩ => ⟨S8x1x1024, .f32⟩
  | .hbm, ⟨7, _⟩ => ⟨S1x1x1024, .f32⟩
  | .hbm, ⟨8, _⟩ => ⟨S1x6x34816x256, .i32⟩
  | .hbm, ⟨9, _⟩ => ⟨S6x34816x256, .i32⟩
  | .hbm, ⟨10, _⟩ => ⟨S1x6x34816x256, .i32⟩
  | .hbm, ⟨11, _⟩ => ⟨S6x34816x256, .i32⟩
  | .hbm, ⟨12, _⟩ => ⟨S6x34816x512, .i32⟩
  | .hbm, ⟨13, _⟩ => ⟨S_, .i32⟩
  | .hbm, ⟨14, _⟩ => ⟨S6x34816x512, .i32⟩
  | .hbm, ⟨15, _⟩ => ⟨S6x34816x512, .i32⟩
  | .hbm, ⟨16, _⟩ => ⟨S6x34816x512, .f32⟩
  | .hbm, ⟨17, _⟩ => ⟨S_, .i32⟩
  | .hbm, ⟨18, _⟩ => ⟨S6x34816x512, .i32⟩
  | .hbm, ⟨19, _⟩ => ⟨S6x34816x512, .i32⟩
  | .hbm, ⟨20, _⟩ => ⟨S6x34816x512, .f32⟩
  | .hbm, ⟨21, _⟩ => ⟨S6x34816x1024, .f32⟩
  | .hbm, ⟨22, _⟩ => ⟨S8x34816, .f32⟩
  | .hbm, ⟨23, _⟩ => ⟨S6x34816, .f32⟩
  | .hbm, ⟨24, _⟩ => ⟨S6x34816x1, .f32⟩
  | .hbm, ⟨25, _⟩ => ⟨S6x34816x1024, .f32⟩
  | .hbm, ⟨26, _⟩ => ⟨S6x34816x1024, .f32⟩
  | .hbm, ⟨27, _⟩ => ⟨S_, .f32⟩
  | .hbm, ⟨28, _⟩ => ⟨S34816x1024, .f32⟩
  | .hbm, ⟨29, _⟩ => ⟨S34816x1024, .f32⟩
  | .hbm, ⟨30, _⟩ => ⟨S34816x1024, .f32⟩
  | .hbm, ⟨31, _⟩ => ⟨S_, .f32⟩
  | .hbm, ⟨32, _⟩ => ⟨S34816, .f32⟩
  | .hbm, ⟨33, _⟩ => ⟨S34816x1, .f32⟩
  | .hbm, ⟨34, _⟩ => ⟨S_, .f32⟩
  | .hbm, ⟨35, _⟩ => ⟨S34816x1, .f32⟩
  | .hbm, ⟨36, _⟩ => ⟨S34816x1, .f32⟩
  | .hbm, ⟨37, _⟩ => ⟨S_, .f32⟩
  | .hbm, ⟨38, _⟩ => ⟨S34816x1, .f32⟩
  | .hbm, ⟨39, _⟩ => ⟨S34816x1, .f32⟩
  | .hbm, ⟨40, _⟩ => ⟨S34816x1, .f32⟩
  | .hbm, ⟨41, _⟩ => ⟨S34816x1024, .f32⟩
  | .hbm, ⟨42, _⟩ => ⟨S34816x1024, .f32⟩
  | .hbm, ⟨43, _⟩ => ⟨S1x1024, .f32⟩
  | .hbm, ⟨44, _⟩ => ⟨S34816x1024, .f32⟩
  | .hbm, ⟨45, _⟩ => ⟨S34816x1024, .f32⟩
  | .hbm, ⟨46, _⟩ => ⟨S32768x1024, .f32⟩
  | .hbm, ⟨47, _⟩ => ⟨S8x4096x1024, .f32⟩
  | .hbm, ⟨48, _⟩ => ⟨S8x4096x1024, .f32⟩
  | .hbm, ⟨49, _⟩ => ⟨S8x4096x1024, .f32⟩
  | .hbm, ⟨50, _⟩ => ⟨S8x4096x1024, .f32⟩
  | .hbm, ⟨51, _⟩ => ⟨S2048x1024, .f32⟩
  | .hbm, ⟨52, _⟩ => ⟨S8x256x1024, .f32⟩
  | .hbm, ⟨53, _⟩ => ⟨S8x256x1024, .f32⟩
  | .hbm, ⟨54, _⟩ => ⟨S8x256x1024, .f32⟩
  | .hbm, ⟨55, _⟩ => ⟨S8x256x1024, .f32⟩
  | .hbm, ⟨56, _⟩ => ⟨S32768x1024, .f32⟩
  | .hbm, ⟨57, _⟩ => ⟨S2048x1024, .f32⟩
  | .hbm, ⟨58, _⟩ => ⟨S34816x1024, .f32⟩
  | _, _ => ⟨S34816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Proof.Attn.Sub.lean ====
/- One sub-block of the attention kernel: the 128 query rows that the body scores, normalises and stores at a time, as one
   function of the blocks the body reads. Hand-written, untrusted. -/
module

public import proofs.«01_k».proof.Proof.Gen.KernelIdeal.Value
public import Idealize.ShloMosaic.Lib.Pipeline.ValueKit
public import Idealize.ShloMosaic.Lib.Pipeline.ReadBack
public import Idealize.ShloMosaic.Lib.Pipeline.ValueKit.Held
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe

/-- What the body stores for one sub-block of 128 query rows `qs`: the scores of both components against the key block,
    each component's normalised sum of the rows of `vext`, their difference and its group norm. -/
def subBlock (lp : Vec Ideal S4x64 .f32) (qs : Vec Ideal S128x128 .bf16) (kb : Vec Ideal S1x4352x128 .bf16)
    (vext : Vec Ideal S4352x256 .bf16) (g : Vec Ideal S1x128 .f32) : FVec Ideal S128x128 .bf16 :=
  k0_pay17 (k0_pay4 lp) (k0_pay8 (iota .tc S128x128 32 [1] iota_S128x128_d1_w32) k0_pay5 (k0_pay6 kb) qs) vext g

/-- The 128 rows of the query block that sub-block `a` takes. -/
def subRows (x1 : Vec Ideal S1024x128 .bf16) (a : ℕ) (ha : a < 8) : Vec Ideal S128x128 .bf16 :=
  fun y => x1 (ix2 ⟨128 * a + (y 0).val, by have := (y 0).isLt; simp at this; omega⟩ (y 1))

/-- What the body leaves in its output block: sub-block after sub-block. -/
def block (lp : Vec Ideal S4x64 .f32) (x1 : Vec Ideal S1024x128 .bf16) (kb : Vec Ideal S1x4352x128 .bf16)
    (vext : Vec Ideal S4352x256 .bf16) (g : Vec Ideal S1x128 .f32) : Vec Ideal S1024x128 .bf16 :=
  fun y => subBlock lp (subRows x1 ((y 0).val / 128) (by have := (y 0).isLt; simp at this; omega)) kb vext g
    (ix2 ⟨(y 0).val % 128, Nat.mod_lt _ (by decide)⟩ (y 1))

/-- A load of 128 rows from row `128 a` on is sub-block `a`'s rows. -/
theorem ld_subRows (x1 : Vec Ideal S1024x128 .bf16) (a : ℕ) (ha : a < 8) (o : ℕ) (ho : o = 128 * a)
    (inb : ∀ b, (![o, 0] : Fin 2 → ℕ) b + (![128, 128] : Fin 2 → ℕ) b ≤ S1024x128.size b) :
    View.ld x1 (Rect.unit (s := S1024x128) ![o, 0] ![128, 128] inb) = subRows x1 a ha := by
  subst ho
  funext y
  refine View.ld_unit_apply_of x1 _ _ inb y _ fun b => ?_
  match b with
  | ⟨0, _⟩ => rfl
  | ⟨1, _⟩ => exact (Nat.zero_add _).symm

/-- A piece stored at row `128 a` that is sub-block `a` is the output block's rows there. -/
theorem piece_block (lp : Vec Ideal S4x64 .f32) (x1 : Vec Ideal S1024x128 .bf16) (kb : Vec Ideal S1x4352x128 .bf16)
    (vext : Vec Ideal S4352x256 .bf16) (g : Vec Ideal S1x128 .f32) (a : ℕ) (ha : a < 8) (o : ℕ) (ho : o = 128 * a)
    (inb : ∀ b, (![o, 0] : Fin 2 → ℕ) b + (![128, 128] : Fin 2 → ℕ) b ≤ S1024x128.size b)
    (pay : Vec Ideal S128x128 .bf16)
    (hp : pay = subBlock lp (View.ld x1 (Rect.unit (s := S1024x128) ![o, 0] ![128, 128] inb)) kb vext g)
    (x : S128x128.Idx) :
    pay x = block lp x1 kb vext g ((Rect.unit (s := S1024x128) ![o, 0] ![128, 128] inb).emb x) := by
  have h0 : (x 0).val < 128 := (x 0).isLt
  have e0 : (((Rect.unit (s := S1024x128) ![o, 0] ![128, 128] inb).emb x) 0).val = o + (x 0).val :=
    Rect.idx_unit_val (s := S1024x128) ![o, 0] ![128, 128] inb x 0
  have e1 : (((Rect.unit (s := S1024x128) ![o, 0] ![128, 128] inb).emb x) 1).val = 0 + (x 1).val :=
    Rect.idx_unit_val (s := S1024x128) ![o, 0] ![128, 128] inb x 1
  rw [hp, ld_subRows x1 a ha o ho inb]
  unfold block
  have ea : (((Rect.unit (s := S1024x128) ![o, 0] ![128, 128] inb).emb x) 0).val / 128 = a := by omega
  congr 1
  · congr 1
    simp only [ea]
  · funext b
    match b with
    | ⟨0, _⟩ => exact Fin.ext (by show (x 0).val = (((Rect.unit (s := S1024x128) ![o, 0] ![128, 128] inb).emb x) 0).val % 128; omega)
    | ⟨1, _⟩ => exact Fin.ext (by show (x 1).val = (((Rect.unit (s := S1024x128) ![o, 0] ![128, 128] inb).emb x) 1).val; omega)

/-- The pieces that the body stores into its output block, last first. -/
def stored (lp : Vec Ideal S4x64 .f32) (x1 : Vec Ideal S1024x128 .bf16) (kb : Vec Ideal S1x4352x128 .bf16)
    (vext : Vec Ideal S4352x256 .bf16) (g : Vec Ideal S1x128 .f32) : List (View.Piece (Elt Ideal) S1024x128 .bf16) :=
    [⟨(Rect.unit (s := S1024x128) ![896, 0] ![128, 128] inb_S1024x128_S128x128_896_0),
        k0_pay1 (k0_pay4 lp) (k0_pay30 (k0_pay14 (iota .tc S128x128 32 [1] iota_S128x128_d1_w32) k0_pay5 (k0_pay6 kb) (View.ld x1 (Rect.unit (s := S1024x128) ![896, 0] ![128, 128] inb_S1024x128_S128x128_896_0)))) vext g⟩,
      ⟨(Rect.unit (s := S1024x128) ![768, 0] ![128, 128] inb_S1024x128_S128x128_768_0),
        k0_pay29 (k0_pay4 lp) (k0_pay13 (iota .tc S128x128 32 [1] iota_S128x128_d1_w32) k0_pay5 (k0_pay6 kb) (View.ld x1 (Rect.unit (s := S1024x128) ![768, 0] ![128, 128] inb_S1024x128_S128x128_768_0))) vext g⟩,
      ⟨(Rect.unit (s := S1024x128) ![640, 0] ![128, 128] inb_S1024x128_S128x128_640_0),
        k0_pay28 (k0_pay27 (k0_pay4 lp) (k0_pay12 (iota .tc S128x128 32 [1] iota_S128x128_d1_w32) k0_pay5 (k0_pay6 kb) (View.ld x1 (Rect.unit (s := S1024x128) ![640, 0] ![128, 128] inb_S1024x128_S128x128_640_0))) vext g) (FloatOps.ofBits .f32 0x3F24FD5C#32)⟩,
      ⟨(Rect.unit (s := S1024x128) ![512, 0] ![128, 128] inb_S1024x128_S128x128_512_0),
        k0_pay26 (k0_pay23 (k0_pay4 lp) (k0_pay11 (iota .tc S128x128 32 [1] iota_S128x128_d1_w32) k0_pay5 (k0_pay6 kb) (View.ld x1 (Rect.unit (s := S1024x128) ![512, 0] ![128, 128] inb_S1024x128_S128x128_512_0))) vext) (k0_pay24 g) (k0_pay25 (k0_pay4 lp) (k0_pay11 (iota .tc S128x128 32 [1] iota_S128x128_d1_w32) k0_pay5 (k0_pay6 kb) (View.ld x1 (Rect.unit (s := S1024x128) ![512, 0] ![128, 128] inb_S1024x128_S128x128_512_0))) vext)⟩,
      ⟨(Rect.unit (s := S1024x128) ![384, 0] ![128, 128] inb_S1024x128_S128x128_384_0),
        k0_pay22 (k0_pay4 lp) (k0_pay20 (k0_pay10 (iota .tc S128x128 32 [1] iota_S128x128_d1_w32) k0_pay5 (k0_pay6 kb) (View.ld x1 (Rect.unit (s := S1024x128) ![384, 0] ![128, 128] inb_S1024x128_S128x128_384_0))) vext) (k0_pay21 (k0_pay10 (iota .tc S128x128 32 [1] iota_S128x128_d1_w32) k0_pay5 (k0_pay6 kb) (View.ld x1 (Rect.unit (s := S1024x128) ![384, 0] ![128, 128] inb_S1024x128_S128x128_384_0))) vext) g⟩,
      ⟨(Rect.unit (s := S1024x128) ![256, 0] ![128, 128] inb_S1024x128_S128x128_256_0),
        k0_pay19 (k0_pay4 lp) (k0_pay18 (k0_pay9 (iota .tc S128x128 32 [1] iota_S128x128_d1_w32) k0_pay5 (k0_pay6 kb) (View.ld x1 (Rect.unit (s := S1024x128) ![256, 0] ![128, 128] inb_S1024x128_S128x128_256_0)))) vext g⟩,
      ⟨(Rect.unit (s := S1024x128) ![128, 0] ![128, 128] inb_S1024x128_S128x128_128_0),
        k0_pay17 (k0_pay4 lp) (k0_pay8 (iota .tc S128x128 32 [1] iota_S128x128_d1_w32) k0_pay5 (k0_pay6 kb) (View.ld x1 (Rect.unit (s := S1024x128) ![128, 0] ![128, 128] inb_S1024x128_S128x128_128_0))) vext g⟩,
      ⟨(Rect.unit (s := S1024x128) ![0, 0] ![128, 128] inb_S1024x128_S128x128_0_0),
        k0_pay16 (k0_pay15 (k0_pay4 lp) (k0_pay7 kb (View.ld x1 (Rect.unit (s := S1024x128) ![0, 0] ![128, 128] inb_S1024x128_S128x128_0_0))) vext g) (FloatOps.ofBits .f32 0x3F24FD5C#32)⟩]

/-- Together the stored pieces are the output block. -/
theorem canon_stored (lp : Vec Ideal S4x64 .f32) (x1 : Vec Ideal S1024x128 .bf16) (kb : Vec Ideal S1x4352x128 .bf16)
    (vext : Vec Ideal S4352x256 .bf16) (g : Vec Ideal S1x128 .f32) (y : S1024x128.Idx) :
    View.canon (stored lp x1 kb vext g) y = block lp x1 kb vext g y := by
  refine View.canon_apply_of_pieces _ _ (View.PiecesOf.mem ?_) y
    (View.cover_of_tiledL (stored lp x1 kb vext g) S128x128.size (by sl_kernel_rfl) y)
  exact ⟨piece_block _ _ _ _ _ 7 (by decide) _ rfl _ _ rfl, piece_block _ _ _ _ _ 6 (by decide) _ rfl _ _ rfl,
    piece_block _ _ _ _ _ 5 (by decide) _ rfl _ _ rfl, piece_block _ _ _ _ _ 4 (by decide) _ rfl _ _ rfl,
    piece_block _ _ _ _ _ 3 (by decide) _ rfl _ _ rfl, piece_block _ _ _ _ _ 2 (by decide) _ rfl _ _ rfl,
    piece_block _ _ _ _ _ 1 (by decide) _ rfl _ _ rfl, piece_block _ _ _ _ _ 0 (by decide) _ rfl _ _ rfl, trivial⟩

/-- The scratch that the first point of a head fills: the head's value block and, beside it, columns of ones. -/
def filled (vb : Vec Ideal S1x4352x128 .bf16) : Vec Ideal S4352x256 .bf16 :=
  View.canon [⟨Rect.unit (s := S4352x256) ![0, 128] ![4352, 128] inb_S4352x256_S4352x128_0_128, k0_pay3 (F := Ideal)⟩,
    ⟨Rect.unit (s := S4352x256) ![0, 0] ![4352, 128] inb_S4352x256_S4352x128_0_0, k0_pay2 vb⟩]

/-- A load of the whole scratch after the two stores reads what they filled it with. -/
theorem load_filled (vb : Vec Ideal S1x4352x128 .bf16) :
    (View.whole cc0_scratch0).readCov (Val := Elt Ideal)
      [⟨Rect.unit (s := S4352x256) ![0, 128] ![4352, 128] inb_S4352x256_S4352x128_0_128, k0_pay3 (F := Ideal)⟩,
        ⟨Rect.unit (s := S4352x256) ![0, 0] ![4352, 128] inb_S4352x256_S4352x128_0_0, k0_pay2 vb⟩]
      (Rect.unit (s := S4352x256) ![0, 0] ![4352, 256] inb_S4352x256_S4352x256_0_0).toLoadRect = filled vb := by
  rw [View.readCov_eq_canon']
  funext y
  unfold filled
  congr 1
  funext b
  apply Fin.ext
  match b with
  | ⟨0, _⟩ => exact (Rect.idx_unit_val (s := S4352x256) ![0, 0] ![4352, 256] inb_S4352x256_S4352x256_0_0 y 0).trans (Nat.zero_add _)
  | ⟨1, _⟩ => exact (Rect.idx_unit_val (s := S4352x256) ![0, 0] ![4352, 256] inb_S4352x256_S4352x256_0_0 y 1).trans (Nat.zero_add _)

variable (m : (ℓ : Loc nD τ sig) → Buf (Elt Ideal) ℓ)

/-- At a point that is not the first of its head, the body leaves `block` of its input blocks and of the scratch that the
    point before left. -/
theorem out_B (c : Dev nD) (t : Fin cfg0.N) (h0 : ¬ t.val % 4 = 0) (y : S1024x128.Idx) :
    (outsAt0 m c t.val t.isLt).1 y = block (iblk m c 0 t) (iblk m c 1 t) (iblk m c 2 t)
      (outsAt0 m c (t.val - 1) (Nat.lt_of_le_of_lt (Nat.sub_le _ _) t.isLt)).2 (iblk m c 4 t) y := by
  rw [outsAt0_B m c t h0]
  generalize (outsAt0 m c (t.val - 1) _).2 = xs
  frame_out
  simp only [read_unread_whole]
  exact canon_stored _ _ _ _ _ y

/-- At a head's first point the body fills the scratch … -/
theorem scratch_A (c : Dev nD) (t : Fin cfg0.N) (h0 : t.val % 4 = 0) :
    (outsAt0 m c t.val t.isLt).2 = filled (iblk m c 3 t) := by
  rw [outsAt0_A m c t h0]
  frame_out

/-- … which the head's other points keep. -/
theorem scratch_B (c : Dev nD) (t : Fin cfg0.N) (h0 : ¬ t.val % 4 = 0) :
    (outsAt0 m c t.val t.isLt).2 = (outsAt0 m c (t.val - 1) (Nat.lt_of_le_of_lt (Nat.sub_le _ _) t.isLt)).2 := by
  rw [outsAt0_B m c t h0]
  rfl

/-- At a head's first point the body leaves `block` of its input blocks and of what it filled the scratch with. -/
theorem out_A (c : Dev nD) (t : Fin cfg0.N) (h0 : t.val % 4 = 0) (y : S1024x128.Idx) :
    (outsAt0 m c t.val t.isLt).1 y = block (iblk m c 0 t) (iblk m c 1 t) (iblk m c 2 t)
      (filled (iblk m c 3 t)) (iblk m c 4 t) y := by
  have e := load_filled (iblk m c 3 t)
  generalize filled (iblk m c 3 t) = vx at e ⊢
  rw [outsAt0_A m c t h0]
  frame_out
  subst e
  exact canon_stored _ _ _ _ _ y

/-- After any point the scratch holds what its head's first point filled it with. -/
theorem scratch_eq (c : Dev nD) (t : Fin cfg0.N) :
    (outsAt0 m c t.val t.isLt).2 = filled (iblk m c 3 ⟨4 * (t.val / 4), Pipeline.run_start_lt t⟩) :=
  Pipeline.eq_of_write_hold (fun n h => (outsAt0 m c n h).2) 4 (fun t => filled (iblk m c 3 t))
    (fun t h0 => scratch_A m c t h0) (fun t h0 => scratch_B m c t h0) t

/-- At every point the body leaves `block` of its input blocks and of the scratch as filled from the head's value block. -/
theorem out_eq (c : Dev nD) (t : Fin cfg0.N) (y : S1024x128.Idx) :
    (outsAt0 m c t.val t.isLt).1 y = block (iblk m c 0 t) (iblk m c 1 t) (iblk m c 2 t)
      (filled (iblk m c 3 ⟨4 * (t.val / 4), Pipeline.run_start_lt t⟩)) (iblk m c 4 t) y := by
  by_cases h0 : t.val % 4 = 0
  · have ht : (⟨4 * (t.val / 4), Pipeline.run_start_lt t⟩ : Fin cfg0.N) = t := Fin.ext (by show 4 * (t.val / 4) = t.val; omega)
    rw [ht]
    exact out_A m c t h0 y
  · have e := scratch_eq m c t
    rw [scratch_B m c t h0] at e
    rw [← e]
    exact out_B m c t h0 y

end Cert.KernelIdeal.Attn

end
-- ==== Proof.Attn.Blocks.lean ====
/- The blocks that a grid point of the attention kernel reads, as elements of the program's arguments, and the result array
   after the run. Hand-written, untrusted. -/
module

public import proofs.«01_k».proof.Proof.Attn.Sub

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Tactic

/-- The block indices of every window at every grid point. -/
theorem idx : ∀ t : Fin grid0.N, win0_0.index t = ![0, 0] ∧ win0_1.index t = ![t.val / 32 * 4 + t.val % 4, t.val / 4 % 8]
    ∧ win0_2.index t = ![t.val / 32, 0, t.val / 4 % 8] ∧ win0_3.index t = ![t.val / 32, 0, t.val / 4 % 8]
    ∧ win0_4.index t = ![0, 0] ∧ win0_5.index t = ![t.val / 32 * 4 + t.val % 4, t.val / 4 % 8] := by decide +kernel

variable (m : (ℓ : Loc nD τ sig) → Buf (Elt Ideal) ℓ)

theorem lt256 (t : Fin cfg0.N) : t.val < 256 := lt_of_lt_of_eq t.isLt N_0

/-- The lambda vectors' block is the argument. -/
theorem iblk0_eq (c : Dev nD) (t : Fin cfg0.N) (y : S4x64.Idx) :
    iblk m c 0 t y = m ((c : Thread nD τ).loc main_arg3) (ix3 0 (y 0) (y 1)) := by
  blk_ext! [iblk, V, idx t]

/-- The gain's block is the argument. -/
theorem iblk4_eq (c : Dev nD) (t : Fin cfg0.N) (y : S1x128.Idx) :
    iblk m c 4 t y = m ((c : Thread nD τ).loc main_arg4) (ix2 0 (y 1)) := by
  blk_ext! [iblk, V, idx t]

/-- The value block of a point is its batch element's and head's values. -/
theorem iblk3_eq (c : Dev nD) (t : Fin cfg0.N) (y : S1x4352x128.Idx) :
    iblk m c 3 t y = m ((c : Thread nD τ).loc main_arg2) (ix4 ⟨t.val / 32, by have := lt256 t; omega⟩ (y 1)
      ⟨t.val / 4 % 8, by omega⟩ (y 2)) := by
  blk_ext! [iblk, V, idx t]

/-- The key block of a point is its batch element's and head's keys, the two components side by side. -/
theorem iblk2_eq (c : Dev nD) (t : Fin cfg0.N) (y : S1x4352x128.Idx) :
    iblk m c 2 t y = m ((c : Thread nD τ).loc main_arg1) (ix5 ⟨t.val / 32, by have := lt256 t; omega⟩ (y 1)
      ⟨t.val / 4 % 8, by omega⟩ ⟨(y 2).val / 64, by have : (y 2).val < 128 := (y 2).isLt; omega⟩ ⟨(y 2).val % 64, by omega⟩) := by
  blk_ext! [iblk, V, idx t]

/-- The query block of a point is 1024 rows of its batch element's and head's queries. -/
theorem iblk1_eq (c : Dev nD) (t : Fin cfg0.N) (y : S1024x128.Idx) :
    iblk m c 1 t y = m ((c : Thread nD τ).loc main_arg0) (ix5 ⟨t.val / 32, by have := lt256 t; omega⟩
      ⟨t.val % 4 * 1024 + (y 0).val, by have : (y 0).val < 1024 := (y 0).isLt; omega⟩
      ⟨t.val / 4 % 8, by omega⟩ ⟨(y 1).val / 64, by have : (y 1).val < 128 := (y 1).isLt; omega⟩ ⟨(y 1).val % 64, by omega⟩) := by
  blk_ext! [iblk, V, idx t]

/-- Sub-block `sb` of the queries of batch element `b` and head `h`. -/
def qRows (q : FVec Ideal S8x4096x8x2x64 .f32) (b h : Fin 8) (sb : Fin 32) : Vec Ideal S128x128 .bf16 :=
  fun y => q (ix5 b ⟨128 * sb.val + (y 0).val, by have : (y 0).val < 128 := (y 0).isLt; omega⟩ h
    ⟨(y 1).val / 64, by have : (y 1).val < 128 := (y 1).isLt; omega⟩ ⟨(y 1).val % 64, by omega⟩)

/-- The keys of batch element `b` and head `h`. -/
def kBlock (k : FVec Ideal S8x4352x8x2x64 .f32) (b h : Fin 8) : Vec Ideal S1x4352x128 .bf16 :=
  fun y => k (ix5 b (y 1) h ⟨(y 2).val / 64, by have : (y 2).val < 128 := (y 2).isLt; omega⟩ ⟨(y 2).val % 64, by omega⟩)

/-- The values of batch element `b` and head `h`. -/
def vBlock (v : FVec Ideal S8x4352x8x128 .f32) (b h : Fin 8) : Vec Ideal S1x4352x128 .bf16 :=
  fun y => v (ix4 b (y 1) h (y 2))

/-- The four lambda vectors. -/
def lpBlock (lp : FVec Ideal S1x4x64 .f32) : Vec Ideal S4x64 .f32 := fun y => lp (ix3 0 (y 0) (y 1))

/-- The gain. -/
def gBlock (g : FVec Ideal S1x128 .f32) : Vec Ideal S1x128 .f32 := fun y => g (ix2 0 (y 1))

/-- What the kernel leaves at row `r` and column `col` of its result. -/
def outAt (q : FVec Ideal S8x4096x8x2x64 .f32) (k : FVec Ideal S8x4352x8x2x64 .f32) (v : FVec Ideal S8x4352x8x128 .f32)
    (lp : FVec Ideal S1x4x64 .f32) (g : FVec Ideal S1x128 .f32) (r : Fin 32768) (col : Fin 1024) : EReal :=
  subBlock (lpBlock lp) (qRows q ⟨r.val / 4096, by omega⟩ ⟨col.val / 128, by omega⟩ ⟨r.val % 4096 / 128, by omega⟩)
    (kBlock k ⟨r.val / 4096, by omega⟩ ⟨col.val / 128, by omega⟩)
    (filled (vBlock v ⟨r.val / 4096, by omega⟩ ⟨col.val / 128, by omega⟩)) (gBlock g)
    (ix2 ⟨r.val % 128, by omega⟩ ⟨col.val % 128, by omega⟩)

/-- What a point leaves at an index of its output block, over the arguments. -/
theorem out_point (c : Dev nD) (t : Fin cfg0.N) (y : S1024x128.Idx) (r : Fin 32768) (col : Fin 1024)
    (hr : r.val = (t.val / 32 * 4 + t.val % 4) * 1024 + (y 0).val) (hc : col.val = t.val / 4 % 8 * 128 + (y 1).val) :
    (outsAt0 m c t.val t.isLt).1 y = outAt (m ((c : Thread nD τ).loc main_arg0)) (m ((c : Thread nD τ).loc main_arg1))
      (m ((c : Thread nD τ).loc main_arg2)) (m ((c : Thread nD τ).loc main_arg3)) (m ((c : Thread nD τ).loc main_arg4)) r col := by
  have h0 : (y 0).val < 1024 := (y 0).isLt
  have h1 : (y 1).val < 128 := (y 1).isLt
  have ht := lt256 t
  rw [out_eq m c t y]
  have eb : r.val / 4096 = t.val / 32 := by omega
  have eh : col.val / 128 = t.val / 4 % 8 := by omega
  have e0 : (iblk m c 0 t : Vec Ideal S4x64 .f32) = lpBlock (m ((c : Thread nD τ).loc main_arg3)) := funext fun z => iblk0_eq m c t z
  have e4 : (iblk m c 4 t : Vec Ideal S1x128 .f32) = gBlock (m ((c : Thread nD τ).loc main_arg4)) := funext fun z => iblk4_eq m c t z
  have e2 : (iblk m c 2 t : Vec Ideal S1x4352x128 .bf16) = kBlock (m ((c : Thread nD τ).loc main_arg1)) ⟨r.val / 4096, by omega⟩ ⟨col.val / 128, by omega⟩ := by
    funext z
    rw [iblk2_eq m c t z]
    unfold kBlock
    simp only [eb, eh]
  have e3 : (iblk m c 3 ⟨4 * (t.val / 4), Pipeline.run_start_lt t⟩ : Vec Ideal S1x4352x128 .bf16)
      = vBlock (m ((c : Thread nD τ).loc main_arg2)) ⟨r.val / 4096, by omega⟩ ⟨col.val / 128, by omega⟩ := by
    funext z
    rw [iblk3_eq m c _ z]
    unfold vBlock
    have a1 : 4 * (t.val / 4) / 32 = t.val / 32 := by omega
    have a2 : 4 * (t.val / 4) / 4 % 8 = t.val / 4 % 8 := by omega
    simp only [eb, eh, a1, a2]
  have e1 : subRows (iblk m c 1 t) ((y 0).val / 128) (by omega)
      = qRows (m ((c : Thread nD τ).loc main_arg0)) ⟨r.val / 4096, by omega⟩ ⟨col.val / 128, by omega⟩ ⟨r.val % 4096 / 128, by omega⟩ := by
    funext z
    have hz : (z 0).val < 128 := (z 0).isLt
    unfold subRows
    rw [iblk1_eq m c t _]
    unfold qRows
    have a1 : t.val % 4 * 1024 + (128 * ((y 0).val / 128) + (z 0).val) = 128 * (r.val % 4096 / 128) + (z 0).val := by omega
    simp only [eb, eh]
    congr 1
    exact congrArg (fun s => ix5 _ s _ _ _) (Fin.ext a1)
  unfold block outAt
  rw [e0, e1, e2, e3, e4]
  congr 1
  have a0 : (y 0).val % 128 = r.val % 128 := by omega
  have a1 : (y 1).val = col.val % 128 := by omega
  funext a
  match a with
  | ⟨0, _⟩ => exact Fin.ext a0
  | ⟨1, _⟩ => exact Fin.ext a1

/-- THE RESULT ARRAY after the run: `outAt` of the arguments, element by element. -/
theorem arr_eq (c : Dev nD) :
    (dats m 0 c).arrAt 5 cfg0.N = fun i : S32768x1024.Idx => outAt (m ((c : Thread nD τ).loc main_arg0)) (m ((c : Thread nD τ).loc main_arg1))
      (m ((c : Thread nD τ).loc main_arg2)) (m ((c : Thread nD τ).loc main_arg3)) (m ((c : Thread nD τ).loc main_arg4)) (i 0) (i 1) := by
  refine (dats m 0 c).arrAt_eq_of_covers 5 _ (by decide +kernel) fun t hf y => ?_
  blk_simp
  rw [after0_5]
  refine out_point m c t y _ _ ?_ ?_
  · blk_simp [idx t]
  · blk_simp [idx t]

end Cert.KernelIdeal.Attn

end
-- ==== Proof.Attn.Softmax.lean ====
/- Facts about the extended reals behind the attention: finite sums and maxima of reals, and the softmax weights, which do not
   depend on the shift. Hand-written, untrusted. -/
module

public import Idealize.ShloMosaic.PureOps.Ideal
public import Idealize.ShloMosaic.PureOps.Ideal.Laws
public import Idealize.ShloMosaic.Lib.IdealHost

@[expose] public section

noncomputable section

namespace Cert.Softmax

open Idealize.ShloMosaic

/-- A finite sum of reals is the real sum. -/
theorem sum_coe {ι : Type*} (s : Finset ι) (f : ι → ℝ) : ∑ k ∈ s, ((f k : ℝ) : EReal) = ((∑ k ∈ s, f k : ℝ) : EReal) :=
  (map_sum (⟨⟨fun r : ℝ => (r : EReal), rfl⟩, EReal.coe_add⟩ : ℝ →+ EReal) f s).symm

/-- The maximum of finitely many reals, at least one, is a real. -/
theorem fold_max_real {n : ℕ} (hn : 0 < n) (f : Fin n → ℝ) :
    ∃ M : ℝ, (Finset.univ : Finset (Fin n)).fold max (⊥ : EReal) (fun k => ((f k : ℝ) : EReal)) = (M : EReal) := by
  have key : ∀ s : Finset (Fin n), s.Nonempty → ∃ M : ℝ, s.fold max (⊥ : EReal) (fun k => ((f k : ℝ) : EReal)) = (M : EReal) := by
    intro s hs
    induction hs using Finset.Nonempty.cons_induction with
    | singleton a => exact ⟨f a, by simp⟩
    | cons a s ha hs ih =>
      obtain ⟨M, hM⟩ := ih
      refine ⟨max (f a) M, ?_⟩
      rw [Finset.fold_cons, hM]
      exact (EReal.coe_strictMono.monotone.map_max).symm
  exact key _ ⟨⟨0, hn⟩, Finset.mem_univ _⟩

/-- The word of minus infinity. -/
theorem ofBits_bot : Ideal.ofBits .f32 0xFF800000#32 = ⊥ := by simp [Ideal.ofBits, Ideal.ieee]

/-- The word of one eighth. -/
theorem ofBits_eighth : Ideal.ofBits .f32 0x3E000000#32 = ((8⁻¹ : ℝ) : EReal) := by
  simp [Ideal.ofBits, Ideal.ieee, -EReal.coe_mul]; norm_num

/-- The softmax weight of key `k` among scores `s`, each divided by eight. -/
def weight {n : ℕ} (s : Fin n → ℝ) (k : Fin n) : ℝ := Real.exp (s k * 8⁻¹) / ∑ j, Real.exp (s j * 8⁻¹)

theorem sum_exp_pos {n : ℕ} (hn : 0 < n) (s : Fin n → ℝ) : 0 < ∑ j, Real.exp (s j) :=
  Finset.sum_pos (fun j _ => Real.exp_pos _) ⟨⟨0, hn⟩, Finset.mem_univ _⟩

/-- The weight is the quotient of shifted exponentials, whatever the shift. -/
theorem weight_shift {n : ℕ} (s : Fin n → ℝ) (M : ℝ) (k : Fin n) :
    Real.exp (s k * 8⁻¹ - M) / ∑ j, Real.exp (s j * 8⁻¹ - M) = weight s k := by
  unfold weight
  simp only [Real.exp_sub]
  rw [← Finset.sum_div]
  exact div_div_div_cancel_right₀ (Real.exp_ne_zero M) _ _

/-- A power of two at the scores times the reciprocal of `8 log 2` is the exponential at the scores' eighth. -/
theorem rpow_two (s M : ℝ) : Real.rpow 2 ((8 * Real.log 2)⁻¹ * s - M) = Real.exp (s * 8⁻¹ - Real.log 2 * M) := by
  show (2 : ℝ) ^ ((8 * Real.log 2)⁻¹ * s - M) = _
  rw [Real.rpow_def_of_pos (by norm_num)]
  congr 1
  have h : Real.log 2 ≠ 0 := (Real.log_pos (by norm_num)).ne'
  field_simp

/-- The kernel's row: the sum of the values weighted by shifted powers of two, over the sum of those powers, is the softmax
    row. -/
theorem kernel_row {n : ℕ} (hn : 0 < n) (s v : Fin n → ℝ) (M : ℝ) :
    Ideal.div (∑ k, Ideal.exp2 ((((8 * Real.log 2)⁻¹ * s k : ℝ) : EReal) - (M : EReal)) * ((v k : ℝ) : EReal))
      (∑ k, Ideal.exp2 ((((8 * Real.log 2)⁻¹ * s k : ℝ) : EReal) - (M : EReal)) * 1)
      = ((∑ k, weight s k * v k : ℝ) : EReal) := by
  simp only [← EReal.coe_sub, Ideal.exp2_coe, rpow_two, mul_one, ← EReal.coe_mul, sum_coe]
  rw [Ideal.div_coe (sum_exp_pos hn _).ne', ← EReal.coe_mul]
  congr 1
  rw [Finset.sum_mul]
  refine Finset.sum_congr rfl fun k _ => ?_
  rw [← weight_shift s (Real.log 2 * M) k]
  ring

/-- The reference's weight: the shifted exponential over the sum of the shifted exponentials. -/
theorem reference_weight {n : ℕ} (hn : 0 < n) (s : Fin n → ℝ) (M : ℝ) (k : Fin n) :
    Ideal.div (Ideal.exp (((s k : ℝ) : EReal) * ((8⁻¹ : ℝ) : EReal) - (M : EReal)))
      (∑ j, Ideal.exp (((s j : ℝ) : EReal) * ((8⁻¹ : ℝ) : EReal) - (M : EReal))) = ((weight s k : ℝ) : EReal) := by
  simp only [← EReal.coe_sub, Ideal.exp_coe, ← EReal.coe_mul, sum_coe]
  rw [Ideal.div_coe (sum_exp_pos hn _).ne', ← EReal.coe_mul]
  congr 1
  rw [← weight_shift s M k]
  ring

/-- The difference of two weighted sums of the values is the sum weighted by the difference. -/
theorem differential {n : ℕ} (w0 w1 v : Fin n → ℝ) (l : ℝ) :
    ((∑ k, w0 k * v k : ℝ) : EReal) - (l : EReal) * ((∑ k, w1 k * v k : ℝ) : EReal)
      = ∑ k, ((v k : ℝ) : EReal) * (((w0 k : ℝ) : EReal) - (l : EReal) * ((w1 k : ℝ) : EReal)) := by
  simp only [← EReal.coe_sub, ← EReal.coe_mul, sum_coe]
  congr 1
  rw [Finset.mul_sum, ← Finset.sum_sub_distrib]
  exact Finset.sum_congr rfl fun k _ => by ring

/-- The lambda offset's word is a real. -/
theorem ofBits_offset : Ideal.ofBits .f32 0x3EB60549#32 = ((11928905 * (2 ^ 25)⁻¹ : ℝ) : EReal) := by
  simp [Ideal.ofBits, Ideal.ieee, -EReal.coe_mul]

/-- Lambda, of the four learned vectors. -/
def lam (lp : Fin 4 → Fin 64 → ℝ) : ℝ :=
  Real.exp (∑ d, lp 0 d * lp 1 d) - Real.exp (∑ d, lp 2 d * lp 3 d) + 11928905 * (2 ^ 25)⁻¹

/-- The scores of one component of a query against the keys. -/
def score {n : ℕ} (q : Fin 64 → ℝ) (k : Fin n → Fin 64 → ℝ) (key : Fin n) : ℝ := ∑ d, q d * k key d

/-- The differential attention of one query: the values weighted by the first component's softmax less lambda times the
    second's. -/
def mixed {n : ℕ} (q : Fin 2 → Fin 64 → ℝ) (k : Fin n → Fin 2 → Fin 64 → ℝ) (v : Fin n → Fin 128 → ℝ) (l : ℝ) (x : Fin 128) :
    EReal :=
  ∑ key, ((v key x : ℝ) : EReal) * (((weight (score (q 0) fun j => k j 0) key : ℝ) : EReal)
    - (l : EReal) * ((weight (score (q 1) fun j => k j 1) key : ℝ) : EReal))

/-- The root mean square norm of a row, times its gain and the constant. -/
def normed (X : Fin 128 → EReal) (g : EReal) (d : Fin 128) : EReal :=
  X d * Ideal.rsqrt (Ideal.div (∑ x, X x * X x) (Ideal.ofBits .f32 0x43000000#32) + Ideal.ofBits .f32 0x358637BD#32)
    * g * Ideal.ofBits .f32 0x3F24FD5C#32

/-- Lambda over the extended reals, where the vectors are finite. -/
theorem lam_coe (lp : Fin 4 → Fin 64 → ℝ) :
    Ideal.exp (∑ x, ((lp 0 x : ℝ) : EReal) * ((lp 1 x : ℝ) : EReal)) - Ideal.exp (∑ x, ((lp 2 x : ℝ) : EReal) * ((lp 3 x : ℝ) : EReal))
      + Ideal.ofBits .f32 0x3EB60549#32 = ((lam lp : ℝ) : EReal) := by
  simp only [← EReal.coe_mul, sum_coe, Ideal.exp_coe, ofBits_offset, ← EReal.coe_sub, ← EReal.coe_add]
  rfl

end Cert.Softmax

end
-- ==== Proof.Attn.KernelAt.lean ====
/- One sub-block of the attention kernel read at an index. Hand-written, untrusted. -/
module

public import proofs.«01_k».proof.Proof.Attn.Blocks
public import proofs.«01_k».proof.Proof.Attn.Softmax

@[expose] public section

set_option maxRecDepth 16384

noncomputable section

namespace Cert.KernelIdeal.Attn

open Cert.Softmax Cert.KernelIdeal Cert.KernelIdeal.Gen Idealize.ShloMosaic Idealize.ShloMosaic.TcCoe

/-- The bit that selects the first component's lanes … -/
theorem lane_slt : ∀ d : Fin 128, IntOp.cmpi .slt (BitVec.ofNat 32 d.val) 64#32 = if d.val < 64 then 1#1 else 0#1 := by decide +kernel

/-- … and the second's. -/
theorem lane_sge : ∀ d : Fin 128, IntOp.cmpi .sge (BitVec.ofNat 32 d.val) 64#32 = if d.val < 64 then 0#1 else 1#1 := by decide +kernel

/-- The scale that the kernel multiplies the queries by, over the reals. -/
theorem q_scale_eq : (Named.named κ "q_scale" 0x3E38AA3B#32 : Ideal .f32) = (((8 * Real.log 2)⁻¹ : ℝ) : EReal) :=
  IdealRules.named_const.ideal_named_scalar _ _ _ _ rfl

/-- A sum over 128 lanes of which the first 64 are selected. -/
theorem sum_first (f : Fin 128 → EReal) :
    ∑ x : Fin 128, Scalar.select (if x.val < 64 then 1#1 else 0#1) (f x) 0 = ∑ d : Fin 64, f ⟨d.val, by omega⟩ := by
  rw [Fin.sum_univ_add (a := 64) (b := 64) (fun x : Fin 128 => Scalar.select (if x.val < 64 then 1#1 else 0#1) (f x) 0)]
  have h2 : ∀ d : Fin 64, Scalar.select (if (Fin.natAdd 64 d : Fin 128).val < 64 then 1#1 else 0#1) (f (Fin.natAdd 64 d)) 0 = 0 := fun d => by
    rw [if_neg (by simp)]; rfl
  have h1 : ∀ d : Fin 64, Scalar.select (if (Fin.castAdd 64 d : Fin 128).val < 64 then 1#1 else 0#1) (f (Fin.castAdd 64 d)) 0 = f ⟨d.val, by omega⟩ := fun d => by
    rw [if_pos (by simp)]; rfl
  simp only [h1, h2, Finset.sum_const_zero, add_zero]

/-- A sum over 128 lanes of which the last 64 are selected. -/
theorem sum_second (f : Fin 128 → EReal) :
    ∑ x : Fin 128, Scalar.select (if x.val < 64 then 0#1 else 1#1) (f x) 0 = ∑ d : Fin 64, f ⟨64 + d.val, by omega⟩ := by
  rw [Fin.sum_univ_add (a := 64) (b := 64) (fun x : Fin 128 => Scalar.select (if x.val < 64 then 0#1 else 1#1) (f x) 0)]
  have h2 : ∀ d : Fin 64, Scalar.select (if (Fin.natAdd 64 d : Fin 128).val < 64 then 0#1 else 1#1) (f (Fin.natAdd 64 d)) 0 = f ⟨64 + d.val, by omega⟩ := fun d => by
    rw [if_neg (by simp)]; rfl
  have h1 : ∀ d : Fin 64, Scalar.select (if (Fin.castAdd 64 d : Fin 128).val < 64 then 0#1 else 1#1) (f (Fin.castAdd 64 d)) 0 = 0 := fun d => by
    rw [if_pos (by simp)]; rfl
  simp only [h1, h2, Finset.sum_const_zero, zero_add]

/-- A finite product sum with the scale between the factors. -/
theorem sum_scaled (c : ℝ) (a b : Fin 64 → ℝ) :
    ∑ d, ((a d : ℝ) : EReal) * (c : EReal) * ((b d : ℝ) : EReal) = ((c * ∑ d, a d * b d : ℝ) : EReal) := by
  simp only [← EReal.coe_mul, sum_coe]
  congr 1
  rw [Finset.mul_sum]
  exact Finset.sum_congr rfl fun d _ => by ring

/-- The scaled scores of the first component of a sub-block's row. -/
theorem scores_first (kb : Vec Ideal S1x4352x128 .bf16) (qs : Vec Ideal S128x128 .bf16) (q : Fin 2 → Fin 64 → ℝ)
    (kr : Fin 4352 → Fin 2 → Fin 64 → ℝ) (r : Fin 128)
    (hq : ∀ (c : Fin 2) (d : Fin 64), qs (ix2 r ⟨64 * c.val + d.val, by omega⟩) = ((q c d : ℝ) : EReal))
    (hk : ∀ (j : Fin 4352) (c : Fin 2) (d : Fin 64), kb (ix3 0 j ⟨64 * c.val + d.val, by omega⟩) = ((kr j c d : ℝ) : EReal)) (j : Fin 4352) :
    k0_pay8 (F := Ideal) (iota .tc S128x128 32 [1] iota_S128x128_d1_w32) k0_pay5 (k0_pay6 kb) qs (ix2 ⟨r.val, by omega⟩ j)
      = (((8 * Real.log 2)⁻¹ * score (q 0) (fun i => kr i 0) j : ℝ) : EReal) := by
  pointwise [k0_pay8, k0_pay5, k0_pay6]
  simp only [lane_slt, q_scale_eq]
  rw [sum_first, score, ← sum_scaled]
  refine Finset.sum_congr rfl fun d _ => ?_
  rw [← hq 0 d, ← hk j 0 d]
  have e : (⟨64 * (0 : Fin 2).val + d.val, by omega⟩ : Fin 128) = ⟨d.val, by omega⟩ := Fin.ext (by simp)
  rw [e]

/-- The scaled scores of the second component of a sub-block's row. -/
theorem scores_second (kb : Vec Ideal S1x4352x128 .bf16) (qs : Vec Ideal S128x128 .bf16) (q : Fin 2 → Fin 64 → ℝ)
    (kr : Fin 4352 → Fin 2 → Fin 64 → ℝ) (r : Fin 128)
    (hq : ∀ (c : Fin 2) (d : Fin 64), qs (ix2 r ⟨64 * c.val + d.val, by omega⟩) = ((q c d : ℝ) : EReal))
    (hk : ∀ (j : Fin 4352) (c : Fin 2) (d : Fin 64), kb (ix3 0 j ⟨64 * c.val + d.val, by omega⟩) = ((kr j c d : ℝ) : EReal)) (j : Fin 4352) :
    k0_pay8 (F := Ideal) (iota .tc S128x128 32 [1] iota_S128x128_d1_w32) k0_pay5 (k0_pay6 kb) qs (ix2 ⟨128 + r.val, by omega⟩ j)
      = (((8 * Real.log 2)⁻¹ * score (q 1) (fun i => kr i 1) j : ℝ) : EReal) := by
  pointwise [k0_pay8, k0_pay5, k0_pay6]
  simp only [lane_sge, q_scale_eq]
  rw [sum_second, score, ← sum_scaled]
  refine Finset.sum_congr rfl fun d _ => ?_
  rw [← hq 1 d, ← hk j 1 d]
  have e : (⟨64 * (1 : Fin 2).val + d.val, by omega⟩ : Fin 128) = ⟨64 + d.val, by omega⟩ := Fin.ext (by simp)
  rw [e]

/-- One component's row of a sub-block: the values under the powers of two of the shifted scores, over those powers' sum
    (column 128 of the extended values). -/
def compRow (s : Fin 4352 → EReal) (vx : Vec Ideal S4352x256 .bf16) (x : Fin 128) : EReal :=
  Ideal.div
    (∑ j, Ideal.exp2 (s j - Finset.univ.fold max (Ideal.ofBits .f32 0xFF800000#32) s) * vx (ix2 j ⟨x.val, by omega⟩))
    (∑ j, Ideal.exp2 (s j - Finset.univ.fold max (Ideal.ofBits .f32 0xFF800000#32) s) * vx (ix2 j 128))

/-- What the body stores for a sub-block, in its scores. -/
theorem pay17_apply (l : FVec Ideal S1x1 .f32) (s : FVec Ideal S256x4352 .f32) (vx : Vec Ideal S4352x256 .bf16) (g : Vec Ideal S1x128 .f32)
    (r d : Fin 128) : k0_pay17 (F := Ideal) l s vx g (ix2 r d)
      = normed (fun x => compRow (fun j => s (ix2 ⟨r.val, by omega⟩ j)) vx x
          - l (ix2 0 0) * compRow (fun j => s (ix2 ⟨128 + r.val, by omega⟩ j)) vx x) (g (ix2 0 d)) d := by
  pointwise [k0_pay17]
  rfl

/-- Lambda as the body computes it. -/
theorem pay4_apply (lp : Vec Ideal S4x64 .f32) (l : Fin 4 → Fin 64 → ℝ) (hl : ∀ a d, lp (ix2 a d) = ((l a d : ℝ) : EReal)) :
    k0_pay4 (F := Ideal) lp (ix2 0 0) = ((lam l : ℝ) : EReal) := by
  rw [← lam_coe]
  pointwise [k0_pay4]
  simp only [hl]

/-- The filled scratch holds the values in its first 128 columns … -/
theorem filled_left (vb : Vec Ideal S1x4352x128 .bf16) (j : Fin 4352) (x : Fin 128) :
    filled vb (ix2 j ⟨x.val, by omega⟩) = vb (ix3 0 j x) := by
  unfold filled
  canon_tiles z h
  · have : 128 + (z 1).val = x.val := h1.symm
    omega
  · pointwise [k0_pay2]
    congr 1
    blk_ext
    · exact h0.symm
    · exact h1.symm

/-- … and one in column 128. -/
theorem filled_right (vb : Vec Ideal S1x4352x128 .bf16) (j : Fin 4352) : filled vb (ix2 j 128) = 1 := by
  unfold filled
  canon_tiles z h
  · pointwise [k0_pay3]
  · have : (z 1).val = 128 := h1.symm
    omega

/-- A component's row, where the scores and the values are finite, is the softmax row. -/
theorem compRow_eq (s : Fin 4352 → ℝ) (vb : Vec Ideal S1x4352x128 .bf16) (v : Fin 4352 → Fin 128 → ℝ)
    (hv : ∀ j x, vb (ix3 0 j x) = ((v j x : ℝ) : EReal)) (x : Fin 128) :
    compRow (fun j => (((8 * Real.log 2)⁻¹ * s j : ℝ) : EReal)) (filled vb) x = ((∑ j, weight s j * v j x : ℝ) : EReal) := by
  obtain ⟨M, hM⟩ := fold_max_real (n := 4352) (Nat.zero_lt_succ _) (fun j => (8 * Real.log 2)⁻¹ * s j)
  unfold compRow
  simp only [ofBits_bot, hM, filled_left, filled_right, hv]
  exact kernel_row (n := 4352) (Nat.zero_lt_succ _) s (fun j => v j x) M

/-- What the body stores for a sub-block, at an index, where its inputs are finite: the normed differential attention. -/
theorem subBlock_apply (lp : Vec Ideal S4x64 .f32) (qs : Vec Ideal S128x128 .bf16) (kb : Vec Ideal S1x4352x128 .bf16)
    (vb : Vec Ideal S1x4352x128 .bf16) (g : Vec Ideal S1x128 .f32) (r d : Fin 128) (q : Fin 2 → Fin 64 → ℝ)
    (kr : Fin 4352 → Fin 2 → Fin 64 → ℝ) (v : Fin 4352 → Fin 128 → ℝ) (l : Fin 4 → Fin 64 → ℝ)
    (hl : ∀ a d, lp (ix2 a d) = ((l a d : ℝ) : EReal))
    (hq : ∀ (c : Fin 2) (d : Fin 64), qs (ix2 r ⟨64 * c.val + d.val, by omega⟩) = ((q c d : ℝ) : EReal))
    (hk : ∀ (j : Fin 4352) (c : Fin 2) (d : Fin 64), kb (ix3 0 j ⟨64 * c.val + d.val, by omega⟩) = ((kr j c d : ℝ) : EReal))
    (hv : ∀ j x, vb (ix3 0 j x) = ((v j x : ℝ) : EReal)) :
    subBlock lp qs kb (filled vb) g (ix2 r d) = normed (mixed q kr v (lam l)) (g (ix2 0 d)) d := by
  unfold subBlock
  rw [pay17_apply]
  refine congrArg (fun X => normed X (g (ix2 0 d)) d) (funext fun x => ?_)
  simp only [scores_first kb qs q kr r hq hk, scores_second kb qs q kr r hq hk, pay4_apply lp l hl]
  rw [compRow_eq _ vb v hv x, compRow_eq _ vb v hv x, differential]
  rfl

end Cert.KernelIdeal.Attn

end
-- ==== Proof.Attn.RefAt.lean ====
/- What the reference computes at an index. Hand-written, untrusted. -/
module

public import proofs.«01_k».proof.Proof.Gen.ReferenceIdeal.Read
public import proofs.«01_k».proof.Proof.Attn.Softmax
public import Idealize.ShloMosaic.Lib.Pointwise

@[expose] public section

set_option maxRecDepth 16384

noncomputable section

namespace Cert.ReferenceIdeal.Attn

open Cert.Softmax Cert.ReferenceIdeal Cert.ReferenceIdeal.Gen Cert.ReferenceIdeal.Read Idealize.ShloMosaic Idealize.ShloMosaic.Tactic

variable (x0 : (⟨S8x4096x8x2x64, .f32⟩ : BufTy).Contents (Elt Ideal)) (x1 : (⟨S8x4352x8x2x64, .f32⟩ : BufTy).Contents (Elt Ideal))
  (x2 : (⟨S8x4352x8x128, .f32⟩ : BufTy).Contents (Elt Ideal)) (x3 : (⟨S1x4x64, .f32⟩ : BufTy).Contents (Elt Ideal))
  (x4 : (⟨S1x128, .f32⟩ : BufTy).Contents (Elt Ideal))

/-- The scaled scores. -/
theorem v19_at (b : Fin 8) (c : Fin 2) (h : Fin 8) (s : Fin 4096) (j : Fin 4352) :
    val_main_v19 (F := Ideal) x0 x1 (ix5 b c h s j) = (∑ d : Fin 64, x0 (ix5 b s h c d) * x1 (ix5 b j h c d)) * Ideal.ofBits .f32 0x3E000000#32 := by
  pointwise [val_main_v19, val_main_v17, val_main_v18, val_main_cst_2]

/-- The scores' maximum along the keys. -/
theorem v20_at (b : Fin 8) (c : Fin 2) (h : Fin 8) (s : Fin 4096) :
    val_main_v20 (F := Ideal) x0 x1 (ix4 b c h s)
      = Finset.univ.fold max (Ideal.ofBits .f32 0xFF800000#32) (fun j : Fin 4352 => val_main_v19 (F := Ideal) x0 x1 (ix5 b c h s j)) := by
  pointwise [val_main_v20]
  rfl

/-- The exponentials of the shifted scores. -/
theorem v26_at (b : Fin 8) (c : Fin 2) (h : Fin 8) (s : Fin 4096) (j : Fin 4352) :
    val_main_v26 (F := Ideal) x0 x1 (ix5 b c h s j) = Ideal.exp (val_main_v19 (F := Ideal) x0 x1 (ix5 b c h s j)
      - max (Ideal.ofBits .f32 0xFF800000#32) (val_main_v20 (F := Ideal) x0 x1 (ix4 b c h s))) := by
  have e : idx_main_v23 (idx_main_v24 (ix5 b c h s j)) = ix4 b c h s := funext fun a => match a with
    | ⟨0, _⟩ => rfl | ⟨1, _⟩ => rfl | ⟨2, _⟩ => rfl | ⟨3, _⟩ => rfl
  rw [val_main_v26_apply, val_main_v25_apply, val_main_v24_apply, val_main_v23_apply, e, val_main_v22_apply, val_main_v21_apply,
    val_main_cst_4_apply]
  rfl

/-- The softmax of the scores. -/
theorem v30_at (b : Fin 8) (c : Fin 2) (h : Fin 8) (s : Fin 4096) (j : Fin 4352) :
    val_main_v30 (F := Ideal) x0 x1 (ix5 b c h s j) = Ideal.div (val_main_v26 (F := Ideal) x0 x1 (ix5 b c h s j))
      (∑ i : Fin 4352, val_main_v26 (F := Ideal) x0 x1 (ix5 b c h s i)) := by
  have e : idx_main_v28 (idx_main_v29 (ix5 b c h s j)) = ix4 b c h s := funext fun a => match a with
    | ⟨0, _⟩ => rfl | ⟨1, _⟩ => rfl | ⟨2, _⟩ => rfl | ⟨3, _⟩ => rfl
  have e' : ∀ i : Fin 4352, idx_main_v27 (ix4 b c h s) i = ix5 b c h s i := fun i => funext fun a => match a with
    | ⟨0, _⟩ => rfl | ⟨1, _⟩ => rfl | ⟨2, _⟩ => rfl | ⟨3, _⟩ => rfl | ⟨4, _⟩ => rfl
  rw [val_main_v30_apply, val_main_v29_apply, val_main_v28_apply, e, val_main_v27_apply, val_main_cst_5_apply]
  simp only [e']
  rw [show (FloatOps.ofBits .f32 0x00000000#32 : Ideal .f32) = 0 from Ideal.ofBits_zero_f32, zero_add]
  rfl

/-- The reference's lambda. -/
theorem v16_at : val_main_v16 (F := Ideal) x3 ix0 = Ideal.exp (∑ d : Fin 64, x3 (ix3 0 0 d) * x3 (ix3 0 1 d))
    - Ideal.exp (∑ d : Fin 64, x3 (ix3 0 2 d) * x3 (ix3 0 3 d)) + Ideal.ofBits .f32 0x3EB60549#32 := by
  pointwise [val_main_v0, val_main_v1, val_main_v2, val_main_v3, val_main_v4, val_main_v5, val_main_v6, val_main_v7, val_main_v8,
    val_main_v9, val_main_v10, val_main_v11, val_main_v12, val_main_v13, val_main_v14, val_main_v15, val_main_v16, val_main_cst,
    val_main_cst_0, val_main_cst_1]

theorem idx_first (b : Fin 8) (h : Fin 8) (s : Fin 4096) (j : Fin 4352) : idx_main_v31 (idx_main_v32 (ix4 b h s j)) = ix5 b 0 h s j :=
  funext fun a => Fin.ext (match a with
    | ⟨0, _⟩ => by show (((b.val * 8 + h.val) * 4096 + s.val) * 4352 + j.val) / 142606336 = b.val; omega
    | ⟨1, _⟩ => rfl
    | ⟨2, _⟩ => by show (((b.val * 8 + h.val) * 4096 + s.val) * 4352 + j.val) / 17825792 % 8 = h.val; omega
    | ⟨3, _⟩ => by show (((b.val * 8 + h.val) * 4096 + s.val) * 4352 + j.val) / 4352 % 4096 = s.val; omega
    | ⟨4, _⟩ => by show (((b.val * 8 + h.val) * 4096 + s.val) * 4352 + j.val) % 4352 = j.val; omega)

theorem idx_second (b : Fin 8) (h : Fin 8) (s : Fin 4096) (j : Fin 4352) : idx_main_v33 (idx_main_v34 (ix4 b h s j)) = ix5 b 1 h s j :=
  funext fun a => Fin.ext (match a with
    | ⟨0, _⟩ => by show (((b.val * 8 + h.val) * 4096 + s.val) * 4352 + j.val) / 142606336 = b.val; omega
    | ⟨1, _⟩ => rfl
    | ⟨2, _⟩ => by show (((b.val * 8 + h.val) * 4096 + s.val) * 4352 + j.val) / 17825792 % 8 = h.val; omega
    | ⟨3, _⟩ => by show (((b.val * 8 + h.val) * 4096 + s.val) * 4352 + j.val) / 4352 % 4096 = s.val; omega
    | ⟨4, _⟩ => by show (((b.val * 8 + h.val) * 4096 + s.val) * 4352 + j.val) % 4352 = j.val; omega)

/-- The attention's weights: the first softmax less lambda times the second. -/
theorem v37_at (b : Fin 8) (h : Fin 8) (s : Fin 4096) (j : Fin 4352) : val_main_v37 (F := Ideal) x0 x1 x3 (ix4 b h s j)
    = val_main_v30 (F := Ideal) x0 x1 (ix5 b 0 h s j)
      - val_main_v16 (F := Ideal) x3 ix0 * val_main_v30 (F := Ideal) x0 x1 (ix5 b 1 h s j) := by
  rw [val_main_v37_apply, val_main_v36_apply, val_main_v35_apply, val_main_v34_apply, val_main_v33_apply, idx_second, val_main_v32_apply,
    val_main_v31_apply, idx_first, show idx_main_v35 (ix4 b h s j) = ix0 from funext fun a => a.elim0]
  rfl

/-- The attention of one query. -/
theorem v39_at (b : Fin 8) (h : Fin 8) (s : Fin 4096) (x : Fin 128) : val_main_v39 (F := Ideal) x0 x1 x2 x3 (ix4 b s h x)
    = ∑ j : Fin 4352, x2 (ix4 b j h x) * (val_main_v30 (F := Ideal) x0 x1 (ix5 b 0 h s j)
      - val_main_v16 (F := Ideal) x3 ix0 * val_main_v30 (F := Ideal) x0 x1 (ix5 b 1 h s j)) := by
  have el : ∀ j : Fin 4352, lidx_main_v38 (idx_main_v39 (ix4 b s h x)) j = ix4 b j h x := fun j => funext fun a => match a with
    | ⟨0, _⟩ => rfl | ⟨1, _⟩ => rfl | ⟨2, _⟩ => rfl | ⟨3, _⟩ => rfl
  have er : ∀ j : Fin 4352, ridx_main_v38 (idx_main_v39 (ix4 b s h x)) j = ix4 b h s j := fun j => funext fun a => match a with
    | ⟨0, _⟩ => rfl | ⟨1, _⟩ => rfl | ⟨2, _⟩ => rfl | ⟨3, _⟩ => rfl
  rw [val_main_v39_apply, val_main_v38_apply]
  simp only [el, er, v37_at]

end Cert.ReferenceIdeal.Attn
-- ==== Proof.Attn.RefTail.lean ====
/- What the reference's norm computes at an index. Hand-written, untrusted. -/
module

public import proofs.«01_k».proof.Proof.Gen.ReferenceIdeal.Read
public import proofs.«01_k».proof.Proof.Attn.Softmax
public import Idealize.ShloMosaic.Lib.Pointwise

@[expose] public section

set_option maxRecDepth 16384

noncomputable section

namespace Cert.ReferenceIdeal.Attn

open Cert.Softmax Cert.ReferenceIdeal Cert.ReferenceIdeal.Gen Cert.ReferenceIdeal.Read Idealize.ShloMosaic Idealize.ShloMosaic.Tactic

variable (x0 : (⟨S8x4096x8x2x64, .f32⟩ : BufTy).Contents (Elt Ideal)) (x1 : (⟨S8x4352x8x2x64, .f32⟩ : BufTy).Contents (Elt Ideal))
  (x2 : (⟨S8x4352x8x128, .f32⟩ : BufTy).Contents (Elt Ideal)) (x3 : (⟨S1x4x64, .f32⟩ : BufTy).Contents (Elt Ideal))
  (x4 : (⟨S1x128, .f32⟩ : BufTy).Contents (Elt Ideal))

/-- The result, of the attention: the norm with its gain and constant. -/
theorem v57_at (r : Fin 32768) (x : Fin 1024) :
    val_main_v57 (F := Ideal) x0 x1 x2 x3 x4 (ix2 r x)
      = normed (fun d => val_main_v39 (F := Ideal) x0 x1 x2 x3 (ix4 ⟨r.val / 4096, by omega⟩ ⟨r.val % 4096, by omega⟩ ⟨x.val / 128, by omega⟩ d))
          (x4 (ix2 0 ⟨x.val % 128, by omega⟩)) ⟨x.val % 128, by omega⟩ := by
  pointwise [val_main_v57, val_main_v56, val_main_v55, val_main_v54, val_main_v53, val_main_v52, val_main_v51, val_main_v50, val_main_v49,
    val_main_v48, val_main_v47, val_main_v46, val_main_v45, val_main_v44, val_main_v43, val_main_v42, val_main_v41, val_main_v40,
    val_main_cst_6, val_main_cst_7, val_main_cst_8, val_main_cst_9]
  rfl

end Cert.ReferenceIdeal.Attn
-- ==== Proof.Attn.RefEq.lean ====
/- The reference at an index where its inputs are finite: the normed differential attention. Hand-written, untrusted. -/
module

public import proofs.«01_k».proof.Proof.Attn.RefAt
public import proofs.«01_k».proof.Proof.Attn.RefTail

@[expose] public section

set_option maxRecDepth 16384

noncomputable section

namespace Cert.ReferenceIdeal.Attn

open Cert.Softmax Cert.ReferenceIdeal Cert.ReferenceIdeal.Gen Cert.ReferenceIdeal.Read Idealize.ShloMosaic

variable (x0 : (⟨S8x4096x8x2x64, .f32⟩ : BufTy).Contents (Elt Ideal)) (x1 : (⟨S8x4352x8x2x64, .f32⟩ : BufTy).Contents (Elt Ideal))
  (x2 : (⟨S8x4352x8x128, .f32⟩ : BufTy).Contents (Elt Ideal)) (x3 : (⟨S1x4x64, .f32⟩ : BufTy).Contents (Elt Ideal))
  (x4 : (⟨S1x128, .f32⟩ : BufTy).Contents (Elt Ideal))

/-- One component's softmax weights, where the query and the keys are finite. -/
theorem v30_real (b : Fin 8) (c : Fin 2) (h : Fin 8) (s : Fin 4096) (q : Fin 64 → ℝ) (k : Fin 4352 → Fin 64 → ℝ)
    (hq : ∀ d, x0 (ix5 b s h c d) = ((q d : ℝ) : EReal)) (hk : ∀ j d, x1 (ix5 b j h c d) = ((k j d : ℝ) : EReal)) (j : Fin 4352) :
    val_main_v30 (F := Ideal) x0 x1 (ix5 b c h s j) = ((weight (score q k) j : ℝ) : EReal) := by
  have hs : ∀ i : Fin 4352, val_main_v19 (F := Ideal) x0 x1 (ix5 b c h s i) = ((score q k i : ℝ) : EReal) * ((8⁻¹ : ℝ) : EReal) := fun i => by
    rw [v19_at, ofBits_eighth]
    simp only [hq, hk, ← EReal.coe_mul, sum_coe]
    rfl
  obtain ⟨M, hM⟩ := fold_max_real (n := 4352) (Nat.zero_lt_succ _) (fun i => score q k i * 8⁻¹)
  have hm : val_main_v20 (F := Ideal) x0 x1 (ix4 b c h s) = (M : EReal) := by
    rw [v20_at, ofBits_bot, ← hM]
    simp only [hs, EReal.coe_mul]
  rw [v30_at]
  simp only [v26_at, hs, hm, ofBits_bot, max_eq_right (bot_le : (⊥ : EReal) ≤ (M : EReal))]
  exact reference_weight (n := 4352) (Nat.zero_lt_succ _) (score q k) M j

/-- The reference's result at an index. -/
theorem v57_real (r : Fin 32768) (x : Fin 1024) (q : Fin 2 → Fin 64 → ℝ) (k : Fin 4352 → Fin 2 → Fin 64 → ℝ) (v : Fin 4352 → Fin 128 → ℝ)
    (l : Fin 4 → Fin 64 → ℝ)
    (hq : ∀ c d, x0 (ix5 ⟨r.val / 4096, by omega⟩ ⟨r.val % 4096, by omega⟩ ⟨x.val / 128, by omega⟩ c d) = ((q c d : ℝ) : EReal))
    (hk : ∀ j c d, x1 (ix5 ⟨r.val / 4096, by omega⟩ j ⟨x.val / 128, by omega⟩ c d) = ((k j c d : ℝ) : EReal))
    (hv : ∀ j d, x2 (ix4 ⟨r.val / 4096, by omega⟩ j ⟨x.val / 128, by omega⟩ d) = ((v j d : ℝ) : EReal))
    (hl : ∀ a d, x3 (ix3 0 a d) = ((l a d : ℝ) : EReal)) :
    val_main_v57 (F := Ideal) x0 x1 x2 x3 x4 (ix2 r x)
      = normed (mixed q k v (lam l)) (x4 (ix2 0 ⟨x.val % 128, by omega⟩)) ⟨x.val % 128, by omega⟩ := by
  rw [v57_at]
  refine congrArg (fun X => normed X (x4 (ix2 0 ⟨x.val % 128, by omega⟩)) ⟨x.val % 128, by omega⟩) (funext fun d => ?_)
  have hlam : val_main_v16 (F := Ideal) x3 ix0 = ((lam l : ℝ) : EReal) := by
    rw [v16_at, ← lam_coe]
    simp only [hl]
  rw [v39_at, mixed, hlam]
  refine Finset.sum_congr rfl fun j _ => ?_
  rw [hv, v30_real x0 x1 _ 0 _ _ (q 0) (fun j => k j 0) (hq 0) (fun j => hk j 0), v30_real x0 x1 _ 1 _ _ (q 1) (fun j => k j 1) (hq 1) (fun j => hk j 1)]

end Cert.ReferenceIdeal.Attn
-- ==== Proof.Attn.Finite.lean ====
/- What the precondition says: the queries, the keys, the values and the lambda vectors are reals. Hand-written, untrusted. -/
module

public import proofs.«01_k».proof.Defs
public import proofs.«01_k».proof.Proof.Gen.KernelIdeal
public import Idealize.ShloMosaic.Lib.Pointwise
public import Idealize.ShloMosaic.Lib.IdealHost

@[expose] public section

set_option maxRecDepth 16384

noncomputable section

namespace Cert.Finite

open Cert.KernelIdeal Idealize.ShloMosaic Idealize.ShloMosaic.TcCoe Idealize.SL.Sem

theorem ofBits_top : Ideal.ofBits .f32 0x7F800000#32 = (⊤ : EReal) := by
  simp [Ideal.ofBits, Ideal.ieee]

/-- An extended real whose absolute value is less than infinity is a real. -/
theorem real_of_lt (a : EReal) (h : BitVec.ofBool (decide (max a (-a) < Ideal.ofBits .f32 0x7F800000#32)) = 1#1) : ∃ r : ℝ, a = (r : EReal) := by
  rw [ofBits_top] at h
  have h' : max a (-a) < ⊤ := by
    by_contra hc
    simp [hc] at h
  induction a with
  | bot => simp at h'
  | top => simp at h'
  | coe r => exact ⟨r, rfl⟩

/-- An array all of whose elements pass the test is an array of reals. -/
theorem reals_of {s : Shape} (a : s.Idx → EReal)
    (h : (fun i => BitVec.ofBool (decide (max (a i) (-(a i)) < Ideal.ofBits .f32 0x7F800000#32))) = fun _ => 1#1) :
    ∃ r : s.Idx → ℝ, ∀ i, a i = ((r i : ℝ) : EReal) :=
  Classical.axiomOfChoice fun i => real_of_lt (a i) (congrFun h i)

/-- Under the precondition the first four arguments are arrays of reals. -/
theorem reals [Cert.Pre_finite_inputs.Facts] (m : (ℓ : Loc nD τ sig) → Buf (Elt Ideal) ℓ) (h : Cert.Pre_KernelIdeal_finite_inputs m) (c : Dev nD) :
    (∃ q : S8x4096x8x2x64.Idx → ℝ, ∀ i, m ((c : Thread nD τ).loc main_arg0) i = ((q i : ℝ) : EReal))
    ∧ (∃ k : S8x4352x8x2x64.Idx → ℝ, ∀ i, m ((c : Thread nD τ).loc main_arg1) i = ((k i : ℝ) : EReal))
    ∧ (∃ v : S8x4352x8x128.Idx → ℝ, ∀ i, m ((c : Thread nD τ).loc main_arg2) i = ((v i : ℝ) : EReal))
    ∧ (∃ l : S1x4x64.Idx → ℝ, ∀ i, m ((c : Thread nD τ).loc main_arg3) i = ((l i : ℝ) : EReal)) := by
  obtain ⟨h0, h1, h2, h3⟩ := h c
  exact ⟨reals_of _ h0, reals_of _ h1, reals_of _ h2, reals_of _ h3⟩

end Cert.Finite
-- ==== Proof.Attn.Equation.lean ====
/- The kernel's result array is the reference's, where the precondition holds. Hand-written, untrusted. -/
module

public import proofs.«01_k».proof.Proof.Attn.KernelAt
public import proofs.«01_k».proof.Proof.Attn.RefEq
public import proofs.«01_k».proof.Proof.Attn.Finite

@[expose] public section

set_option maxRecDepth 16384

noncomputable section

namespace Cert.KernelIdeal.Attn

open Cert.Softmax Cert.KernelIdeal Cert.KernelIdeal.Gen Idealize.ShloMosaic Idealize.ShloMosaic.TcCoe Idealize.SL.Sem

variable (q : S8x4096x8x2x64.Idx → EReal) (k : S8x4352x8x2x64.Idx → EReal) (v : S8x4352x8x128.Idx → EReal) (lp : S1x4x64.Idx → EReal)
  (g : S1x128.Idx → EReal)

/-- The kernel's result at an index, where its inputs are finite. -/
theorem outAt_real (r : Fin 32768) (x : Fin 1024) (qr : Fin 2 → Fin 64 → ℝ) (kr : Fin 4352 → Fin 2 → Fin 64 → ℝ) (vr : Fin 4352 → Fin 128 → ℝ)
    (l : Fin 4 → Fin 64 → ℝ)
    (hq : ∀ c d, q (ix5 ⟨r.val / 4096, by omega⟩ ⟨r.val % 4096, by omega⟩ ⟨x.val / 128, by omega⟩ c d) = ((qr c d : ℝ) : EReal))
    (hk : ∀ j c d, k (ix5 ⟨r.val / 4096, by omega⟩ j ⟨x.val / 128, by omega⟩ c d) = ((kr j c d : ℝ) : EReal))
    (hv : ∀ j d, v (ix4 ⟨r.val / 4096, by omega⟩ j ⟨x.val / 128, by omega⟩ d) = ((vr j d : ℝ) : EReal))
    (hl : ∀ a d, lp (ix3 0 a d) = ((l a d : ℝ) : EReal)) :
    outAt q k v lp g r x = normed (mixed qr kr vr (lam l)) (g (ix2 0 ⟨x.val % 128, by omega⟩)) ⟨x.val % 128, by omega⟩ := by
  have hd : ∀ (c : Fin 2) (d : Fin 64), (64 * c.val + d.val) / 64 = c.val ∧ (64 * c.val + d.val) % 64 = d.val := fun c d => by omega
  refine subBlock_apply _ _ _ _ _ _ _ qr kr vr l (fun a d => hl a d) (fun c d => ?_) (fun j c d => ?_) (fun j d => hv j d)
  · rw [← hq c d]
    have hr : 128 * (r.val % 4096 / 128) + r.val % 128 = r.val % 4096 := by omega
    refine congrArg q (funext fun a => Fin.ext (match a with
      | ⟨0, _⟩ => rfl | ⟨1, _⟩ => hr | ⟨2, _⟩ => rfl | ⟨3, _⟩ => (hd c d).1 | ⟨4, _⟩ => (hd c d).2))
  · rw [← hk j c d]
    refine congrArg k (funext fun a => Fin.ext (match a with
      | ⟨0, _⟩ => rfl | ⟨1, _⟩ => rfl | ⟨2, _⟩ => rfl | ⟨3, _⟩ => (hd c d).1 | ⟨4, _⟩ => (hd c d).2))

/-- The kernel's and the reference's results at an index are one, where the arrays are of reals. -/
theorem at_eq (r : Fin 32768) (x : Fin 1024) (qr : S8x4096x8x2x64.Idx → ℝ) (kr : S8x4352x8x2x64.Idx → ℝ) (vr : S8x4352x8x128.Idx → ℝ)
    (lr : S1x4x64.Idx → ℝ) (hq : ∀ i, q i = ((qr i : ℝ) : EReal)) (hk : ∀ i, k i = ((kr i : ℝ) : EReal)) (hv : ∀ i, v i = ((vr i : ℝ) : EReal))
    (hl : ∀ i, lp i = ((lr i : ℝ) : EReal)) :
    outAt q k v lp g r x = Cert.ReferenceIdeal.Read.val_main_v57 (F := Ideal) q k v lp g (ix2 r x) :=
  (outAt_real q k v lp g r x (fun c d => qr (ix5 ⟨r.val / 4096, by omega⟩ ⟨r.val % 4096, by omega⟩ ⟨x.val / 128, by omega⟩ c d))
    (fun j c d => kr (ix5 ⟨r.val / 4096, by omega⟩ j ⟨x.val / 128, by omega⟩ c d))
    (fun j d => vr (ix4 ⟨r.val / 4096, by omega⟩ j ⟨x.val / 128, by omega⟩ d)) (fun a d => lr (ix3 0 a d))
    (fun c d => hq _) (fun j c d => hk _) (fun j d => hv _) (fun a d => hl _)).trans
    (Cert.ReferenceIdeal.Attn.v57_real q k v lp g r x _ _ _ _ (fun c d => hq _) (fun j c d => hk _) (fun j d => hv _) (fun a d => hl _)).symm

/-- The array the kernel leaves is the array the reference computes of the same arguments. -/
theorem arr_eq_ref [Cert.Pre_finite_inputs.Facts] (m : (ℓ : Loc nD τ sig) → Buf (Elt Ideal) ℓ) (h : Cert.Pre_KernelIdeal_finite_inputs m) (c : Dev nD) :
    (dats m 0 c).arrAt 5 cfg0.N = Cert.ReferenceIdeal.Read.val_main_v57 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) := by
  obtain ⟨⟨qr, hq⟩, ⟨kr, hk⟩, ⟨vr, hv⟩, ⟨lr, hl⟩⟩ := Cert.Finite.reals m h c
  rw [arr_eq]
  funext i
  refine (at_eq _ _ _ _ _ (i 0) (i 1) qr kr vr lr hq hk hv hl).trans (congrArg _ ?_)
  exact funext fun a => match a with | ⟨0, _⟩ => rfl | ⟨1, _⟩ => rfl

end Cert.KernelIdeal.Attn
-- ==== Proof.Qkv.Pieces.lean ====
/- The rotary pieces that the projection kernel stores: 128 columns of the projected rows at a time, turned by the tables.
   Hand-written, untrusted. -/
module

public import proofs.«01_k».proof.Proof.Gen.QkvIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.QkvIdeal.Proj

open Cert.QkvIdeal Cert.QkvIdeal.Gen Idealize.ShloMosaic Idealize.ShloMosaic.TcCoe
open Idealize.ShloMosaic.Tactic

/-- One lane of a pair of rotary components, each of 64 lanes: the lane times the cosine plus its partner, the sign
    turned in the first half, times the sine. -/
def rope (z : Fin 128 → EReal) (c s : EReal) (l : Fin 128) : EReal :=
  z l * c + (if l.val % 64 < 32 then -z ⟨(l.val + 32) % 128, by omega⟩ else z ⟨(l.val + 96) % 128, by omega⟩) * s

/-- The piece the body stores for 128 projected columns `z`. -/
def turned (z a b : FVec Ideal S256x128 .f32) : FVec Ideal S256x128 .bf16 :=
  k0_pay7 a b z (dynamicRotate 1 96#32 none z rotates_S256x128_d1) 32#32

/-- The bit that selects the first half of each component's lanes. -/
theorem first_half : ∀ l : Fin 128, (IntOp.cmpi CmpIPredicate.slt
      (Scalar.select
        (IntOp.andi
          (IntOp.xori
            (IntOp.cmpi CmpIPredicate.slt
              (IntOp.remsi ArithUnit.vector (BitVec.ofNat 32 l.val)
                (Scalar.select (Scalar.cmpi CmpIPredicate.eq 64#32 0#32) 1#32 64#32))
              0#32)
            (Scalar.cmpi CmpIPredicate.slt (Scalar.select (Scalar.cmpi CmpIPredicate.eq 64#32 0#32) 1#32 64#32) 0#32))
          (IntOp.cmpi CmpIPredicate.ne
            (IntOp.remsi ArithUnit.vector (BitVec.ofNat 32 l.val)
              (Scalar.select (Scalar.cmpi CmpIPredicate.eq 64#32 0#32) 1#32 64#32))
            0#32))
        (IntOp.addi
          (IntOp.remsi ArithUnit.vector (BitVec.ofNat 32 l.val)
            (Scalar.select (Scalar.cmpi CmpIPredicate.eq 64#32 0#32) 1#32 64#32))
          (Scalar.select (Scalar.cmpi CmpIPredicate.eq 64#32 0#32) 1#32 64#32))
        (IntOp.remsi ArithUnit.vector (BitVec.ofNat 32 l.val)
          (Scalar.select (Scalar.cmpi CmpIPredicate.eq 64#32 0#32) 1#32 64#32)))
      32#32)
    = if l.val % 64 < 32 then 1#1 else 0#1 := by decide +kernel

/-- A piece at an index. -/
theorem turned_apply (z a b : FVec Ideal S256x128 .f32) (r : Fin 256) (l : Fin 128) :
    turned z a b (ix2 r l) = rope (fun l => z (ix2 r l)) (a (ix2 r l)) (b (ix2 r l)) l := by
  unfold turned
  pointwise [k0_pay7]
  rw [first_half]
  unfold rope
  have e1 : (⟨(l.val + 128 - 96) % 128, by omega⟩ : Fin 128) = ⟨(l.val + 32) % 128, by omega⟩ := Fin.ext (by show (l.val + 128 - 96) % 128 = (l.val + 32) % 128; omega)
  have e2 : (⟨(l.val + 128 - 32) % 128, by omega⟩ : Fin 128) = ⟨(l.val + 96) % 128, by omega⟩ := Fin.ext (by show (l.val + 128 - 32) % 128 = (l.val + 96) % 128; omega)
  rw [e1, e2, zero_sub]
  by_cases h : l.val % 64 < 32
  · rw [if_pos h, if_pos h]
    rfl
  · rw [if_neg h, if_neg h]
    rfl

/-- What a row of pieces holds: column `x` of the 1024 projected columns from column `o` on, turned. -/
def turnedAt (p : FVec Ideal S256x3072 .f32) (a b : FVec Ideal S256x128 .f32) (o : ℕ) (ho : o + 1024 ≤ 3072) (r : Fin 256) (x : Fin 1024) : EReal :=
  rope (fun l => p (ix2 r ⟨o + (128 * (x.val / 128) + l.val), by omega⟩)) (a (ix2 r ⟨x.val % 128, by omega⟩)) (b (ix2 r ⟨x.val % 128, by omega⟩))
    ⟨x.val % 128, by omega⟩

/-- The piece of 128 columns from column `128 h` of the 1024 is those columns of the row. -/
theorem turned_at (p : FVec Ideal S256x3072 .f32) (a b : FVec Ideal S256x128 .f32) (o : ℕ) (ho : o + 1024 ≤ 3072) (h : ℕ) (hh : h < 8)
    (k : ℕ) (hk : k = o + 128 * h) (sl : S256x3072.Slices ![0, k] S256x128) (r : Fin 256) (l : Fin 128) (x : Fin 1024) (hx : x.val = 128 * h + l.val) :
    turned (extractStridedSlice S256x128 ![0, k] p sl) a b (ix2 r l) = turnedAt p a b o ho r x := by
  subst hk
  rw [turned_apply]
  unfold turnedAt
  have e1 : x.val / 128 = h := by omega
  have e2 : (⟨x.val % 128, by omega⟩ : Fin 128) = l := Fin.ext (by show x.val % 128 = l.val; omega)
  rw [e2]
  refine congrArg (fun z => rope z _ _ l) (funext fun j => ?_)
  pointwise
  refine congrArg (fun z => p (ix2 r z)) (Fin.ext ?_)
  show o + 128 * h + j.val = o + (128 * (x.val / 128) + j.val)
  omega

/-- The first output block. -/
def blkQ (p : FVec Ideal S256x3072 .f32) (a b : FVec Ideal S256x128 .f32) : Vec Ideal S256x1024 .bf16 :=
  fun y => turnedAt p a b 0 (by decide) (y 0) (y 1)

/-- The second output block. -/
def blkK (p : FVec Ideal S256x3072 .f32) (a b : FVec Ideal S256x128 .f32) : Vec Ideal S1x256x1024 .bf16 :=
  fun y => turnedAt p a b 1024 (by decide) (y 1) (y 2)

/-- The pieces of the first output block, last first. -/
def storedQ (p : FVec Ideal S256x3072 .f32) (a b : FVec Ideal S256x128 .f32) : List (View.Piece (Elt Ideal) S256x1024 .bf16) :=
  [⟨r0_19, turned (extractStridedSlice S256x128 ![0, 896] p slices_S256x3072_o0_896_S256x128) a b⟩,
    ⟨r0_17, turned (extractStridedSlice S256x128 ![0, 768] p slices_S256x3072_o0_768_S256x128) a b⟩,
    ⟨r0_15, turned (extractStridedSlice S256x128 ![0, 640] p slices_S256x3072_o0_640_S256x128) a b⟩,
    ⟨r0_13, turned (extractStridedSlice S256x128 ![0, 512] p slices_S256x3072_o0_512_S256x128) a b⟩,
    ⟨r0_11, turned (extractStridedSlice S256x128 ![0, 384] p slices_S256x3072_o0_384_S256x128) a b⟩,
    ⟨r0_9, turned (extractStridedSlice S256x128 ![0, 256] p slices_S256x3072_o0_256_S256x128) a b⟩,
    ⟨r0_7, turned (extractStridedSlice S256x128 ![0, 128] p slices_S256x3072_o0_128_S256x128) a b⟩,
    ⟨r0_5, turned (extractStridedSlice S256x128 ![0, 0] p slices_S256x3072_o0_0_S256x128) a b⟩]

/-- A piece stored at column `128 h` of the first output block is the turned columns there. -/
theorem pieceQ (p : FVec Ideal S256x3072 .f32) (a b : FVec Ideal S256x128 .f32) (h : ℕ) (hh : h < 8) (k : ℕ) (hk : k = 128 * h)
    (sl : S256x3072.Slices ![0, k] S256x128) (inb : ∀ d, (![0, k] : Fin 2 → ℕ) d + (![256, 128] : Fin 2 → ℕ) d ≤ S256x1024.size d)
    (x : S256x128.Idx) :
    turned (extractStridedSlice S256x128 ![0, k] p sl) a b x
      = blkQ p a b ((Rect.unit (s := S256x1024) ![0, k] ![256, 128] inb).emb x) := by
  have e0 := Rect.idx_unit_val (s := S256x1024) ![0, k] ![256, 128] inb x 0
  have e1 := Rect.idx_unit_val (s := S256x1024) ![0, k] ![256, 128] inb x 1
  idx_vars x
  refine (turned_at p a b 0 (by decide) h hh k (by omega) sl x0 x1 (((Rect.unit (s := S256x1024) ![0, k] ![256, 128] inb).emb (ix2 x0 x1)) 1) ?_).trans ?_
  · exact e1.trans (congrArg (fun z => z + x1.val) hk)
  · exact congrArg (fun z => turnedAt p a b 0 (by decide) z _) (Fin.ext (e0.trans (Nat.zero_add _)).symm)

/-- Together they are the first output block. -/
theorem canon_storedQ (p : FVec Ideal S256x3072 .f32) (a b : FVec Ideal S256x128 .f32) (y : S256x1024.Idx) :
    View.canon (storedQ p a b) y = blkQ p a b y := by
  refine View.canon_apply_of_pieces (blkQ p a b) _ (View.PiecesOf.mem ?_) y
    (View.cover_of_tiledL (storedQ p a b) S256x128.size (by sl_kernel_rfl) y)
  exact ⟨pieceQ p a b 7 (by decide) 896 rfl _ inb_S256x1024_S256x128_0_896, pieceQ p a b 6 (by decide) 768 rfl _ inb_S256x1024_S256x128_0_768, pieceQ p a b 5 (by decide) 640 rfl _ inb_S256x1024_S256x128_0_640,
    pieceQ p a b 4 (by decide) 512 rfl _ inb_S256x1024_S256x128_0_512, pieceQ p a b 3 (by decide) 384 rfl _ inb_S256x1024_S256x128_0_384, pieceQ p a b 2 (by decide) 256 rfl _ inb_S256x1024_S256x128_0_256,
    pieceQ p a b 1 (by decide) 128 rfl _ inb_S256x1024_S256x128_0_128, pieceQ p a b 0 (by decide) 0 rfl _ inb_S256x1024_S256x128_0_0, trivial⟩

/-- A piece of the second output block. -/
def turnedK (z a b : FVec Ideal S256x128 .f32) : FVec Ideal S1x256x128 .bf16 :=
  shapeCast S1x256x128 (turned z a b) shapeCasts_S256x128_S1x256x128

/-- The pieces of the second output block, last first. -/
def storedK (p : FVec Ideal S256x3072 .f32) (a b : FVec Ideal S256x128 .f32) : List (View.Piece (Elt Ideal) S1x256x1024 .bf16) :=
  [⟨r0_20, turnedK (extractStridedSlice S256x128 ![0, 1920] p slices_S256x3072_o0_1920_S256x128) a b⟩,
    ⟨r0_18, turnedK (extractStridedSlice S256x128 ![0, 1792] p slices_S256x3072_o0_1792_S256x128) a b⟩,
    ⟨r0_16, turnedK (extractStridedSlice S256x128 ![0, 1664] p slices_S256x3072_o0_1664_S256x128) a b⟩,
    ⟨r0_14, turnedK (extractStridedSlice S256x128 ![0, 1536] p slices_S256x3072_o0_1536_S256x128) a b⟩,
    ⟨r0_12, turnedK (extractStridedSlice S256x128 ![0, 1408] p slices_S256x3072_o0_1408_S256x128) a b⟩,
    ⟨r0_10, turnedK (extractStridedSlice S256x128 ![0, 1280] p slices_S256x3072_o0_1280_S256x128) a b⟩,
    ⟨r0_8, turnedK (extractStridedSlice S256x128 ![0, 1152] p slices_S256x3072_o0_1152_S256x128) a b⟩,
    ⟨r0_6, turnedK (extractStridedSlice S256x128 ![0, 1024] p slices_S256x3072_o0_1024_S256x128) a b⟩]

/-- A piece stored at column `128 h` of the second output block is the turned columns there. -/
theorem pieceK (p : FVec Ideal S256x3072 .f32) (a b : FVec Ideal S256x128 .f32) (h : ℕ) (hh : h < 8) (k : ℕ) (hk : k = 128 * h)
    (j : ℕ) (hj : j = 1024 + 128 * h) (sl : S256x3072.Slices ![0, j] S256x128)
    (inb : ∀ d, (![0, 0, k] : Fin 3 → ℕ) d + (![1, 256, 128] : Fin 3 → ℕ) d ≤ S1x256x1024.size d) (x : S1x256x128.Idx) :
    turnedK (extractStridedSlice S256x128 ![0, j] p sl) a b x
      = blkK p a b ((Rect.unit (s := S1x256x1024) ![0, 0, k] ![1, 256, 128] inb).emb x) := by
  have e0 := Rect.idx_unit_val (s := S1x256x1024) ![0, 0, k] ![1, 256, 128] inb x 1
  have e1 := Rect.idx_unit_val (s := S1x256x1024) ![0, 0, k] ![1, 256, 128] inb x 2
  idx_vars x
  have e : turnedK (extractStridedSlice S256x128 ![0, j] p sl) a b (ix3 x0 x1 x2) = turned (extractStridedSlice S256x128 ![0, j] p sl) a b (ix2 x1 x2) := by
    unfold turnedK
    generalize turned (extractStridedSlice S256x128 ![0, j] p sl) a b = w
    pointwise
  refine e.trans ((turned_at p a b 1024 (by decide) h hh j hj sl x1 x2 (((Rect.unit (s := S1x256x1024) ![0, 0, k] ![1, 256, 128] inb).emb (ix3 x0 x1 x2)) 2) ?_).trans ?_)
  · exact e1.trans (congrArg (fun z => z + x2.val) hk)
  · exact congrArg (fun z => turnedAt p a b 1024 (by decide) z _) (Fin.ext (e0.trans (Nat.zero_add _)).symm)

/-- Together they are the second output block. -/
theorem canon_storedK (p : FVec Ideal S256x3072 .f32) (a b : FVec Ideal S256x128 .f32) (y : S1x256x1024.Idx) :
    View.canon (storedK p a b) y = blkK p a b y := by
  refine View.canon_apply_of_pieces (blkK p a b) _ (View.PiecesOf.mem ?_) y
    (View.cover_of_tiledL (storedK p a b) S1x256x128.size (by sl_kernel_rfl) y)
  exact ⟨pieceK p a b 7 (by decide) 896 rfl 1920 rfl _ inb_S1x256x1024_S1x256x128_0_0_896, pieceK p a b 6 (by decide) 768 rfl 1792 rfl _ inb_S1x256x1024_S1x256x128_0_0_768, pieceK p a b 5 (by decide) 640 rfl 1664 rfl _ inb_S1x256x1024_S1x256x128_0_0_640,
    pieceK p a b 4 (by decide) 512 rfl 1536 rfl _ inb_S1x256x1024_S1x256x128_0_0_512, pieceK p a b 3 (by decide) 384 rfl 1408 rfl _ inb_S1x256x1024_S1x256x128_0_0_384, pieceK p a b 2 (by decide) 256 rfl 1280 rfl _ inb_S1x256x1024_S1x256x128_0_0_256,
    pieceK p a b 1 (by decide) 128 rfl 1152 rfl _ inb_S1x256x1024_S1x256x128_0_0_128, pieceK p a b 0 (by decide) 0 rfl 1024 rfl _ inb_S1x256x1024_S1x256x128_0_0_0, trivial⟩

variable (x0 : Vec Ideal S256x1024 .f32) (x1 : Vec Ideal S1x1024 .f32) (x2 x3 : Vec Ideal S1x1x1024 .f32) (x4 : Vec Ideal S1024x3072 .bf16)
  (x5 x6 : Vec Ideal S256x128 .f32)

theorem pay64_eq : k0_pay64 x0 x1 x2 x3 x4 x5 x6 = k0_pay2 x0 x1 x2 x3 x4 := by
  unfold k0_pay64
  frame_out

theorem pay65_eq : k0_pay65 x0 x1 x2 x3 x4 x5 x6 = x5 := by
  unfold k0_pay65
  frame_out
  funext y
  idx_vars y
  pointwise [k0_pay3]

theorem pay66_eq : k0_pay66 x0 x1 x2 x3 x4 x5 x6 = x6 := by
  unfold k0_pay66
  frame_out
  funext y
  idx_vars y
  pointwise [k0_pay4]

/-- The first output block of a point, from the point's input blocks. -/
theorem outQ (y : S256x1024.Idx) : out0_7 x0 x1 x2 x3 x4 x5 x6 y = blkQ (k0_pay2 x0 x1 x2 x3 x4) x5 x6 y := by
  rw [← canon_storedQ]
  frame_out
  rw [pay64_eq, pay65_eq, pay66_eq]
  rfl

/-- The second. -/
theorem outK (y : S1x256x1024.Idx) : out0_8 x0 x1 x2 x3 x4 x5 x6 y = blkK (k0_pay2 x0 x1 x2 x3 x4) x5 x6 y := by
  rw [← canon_storedK]
  frame_out
  rw [pay64_eq, pay65_eq, pay66_eq]
  rfl

/-- The third. -/
theorem outV (y : S1x256x1024.Idx) : out0_9 x0 x1 x2 x3 x4 x5 x6 y = k0_pay2 x0 x1 x2 x3 x4 (ix2 (y 1) ⟨2048 + (y 2).val, by have : (y 2).val < 1024 := (y 2).isLt; omega⟩) := by
  idx_vars y
  frame_out
  rw [pay64_eq]
  generalize k0_pay2 x0 x1 x2 x3 x4 = w
  pointwise [k0_pay1]

end Cert.QkvIdeal.Proj

end
-- ==== Proof.Qkv.Spec.lean ====
/- The projection's results as functions of its arguments, element by element. Hand-written, untrusted. -/
module

public import Idealize.ShloMosaic.PureOps.Ideal.Laws
public import Idealize.ShloMosaic.Lib.ValueIdx

@[expose] public section

noncomputable section

namespace Cert.Proj

open Idealize.ShloMosaic

/-- A row over its root mean square, with the gain, the scale and the shift. -/
def modulated (x g sh sc : Fin 1024 → EReal) (j : Fin 1024) : EReal :=
  x j * Ideal.rsqrt (Ideal.div (∑ k, x k * x k) (Ideal.ofBits .f32 0x44800000#32) + Ideal.ofBits .f32 0x358637BD#32) * g j * (1 + sc j) + sh j

/-- The modulated row times a weight's columns. -/
def projected (x g sh sc : Fin 1024 → EReal) (w : Fin 1024 → Fin 3072 → EReal) (col : Fin 3072) : EReal :=
  ∑ k, modulated x g sh sc k * w k col

/-- The rotary embedding of 1024 columns, heads of 128 columns with two components of 64 each. -/
def rotated (z : Fin 1024 → EReal) (c s : Fin 64 → EReal) (x : Fin 1024) : EReal :=
  z x * c ⟨x.val % 64, by omega⟩
    + (if h : x.val % 64 < 32 then -z ⟨x.val + 32, by omega⟩ else z ⟨x.val - 32, by omega⟩) * s ⟨x.val % 64, by omega⟩

end Cert.Proj

end
-- ==== Proof.Qkv.Blocks.lean ====
/- The blocks that a grid point of the projection kernel reads, as elements of the program's arguments. Hand-written,
   untrusted. -/
module

public import proofs.«01_k».proof.Proof.Qkv.Pieces
public import proofs.«01_k».proof.Proof.Qkv.Spec

@[expose] public section

set_option maxRecDepth 16384

noncomputable section

namespace Cert.QkvIdeal.Proj

open Cert.QkvIdeal Cert.QkvIdeal.Gen Idealize.ShloMosaic Idealize.ShloMosaic.TcCoe Idealize.SL.Sem
open Idealize.ShloMosaic.Tactic

/-- The block indices of every window at every grid point. -/
theorem idx : ∀ t : Fin grid0.N, win0_0.index t = ![t.val, 0] ∧ win0_1.index t = ![0, 0] ∧ win0_2.index t = ![t.val / 16, 0, 0]
    ∧ win0_3.index t = ![t.val / 16, 0, 0] ∧ win0_4.index t = ![0, 0] ∧ win0_5.index t = ![if t.val < 128 then t.val % 16 else 16, 0]
    ∧ win0_6.index t = ![if t.val < 128 then t.val % 16 else 16, 0] ∧ win0_7.index t = ![t.val, 0]
    ∧ win0_8.index t = ![if t.val < 128 then t.val / 16 else t.val - 128, if t.val < 128 then 1 + t.val % 16 else 0, 0]
    ∧ win0_9.index t = ![if t.val < 128 then t.val / 16 else t.val - 128, if t.val < 128 then 1 + t.val % 16 else 0, 0] := by decide +kernel

variable (m : (ℓ : Loc nD τ sig) → Buf (Elt Ideal) ℓ)

theorem lt136 (t : Fin cfg0.N) : t.val < 136 := lt_of_lt_of_eq t.isLt N_0

/-- The rows' array as the launch finds it: the first rows … -/
theorem rows_at (c : Dev nD) (r : Fin 34816) (j : Fin 1024) :
    (V m c main_v2 : S34816x1024.Idx → EReal) (ix2 r j) = if h : r.val < 32768 then
        m ((c : Thread nD τ).loc main_arg0) (ix3 ⟨r.val / 4096, by omega⟩ ⟨r.val % 4096, by omega⟩ j)
      else m ((c : Thread nD τ).loc main_arg1) (ix3 ⟨(r.val - 32768) / 256, by omega⟩ ⟨(r.val - 32768) % 256, by omega⟩ j) := by
  unfold V
  entry_read
  rw [concatenate_pair_apply]
  by_cases h : r.val < 32768
  · rw [dif_pos h]
    refine (dif_pos h).trans ?_
    pointwise
  · rw [dif_neg h]
    refine (dif_neg h).trans ?_
    pointwise

theorem gain_at (c : Dev nD) (j : Fin 1024) :
    (V m c main_v9 : S1x1024.Idx → EReal) (ix2 0 j) = m ((c : Thread nD τ).loc main_arg2) (ix1 j) := by
  unfold V
  entry_read
  pointwise

/-- A table of cosines or sines as the launch finds it: twice side by side, and one value for the context's rows. -/
def turnTab (w : BitVec 32) (a : S4096x64.Idx → EReal) : S4352x128.Idx → EReal :=
  concatenate S4352x128 0 [⟨S4096x128, concatenate S4096x128 1 [⟨S4096x64, a⟩, ⟨S4096x64, a⟩] concatenates_S4096x64_S4096x64_S4096x128_d1⟩,
    ⟨S256x128, broadcastInDim S256x128 ![] bcast_S_S256x128 (constant (F := Ideal) S_ .f32 w)⟩] concatenates_S4096x128_S256x128_S4352x128_d0

/-- The modulations as the launch finds them: the sequences', the context's and rows of zeros. -/
def modTab (a : S8x1x1024.Idx → EReal) (b : S1x1x1024.Idx → EReal) : S16x1x1024.Idx → EReal :=
  concatenate S16x1x1024 0 [⟨S8x1x1024, a⟩, ⟨S1x1x1024, b⟩,
    ⟨S7x1x1024, broadcastInDim S7x1x1024 ![] bcast_S_S7x1x1024 (constant (F := Ideal) S_ .f32 0x00000000#32)⟩]
    concatenates_S8x1x1024_S1x1x1024_S7x1x1024_S16x1x1024_d0

theorem cos_eq (c : Dev nD) : (V m c main_v5 : S4352x128.Idx → EReal) = turnTab 0x3F800000#32 (m ((c : Thread nD τ).loc main_arg8)) := by
  unfold V
  rfl

theorem sin_eq (c : Dev nD) : (V m c main_v8 : S4352x128.Idx → EReal) = turnTab 0x00000000#32 (m ((c : Thread nD τ).loc main_arg9)) := by
  unfold V
  rfl

theorem shift_eq (c : Dev nD) : (V m c main_v11 : S16x1x1024.Idx → EReal)
    = modTab (m ((c : Thread nD τ).loc main_arg3)) (m ((c : Thread nD τ).loc main_arg5)) := by
  unfold V
  rfl

theorem scale_eq (c : Dev nD) : (V m c main_v13 : S16x1x1024.Idx → EReal)
    = modTab (m ((c : Thread nD τ).loc main_arg4)) (m ((c : Thread nD τ).loc main_arg6)) := by
  unfold V
  rfl

theorem turnTab_seq (w : BitVec 32) (a : S4096x64.Idx → EReal) (s : Fin 4352) (h : s.val < 4096) (l : Fin 128) :
    turnTab w a (ix2 s l) = a (ix2 ⟨s.val, h⟩ ⟨l.val % 64, by omega⟩) := by
  unfold turnTab
  pointwise
  rw [dif_pos h]
  split
  · congr 2; apply Fin.ext; show l.val = l.val % 64; omega
  · congr 2; apply Fin.ext; show l.val - 64 = l.val % 64; omega

theorem turnTab_ctx (w : BitVec 32) (a : S4096x64.Idx → EReal) (s : Fin 4352) (h : ¬ s.val < 4096) (l : Fin 128) :
    turnTab w a (ix2 s l) = Ideal.ofBits .f32 w := by
  unfold turnTab
  rw [concatenate_pair_apply]
  exact (dif_neg h).trans rfl

theorem modTab_seq (a : S8x1x1024.Idx → EReal) (b : S1x1x1024.Idx → EReal) (s : Fin 16) (h : s.val < 8) (j : Fin 1024) :
    modTab a b (ix3 s 0 j) = a (ix3 ⟨s.val, h⟩ 0 j) := by
  unfold modTab
  pointwise
  rw [dif_pos h]

theorem modTab_ctx (a : S8x1x1024.Idx → EReal) (b : S1x1x1024.Idx → EReal) (j : Fin 1024) :
    modTab a b (ix3 8 0 j) = b (ix3 0 0 j) := by
  unfold modTab
  pointwise

/-- The rows of a block. -/
theorem iblk0_eq (c : Dev nD) (t : Fin cfg0.N) (r : Fin 256) (j : Fin 1024) :
    iblk m c 0 t (ix2 r j) = (V m c main_v2 : S34816x1024.Idx → EReal) (ix2 ⟨256 * t.val + r.val, by have := lt136 t; omega⟩ j) := by
  blk_ext [iblk, idx t]

theorem iblk1_eq (c : Dev nD) (t : Fin cfg0.N) (j : Fin 1024) :
    iblk m c 1 t (ix2 0 j) = (V m c main_v9 : S1x1024.Idx → EReal) (ix2 0 j) := by
  blk_ext [iblk, idx t]

theorem iblk2_eq (c : Dev nD) (t : Fin cfg0.N) (j : Fin 1024) :
    iblk m c 2 t (ix3 0 0 j) = (V m c main_v11 : S16x1x1024.Idx → EReal) (ix3 ⟨t.val / 16, by have := lt136 t; omega⟩ 0 j) := by
  blk_ext [iblk, idx t]

theorem iblk3_eq (c : Dev nD) (t : Fin cfg0.N) (j : Fin 1024) :
    iblk m c 3 t (ix3 0 0 j) = (V m c main_v13 : S16x1x1024.Idx → EReal) (ix3 ⟨t.val / 16, by have := lt136 t; omega⟩ 0 j) := by
  blk_ext [iblk, idx t]

theorem iblk5_eq (c : Dev nD) (t : Fin cfg0.N) (r : Fin 256) (l : Fin 128) :
    iblk m c 5 t (ix2 r l) = (V m c main_v5 : S4352x128.Idx → EReal) (ix2 ⟨256 * (if t.val < 128 then t.val % 16 else 16) + r.val, by split <;> omega⟩ l) := by
  blk_ext [iblk, idx t]

theorem iblk6_eq (c : Dev nD) (t : Fin cfg0.N) (r : Fin 256) (l : Fin 128) :
    iblk m c 6 t (ix2 r l) = (V m c main_v8 : S4352x128.Idx → EReal) (ix2 ⟨256 * (if t.val < 128 then t.val % 16 else 16) + r.val, by split <;> omega⟩ l) := by
  blk_ext [iblk, idx t]

theorem iblk4_eq (c : Dev nD) (t : Fin cfg0.N) (k : Fin 1024) (j : Fin 3072) :
    iblk m c 4 t (ix2 k j) = m ((c : Thread nD τ).loc main_arg7) (ix2 k j) := by
  blk_ext! [iblk, V, idx t]

/-- The projected rows of a block. -/
theorem pay2_apply (x0 : Vec Ideal S256x1024 .f32) (x1 : Vec Ideal S1x1024 .f32) (x2 x3 : Vec Ideal S1x1x1024 .f32) (x4 : Vec Ideal S1024x3072 .bf16)
    (r : Fin 256) (col : Fin 3072) : k0_pay2 (F := Ideal) x0 x1 x2 x3 x4 (ix2 r col)
      = Cert.Proj.projected (fun j => x0 (ix2 r j)) (fun j => x1 (ix2 0 j)) (fun j => x2 (ix3 0 0 j)) (fun j => x3 (ix3 0 0 j)) (fun k j => x4 (ix2 k j)) col := by
  pointwise [k0_pay2]
  rfl

end Cert.QkvIdeal.Proj

end
-- ==== Proof.Qkv.KernelAt.lean ====
/- The projection kernel's arrays after its run, element by element. Hand-written, untrusted. -/
module

public import proofs.«01_k».proof.Proof.Qkv.Blocks

@[expose] public section

set_option maxRecDepth 16384

noncomputable section

namespace Cert.QkvIdeal.Proj

open Cert.Proj Cert.QkvIdeal Cert.QkvIdeal.Gen Idealize.ShloMosaic Idealize.ShloMosaic.TcCoe Idealize.SL.Sem
open Idealize.ShloMosaic.Tactic

/-- Turned columns, without the detour over the heads. -/
theorem turnedAt_eq (p : FVec Ideal S256x3072 .f32) (a b : FVec Ideal S256x128 .f32) (o : ℕ) (ho : o + 1024 ≤ 3072) (r : Fin 256) (x : Fin 1024)
    (z : Fin 1024 → EReal) (cs sn : Fin 64 → EReal) (hz : ∀ l : Fin 1024, p (ix2 r ⟨o + l.val, by omega⟩) = z l)
    (ha : ∀ l : Fin 128, a (ix2 r l) = cs ⟨l.val % 64, by omega⟩) (hb : ∀ l : Fin 128, b (ix2 r l) = sn ⟨l.val % 64, by omega⟩) :
    turnedAt p a b o ho r x = rotated z cs sn x := by
  unfold turnedAt rope rotated
  rw [ha, hb]
  have em : (⟨x.val % 128 % 64, by omega⟩ : Fin 64) = ⟨x.val % 64, by omega⟩ := Fin.ext (by show x.val % 128 % 64 = x.val % 64; omega)
  simp only [em]
  have e0 : (⟨o + (128 * (x.val / 128) + x.val % 128), by omega⟩ : Fin 3072) = ⟨o + x.val, by omega⟩ := Fin.ext (by show o + (128 * (x.val / 128) + x.val % 128) = o + x.val; omega)
  have hmod : x.val % 128 % 64 = x.val % 64 := by omega
  rw [e0, hz]
  by_cases h : x.val % 64 < 32
  · rw [dif_pos h, if_pos (by rw [hmod]; exact h)]
    have e1 : (⟨o + (128 * (x.val / 128) + (x.val % 128 + 32) % 128), by omega⟩ : Fin 3072) = ⟨o + (⟨x.val + 32, by omega⟩ : Fin 1024).val, by omega⟩ :=
      Fin.ext (by show o + (128 * (x.val / 128) + (x.val % 128 + 32) % 128) = o + (x.val + 32); omega)
    rw [e1, hz]
  · rw [dif_neg h, if_neg (by rw [hmod]; exact h)]
    have e1 : (⟨o + (128 * (x.val / 128) + (x.val % 128 + 96) % 128), by omega⟩ : Fin 3072) = ⟨o + (⟨x.val - 32, by omega⟩ : Fin 1024).val, by omega⟩ :=
      Fin.ext (by show o + (128 * (x.val / 128) + (x.val % 128 + 96) % 128) = o + (x.val - 32); omega)
    rw [e1, hz]

/-- With cosine one and sine zero nothing turns. -/
theorem turnedAt_flat (p : FVec Ideal S256x3072 .f32) (a b : FVec Ideal S256x128 .f32) (o : ℕ) (ho : o + 1024 ≤ 3072) (r : Fin 256) (x : Fin 1024)
    (ha : ∀ l : Fin 128, a (ix2 r l) = 1) (hb : ∀ l : Fin 128, b (ix2 r l) = 0) :
    turnedAt p a b o ho r x = p (ix2 r ⟨o + x.val, by omega⟩) := by
  unfold turnedAt rope
  rw [ha, hb, mul_one, mul_zero, add_zero]
  refine congrArg (fun z => p (ix2 r z)) (Fin.ext ?_)
  show o + (128 * (x.val / 128) + x.val % 128) = o + x.val
  omega

variable (m : (ℓ : Loc nD τ sig) → Buf (Elt Ideal) ℓ) (c : Dev nD)

/-- A projected row of the sequence. -/
def seqRow (b : Fin 8) (s : Fin 4096) (col : Fin 3072) : EReal :=
  projected (fun j => m ((c : Thread nD τ).loc main_arg0) (ix3 b s j)) (fun j => m ((c : Thread nD τ).loc main_arg2) (ix1 j))
    (fun j => m ((c : Thread nD τ).loc main_arg3) (ix3 b 0 j)) (fun j => m ((c : Thread nD τ).loc main_arg4) (ix3 b 0 j))
    (fun k j => m ((c : Thread nD τ).loc main_arg7) (ix2 k j)) col

/-- A projected row of the context. -/
def ctxRow (b : Fin 8) (s : Fin 256) (col : Fin 3072) : EReal :=
  projected (fun j => m ((c : Thread nD τ).loc main_arg1) (ix3 b s j)) (fun j => m ((c : Thread nD τ).loc main_arg2) (ix1 j))
    (fun j => m ((c : Thread nD τ).loc main_arg5) (ix3 0 0 j)) (fun j => m ((c : Thread nD τ).loc main_arg6) (ix3 0 0 j))
    (fun k j => m ((c : Thread nD τ).loc main_arg7) (ix2 k j)) col

/-- The cosines and the sines of a position. -/
def cosRow (s : Fin 4096) (l : Fin 64) : EReal := m ((c : Thread nD τ).loc main_arg8) (ix2 s l)
def sinRow (s : Fin 4096) (l : Fin 64) : EReal := m ((c : Thread nD τ).loc main_arg9) (ix2 s l)

/-- The projected rows of a block of the sequence. -/
theorem proj_seq (t : Fin cfg0.N) (h : t.val < 128) (r : Fin 256) (col : Fin 3072) :
    k0_pay2 (F := Ideal) (iblk m c 0 t) (iblk m c 1 t) (iblk m c 2 t) (iblk m c 3 t) (iblk m c 4 t) (ix2 r col)
      = seqRow m c ⟨t.val / 16, by omega⟩ ⟨256 * (t.val % 16) + r.val, by omega⟩ col := by
  rw [pay2_apply]
  unfold seqRow
  have h0 : ∀ j : Fin 1024, (iblk m c 0 t : Vec Ideal S256x1024 .f32) (ix2 r j)
      = m ((c : Thread nD τ).loc main_arg0) (ix3 (⟨t.val / 16, by omega⟩ : Fin 8) (⟨256 * (t.val % 16) + r.val, by omega⟩ : Fin 4096) j) := fun j => by
    rw [iblk0_eq, rows_at, dif_pos (show 256 * t.val + r.val < 32768 by omega)]
    refine congrArg (m ((c : Thread nD τ).loc main_arg0)) (congrArg₂ (fun a b => ix3 a b j) (Fin.ext ?_) (Fin.ext ?_))
    · show (256 * t.val + r.val) / 4096 = t.val / 16; omega
    · show (256 * t.val + r.val) % 4096 = 256 * (t.val % 16) + r.val; omega
  have h1 : ∀ j : Fin 1024, (iblk m c 1 t : Vec Ideal S1x1024 .f32) (ix2 0 j) = m ((c : Thread nD τ).loc main_arg2) (ix1 j) := fun j => by
    rw [iblk1_eq, gain_at]
  have h2 : ∀ j : Fin 1024, (iblk m c 2 t : Vec Ideal S1x1x1024 .f32) (ix3 0 0 j)
      = m ((c : Thread nD τ).loc main_arg3) (ix3 (⟨t.val / 16, by omega⟩ : Fin 8) 0 j) := fun j => by
    rw [iblk2_eq, shift_eq, modTab_seq _ _ _ (show t.val / 16 < 8 by omega)]
  have h3 : ∀ j : Fin 1024, (iblk m c 3 t : Vec Ideal S1x1x1024 .f32) (ix3 0 0 j)
      = m ((c : Thread nD τ).loc main_arg4) (ix3 (⟨t.val / 16, by omega⟩ : Fin 8) 0 j) := fun j => by
    rw [iblk3_eq, scale_eq, modTab_seq _ _ _ (show t.val / 16 < 8 by omega)]
  have h4 : ∀ (k : Fin 1024) (j : Fin 3072), (iblk m c 4 t : Vec Ideal S1024x3072 .bf16) (ix2 k j) = m ((c : Thread nD τ).loc main_arg7) (ix2 k j) :=
    fun k j => iblk4_eq m c t k j
  simp only [h0, h1, h2, h3, h4]

/-- The projected rows of a block of the context. -/
theorem proj_ctx (t : Fin cfg0.N) (h : ¬ t.val < 128) (r : Fin 256) (col : Fin 3072) :
    k0_pay2 (F := Ideal) (iblk m c 0 t) (iblk m c 1 t) (iblk m c 2 t) (iblk m c 3 t) (iblk m c 4 t) (ix2 r col)
      = ctxRow m c ⟨t.val - 128, by have := lt136 t; omega⟩ r col := by
  have ht := lt136 t
  rw [pay2_apply]
  unfold ctxRow
  have h0 : ∀ j : Fin 1024, (iblk m c 0 t : Vec Ideal S256x1024 .f32) (ix2 r j)
      = m ((c : Thread nD τ).loc main_arg1) (ix3 (⟨t.val - 128, by omega⟩ : Fin 8) r j) := fun j => by
    rw [iblk0_eq, rows_at, dif_neg (show ¬ 256 * t.val + r.val < 32768 by omega)]
    refine congrArg (m ((c : Thread nD τ).loc main_arg1)) (congrArg₂ (fun a b => ix3 a b j) (Fin.ext ?_) (Fin.ext ?_))
    · show (256 * t.val + r.val - 32768) / 256 = t.val - 128; omega
    · show (256 * t.val + r.val - 32768) % 256 = r.val; omega
  have h1 : ∀ j : Fin 1024, (iblk m c 1 t : Vec Ideal S1x1024 .f32) (ix2 0 j) = m ((c : Thread nD τ).loc main_arg2) (ix1 j) := fun j => by
    rw [iblk1_eq, gain_at]
  have e8 : (⟨t.val / 16, by omega⟩ : Fin 16) = 8 := Fin.ext (by show t.val / 16 = 8; omega)
  have h2 : ∀ j : Fin 1024, (iblk m c 2 t : Vec Ideal S1x1x1024 .f32) (ix3 0 0 j) = m ((c : Thread nD τ).loc main_arg5) (ix3 0 0 j) := fun j => by
    rw [iblk2_eq, shift_eq, e8, modTab_ctx]
  have h3 : ∀ j : Fin 1024, (iblk m c 3 t : Vec Ideal S1x1x1024 .f32) (ix3 0 0 j) = m ((c : Thread nD τ).loc main_arg6) (ix3 0 0 j) := fun j => by
    rw [iblk3_eq, scale_eq, e8, modTab_ctx]
  have h4 : ∀ (k : Fin 1024) (j : Fin 3072), (iblk m c 4 t : Vec Ideal S1024x3072 .bf16) (ix2 k j) = m ((c : Thread nD τ).loc main_arg7) (ix2 k j) :=
    fun k j => iblk4_eq m c t k j
  simp only [h0, h1, h2, h3, h4]

theorem cos_seq (t : Fin cfg0.N) (h : t.val < 128) (r : Fin 256) (l : Fin 128) : (iblk m c 5 t : Vec Ideal S256x128 .f32) (ix2 r l)
    = cosRow m c ⟨256 * (t.val % 16) + r.val, by omega⟩ ⟨l.val % 64, by omega⟩ := by
  rw [iblk5_eq]
  simp only [if_pos h]
  rw [cos_eq, turnTab_seq _ _ _ (show 256 * (t.val % 16) + r.val < 4096 by omega)]
  rfl

theorem sin_seq (t : Fin cfg0.N) (h : t.val < 128) (r : Fin 256) (l : Fin 128) : (iblk m c 6 t : Vec Ideal S256x128 .f32) (ix2 r l)
    = sinRow m c ⟨256 * (t.val % 16) + r.val, by omega⟩ ⟨l.val % 64, by omega⟩ := by
  rw [iblk6_eq]
  simp only [if_pos h]
  rw [sin_eq, turnTab_seq _ _ _ (show 256 * (t.val % 16) + r.val < 4096 by omega)]
  rfl

theorem cos_ctx (t : Fin cfg0.N) (h : ¬ t.val < 128) (r : Fin 256) (l : Fin 128) : (iblk m c 5 t : Vec Ideal S256x128 .f32) (ix2 r l) = (1 : EReal) := by
  rw [iblk5_eq]
  simp only [if_neg h]
  rw [cos_eq, turnTab_ctx _ _ _ (show ¬ 256 * 16 + r.val < 4096 by omega)]
  pointwise

theorem sin_ctx (t : Fin cfg0.N) (h : ¬ t.val < 128) (r : Fin 256) (l : Fin 128) : (iblk m c 6 t : Vec Ideal S256x128 .f32) (ix2 r l) = (0 : EReal) := by
  rw [iblk6_eq]
  simp only [if_neg h]
  rw [sin_eq, turnTab_ctx _ _ _ (show ¬ 256 * 16 + r.val < 4096 by omega)]
  pointwise

/-- The queries at an index. -/
def queryAt (r : Fin 34816) (x : Fin 1024) : EReal :=
  if h : r.val < 32768 then
    rotated (fun l => seqRow m c ⟨r.val / 4096, by omega⟩ ⟨r.val % 4096, by omega⟩ ⟨l.val, by omega⟩)
      (cosRow m c ⟨r.val % 4096, by omega⟩) (sinRow m c ⟨r.val % 4096, by omega⟩) x
  else ctxRow m c ⟨(r.val - 32768) / 256, by omega⟩ ⟨(r.val - 32768) % 256, by omega⟩ ⟨x.val, by omega⟩

/-- The keys at an index. -/
def keyAt (b : Fin 8) (s : Fin 4352) (x : Fin 1024) : EReal :=
  if h : s.val < 256 then ctxRow m c b ⟨s.val, h⟩ ⟨1024 + x.val, by omega⟩
  else rotated (fun l => seqRow m c b ⟨s.val - 256, by omega⟩ ⟨1024 + l.val, by omega⟩)
      (cosRow m c ⟨s.val - 256, by omega⟩) (sinRow m c ⟨s.val - 256, by omega⟩) x

/-- The values at an index. -/
def valueAt (b : Fin 8) (s : Fin 4352) (x : Fin 1024) : EReal :=
  if h : s.val < 256 then ctxRow m c b ⟨s.val, h⟩ ⟨2048 + x.val, by omega⟩
  else seqRow m c b ⟨s.val - 256, by omega⟩ ⟨2048 + x.val, by omega⟩

/-- What a grid point leaves in its block of the queries. -/
theorem query_point (t : Fin cfg0.N) (y : S256x1024.Idx) (r : Fin 34816) (x : Fin 1024) (hr : r.val = t.val * 256 + (y 0).val) (hx : x.val = (y 1).val) :
    out0_7 (iblk m c 0 t) (iblk m c 1 t) (iblk m c 2 t) (iblk m c 3 t) (iblk m c 4 t) (iblk m c 5 t) (iblk m c 6 t) y = queryAt m c r x := by
  have ht := lt136 t
  rw [outQ]
  unfold blkQ
  idx_vars y
  have hy : y0.val < 256 := y0.isLt
  have hr' : r.val = t.val * 256 + y0.val := hr
  have ex : x = y1 := Fin.ext hx
  subst ex
  show turnedAt _ _ _ 0 _ y0 x = _
  unfold queryAt
  by_cases h : t.val < 128
  · rw [dif_pos (show r.val < 32768 by omega)]
    have eb : (⟨r.val / 4096, by omega⟩ : Fin 8) = ⟨t.val / 16, by omega⟩ := Fin.ext (by show r.val / 4096 = t.val / 16; omega)
    have es : (⟨r.val % 4096, by omega⟩ : Fin 4096) = ⟨256 * (t.val % 16) + y0.val, by omega⟩ := Fin.ext (by show r.val % 4096 = 256 * (t.val % 16) + y0.val; omega)
    simp only [eb, es]
    refine turnedAt_eq _ _ _ 0 _ y0 x _ _ _ (fun l => ?_) (fun l => cos_seq m c t h y0 l) (fun l => sin_seq m c t h y0 l)
    rw [proj_seq m c t h]
    exact congrArg (seqRow m c _ _) (Fin.ext (Nat.zero_add _))
  · rw [dif_neg (show ¬ r.val < 32768 by omega)]
    have eb : (⟨(r.val - 32768) / 256, by omega⟩ : Fin 8) = ⟨t.val - 128, by omega⟩ := Fin.ext (by show (r.val - 32768) / 256 = t.val - 128; omega)
    have es : (⟨(r.val - 32768) % 256, by omega⟩ : Fin 256) = y0 := Fin.ext (by show (r.val - 32768) % 256 = y0.val; omega)
    simp only [eb, es]
    rw [turnedAt_flat _ _ _ _ _ _ _ (fun l => cos_ctx m c t h y0 l) (fun l => sin_ctx m c t h y0 l), proj_ctx m c t h]
    exact congrArg (ctxRow m c _ _) (Fin.ext (Nat.zero_add _))

/-- What a grid point leaves in its block of the keys. -/
theorem key_point (t : Fin cfg0.N) (y : S1x256x1024.Idx) (b : Fin 8) (s : Fin 4352) (x : Fin 1024)
    (hb : b.val = if t.val < 128 then t.val / 16 else t.val - 128) (hs : s.val = (if t.val < 128 then 1 + t.val % 16 else 0) * 256 + (y 1).val)
    (hx : x.val = (y 2).val) :
    out0_8 (iblk m c 0 t) (iblk m c 1 t) (iblk m c 2 t) (iblk m c 3 t) (iblk m c 4 t) (iblk m c 5 t) (iblk m c 6 t) y = keyAt m c b s x := by
  have ht := lt136 t
  rw [outK]
  unfold blkK
  idx_vars y
  have hy : y1.val < 256 := y1.isLt
  have hs' : s.val = (if t.val < 128 then 1 + t.val % 16 else 0) * 256 + y1.val := hs
  have ex : x = y2 := Fin.ext hx
  subst ex
  show turnedAt _ _ _ 1024 _ y1 x = _
  unfold keyAt
  by_cases h : t.val < 128
  · rw [if_pos h] at hb hs'
    rw [dif_neg (show ¬ s.val < 256 by omega)]
    have eb : b = ⟨t.val / 16, by omega⟩ := Fin.ext hb
    have es : (⟨s.val - 256, by omega⟩ : Fin 4096) = ⟨256 * (t.val % 16) + y1.val, by omega⟩ := Fin.ext (by show s.val - 256 = 256 * (t.val % 16) + y1.val; omega)
    simp only [eb, es]
    refine turnedAt_eq _ _ _ 1024 _ y1 x _ _ _ (fun l => ?_) (fun l => cos_seq m c t h y1 l) (fun l => sin_seq m c t h y1 l)
    rw [proj_seq m c t h]
  · rw [if_neg h] at hb hs'
    rw [dif_pos (show s.val < 256 by omega)]
    have eb : b = ⟨t.val - 128, by omega⟩ := Fin.ext hb
    have es : (⟨s.val, by omega⟩ : Fin 256) = y1 := Fin.ext (by show s.val = y1.val; omega)
    simp only [eb, es]
    rw [turnedAt_flat _ _ _ _ _ _ _ (fun l => cos_ctx m c t h y1 l) (fun l => sin_ctx m c t h y1 l), proj_ctx m c t h]

/-- What a grid point leaves in its block of the values. -/
theorem value_point (t : Fin cfg0.N) (y : S1x256x1024.Idx) (b : Fin 8) (s : Fin 4352) (x : Fin 1024)
    (hb : b.val = if t.val < 128 then t.val / 16 else t.val - 128) (hs : s.val = (if t.val < 128 then 1 + t.val % 16 else 0) * 256 + (y 1).val)
    (hx : x.val = (y 2).val) :
    out0_9 (iblk m c 0 t) (iblk m c 1 t) (iblk m c 2 t) (iblk m c 3 t) (iblk m c 4 t) (iblk m c 5 t) (iblk m c 6 t) y = valueAt m c b s x := by
  have ht := lt136 t
  rw [outV]
  idx_vars y
  have hy : y1.val < 256 := y1.isLt
  have hs' : s.val = (if t.val < 128 then 1 + t.val % 16 else 0) * 256 + y1.val := hs
  have ex : x = y2 := Fin.ext hx
  subst ex
  show k0_pay2 _ _ _ _ _ (ix2 y1 ⟨2048 + x.val, _⟩) = _
  unfold valueAt
  by_cases h : t.val < 128
  · rw [if_pos h] at hb hs'
    rw [dif_neg (show ¬ s.val < 256 by omega)]
    have eb : b = ⟨t.val / 16, by omega⟩ := Fin.ext hb
    have es : (⟨s.val - 256, by omega⟩ : Fin 4096) = ⟨256 * (t.val % 16) + y1.val, by omega⟩ := Fin.ext (by show s.val - 256 = 256 * (t.val % 16) + y1.val; omega)
    rw [eb, es, proj_seq m c t h]
  · rw [if_neg h] at hb hs'
    rw [dif_pos (show s.val < 256 by omega)]
    have eb : b = ⟨t.val - 128, by omega⟩ := Fin.ext hb
    have es : (⟨s.val, by omega⟩ : Fin 256) = y1 := Fin.ext (by show s.val = y1.val; omega)
    rw [eb, es, proj_ctx m c t h]

/-- The array of the queries after the run. -/
theorem query_arr : (dats m 0 c).arrAt 7 cfg0.N = fun i : S34816x1024.Idx => queryAt m c (i 0) (i 1) := by
  refine (dats m 0 c).arrAt_eq_of_covers 7 _ (by decide +kernel) fun t hf y => ?_
  blk_simp
  rw [after0_7]
  refine query_point m c t y _ _ ?_ ?_
  · blk_simp [idx t]
  · blk_simp [idx t]

/-- The array of the keys after the run. -/
theorem key_arr : (dats m 0 c).arrAt 8 cfg0.N = fun i : S8x4352x1024.Idx => keyAt m c (i 0) (i 1) (i 2) := by
  refine (dats m 0 c).arrAt_eq_of_covers 8 _ (by decide +kernel) fun t hf y => ?_
  blk_simp
  rw [after0_8]
  refine key_point m c t y _ _ _ ?_ ?_ ?_
  · blk_simp [idx t]
  · blk_simp [idx t]
  · blk_simp [idx t]

/-- The array of the values after the run. -/
theorem value_arr : (dats m 0 c).arrAt 9 cfg0.N = fun i : S8x4352x1024.Idx => valueAt m c (i 0) (i 1) (i 2) := by
  refine (dats m 0 c).arrAt_eq_of_covers 9 _ (by decide +kernel) fun t hf y => ?_
  blk_simp
  rw [after0_9]
  refine value_point m c t y _ _ _ ?_ ?_ ?_
  · blk_simp [idx t]
  · blk_simp [idx t]
  · blk_simp [idx t]

end Cert.QkvIdeal.Proj

end
-- ==== Proof.Qkv.RefAt.lean ====
/- The projection's reference read at an index. Hand-written, untrusted. -/
module

public import proofs.«01_k».proof.Proof.Gen.QkvReferenceIdeal.Read
public import proofs.«01_k».proof.Proof.Qkv.Spec
public import Idealize.ShloMosaic.Lib.Pointwise

@[expose] public section

set_option maxRecDepth 16384

noncomputable section

namespace Cert.QkvReferenceIdeal.Proj

open Cert.Proj Cert.QkvReferenceIdeal Cert.QkvReferenceIdeal.Gen Cert.QkvReferenceIdeal.Read Idealize.ShloMosaic Idealize.ShloMosaic.TcCoe
open Idealize.ShloMosaic.Tactic

variable (x : S8x4096x1024.Idx → EReal) (ctx : S8x256x1024.Idx → EReal) (g : S1024.Idx → EReal) (sh sc : S8x1x1024.Idx → EReal)
  (shc scc : S1x1x1024.Idx → EReal) (w : S1024x3072.Idx → EReal) (cos sin : S4096x64.Idx → EReal)

/-- The modulated rows of the sequence. -/
theorem v18_at (b : Fin 8) (s : Fin 4096) (j : Fin 1024) : val_main_v18 (F := Ideal) x g sh sc (ix3 b s j)
    = modulated (fun j => x (ix3 b s j)) (fun j => g (ix1 j)) (fun j => sh (ix3 b 0 j)) (fun j => sc (ix3 b 0 j)) j := by
  pointwise [val_main_v18, val_main_v17, val_main_v16, val_main_v15, val_main_v14, val_main_v13, val_main_v12, val_main_v11, val_main_v10, val_main_v9,
    val_main_v8, val_main_v7, val_main_v6, val_main_v5, val_main_v4, val_main_v3, val_main_v2, val_main_v1, val_main_v0, val_main_cst, val_main_cst_0,
    val_main_cst_1, val_main_cst_2]
  rfl

/-- The modulated rows of the context. -/
theorem v37_at (b : Fin 8) (s : Fin 256) (j : Fin 1024) : val_main_v37 (F := Ideal) ctx g shc scc (ix3 b s j)
    = modulated (fun j => ctx (ix3 b s j)) (fun j => g (ix1 j)) (fun j => shc (ix3 0 0 j)) (fun j => scc (ix3 0 0 j)) j := by
  pointwise [val_main_v37, val_main_v36, val_main_v35, val_main_v34, val_main_v33, val_main_v32, val_main_v31, val_main_v30, val_main_v29, val_main_v28,
    val_main_v27, val_main_v26, val_main_v25, val_main_v24, val_main_v23, val_main_v22, val_main_v21, val_main_v20, val_main_v19, val_main_cst_3, val_main_cst_4,
    val_main_cst_5, val_main_cst_6]
  rfl

/-- The sequence's projected row. -/
def seqRow (b : Fin 8) (s : Fin 4096) (col : Fin 3072) : EReal :=
  projected (fun j => x (ix3 b s j)) (fun j => g (ix1 j)) (fun j => sh (ix3 b 0 j)) (fun j => sc (ix3 b 0 j)) (fun k j => w (ix2 k j)) col

/-- The context's projected row. -/
def ctxRow (b : Fin 8) (s : Fin 256) (col : Fin 3072) : EReal :=
  projected (fun j => ctx (ix3 b s j)) (fun j => g (ix1 j)) (fun j => shc (ix3 0 0 j)) (fun j => scc (ix3 0 0 j)) (fun k j => w (ix2 k j)) col

theorem v39_at (b : Fin 8) (s : Fin 4096) (col : Fin 1024) : val_main_v39 (F := Ideal) x g sh sc w (ix3 b s col)
    = seqRow x g sh sc w b s ⟨col.val, by omega⟩ := by
  pointwise [val_main_v39, val_main_v38]
  simp only [v18_at]
  rfl

theorem v55_at (b : Fin 8) (s : Fin 256) (col : Fin 1024) : val_main_v55 (F := Ideal) ctx g shc scc w (ix3 b s col)
    = ctxRow ctx g shc scc w b s ⟨col.val, by omega⟩ := by
  pointwise [val_main_v55, val_main_v54]
  simp only [v37_at]
  rfl

theorem v58_at (b : Fin 8) (s : Fin 4096) (col : Fin 2048) : val_main_v58 (F := Ideal) x g sh sc w (ix3 b s col)
    = seqRow x g sh sc w b s ⟨1024 + col.val, by omega⟩ := by
  pointwise [val_main_v58, val_main_v57]
  simp only [v18_at]
  rfl

theorem v77_at (b : Fin 8) (s : Fin 256) (col : Fin 2048) : val_main_v77 (F := Ideal) ctx g shc scc w (ix3 b s col)
    = ctxRow ctx g shc scc w b s ⟨1024 + col.val, by omega⟩ := by
  pointwise [val_main_v77, val_main_v76]
  simp only [v37_at]
  rfl

end Cert.QkvReferenceIdeal.Proj

end
-- ==== Proof.Qkv.RefRows.lean ====
/- The projection's reference: its results read at an index. Hand-written, untrusted. -/
module

public import proofs.«01_k».proof.Proof.Qkv.RefAt

@[expose] public section

set_option maxRecDepth 16384

noncomputable section

namespace Cert.QkvReferenceIdeal.Proj

open Cert.Proj Cert.QkvReferenceIdeal Cert.QkvReferenceIdeal.Gen Cert.QkvReferenceIdeal.Read Idealize.ShloMosaic Idealize.ShloMosaic.TcCoe
open Idealize.ShloMosaic.Tactic

variable (x : S8x4096x1024.Idx → EReal) (ctx : S8x256x1024.Idx → EReal) (g : S1024.Idx → EReal) (sh sc : S8x1x1024.Idx → EReal)
  (shc scc : S1x1x1024.Idx → EReal) (w : S1024x3072.Idx → EReal) (cos sin : S4096x64.Idx → EReal)

theorem v40_at (b : Fin 8) (s : Fin 4096) (h : Fin 8) (e : Fin 2) (d : Fin 64) : val_main_v40 (F := Ideal) x g sh sc w (ix5 b s h e d)
    = val_main_v39 (F := Ideal) x g sh sc w (ix3 b s ⟨h.val * 128 + e.val * 64 + d.val, by omega⟩) := by
  pointwise [val_main_v40]

/-- The half turn of the two halves of a component. -/
theorem v44_at (b : Fin 8) (s : Fin 4096) (h : Fin 8) (e : Fin 2) (d : Fin 64) : val_main_v44 (F := Ideal) x g sh sc w (ix5 b s h e d)
    = if hd : d.val < 32 then -val_main_v40 (F := Ideal) x g sh sc w (ix5 b s h e ⟨32 + d.val, by omega⟩)
      else val_main_v40 (F := Ideal) x g sh sc w (ix5 b s h e ⟨d.val - 32, by omega⟩) := by
  unfold val_main_v44
  rw [concatenate_pair_apply]
  by_cases hd : d.val < 32
  · rw [dif_pos hd]
    refine (dif_pos hd).trans ?_
    pointwise [val_main_v42, val_main_v41]
  · rw [dif_neg hd]
    refine (dif_neg hd).trans ?_
    pointwise [val_main_v43]

theorem v48_at (b : Fin 8) (s : Fin 4096) (h : Fin 8) (e : Fin 2) (d : Fin 64) : val_main_v48 (F := Ideal) cos (ix5 b s h e d) = cos (ix2 s d) := by
  pointwise [val_main_v48, val_main_v47, val_main_v45]

theorem v51_at (b : Fin 8) (s : Fin 4096) (h : Fin 8) (e : Fin 2) (d : Fin 64) : val_main_v51 (F := Ideal) sin (ix5 b s h e d) = sin (ix2 s d) := by
  pointwise [val_main_v51, val_main_v50, val_main_v46]

/-- The rotated queries of the sequence. -/
theorem v53_at (b : Fin 8) (s : Fin 4096) (h : Fin 8) (e : Fin 2) (d : Fin 64) : val_main_v53 (F := Ideal) x g sh sc w cos sin (ix5 b s h e d)
    = rotated (fun l => seqRow x g sh sc w b s ⟨l.val, by omega⟩) (fun l => cos (ix2 s l)) (fun l => sin (ix2 s l))
        ⟨h.val * 128 + e.val * 64 + d.val, by omega⟩ := by
  rw [val_main_v53, val_main_v52, val_main_v49]
  show val_main_v40 (F := Ideal) x g sh sc w (ix5 b s h e d) * val_main_v48 (F := Ideal) cos (ix5 b s h e d)
    + val_main_v44 (F := Ideal) x g sh sc w (ix5 b s h e d) * val_main_v51 (F := Ideal) sin (ix5 b s h e d) = _
  rw [v44_at, v48_at, v51_at]
  simp only [v40_at, v39_at]
  have hm : (h.val * 128 + e.val * 64 + d.val) % 64 = d.val := by omega
  unfold rotated
  simp only [hm]
  by_cases hd : d.val < 32
  · rw [dif_pos hd, dif_pos hd]
    congr 3
    apply congrArg
    apply Fin.ext; show h.val * 128 + e.val * 64 + (32 + d.val) = h.val * 128 + e.val * 64 + d.val + 32; omega
  · rw [dif_neg hd, dif_neg hd]
    congr 3
    apply Fin.ext; show h.val * 128 + e.val * 64 + (d.val - 32) = h.val * 128 + e.val * 64 + d.val - 32; omega

theorem v59_at (b : Fin 8) (s : Fin 4096) (col : Fin 1024) : val_main_v59 (F := Ideal) x g sh sc w (ix3 b s col)
    = seqRow x g sh sc w b s ⟨1024 + col.val, by omega⟩ := by
  pointwise [val_main_v59]
  rw [v58_at]

theorem v61_at (b : Fin 8) (s : Fin 4096) (h : Fin 8) (e : Fin 2) (d : Fin 64) : val_main_v61 (F := Ideal) x g sh sc w (ix5 b s h e d)
    = val_main_v59 (F := Ideal) x g sh sc w (ix3 b s ⟨h.val * 128 + e.val * 64 + d.val, by omega⟩) := by
  pointwise [val_main_v61]

/-- The half turn of the two halves of a component. -/
theorem v66_at (b : Fin 8) (s : Fin 4096) (h : Fin 8) (e : Fin 2) (d : Fin 64) : val_main_v66 (F := Ideal) x g sh sc w (ix5 b s h e d)
    = if hd : d.val < 32 then -val_main_v61 (F := Ideal) x g sh sc w (ix5 b s h e ⟨32 + d.val, by omega⟩)
      else val_main_v61 (F := Ideal) x g sh sc w (ix5 b s h e ⟨d.val - 32, by omega⟩) := by
  unfold val_main_v66
  rw [concatenate_pair_apply]
  by_cases hd : d.val < 32
  · rw [dif_pos hd]
    refine (dif_pos hd).trans ?_
    pointwise [val_main_v64, val_main_v63]
  · rw [dif_neg hd]
    refine (dif_neg hd).trans ?_
    pointwise [val_main_v65]

theorem v70_at (b : Fin 8) (s : Fin 4096) (h : Fin 8) (e : Fin 2) (d : Fin 64) : val_main_v70 (F := Ideal) cos (ix5 b s h e d) = cos (ix2 s d) := by
  pointwise [val_main_v70, val_main_v69, val_main_v67]

theorem v73_at (b : Fin 8) (s : Fin 4096) (h : Fin 8) (e : Fin 2) (d : Fin 64) : val_main_v73 (F := Ideal) sin (ix5 b s h e d) = sin (ix2 s d) := by
  pointwise [val_main_v73, val_main_v72, val_main_v68]

/-- The rotated keys of the sequence. -/
theorem v75_at (b : Fin 8) (s : Fin 4096) (h : Fin 8) (e : Fin 2) (d : Fin 64) : val_main_v75 (F := Ideal) x g sh sc w cos sin (ix5 b s h e d)
    = rotated (fun l => seqRow x g sh sc w b s ⟨1024 + l.val, by omega⟩) (fun l => cos (ix2 s l)) (fun l => sin (ix2 s l))
        ⟨h.val * 128 + e.val * 64 + d.val, by omega⟩ := by
  rw [val_main_v75, val_main_v74, val_main_v71]
  show val_main_v61 (F := Ideal) x g sh sc w (ix5 b s h e d) * val_main_v70 (F := Ideal) cos (ix5 b s h e d)
    + val_main_v66 (F := Ideal) x g sh sc w (ix5 b s h e d) * val_main_v73 (F := Ideal) sin (ix5 b s h e d) = _
  rw [v66_at, v70_at, v73_at]
  simp only [v61_at, v59_at]
  have hm : (h.val * 128 + e.val * 64 + d.val) % 64 = d.val := by omega
  unfold rotated
  simp only [hm]
  by_cases hd : d.val < 32
  · rw [dif_pos hd, dif_pos hd]
    congr 3
    apply congrArg
    apply Fin.ext; show 1024 + (h.val * 128 + e.val * 64 + (32 + d.val)) = 1024 + (h.val * 128 + e.val * 64 + d.val + 32); omega
  · rw [dif_neg hd, dif_neg hd]
    congr 3
    apply Fin.ext; show 1024 + (h.val * 128 + e.val * 64 + (d.val - 32)) = 1024 + (h.val * 128 + e.val * 64 + d.val - 32); omega

/-- The context's queries. -/
theorem v56_at (b : Fin 8) (s : Fin 256) (h : Fin 8) (e : Fin 2) (d : Fin 64) : val_main_v56 (F := Ideal) ctx g shc scc w (ix5 b s h e d)
    = ctxRow ctx g shc scc w b s ⟨h.val * 128 + e.val * 64 + d.val, by omega⟩ := by
  pointwise [val_main_v56]
  rw [v55_at]

/-- The context's keys. -/
theorem v80_at (b : Fin 8) (s : Fin 256) (h : Fin 8) (e : Fin 2) (d : Fin 64) : val_main_v80 (F := Ideal) ctx g shc scc w (ix5 b s h e d)
    = ctxRow ctx g shc scc w b s ⟨1024 + (h.val * 128 + e.val * 64 + d.val), by omega⟩ := by
  pointwise [val_main_v80, val_main_v78]
  rw [v77_at]

/-- The context's values. -/
theorem v81_at (b : Fin 8) (s : Fin 256) (h : Fin 8) (d : Fin 128) : val_main_v81 (F := Ideal) ctx g shc scc w (ix4 b s h d)
    = ctxRow ctx g shc scc w b s ⟨2048 + (h.val * 128 + d.val), by omega⟩ := by
  pointwise [val_main_v81, val_main_v79]
  rw [v77_at]
  congr 1
  apply Fin.ext; show 1024 + (1024 + (h.val * 128 + d.val)) = 2048 + (h.val * 128 + d.val); omega

/-- The sequence's values. -/
theorem v62_at (b : Fin 8) (s : Fin 4096) (h : Fin 8) (d : Fin 128) : val_main_v62 (F := Ideal) x g sh sc w (ix4 b s h d)
    = seqRow x g sh sc w b s ⟨2048 + (h.val * 128 + d.val), by omega⟩ := by
  pointwise [val_main_v62, val_main_v60]
  rw [v58_at]
  congr 1
  apply Fin.ext; show 1024 + (1024 + (h.val * 128 + d.val)) = 2048 + (h.val * 128 + d.val); omega

end Cert.QkvReferenceIdeal.Proj

end
-- ==== Proof.Qkv.RefQueries.lean ====
/- The projection's reference: its first result read at an index. Hand-written, untrusted. -/
module

public import proofs.«01_k».proof.Proof.Qkv.RefRows

@[expose] public section

set_option maxRecDepth 16384

noncomputable section

namespace Cert.QkvReferenceIdeal.Proj

open Cert.Proj Cert.QkvReferenceIdeal Cert.QkvReferenceIdeal.Gen Cert.QkvReferenceIdeal.Read Idealize.ShloMosaic Idealize.ShloMosaic.TcCoe
open Idealize.ShloMosaic.Tactic

variable (x : S8x4096x1024.Idx → EReal) (ctx : S8x256x1024.Idx → EReal) (g : S1024.Idx → EReal) (sh sc : S8x1x1024.Idx → EReal)
  (shc scc : S1x1x1024.Idx → EReal) (w : S1024x3072.Idx → EReal) (cos sin : S4096x64.Idx → EReal)

/-- The queries, all rows: the sequences' and then the contexts'. -/
theorem v87_at (r : Fin 34816) (c : Fin 1024) : val_main_v87 (F := Ideal) x ctx g sh sc shc scc w cos sin (ix2 r c)
    = if h : r.val < 32768 then
        rotated (fun l => seqRow x g sh sc w ⟨r.val / 4096, by omega⟩ ⟨r.val % 4096, by omega⟩ ⟨l.val, by omega⟩)
          (fun l => cos (ix2 ⟨r.val % 4096, by omega⟩ l)) (fun l => sin (ix2 ⟨r.val % 4096, by omega⟩ l)) c
      else ctxRow ctx g shc scc w ⟨(r.val - 32768) / 256, by omega⟩ ⟨(r.val - 32768) % 256, by omega⟩ ⟨c.val, by omega⟩ := by
  show val_main_v86 (F := Ideal) x ctx g sh sc shc scc w cos sin (ix2 r c) = _
  unfold val_main_v86
  rw [concatenate_pair_apply]
  by_cases h : r.val < 32768
  · rw [dif_pos h]
    refine (dif_pos h).trans ?_
    pointwise [val_main_v84]
    rw [v53_at]
    congr 1
    apply Fin.ext; show c.val / 128 * 128 + c.val / 64 % 2 * 64 + c.val % 64 = c.val; omega
  · rw [dif_neg h]
    refine (dif_neg h).trans ?_
    pointwise [val_main_v85]
    rw [v56_at]
    congr 1
    apply Fin.ext; show c.val / 128 * 128 + c.val / 64 % 2 * 64 + c.val % 64 = c.val; omega

end Cert.QkvReferenceIdeal.Proj

end
-- ==== Proof.Qkv.RefKeys.lean ====
/- The projection's reference: its second and third results read at an index. Hand-written, untrusted. -/
module

public import proofs.«01_k».proof.Proof.Qkv.RefQueries

@[expose] public section

set_option maxRecDepth 16384

noncomputable section

namespace Cert.QkvReferenceIdeal.Proj

open Cert.Proj Cert.QkvReferenceIdeal Cert.QkvReferenceIdeal.Gen Cert.QkvReferenceIdeal.Read Idealize.ShloMosaic Idealize.ShloMosaic.TcCoe
open Idealize.ShloMosaic.Tactic

variable (x : S8x4096x1024.Idx → EReal) (ctx : S8x256x1024.Idx → EReal) (g : S1024.Idx → EReal) (sh sc : S8x1x1024.Idx → EReal)
  (shc scc : S1x1x1024.Idx → EReal) (w : S1024x3072.Idx → EReal) (cos sin : S4096x64.Idx → EReal)

/-- Over the reals a cast is the identity. -/
theorem trunc_id (y : EReal) : FloatOps.truncf (F := Ideal) (φ := .f32) .bf16 bitsLt_bf16_f32 y = y := rfl

/-- The reshape's source index. -/
theorem idx88 (b : Fin 8) (s : Fin 4352) (c : Fin 1024) : idx_main_v88 (ix3 b s c) = ix5 b s (⟨c.val / 128, by omega⟩ : Fin 8) (⟨c.val / 64 % 2, by omega⟩ : Fin 2) (⟨c.val % 64, by omega⟩ : Fin 64) :=
  funext fun a => match a with
    | ⟨0, _⟩ => Fin.ext (by show ((b.val * 4352 + s.val) * 1024 + c.val) / 4456448 = b.val; omega)
    | ⟨1, _⟩ => Fin.ext (by show ((b.val * 4352 + s.val) * 1024 + c.val) / 1024 % 4352 = s.val; omega)
    | ⟨2, _⟩ => Fin.ext (by show ((b.val * 4352 + s.val) * 1024 + c.val) / 128 % 8 = c.val / 128; omega)
    | ⟨3, _⟩ => Fin.ext (by show ((b.val * 4352 + s.val) * 1024 + c.val) / 64 % 2 = c.val / 64 % 2; omega)
    | ⟨4, _⟩ => Fin.ext (by show ((b.val * 4352 + s.val) * 1024 + c.val) % 64 = c.val % 64; omega)

/-- The keys: the context's positions and then the sequence's. -/
theorem v89_at (b : Fin 8) (s : Fin 4352) (c : Fin 1024) : val_main_v89 (F := Ideal) x ctx g sh sc shc scc w cos sin (ix3 b s c)
    = if h : s.val < 256 then ctxRow ctx g shc scc w b ⟨s.val, h⟩ ⟨1024 + c.val, by omega⟩
      else rotated (fun l => seqRow x g sh sc w b ⟨s.val - 256, by omega⟩ ⟨1024 + l.val, by omega⟩)
          (fun l => cos (ix2 ⟨s.val - 256, by omega⟩ l)) (fun l => sin (ix2 ⟨s.val - 256, by omega⟩ l)) c := by
  rw [val_main_v89_apply, val_main_v88_apply, idx88]
  refine (trunc_id _).trans ?_
  unfold val_main_v82
  by_cases h : s.val < 256
  · rw [dif_pos h]
    refine (concatenate_pair_apply_left (t := S8x4352x8x2x64) (s₁ := S8x256x8x2x64) (s₂ := S8x4096x8x2x64) 1 _ _ _ (ix5 b s (⟨c.val / 128, by omega⟩ : Fin 8) (⟨c.val / 64 % 2, by omega⟩ : Fin 2) (⟨c.val % 64, by omega⟩ : Fin 64)) rfl (ix5 b (⟨s.val, h⟩ : Fin 256) (⟨c.val / 128, by omega⟩ : Fin 8) (⟨c.val / 64 % 2, by omega⟩ : Fin 2) (⟨c.val % 64, by omega⟩ : Fin 64))
      (fun a => match a with | ⟨0, _⟩ => rfl | ⟨1, _⟩ => rfl | ⟨2, _⟩ => rfl | ⟨3, _⟩ => rfl | ⟨4, _⟩ => rfl)).trans ?_
    rw [v80_at]
    congr 1
    apply Fin.ext; show 1024 + (c.val / 128 * 128 + c.val / 64 % 2 * 64 + c.val % 64) = 1024 + c.val; omega
  · rw [dif_neg h]
    refine (concatenate_pair_apply_right (t := S8x4352x8x2x64) (s₁ := S8x256x8x2x64) (s₂ := S8x4096x8x2x64) 1 _ _ _ (ix5 b s (⟨c.val / 128, by omega⟩ : Fin 8) (⟨c.val / 64 % 2, by omega⟩ : Fin 2) (⟨c.val % 64, by omega⟩ : Fin 64)) rfl rfl (ix5 b (⟨s.val - 256, by omega⟩ : Fin 4096) (⟨c.val / 128, by omega⟩ : Fin 8) (⟨c.val / 64 % 2, by omega⟩ : Fin 2) (⟨c.val % 64, by omega⟩ : Fin 64))
      (fun a => match a with | ⟨0, _⟩ => fun _ => rfl | ⟨1, _⟩ => fun hb => absurd rfl hb | ⟨2, _⟩ => fun _ => rfl | ⟨3, _⟩ => fun _ => rfl | ⟨4, _⟩ => fun _ => rfl)
      (by show s.val - 256 + 256 = s.val; omega)).trans ?_
    rw [v75_at]
    congr 1
    apply Fin.ext; show c.val / 128 * 128 + c.val / 64 % 2 * 64 + c.val % 64 = c.val; omega

/-- The reshape's source index. -/
theorem idx90 (b : Fin 8) (s : Fin 4352) (c : Fin 1024) : idx_main_v90 (ix3 b s c) = ix4 b s (⟨c.val / 128, by omega⟩ : Fin 8) (⟨c.val % 128, by omega⟩ : Fin 128) :=
  funext fun a => match a with
    | ⟨0, _⟩ => Fin.ext (by show ((b.val * 4352 + s.val) * 1024 + c.val) / 4456448 = b.val; omega)
    | ⟨1, _⟩ => Fin.ext (by show ((b.val * 4352 + s.val) * 1024 + c.val) / 1024 % 4352 = s.val; omega)
    | ⟨2, _⟩ => Fin.ext (by show ((b.val * 4352 + s.val) * 1024 + c.val) / 128 % 8 = c.val / 128; omega)
    | ⟨3, _⟩ => Fin.ext (by show ((b.val * 4352 + s.val) * 1024 + c.val) % 128 = c.val % 128; omega)

/-- The values: the context's positions and then the sequence's. -/
theorem v91_at (b : Fin 8) (s : Fin 4352) (c : Fin 1024) : val_main_v91 (F := Ideal) x ctx g sh sc shc scc w (ix3 b s c)
    = if h : s.val < 256 then ctxRow ctx g shc scc w b ⟨s.val, h⟩ ⟨2048 + c.val, by omega⟩
      else seqRow x g sh sc w b ⟨s.val - 256, by omega⟩ ⟨2048 + c.val, by omega⟩ := by
  rw [val_main_v91_apply, val_main_v90_apply, idx90]
  refine (trunc_id _).trans ?_
  unfold val_main_v83
  by_cases h : s.val < 256
  · rw [dif_pos h]
    refine (concatenate_pair_apply_left (t := S8x4352x8x128) (s₁ := S8x256x8x128) (s₂ := S8x4096x8x128) 1 _ _ _ (ix4 b s (⟨c.val / 128, by omega⟩ : Fin 8) (⟨c.val % 128, by omega⟩ : Fin 128)) rfl (ix4 b (⟨s.val, h⟩ : Fin 256) (⟨c.val / 128, by omega⟩ : Fin 8) (⟨c.val % 128, by omega⟩ : Fin 128))
      (fun a => match a with | ⟨0, _⟩ => rfl | ⟨1, _⟩ => rfl | ⟨2, _⟩ => rfl | ⟨3, _⟩ => rfl)).trans ?_
    rw [v81_at]
    congr 1
    apply Fin.ext; show 2048 + (c.val / 128 * 128 + c.val % 128) = 2048 + c.val; omega
  · rw [dif_neg h]
    refine (concatenate_pair_apply_right (t := S8x4352x8x128) (s₁ := S8x256x8x128) (s₂ := S8x4096x8x128) 1 _ _ _ (ix4 b s (⟨c.val / 128, by omega⟩ : Fin 8) (⟨c.val % 128, by omega⟩ : Fin 128)) rfl rfl (ix4 b (⟨s.val - 256, by omega⟩ : Fin 4096) (⟨c.val / 128, by omega⟩ : Fin 8) (⟨c.val % 128, by omega⟩ : Fin 128))
      (fun a => match a with | ⟨0, _⟩ => fun _ => rfl | ⟨1, _⟩ => fun hb => absurd rfl hb | ⟨2, _⟩ => fun _ => rfl | ⟨3, _⟩ => fun _ => rfl)
      (by show s.val - 256 + 256 = s.val; omega)).trans ?_
    rw [v62_at]
    congr 1
    apply Fin.ext; show 2048 + (c.val / 128 * 128 + c.val % 128) = 2048 + c.val; omega

end Cert.QkvReferenceIdeal.Proj

end
-- ==== Proof.Qkv.Equation.lean ====
/- The projections' claim: the three arrays the kernel leaves are the reference's. Hand-written, untrusted. -/
module

public import proofs.«01_k».proof.Proof.Qkv.KernelAt
public import proofs.«01_k».proof.Proof.Qkv.RefKeys

@[expose] public section

set_option maxRecDepth 16384

noncomputable section

namespace Cert.QkvIdeal.Proj

open Cert.QkvIdeal Cert.QkvIdeal.Gen Idealize.ShloMosaic Idealize.ShloMosaic.TcCoe Idealize.SL.Sem

variable (m : (ℓ : Loc nD τ sig) → Buf (Elt Ideal) ℓ) (c : Dev nD)

/-- The queries the kernel leaves are the queries the reference computes of the same arguments. -/
theorem query_eq_ref : (dats m 0 c).arrAt 7 cfg0.N = Cert.QkvReferenceIdeal.Read.val_main_v87 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) := by
  rw [query_arr]
  funext i
  refine Eq.trans ?_ ((Cert.QkvReferenceIdeal.Proj.v87_at _ _ _ _ _ _ _ _ _ _ (i 0) (i 1)).symm.trans (congrArg _ ?_))
  · rfl
  · exact funext fun a => match a with | ⟨0, _⟩ => rfl | ⟨1, _⟩ => rfl

/-- The keys the kernel leaves are the keys the reference computes of the same arguments. -/
theorem key_eq_ref : (dats m 0 c).arrAt 8 cfg0.N = Cert.QkvReferenceIdeal.Read.val_main_v89 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) := by
  rw [key_arr]
  funext i
  refine Eq.trans ?_ ((Cert.QkvReferenceIdeal.Proj.v89_at _ _ _ _ _ _ _ _ _ _ (i 0) (i 1) (i 2)).symm.trans (congrArg _ ?_))
  · rfl
  · exact funext fun a => match a with | ⟨0, _⟩ => rfl | ⟨1, _⟩ => rfl | ⟨2, _⟩ => rfl

/-- The values the kernel leaves are the values the reference computes of the same arguments. -/
theorem value_eq_ref : (dats m 0 c).arrAt 9 cfg0.N = Cert.QkvReferenceIdeal.Read.val_main_v91 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) := by
  rw [value_arr]
  funext i
  refine Eq.trans ?_ ((Cert.QkvReferenceIdeal.Proj.v91_at _ _ _ _ _ _ _ _ (i 0) (i 1) (i 2)).symm.trans (congrArg _ ?_))
  · rfl
  · exact funext fun a => match a with | ⟨0, _⟩ => rfl | ⟨1, _⟩ => rfl | ⟨2, _⟩ => rfl

end Cert.QkvIdeal.Proj

end
-- ==== Proof.Shared.KernelAt.lean ====
/- The shared expert's kernel read at an index: the blocks of a grid point as elements of the program's arguments, and the
   result array after the run. Hand-written, untrusted. -/
module

public import proofs.«01_k».proof.Proof.Gen.SharedIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.SharedIdeal.Expert

open Cert.SharedIdeal Cert.SharedIdeal.Gen Idealize.ShloMosaic Idealize.ShloMosaic.TcCoe Idealize.SL.Sem
open Idealize.ShloMosaic.Tactic

/-- The block indices of every window at every grid point. -/
theorem idx : ∀ t : Fin grid0.N, win0_0.index t = ![t.val, 0] ∧ win0_1.index t = ![0, 0] ∧ win0_2.index t = ![0, 0]
    ∧ win0_3.index t = ![t.val, 0] := by decide +kernel

variable (m : (ℓ : Loc nD τ sig) → Buf (Elt Ideal) ℓ)

theorem lt68 (t : Fin cfg0.N) : t.val < 68 := lt_of_lt_of_eq t.isLt N_0

/-- The rows' block of a point is 512 rows of the tokens. -/
theorem iblk0_eq (c : Dev nD) (t : Fin cfg0.N) (y : S512x1024.Idx) :
    iblk m c 0 t y = m ((c : Thread nD τ).loc main_arg0) (ix2 ⟨t.val * 512 + (y 0).val, by have := lt68 t; have h : (y 0).val < 512 := (y 0).isLt; omega⟩ (y 1)) := by
  blk_ext! [iblk, V, idx t]

/-- The second projection's block is the argument. -/
theorem iblk2_eq (c : Dev nD) (t : Fin cfg0.N) (y : S256x1024.Idx) :
    iblk m c 2 t y = m ((c : Thread nD τ).loc main_arg3) y := by
  blk_ext! [iblk, V, idx t]

/-- The first projection's array as the launch finds it: the gate's weights and the other factor's side by side. -/
theorem weights_at (c : Dev nD) (k : Fin 1024) (j : Fin 512) :
    (V m c main_v1 : S1024x512.Idx → EReal) (ix2 k j) = if h : j.val < 256 then m ((c : Thread nD τ).loc main_arg1) (ix2 k ⟨j.val, h⟩)
      else m ((c : Thread nD τ).loc main_arg2) (ix2 k ⟨j.val - 256, by omega⟩) := by
  unfold V
  entry_read
  pointwise

/-- The first projection's block is that array. -/
theorem iblk1_eq (c : Dev nD) (t : Fin cfg0.N) (k : Fin 1024) (j : Fin 512) :
    iblk m c 1 t (ix2 k j) = (V m c main_v1 : S1024x512.Idx → EReal) (ix2 k j) := by
  blk_ext [iblk, idx t]

/-- The first projection's block, in its first half the gate's weights … -/
theorem iblk1_gate (c : Dev nD) (t : Fin cfg0.N) (k : Fin 1024) (f : Fin 256) :
    iblk m c 1 t (ix2 k ⟨f.val, by omega⟩) = m ((c : Thread nD τ).loc main_arg1) (ix2 k f) := by
  rw [iblk1_eq, weights_at, dif_pos f.isLt]

/-- … and in its second the other factor's. -/
theorem iblk1_up (c : Dev nD) (t : Fin cfg0.N) (k : Fin 1024) (f : Fin 256) :
    iblk m c 1 t (ix2 k ⟨256 + f.val, by omega⟩) = m ((c : Thread nD τ).loc main_arg2) (ix2 k f) := by
  rw [iblk1_eq, weights_at, dif_neg (by simp)]
  refine congrArg (fun z => m ((c : Thread nD τ).loc main_arg2) (ix2 k z)) (Fin.ext ?_)
  simp

/-- The hidden unit of the expert, from its two projections. -/
def hidden (g u : EReal) : EReal := g * Ideal.div 1 (1 + Ideal.exp (-g)) * u

/-- The kernel's payload at an index. -/
theorem pay_apply (x0 : Vec Ideal S512x1024 .bf16) (x1 : Vec Ideal S1024x512 .bf16) (x2 : Vec Ideal S256x1024 .bf16) (r : Fin 512) (d : Fin 1024) :
    k0_pay1 (F := Ideal) x0 x1 x2 (ix2 r d) = ∑ f : Fin 256, hidden (∑ k : Fin 1024, x0 (ix2 r k) * x1 (ix2 k ⟨f.val, by omega⟩))
      (∑ k : Fin 1024, x0 (ix2 r k) * x1 (ix2 k ⟨256 + f.val, by omega⟩)) * x2 (ix2 f d) := by
  pointwise [k0_pay1]
  simp only [zero_sub]
  rfl

/-- The kernel's result at an index, of its arguments. -/
def outAt (x : S34816x1024.Idx → EReal) (wg wu : S1024x256.Idx → EReal) (wd : S256x1024.Idx → EReal) (r : Fin 34816) (d : Fin 1024) : EReal :=
  ∑ f : Fin 256, hidden (∑ k : Fin 1024, x (ix2 r k) * wg (ix2 k f)) (∑ k : Fin 1024, x (ix2 r k) * wu (ix2 k f)) * wd (ix2 f d)

/-- What a grid point leaves in its output block. -/
theorem out_point (c : Dev nD) (t : Fin cfg0.N) (y : S512x1024.Idx) (r : Fin 34816) (d : Fin 1024)
    (hr : r.val = t.val * 512 + (y 0).val) (hd : d.val = (y 1).val) :
    out0_3 (iblk m c 0 t) (iblk m c 1 t) (iblk m c 2 t) y = outAt (m ((c : Thread nD τ).loc main_arg0))
      (m ((c : Thread nD τ).loc main_arg1)) (m ((c : Thread nD τ).loc main_arg2)) (m ((c : Thread nD τ).loc main_arg3)) r d := by
  idx_vars y
  frame_out
  rw [pay_apply]
  unfold outAt
  have e0 : ∀ k : Fin 1024, (iblk m c 0 t : Vec Ideal S512x1024 .bf16) (ix2 y0 k) = m ((c : Thread nD τ).loc main_arg0) (ix2 r k) := fun k => by
    rw [iblk0_eq]
    exact congrArg (m ((c : Thread nD τ).loc main_arg0)) (congrArg (fun z => ix2 z k) (Fin.ext hr.symm))
  have ed : y1 = d := Fin.ext hd.symm
  subst ed
  refine Finset.sum_congr rfl fun f _ => ?_
  rw [iblk2_eq m c t]
  simp only [e0, iblk1_gate m c t, iblk1_up m c t]

/-- THE RESULT ARRAY after the run: `outAt` of the arguments, element by element. -/
theorem arr_eq (c : Dev nD) :
    (dats m 0 c).arrAt 3 cfg0.N = fun i : S34816x1024.Idx => outAt (m ((c : Thread nD τ).loc main_arg0))
      (m ((c : Thread nD τ).loc main_arg1)) (m ((c : Thread nD τ).loc main_arg2)) (m ((c : Thread nD τ).loc main_arg3)) (i 0) (i 1) := by
  refine (dats m 0 c).arrAt_eq_of_covers 3 _ (by decide +kernel) fun t hf y => ?_
  blk_simp
  rw [after0_3]
  refine out_point m c t y _ _ ?_ ?_
  · blk_simp [idx t]
  · blk_simp [idx t]

end Cert.SharedIdeal.Expert

end
-- ==== Proof.Shared.RefAt.lean ====
/- The shared expert's reference read at an index. Hand-written, untrusted. -/
module

public import proofs.«01_k».proof.Proof.Gen.SharedReferenceIdeal.Read
public import Idealize.ShloMosaic.Lib.Pointwise

@[expose] public section

set_option maxRecDepth 16384

noncomputable section

namespace Cert.SharedReferenceIdeal.Expert

open Cert.SharedReferenceIdeal Cert.SharedReferenceIdeal.Gen Cert.SharedReferenceIdeal.Read Idealize.ShloMosaic Idealize.ShloMosaic.TcCoe
open Idealize.ShloMosaic.Tactic

/-- The reference's result at an index. -/
theorem ref_apply (x : S34816x1024.Idx → EReal) (wg wu : S1024x256.Idx → EReal) (wd : S256x1024.Idx → EReal) (r : Fin 34816) (d : Fin 1024) :
    val_main_v5 (F := Ideal) x wg wu wd (ix2 r d)
      = ∑ f : Fin 256, (∑ k : Fin 1024, x (ix2 r k) * wg (ix2 k f)) * Ideal.div 1 (1 + Ideal.exp (-∑ k : Fin 1024, x (ix2 r k) * wg (ix2 k f)))
          * (∑ k : Fin 1024, x (ix2 r k) * wu (ix2 k f)) * wd (ix2 f d) := by
  pointwise [val_main_v5, val_main_v4, val_main_v3, val_main_v2, val_main_v1, val_main_v0, val_main_call0_v5, val_main_call0_v4, val_main_call0_v3,
    val_main_call0_v2, val_main_call0_v1, val_main_call0_v0, val_main_call0_cst, val_main_call0_cst_0]

end Cert.SharedReferenceIdeal.Expert

end
-- ==== Proof.Shared.Equation.lean ====
/- The shared expert's claim: the array the kernel leaves is the reference's. Hand-written, untrusted. -/
module

public import proofs.«01_k».proof.Proof.Shared.KernelAt
public import proofs.«01_k».proof.Proof.Shared.RefAt

@[expose] public section

set_option maxRecDepth 16384

noncomputable section

namespace Cert.SharedIdeal.Expert

open Cert.SharedIdeal Cert.SharedIdeal.Gen Idealize.ShloMosaic Idealize.ShloMosaic.TcCoe Idealize.SL.Sem

/-- The array the kernel leaves is the array the reference computes of the same arguments. -/
theorem arr_eq_ref (m : (ℓ : Loc nD τ sig) → Buf (Elt Ideal) ℓ) (c : Dev nD) :
    (dats m 0 c).arrAt 3 cfg0.N = Cert.SharedReferenceIdeal.Read.val_main_v5 (F := Ideal) (m ((c : Thread nD τ).loc main_arg0))
      (m ((c : Thread nD τ).loc main_arg1)) (m ((c : Thread nD τ).loc main_arg2)) (m ((c : Thread nD τ).loc main_arg3)) := by
  rw [arr_eq]
  funext i
  refine (Cert.SharedReferenceIdeal.Expert.ref_apply _ _ _ _ (i 0) (i 1)).symm.trans (congrArg _ ?_)
  exact funext fun a => match a with | ⟨0, _⟩ => rfl | ⟨1, _⟩ => rfl

end Cert.SharedIdeal.Expert

end
-- ==== Proof.Inproj.Spec.lean ====
/- The input projection's results as functions of its arguments, element by element. Hand-written, untrusted. -/
module

public import proofs.«01_k».proof.Proof.Qkv.Spec

@[expose] public section

noncomputable section

namespace Cert.Inproj.Spec

open Idealize.ShloMosaic

/-- The modulated row times a weight's columns. -/
def column (x g sh sc : Fin 1024 → EReal) (w : Fin 1024 → Fin 1536 → EReal) (col : Fin 1536) : EReal :=
  ∑ k, Cert.Proj.modulated x g sh sc k * w k col

/-- A value times the logistic of its gate. -/
def gated (u v : EReal) : EReal := u * Ideal.div 1 (1 + Ideal.exp (-v))

/-- Four groups of 128 channels, each times a table of cosines, and then the same times a table of sines. -/
def spectral (z : Fin 512 → EReal) (cs sn : Fin 128 → Fin 128 → EReal) (col : Fin 1024) : EReal :=
  if h : col.val < 512 then ∑ l : Fin 128, z ⟨128 * (col.val / 128) + l.val, by omega⟩ * cs l ⟨col.val % 128, by omega⟩
  else ∑ l : Fin 128, z ⟨128 * ((col.val - 512) / 128) + l.val, by omega⟩ * sn l ⟨col.val % 128, by omega⟩

end Cert.Inproj.Spec

end
-- ==== Proof.Inproj.Pieces.lean ====
/- The input projection's payloads read at an index. Hand-written, untrusted. -/
module

public import proofs.«01_k».proof.Proof.Gen.InprojIdeal.Value
public import proofs.«01_k».proof.Proof.Inproj.Spec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.InprojIdeal.Proj

open Cert.InprojIdeal Cert.InprojIdeal.Gen Idealize.ShloMosaic Idealize.ShloMosaic.TcCoe
open Idealize.ShloMosaic.Tactic

/-- A sum of products over one group's channels, the places spelled in two ways. -/
theorem group_sum (p : FVec Ideal S512x1536 .f32) (cs : Vec Ideal S128x256 .bf16) (r : Fin 512) (a b : Fin 128 → Fin 1536) (c d : Fin 256)
    (hab : ∀ l, (a l).val = (b l).val) (hcd : c.val = d.val) : ∑ l, p (ix2 r (a l)) * cs (ix2 l c) = ∑ l, p (ix2 r (b l)) * cs (ix2 l d) := by
  have e : a = b := funext fun l => Fin.ext (hab l)
  have e' : c = d := Fin.ext hcd
  rw [e, e']

set_option maxHeartbeats 1000000 in
/-- The transformed channels at an index. -/
theorem pay2_apply (p : FVec Ideal S512x1536 .f32) (cs : Vec Ideal S128x256 .bf16) (r : Fin 512) (col : Fin 1024) :
    k0_pay2 (F := Ideal) p cs cs cs cs (ix2 r col)
      = Cert.Inproj.Spec.spectral (fun z => p (ix2 r ⟨1024 + z.val, by omega⟩)) (fun l k => cs (ix2 l ⟨k.val, by omega⟩))
          (fun l k => cs (ix2 l ⟨128 + k.val, by omega⟩)) col := by
  unfold Cert.Inproj.Spec.spectral
  pointwise [k0_pay2]
  have hc := col.isLt
  by_cases h0 : col.val < 128
  · rw [dif_pos h0, dif_pos (by omega)]
    exact group_sum p cs r _ _ _ _ (fun l => by dsimp only; omega) (by dsimp only; omega)
  rw [dif_neg h0]
  by_cases h1 : col.val - 128 < 128
  · rw [dif_pos h1, dif_pos (by omega)]
    exact group_sum p cs r _ _ _ _ (fun l => by dsimp only; omega) (by dsimp only; omega)
  rw [dif_neg h1]
  by_cases h2 : col.val - 128 - 128 < 128
  · rw [dif_pos h2, dif_pos (by omega)]
    exact group_sum p cs r _ _ _ _ (fun l => by dsimp only; omega) (by dsimp only; omega)
  rw [dif_neg h2]
  by_cases h3 : col.val - 128 - 128 - 128 < 128
  · rw [dif_pos h3, dif_pos (by omega)]
    exact group_sum p cs r _ _ _ _ (fun l => by dsimp only; omega) (by dsimp only; omega)
  rw [dif_neg h3]
  by_cases h4 : col.val - 128 - 128 - 128 - 128 < 128
  · rw [dif_pos h4, dif_neg (by omega)]
    exact group_sum p cs r _ _ _ _ (fun l => by dsimp only; omega) (by dsimp only; omega)
  rw [dif_neg h4]
  by_cases h5 : col.val - 128 - 128 - 128 - 128 - 128 < 128
  · rw [dif_pos h5, dif_neg (by omega)]
    exact group_sum p cs r _ _ _ _ (fun l => by dsimp only; omega) (by dsimp only; omega)
  rw [dif_neg h5]
  by_cases h6 : col.val - 128 - 128 - 128 - 128 - 128 - 128 < 128
  · rw [dif_pos h6, dif_neg (by omega)]
    exact group_sum p cs r _ _ _ _ (fun l => by dsimp only; omega) (by dsimp only; omega)
  rw [dif_neg h6, dif_neg (by omega)]
  exact group_sum p cs r _ _ _ _ (fun l => by dsimp only; omega) (by dsimp only; omega)

/-- The projected rows at an index, of the first rows' block … -/
theorem pay3_head (i : grid0.Coords) (hi : (i 0).val < 64) (x0 x1 : Vec Ideal S512x1024 .f32) (g : Vec Ideal S1x1024 .f32) (sh sc : Vec Ideal S1x1x1024 .f32) (w : Vec Ideal S1024x1536 .bf16)
    (r : Fin 512) (col : Fin 1536) : k0_pay3 (F := Ideal) i x0 x1 g sh sc w (ix2 r col)
      = Cert.Inproj.Spec.column (fun j => x0 (ix2 r j)) (fun j => g (ix2 0 j)) (fun j => sh (ix3 0 0 j)) (fun j => sc (ix3 0 0 j)) (fun k j => w (ix2 k j)) col := by
  have h : Scalar.cmpi .slt (BitVec.ofNat 32 (i 0).val) 64#32 = 1#1 := by
    have e : ∀ n : Fin 64, Scalar.cmpi .slt (BitVec.ofNat 32 n.val) 64#32 = 1#1 := by decide +kernel
    exact e ⟨_, hi⟩
  unfold k0_pay3
  simp only [h]
  pointwise
  rfl

/-- … and of the second's. -/
theorem pay3_tail (i : grid0.Coords) (hi : ¬ (i 0).val < 64) (x0 x1 : Vec Ideal S512x1024 .f32) (g : Vec Ideal S1x1024 .f32) (sh sc : Vec Ideal S1x1x1024 .f32) (w : Vec Ideal S1024x1536 .bf16)
    (r : Fin 512) (col : Fin 1536) : k0_pay3 (F := Ideal) i x0 x1 g sh sc w (ix2 r col)
      = Cert.Inproj.Spec.column (fun j => x1 (ix2 r j)) (fun j => g (ix2 0 j)) (fun j => sh (ix3 0 0 j)) (fun j => sc (ix3 0 0 j)) (fun k j => w (ix2 k j)) col := by
  have h : Scalar.cmpi .slt (BitVec.ofNat 32 (i 0).val) 64#32 = 0#1 := by
    have e : ∀ n : Fin 68, ¬ n.val < 64 → Scalar.cmpi .slt (BitVec.ofNat 32 n.val) 64#32 = 0#1 := by decide +kernel
    exact e ⟨_, (i 0).isLt⟩ hi
  unfold k0_pay3
  simp only [h]
  pointwise
  rfl

/-- The gated half at an index. -/
theorem pay1_apply (i : grid0.Coords) (x0 x1 : Vec Ideal S512x1024 .f32) (g : Vec Ideal S1x1024 .f32) (sh sc : Vec Ideal S1x1x1024 .f32) (w : Vec Ideal S1024x1536 .bf16)
    (r : Fin 512) (col : Fin 512) : k0_pay1 (F := Ideal) (k0_pay4 i x0 x1 g sh sc w) (k0_pay5 i x0 x1 g sh sc w) (ix2 r col)
      = Cert.Inproj.Spec.gated (k0_pay3 (F := Ideal) i x0 x1 g sh sc w (ix2 r ⟨col.val, by omega⟩)) (k0_pay3 (F := Ideal) i x0 x1 g sh sc w (ix2 r ⟨512 + col.val, by omega⟩)) := by
  unfold k0_pay4 k0_pay5
  generalize k0_pay3 i x0 x1 g sh sc w = p
  pointwise [k0_pay1]
  simp only [zero_sub]
  rfl

variable (x0 x1 : Vec Ideal S512x1024 .f32) (g : Vec Ideal S1x1024 .f32) (sh sc : Vec Ideal S1x1x1024 .f32) (w : Vec Ideal S1024x1536 .bf16) (cs : Vec Ideal S128x256 .bf16)

/-- What a grid point leaves in the block of the gated half. -/
theorem outA (i : grid0.Coords) (y : S512x512.Idx) : out0_7 i x0 x1 g sh sc w cs y
    = Cert.Inproj.Spec.gated (k0_pay3 (F := Ideal) i x0 x1 g sh sc w (ix2 (y 0) ⟨(y 1).val, by have : (y 1).val < 512 := (y 1).isLt; omega⟩))
        (k0_pay3 (F := Ideal) i x0 x1 g sh sc w (ix2 (y 0) ⟨512 + (y 1).val, by have : (y 1).val < 512 := (y 1).isLt; omega⟩)) := by
  idx_vars y
  frame_out
  rw [pay1_apply]

/-- What a grid point leaves in the block of the transformed channels. -/
theorem outF (i : grid0.Coords) (y : S512x1024.Idx) : out0_8 i x0 x1 g sh sc w cs y
    = Cert.Inproj.Spec.spectral (fun z => k0_pay3 (F := Ideal) i x0 x1 g sh sc w (ix2 (y 0) ⟨1024 + z.val, by omega⟩)) (fun l k => cs (ix2 l ⟨k.val, by omega⟩))
          (fun l k => cs (ix2 l ⟨128 + k.val, by omega⟩)) (y 1) := by
  idx_vars y
  frame_out
  rw [pay2_apply]

end Cert.InprojIdeal.Proj

end
-- ==== Proof.Inproj.Blocks.lean ====
/- The blocks that a grid point of the input projection reads, as elements of the program's arguments. Hand-written,
   untrusted. -/
module

public import proofs.«01_k».proof.Proof.Inproj.Pieces

@[expose] public section

set_option maxRecDepth 16384

noncomputable section

namespace Cert.InprojIdeal.Proj

open Cert.InprojIdeal Cert.InprojIdeal.Gen Idealize.ShloMosaic Idealize.ShloMosaic.TcCoe Idealize.SL.Sem
open Idealize.ShloMosaic.Tactic

/-- The block indices of every window at every grid point. -/
theorem idx : ∀ t : Fin grid0.N, win0_0.index t = ![min t.val 63, 0] ∧ win0_1.index t = ![t.val - 64, 0] ∧ win0_2.index t = ![0, 0]
    ∧ win0_3.index t = ![t.val / 8, 0, 0] ∧ win0_4.index t = ![t.val / 8, 0, 0] ∧ win0_5.index t = ![0, 0] ∧ win0_6.index t = ![0, 0]
    ∧ win0_7.index t = ![t.val, 0] ∧ win0_8.index t = ![t.val, 0] := by decide +kernel

/-- The grid coordinate of a point is its number. -/
theorem coord : ∀ t : Fin grid0.N, (grid0.coords t 0).val = t.val := by decide +kernel

variable (m : (ℓ : Loc nD τ sig) → Buf (Elt Ideal) ℓ)

theorem lt68 (t : Fin cfg0.N) : t.val < 68 := lt_of_lt_of_eq t.isLt N_0

/-- The sequences' rows as the launch finds them. -/
theorem rows_at (c : Dev nD) (r : Fin 32768) (j : Fin 1024) : (V m c main_v2 : S32768x1024.Idx → EReal) (ix2 r j)
    = m ((c : Thread nD τ).loc main_arg0) (ix3 ⟨r.val / 4096, by omega⟩ ⟨r.val % 4096, by omega⟩ j) := by
  unfold V
  entry_read
  pointwise

/-- The contexts' rows. -/
theorem ctx_at (c : Dev nD) (r : Fin 2048) (j : Fin 1024) : (V m c main_v3 : S2048x1024.Idx → EReal) (ix2 r j)
    = m ((c : Thread nD τ).loc main_arg1) (ix3 ⟨r.val / 256, by omega⟩ ⟨r.val % 256, by omega⟩ j) := by
  unfold V
  entry_read
  pointwise

theorem gain_at (c : Dev nD) (j : Fin 1024) :
    (V m c main_v4 : S1x1024.Idx → EReal) (ix2 0 j) = m ((c : Thread nD τ).loc main_arg2) (ix1 j) := by
  unfold V
  entry_read
  pointwise

/-- The modulations as the launch finds them: the sequences', the context's and rows of zeros. -/
def modTab (a : S8x1x1024.Idx → EReal) (b : S1x1x1024.Idx → EReal) : S16x1x1024.Idx → EReal :=
  concatenate S16x1x1024 0 [⟨S8x1x1024, a⟩, ⟨S1x1x1024, b⟩,
    ⟨S7x1x1024, broadcastInDim S7x1x1024 ![] bcast_S_S7x1x1024 (constant (F := Ideal) S_ .f32 0x00000000#32)⟩]
    concatenates_S8x1x1024_S1x1x1024_S7x1x1024_S16x1x1024_d0

/-- The tables of the transform as the launch finds them, side by side. -/
def tabs (a b : S128x128.Idx → EReal) : S128x256.Idx → EReal :=
  concatenate S128x256 1 [⟨S128x128, a⟩, ⟨S128x128, b⟩] concatenates_S128x128_S128x128_S128x256_d1

theorem shift_eq (c : Dev nD) : (V m c main_v6 : S16x1x1024.Idx → EReal)
    = modTab (m ((c : Thread nD τ).loc main_arg3)) (m ((c : Thread nD τ).loc main_arg5)) := by
  unfold V
  rfl

theorem scale_eq (c : Dev nD) : (V m c main_v8 : S16x1x1024.Idx → EReal)
    = modTab (m ((c : Thread nD τ).loc main_arg4)) (m ((c : Thread nD τ).loc main_arg6)) := by
  unfold V
  rfl

theorem tabs_eq (c : Dev nD) : (V m c main_v1 : S128x256.Idx → EReal)
    = tabs (m ((c : Thread nD τ).loc main_arg8)) (m ((c : Thread nD τ).loc main_arg9)) := by
  unfold V
  rfl

theorem modTab_seq (a : S8x1x1024.Idx → EReal) (b : S1x1x1024.Idx → EReal) (s : Fin 16) (h : s.val < 8) (j : Fin 1024) :
    modTab a b (ix3 s 0 j) = a (ix3 ⟨s.val, h⟩ 0 j) := by
  unfold modTab
  pointwise
  rw [dif_pos h]

theorem modTab_ctx (a : S8x1x1024.Idx → EReal) (b : S1x1x1024.Idx → EReal) (j : Fin 1024) :
    modTab a b (ix3 8 0 j) = b (ix3 0 0 j) := by
  unfold modTab
  pointwise

theorem tabs_cos (a b : S128x128.Idx → EReal) (l k : Fin 128) : tabs a b (ix2 l ⟨k.val, by omega⟩) = a (ix2 l k) := by
  unfold tabs
  pointwise

theorem tabs_sin (a b : S128x128.Idx → EReal) (l k : Fin 128) : tabs a b (ix2 l ⟨128 + k.val, by omega⟩) = b (ix2 l k) := by
  unfold tabs
  pointwise

/-- The first rows' block. -/
theorem iblk0_eq (c : Dev nD) (t : Fin cfg0.N) (r : Fin 512) (j : Fin 1024) :
    iblk m c 0 t (ix2 r j) = (V m c main_v2 : S32768x1024.Idx → EReal) (ix2 ⟨512 * min t.val 63 + r.val, by omega⟩ j) := by
  blk_ext [iblk, idx t]

/-- The second rows' block. -/
theorem iblk1_eq (c : Dev nD) (t : Fin cfg0.N) (r : Fin 512) (j : Fin 1024) :
    iblk m c 1 t (ix2 r j) = (V m c main_v3 : S2048x1024.Idx → EReal) (ix2 ⟨512 * (t.val - 64) + r.val, by have := lt68 t; omega⟩ j) := by
  blk_ext [iblk, idx t]

theorem iblk2_eq (c : Dev nD) (t : Fin cfg0.N) (j : Fin 1024) :
    iblk m c 2 t (ix2 0 j) = (V m c main_v4 : S1x1024.Idx → EReal) (ix2 0 j) := by
  blk_ext [iblk, idx t]

theorem iblk3_eq (c : Dev nD) (t : Fin cfg0.N) (j : Fin 1024) :
    iblk m c 3 t (ix3 0 0 j) = (V m c main_v6 : S16x1x1024.Idx → EReal) (ix3 ⟨t.val / 8, by have := lt68 t; omega⟩ 0 j) := by
  blk_ext [iblk, idx t]

theorem iblk4_eq (c : Dev nD) (t : Fin cfg0.N) (j : Fin 1024) :
    iblk m c 4 t (ix3 0 0 j) = (V m c main_v8 : S16x1x1024.Idx → EReal) (ix3 ⟨t.val / 8, by have := lt68 t; omega⟩ 0 j) := by
  blk_ext [iblk, idx t]

theorem iblk5_eq (c : Dev nD) (t : Fin cfg0.N) (k : Fin 1024) (j : Fin 1536) :
    iblk m c 5 t (ix2 k j) = m ((c : Thread nD τ).loc main_arg7) (ix2 k j) := by
  blk_ext! [iblk, V, idx t]

theorem iblk6_eq (c : Dev nD) (t : Fin cfg0.N) (l : Fin 128) (k : Fin 256) :
    iblk m c 6 t (ix2 l k) = (V m c main_v1 : S128x256.Idx → EReal) (ix2 l k) := by
  blk_ext [iblk, idx t]

end Cert.InprojIdeal.Proj

end
-- ==== Proof.Inproj.KernelAt.lean ====
/- The input projection's arrays after its run, element by element. Hand-written, untrusted. -/
module

public import proofs.«01_k».proof.Proof.Inproj.Blocks

@[expose] public section

set_option maxRecDepth 16384

noncomputable section

namespace Cert.InprojIdeal.Proj

open Cert.Inproj.Spec Cert.InprojIdeal Cert.InprojIdeal.Gen Idealize.ShloMosaic Idealize.ShloMosaic.TcCoe Idealize.SL.Sem
open Idealize.ShloMosaic.Tactic

variable (m : (ℓ : Loc nD τ sig) → Buf (Elt Ideal) ℓ) (c : Dev nD)

/-- A row of the sequence through the projection. -/
def seqRow (b : Fin 8) (s : Fin 4096) (col : Fin 1536) : EReal :=
  column (fun j => m ((c : Thread nD τ).loc main_arg0) (ix3 b s j)) (fun j => m ((c : Thread nD τ).loc main_arg2) (ix1 j))
    (fun j => m ((c : Thread nD τ).loc main_arg3) (ix3 b 0 j)) (fun j => m ((c : Thread nD τ).loc main_arg4) (ix3 b 0 j))
    (fun k j => m ((c : Thread nD τ).loc main_arg7) (ix2 k j)) col

/-- A row of the context through the projection. -/
def ctxRow (b : Fin 8) (s : Fin 256) (col : Fin 1536) : EReal :=
  column (fun j => m ((c : Thread nD τ).loc main_arg1) (ix3 b s j)) (fun j => m ((c : Thread nD τ).loc main_arg2) (ix1 j))
    (fun j => m ((c : Thread nD τ).loc main_arg5) (ix3 0 0 j)) (fun j => m ((c : Thread nD τ).loc main_arg6) (ix3 0 0 j))
    (fun k j => m ((c : Thread nD τ).loc main_arg7) (ix2 k j)) col

/-- A row of the kernel's rows, sequences first, through the projection. -/
def row (r : Fin 34816) (col : Fin 1536) : EReal :=
  if h : r.val < 32768 then seqRow m c ⟨r.val / 4096, by omega⟩ ⟨r.val % 4096, by omega⟩ col
  else ctxRow m c ⟨(r.val - 32768) / 256, by omega⟩ ⟨(r.val - 32768) % 256, by omega⟩ col

/-- The cosines and the sines of the transform. -/
def cosAt (l k : Fin 128) : EReal := m ((c : Thread nD τ).loc main_arg8) (ix2 l k)
def sinAt (l k : Fin 128) : EReal := m ((c : Thread nD τ).loc main_arg9) (ix2 l k)

/-- The projected rows of a grid point. -/
theorem row_point (t : Fin cfg0.N) (y0 : Fin 512) (r : Fin 34816) (hr : r.val = t.val * 512 + y0.val) (col : Fin 1536) :
    k0_pay3 (F := Ideal) (grid0.coords t) (iblk m c 0 t) (iblk m c 1 t) (iblk m c 2 t) (iblk m c 3 t) (iblk m c 4 t) (iblk m c 5 t) (ix2 y0 col)
      = row m c r col := by
  have ht := lt68 t
  have h2 : ∀ j : Fin 1024, (iblk m c 2 t : Vec Ideal S1x1024 .f32) (ix2 0 j) = m ((c : Thread nD τ).loc main_arg2) (ix1 j) := fun j => by
    rw [iblk2_eq, gain_at]
  have h5 : ∀ (k : Fin 1024) (j : Fin 1536), (iblk m c 5 t : Vec Ideal S1024x1536 .bf16) (ix2 k j) = m ((c : Thread nD τ).loc main_arg7) (ix2 k j) :=
    fun k j => iblk5_eq m c t k j
  unfold row
  by_cases h : t.val < 64
  · rw [dif_pos (show r.val < 32768 by omega), pay3_head _ (by rw [coord]; exact h)]
    unfold seqRow
    have h0 : ∀ j : Fin 1024, (iblk m c 0 t : Vec Ideal S512x1024 .f32) (ix2 y0 j)
        = m ((c : Thread nD τ).loc main_arg0) (ix3 (⟨r.val / 4096, by omega⟩ : Fin 8) (⟨r.val % 4096, by omega⟩ : Fin 4096) j) := fun j => by
      rw [iblk0_eq, rows_at]
      refine congrArg (m ((c : Thread nD τ).loc main_arg0)) (congrArg₂ (fun a b => ix3 a b j) (Fin.ext ?_) (Fin.ext ?_))
      · show (512 * min t.val 63 + y0.val) / 4096 = r.val / 4096; omega
      · show (512 * min t.val 63 + y0.val) % 4096 = r.val % 4096; omega
    have es : (⟨t.val / 8, by omega⟩ : Fin 8) = ⟨r.val / 4096, by omega⟩ := Fin.ext (by show t.val / 8 = r.val / 4096; omega)
    have h3 : ∀ j : Fin 1024, (iblk m c 3 t : Vec Ideal S1x1x1024 .f32) (ix3 0 0 j)
        = m ((c : Thread nD τ).loc main_arg3) (ix3 (⟨r.val / 4096, by omega⟩ : Fin 8) 0 j) := fun j => by
      rw [iblk3_eq, shift_eq, modTab_seq _ _ _ (show t.val / 8 < 8 by omega)]
      exact congrArg (fun z => m ((c : Thread nD τ).loc main_arg3) (ix3 z 0 j)) es
    have h4 : ∀ j : Fin 1024, (iblk m c 4 t : Vec Ideal S1x1x1024 .f32) (ix3 0 0 j)
        = m ((c : Thread nD τ).loc main_arg4) (ix3 (⟨r.val / 4096, by omega⟩ : Fin 8) 0 j) := fun j => by
      rw [iblk4_eq, scale_eq, modTab_seq _ _ _ (show t.val / 8 < 8 by omega)]
      exact congrArg (fun z => m ((c : Thread nD τ).loc main_arg4) (ix3 z 0 j)) es
    simp only [h0, h2, h3, h4, h5]
  · rw [dif_neg (show ¬ r.val < 32768 by omega), pay3_tail _ (by rw [coord]; exact h)]
    unfold ctxRow
    have h1 : ∀ j : Fin 1024, (iblk m c 1 t : Vec Ideal S512x1024 .f32) (ix2 y0 j)
        = m ((c : Thread nD τ).loc main_arg1) (ix3 (⟨(r.val - 32768) / 256, by omega⟩ : Fin 8) (⟨(r.val - 32768) % 256, by omega⟩ : Fin 256) j) := fun j => by
      rw [iblk1_eq, ctx_at]
      refine congrArg (m ((c : Thread nD τ).loc main_arg1)) (congrArg₂ (fun a b => ix3 a b j) (Fin.ext ?_) (Fin.ext ?_))
      · show (512 * (t.val - 64) + y0.val) / 256 = (r.val - 32768) / 256; omega
      · show (512 * (t.val - 64) + y0.val) % 256 = (r.val - 32768) % 256; omega
    have e8 : (⟨t.val / 8, by omega⟩ : Fin 16) = 8 := Fin.ext (by show t.val / 8 = 8; omega)
    have h3 : ∀ j : Fin 1024, (iblk m c 3 t : Vec Ideal S1x1x1024 .f32) (ix3 0 0 j) = m ((c : Thread nD τ).loc main_arg5) (ix3 0 0 j) := fun j => by
      rw [iblk3_eq, shift_eq, e8, modTab_ctx]
    have h4 : ∀ j : Fin 1024, (iblk m c 4 t : Vec Ideal S1x1x1024 .f32) (ix3 0 0 j) = m ((c : Thread nD τ).loc main_arg6) (ix3 0 0 j) := fun j => by
      rw [iblk4_eq, scale_eq, e8, modTab_ctx]
    simp only [h1, h2, h3, h4, h5]

theorem cos_point (t : Fin cfg0.N) (l k : Fin 128) : (iblk m c 6 t : Vec Ideal S128x256 .bf16) (ix2 l ⟨k.val, by omega⟩) = cosAt m c l k := by
  rw [iblk6_eq, tabs_eq, tabs_cos]
  rfl

theorem sin_point (t : Fin cfg0.N) (l k : Fin 128) : (iblk m c 6 t : Vec Ideal S128x256 .bf16) (ix2 l ⟨128 + k.val, by omega⟩) = sinAt m c l k := by
  rw [iblk6_eq, tabs_eq, tabs_sin]
  rfl

/-- The gated half at an index. -/
def gateAt (r : Fin 34816) (x : Fin 512) : EReal := gated (row m c r ⟨x.val, by omega⟩) (row m c r ⟨512 + x.val, by omega⟩)

/-- The transformed channels at an index. -/
def waveAt (r : Fin 34816) (x : Fin 1024) : EReal := spectral (fun z => row m c r ⟨1024 + z.val, by omega⟩) (cosAt m c) (sinAt m c) x

/-- What a grid point leaves in its block of the gated half. -/
theorem gate_point (t : Fin cfg0.N) (y : S512x512.Idx) (r : Fin 34816) (x : Fin 512) (hr : r.val = t.val * 512 + (y 0).val) (hx : x.val = (y 1).val) :
    out0_7 (grid0.coords t) (iblk m c 0 t) (iblk m c 1 t) (iblk m c 2 t) (iblk m c 3 t) (iblk m c 4 t) (iblk m c 5 t) (iblk m c 6 t) y = gateAt m c r x := by
  rw [outA]
  idx_vars y
  have ex : x = y1 := Fin.ext hx
  subst ex
  unfold gateAt
  exact congrArg₂ gated (row_point m c t y0 r hr _) (row_point m c t y0 r hr _)

/-- What a grid point leaves in its block of the transformed channels. -/
theorem wave_point (t : Fin cfg0.N) (y : S512x1024.Idx) (r : Fin 34816) (x : Fin 1024) (hr : r.val = t.val * 512 + (y 0).val) (hx : x.val = (y 1).val) :
    out0_8 (grid0.coords t) (iblk m c 0 t) (iblk m c 1 t) (iblk m c 2 t) (iblk m c 3 t) (iblk m c 4 t) (iblk m c 5 t) (iblk m c 6 t) y = waveAt m c r x := by
  rw [outF]
  idx_vars y
  have ex : x = y1 := Fin.ext hx
  subst ex
  unfold waveAt
  have e1 : (fun z : Fin 512 => k0_pay3 (F := Ideal) (grid0.coords t) (iblk m c 0 t) (iblk m c 1 t) (iblk m c 2 t) (iblk m c 3 t) (iblk m c 4 t) (iblk m c 5 t)
      (ix2 y0 (⟨1024 + z.val, by omega⟩ : Fin 1536))) = fun z => row m c r ⟨1024 + z.val, by omega⟩ := funext fun z => row_point m c t y0 r hr _
  have e2 : (fun l k : Fin 128 => (iblk m c 6 t : Vec Ideal S128x256 .bf16) (ix2 l ⟨k.val, by omega⟩)) = cosAt m c := funext fun l => funext fun k => cos_point m c t l k
  have e3 : (fun l k : Fin 128 => (iblk m c 6 t : Vec Ideal S128x256 .bf16) (ix2 l ⟨128 + k.val, by omega⟩)) = sinAt m c := funext fun l => funext fun k => sin_point m c t l k
  exact (congrArg (fun z => spectral z _ _ x) e1).trans ((congrArg (fun z => spectral _ z _ x) e2).trans (congrArg (fun z => spectral _ _ z x) e3))

/-- The array of the gated half after the run. -/
theorem gate_arr : (dats m 0 c).arrAt 7 cfg0.N = fun i : S34816x512.Idx => gateAt m c (i 0) (i 1) := by
  refine (dats m 0 c).arrAt_eq_of_covers 7 _ (by decide +kernel) fun t hf y => ?_
  blk_simp
  rw [after0_7]
  refine gate_point m c t y _ _ ?_ ?_
  · blk_simp [idx t]
  · blk_simp [idx t]

/-- The array of the transformed channels after the run. -/
theorem wave_arr : (dats m 0 c).arrAt 8 cfg0.N = fun i : S34816x1024.Idx => waveAt m c (i 0) (i 1) := by
  refine (dats m 0 c).arrAt_eq_of_covers 8 _ (by decide +kernel) fun t hf y => ?_
  blk_simp
  rw [after0_8]
  refine wave_point m c t y _ _ ?_ ?_
  · blk_simp [idx t]
  · blk_simp [idx t]

end Cert.InprojIdeal.Proj

end
-- ==== Proof.Inproj.RefAt.lean ====
/- The input projection's reference read at an index: its rows. Hand-written, untrusted. -/
module

public import proofs.«01_k».proof.Proof.Gen.InprojReferenceIdeal.Read
public import proofs.«01_k».proof.Proof.Inproj.Spec
public import Idealize.ShloMosaic.Lib.Pointwise

@[expose] public section

set_option maxRecDepth 16384

noncomputable section

namespace Cert.InprojReferenceIdeal.Proj

open Cert.Inproj.Spec Cert.InprojReferenceIdeal Cert.InprojReferenceIdeal.Gen Cert.InprojReferenceIdeal.Read Idealize.ShloMosaic Idealize.ShloMosaic.TcCoe
open Idealize.ShloMosaic.Tactic

variable (x : S8x4096x1024.Idx → EReal) (ctx : S8x256x1024.Idx → EReal) (g : S1024.Idx → EReal) (sh sc : S8x1x1024.Idx → EReal)
  (shc scc : S1x1x1024.Idx → EReal) (w : S1024x1536.Idx → EReal) (cos sin : S128x128.Idx → EReal)

/-- The sequence's rows over their root mean square, with gain, scale and shift. -/
theorem v18_at (b : Fin 8) (s : Fin 4096) (j : Fin 1024) : val_main_v18 (F := Ideal) x g sh sc (ix3 b s j)
    = Cert.Proj.modulated (fun j => x (ix3 b s j)) (fun j => g (ix1 j)) (fun j => sh (ix3 b 0 j)) (fun j => sc (ix3 b 0 j)) j := by
  pointwise [val_main_v18, val_main_v17, val_main_v16, val_main_v15, val_main_v14, val_main_v13, val_main_v12, val_main_v11, val_main_v10, val_main_v9,
    val_main_v8, val_main_v7, val_main_v6, val_main_v5, val_main_v4, val_main_v3, val_main_v2, val_main_v1, val_main_v0, val_main_cst, val_main_cst_0,
    val_main_cst_1, val_main_cst_2]
  rfl

/-- The same of the context's rows. -/
theorem v37_at (b : Fin 8) (s : Fin 256) (j : Fin 1024) : val_main_v37 (F := Ideal) ctx g shc scc (ix3 b s j)
    = Cert.Proj.modulated (fun j => ctx (ix3 b s j)) (fun j => g (ix1 j)) (fun j => shc (ix3 0 0 j)) (fun j => scc (ix3 0 0 j)) j := by
  pointwise [val_main_v37, val_main_v36, val_main_v35, val_main_v34, val_main_v33, val_main_v32, val_main_v31, val_main_v30, val_main_v29, val_main_v28,
    val_main_v27, val_main_v26, val_main_v25, val_main_v24, val_main_v23, val_main_v22, val_main_v21, val_main_v20, val_main_v19, val_main_cst_3, val_main_cst_4,
    val_main_cst_5, val_main_cst_6]
  rfl

/-- A row of the sequence through the projection. -/
def seqRow (b : Fin 8) (s : Fin 4096) (col : Fin 1536) : EReal :=
  column (fun j => x (ix3 b s j)) (fun j => g (ix1 j)) (fun j => sh (ix3 b 0 j)) (fun j => sc (ix3 b 0 j)) (fun k j => w (ix2 k j)) col

/-- A row of the context through the projection. -/
def ctxRow (b : Fin 8) (s : Fin 256) (col : Fin 1536) : EReal :=
  column (fun j => ctx (ix3 b s j)) (fun j => g (ix1 j)) (fun j => shc (ix3 0 0 j)) (fun j => scc (ix3 0 0 j)) (fun k j => w (ix2 k j)) col

theorem v38_at (b : Fin 8) (s : Fin 4096) (col : Fin 1536) : val_main_v38 (F := Ideal) x g sh sc w (ix3 b s col) = seqRow x g sh sc w b s col := by
  pointwise [val_main_v38]
  simp only [v18_at]
  rfl

theorem v55_at (b : Fin 8) (s : Fin 256) (col : Fin 1536) : val_main_v55 (F := Ideal) ctx g shc scc w (ix3 b s col) = ctxRow ctx g shc scc w b s col := by
  pointwise [val_main_v55]
  simp only [v37_at]
  rfl

/-- The gated half, of the sequence … -/
theorem v48_at (b : Fin 8) (s : Fin 4096) (col : Fin 512) : val_main_v48 (F := Ideal) x g sh sc w (ix3 b s col)
    = gated (seqRow x g sh sc w b s ⟨col.val, by omega⟩) (seqRow x g sh sc w b s ⟨512 + col.val, by omega⟩) := by
  pointwise [val_main_v48, val_main_v47, val_main_v46, val_main_v45, val_main_v44, val_main_v43, val_main_v42, val_main_v40, val_main_v39, val_main_cst_7, val_main_cst_8]
  rw [v38_at, v38_at]
  rfl

/-- … and of the context. -/
theorem v65_at (b : Fin 8) (s : Fin 256) (col : Fin 512) : val_main_v65 (F := Ideal) ctx g shc scc w (ix3 b s col)
    = gated (ctxRow ctx g shc scc w b s ⟨col.val, by omega⟩) (ctxRow ctx g shc scc w b s ⟨512 + col.val, by omega⟩) := by
  pointwise [val_main_v65, val_main_v64, val_main_v63, val_main_v62, val_main_v61, val_main_v60, val_main_v59, val_main_v57, val_main_v56, val_main_cst_9, val_main_cst_10]
  rw [v55_at, v55_at]
  rfl

/-- The channels of one group times the cosines, of the sequence … -/
theorem v51_at (b : Fin 8) (s : Fin 4096) (q : Fin 4) (k : Fin 128) : val_main_v51 (F := Ideal) x g sh sc w cos (ix4 b s q k)
    = ∑ l : Fin 128, seqRow x g sh sc w b s ⟨1024 + (128 * q.val + l.val), by omega⟩ * cos (ix2 l k) := by
  pointwise [val_main_v51, val_main_v49, val_main_v41]
  refine Finset.sum_congr rfl fun l _ => congrArg (· * _) ?_
  rw [v38_at]
  refine congrArg (seqRow x g sh sc w b s) (Fin.ext ?_)
  dsimp only; omega

/-- … times the sines … -/
theorem v53_at (b : Fin 8) (s : Fin 4096) (q : Fin 4) (k : Fin 128) : val_main_v53 (F := Ideal) x g sh sc w sin (ix4 b s q k)
    = ∑ l : Fin 128, seqRow x g sh sc w b s ⟨1024 + (128 * q.val + l.val), by omega⟩ * sin (ix2 l k) := by
  pointwise [val_main_v53, val_main_v49, val_main_v41]
  refine Finset.sum_congr rfl fun l _ => congrArg (· * _) ?_
  rw [v38_at]
  refine congrArg (seqRow x g sh sc w b s) (Fin.ext ?_)
  dsimp only; omega

/-- … and of the context, times the cosines … -/
theorem v68_at (b : Fin 8) (s : Fin 256) (q : Fin 4) (k : Fin 128) : val_main_v68 (F := Ideal) ctx g shc scc w cos (ix4 b s q k)
    = ∑ l : Fin 128, ctxRow ctx g shc scc w b s ⟨1024 + (128 * q.val + l.val), by omega⟩ * cos (ix2 l k) := by
  pointwise [val_main_v68, val_main_v66, val_main_v58]
  refine Finset.sum_congr rfl fun l _ => congrArg (· * _) ?_
  rw [v55_at]
  refine congrArg (ctxRow ctx g shc scc w b s) (Fin.ext ?_)
  dsimp only; omega

/-- … and times the sines. -/
theorem v70_at (b : Fin 8) (s : Fin 256) (q : Fin 4) (k : Fin 128) : val_main_v70 (F := Ideal) ctx g shc scc w sin (ix4 b s q k)
    = ∑ l : Fin 128, ctxRow ctx g shc scc w b s ⟨1024 + (128 * q.val + l.val), by omega⟩ * sin (ix2 l k) := by
  pointwise [val_main_v70, val_main_v66, val_main_v58]
  refine Finset.sum_congr rfl fun l _ => congrArg (· * _) ?_
  rw [v55_at]
  refine congrArg (ctxRow ctx g shc scc w b s) (Fin.ext ?_)
  dsimp only; omega

end Cert.InprojReferenceIdeal.Proj

end
-- ==== Proof.Inproj.RefOut.lean ====
/- The input projection's reference: its two results read at an index. Hand-written, untrusted. -/
module

public import proofs.«01_k».proof.Proof.Inproj.RefAt

@[expose] public section

set_option maxRecDepth 16384

noncomputable section

namespace Cert.InprojReferenceIdeal.Proj

open Cert.Inproj.Spec Cert.InprojReferenceIdeal Cert.InprojReferenceIdeal.Gen Cert.InprojReferenceIdeal.Read Idealize.ShloMosaic Idealize.ShloMosaic.TcCoe
open Idealize.ShloMosaic.Tactic

variable (x : S8x4096x1024.Idx → EReal) (ctx : S8x256x1024.Idx → EReal) (g : S1024.Idx → EReal) (sh sc : S8x1x1024.Idx → EReal)
  (shc scc : S1x1x1024.Idx → EReal) (w : S1024x1536.Idx → EReal) (cos sin : S128x128.Idx → EReal)

/-- The gated half, all rows: the sequences' and then the contexts'. -/
theorem v75_at (r : Fin 34816) (c : Fin 512) : val_main_v75 (F := Ideal) x ctx g sh sc shc scc w (ix2 r c)
    = if h : r.val < 32768 then
        gated (seqRow x g sh sc w ⟨r.val / 4096, by omega⟩ ⟨r.val % 4096, by omega⟩ ⟨c.val, by omega⟩)
          (seqRow x g sh sc w ⟨r.val / 4096, by omega⟩ ⟨r.val % 4096, by omega⟩ ⟨512 + c.val, by omega⟩)
      else gated (ctxRow ctx g shc scc w ⟨(r.val - 32768) / 256, by omega⟩ ⟨(r.val - 32768) % 256, by omega⟩ ⟨c.val, by omega⟩)
          (ctxRow ctx g shc scc w ⟨(r.val - 32768) / 256, by omega⟩ ⟨(r.val - 32768) % 256, by omega⟩ ⟨512 + c.val, by omega⟩) := by
  unfold val_main_v75
  rw [concatenate_pair_apply]
  by_cases h : r.val < 32768
  · rw [dif_pos h]
    refine (dif_pos h).trans ?_
    pointwise [val_main_v50]
    rw [v48_at]
  · rw [dif_neg h]
    refine (dif_neg h).trans ?_
    pointwise [val_main_v67]
    rw [v65_at]

/-- The transformed channels of the sequences' rows, cosines and then sines. -/
theorem v72_at (r : Fin 32768) (c : Fin 1024) : val_main_v72 (F := Ideal) x g sh sc w cos sin (ix2 r c)
    = spectral (fun z => seqRow x g sh sc w ⟨r.val / 4096, by omega⟩ ⟨r.val % 4096, by omega⟩ ⟨1024 + z.val, by omega⟩)
        (fun l k => cos (ix2 l k)) (fun l k => sin (ix2 l k)) c := by
  unfold val_main_v72 spectral
  rw [concatenate_pair_apply]
  by_cases h : c.val < 512
  · rw [dif_pos h]
    refine (dif_pos h).trans ?_
    pointwise [val_main_v52]
    rw [v51_at]
  · rw [dif_neg h]
    refine (dif_neg h).trans ?_
    pointwise [val_main_v54]
    rw [v53_at]
    have e : (c.val - 512) % 128 = c.val % 128 := by omega
    simp only [e]

/-- The same of the contexts' rows. -/
theorem v73_at (r : Fin 2048) (c : Fin 1024) : val_main_v73 (F := Ideal) ctx g shc scc w cos sin (ix2 r c)
    = spectral (fun z => ctxRow ctx g shc scc w ⟨r.val / 256, by omega⟩ ⟨r.val % 256, by omega⟩ ⟨1024 + z.val, by omega⟩)
        (fun l k => cos (ix2 l k)) (fun l k => sin (ix2 l k)) c := by
  unfold val_main_v73 spectral
  rw [concatenate_pair_apply]
  by_cases h : c.val < 512
  · rw [dif_pos h]
    refine (dif_pos h).trans ?_
    pointwise [val_main_v69]
    rw [v68_at]
  · rw [dif_neg h]
    refine (dif_neg h).trans ?_
    pointwise [val_main_v71]
    rw [v70_at]
    have e : (c.val - 512) % 128 = c.val % 128 := by omega
    simp only [e]

/-- Over the reals a value stored in fewer bits is the value. -/
theorem stored (y : EReal) : FloatOps.truncf (F := Ideal) (φ := .f32) .bf16 bitsLt_bf16_f32 y = y := rfl

/-- The transformed channels, all rows. -/
theorem v76_at (r : Fin 34816) (c : Fin 1024) : val_main_v76 (F := Ideal) x ctx g sh sc shc scc w cos sin (ix2 r c)
    = if h : r.val < 32768 then
        spectral (fun z => seqRow x g sh sc w ⟨r.val / 4096, by omega⟩ ⟨r.val % 4096, by omega⟩ ⟨1024 + z.val, by omega⟩)
          (fun l k => cos (ix2 l k)) (fun l k => sin (ix2 l k)) c
      else spectral (fun z => ctxRow ctx g shc scc w ⟨(r.val - 32768) / 256, by omega⟩ ⟨(r.val - 32768) % 256, by omega⟩ ⟨1024 + z.val, by omega⟩)
          (fun l k => cos (ix2 l k)) (fun l k => sin (ix2 l k)) c := by
  rw [val_main_v76_apply]
  refine (stored _).trans ?_
  unfold val_main_v74
  rw [concatenate_pair_apply]
  by_cases h : r.val < 32768
  · rw [dif_pos h]
    refine (dif_pos h).trans ?_
    pointwise
    exact v72_at x g sh sc w cos sin ⟨r.val, h⟩ c
  · rw [dif_neg h]
    refine (dif_neg h).trans ?_
    pointwise
    exact v73_at ctx g shc scc w cos sin ⟨r.val - 32768, by omega⟩ c

end Cert.InprojReferenceIdeal.Proj

end
-- ==== Proof.Inproj.Equation.lean ====
/- The input projection's claim: the two arrays the kernel leaves are the reference's. Hand-written, untrusted. -/
module

public import proofs.«01_k».proof.Proof.Inproj.KernelAt
public import proofs.«01_k».proof.Proof.Inproj.RefOut

@[expose] public section

set_option maxRecDepth 16384

noncomputable section

namespace Cert.InprojIdeal.Proj

open Cert.Inproj.Spec Cert.InprojIdeal Cert.InprojIdeal.Gen Idealize.ShloMosaic Idealize.ShloMosaic.TcCoe Idealize.SL.Sem

variable (m : (ℓ : Loc nD τ sig) → Buf (Elt Ideal) ℓ) (c : Dev nD)

/-- The gated half the kernel leaves is the one the reference computes of the same arguments. -/
theorem gate_eq_ref : (dats m 0 c).arrAt 7 cfg0.N = Cert.InprojReferenceIdeal.Read.val_main_v75 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) := by
  rw [gate_arr]
  funext i
  refine Eq.trans ?_ ((Cert.InprojReferenceIdeal.Proj.v75_at _ _ _ _ _ _ _ _ (i 0) (i 1)).symm.trans (congrArg _ ?_))
  · show gateAt m c (i 0) (i 1) = _
    unfold gateAt row
    by_cases h : (i 0).val < 32768
    · simp only [dif_pos h]; rfl
    · simp only [dif_neg h]; rfl
  · exact funext fun a => match a with | ⟨0, _⟩ => rfl | ⟨1, _⟩ => rfl

/-- The transformed channels the kernel leaves are the ones the reference computes of the same arguments. -/
theorem wave_eq_ref : (dats m 0 c).arrAt 8 cfg0.N = Cert.InprojReferenceIdeal.Read.val_main_v76 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) := by
  rw [wave_arr]
  funext i
  refine Eq.trans ?_ ((Cert.InprojReferenceIdeal.Proj.v76_at _ _ _ _ _ _ _ _ _ _ (i 0) (i 1)).symm.trans (congrArg _ ?_))
  · show waveAt m c (i 0) (i 1) = _
    unfold waveAt row
    by_cases h : (i 0).val < 32768
    · simp only [dif_pos h]; rfl
    · simp only [dif_neg h]; rfl
  · exact funext fun a => match a with | ⟨0, _⟩ => rfl | ⟨1, _⟩ => rfl

end Cert.InprojIdeal.Proj

end
-- ==== Proof.SharedLast.KernelAt.lean ====
/- The shared expert's kernel read at an index: the blocks of a grid point as elements of the program's arguments, and the
   result array after the run. Hand-written, untrusted. -/
module

public import proofs.«01_k».proof.Proof.Gen.SharedLastIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.SharedLastIdeal.Expert

open Cert.SharedLastIdeal Cert.SharedLastIdeal.Gen Idealize.ShloMosaic Idealize.ShloMosaic.TcCoe Idealize.SL.Sem
open Idealize.ShloMosaic.Tactic

/-- The block indices of every window at every grid point. -/
theorem idx : ∀ t : Fin grid0.N, win0_0.index t = ![t.val, 0] ∧ win0_1.index t = ![0, 0] ∧ win0_2.index t = ![0, 0]
    ∧ win0_3.index t = ![t.val, 0] := by decide +kernel

variable (m : (ℓ : Loc nD τ sig) → Buf (Elt Ideal) ℓ)

theorem lt64 (t : Fin cfg0.N) : t.val < 64 := lt_of_lt_of_eq t.isLt N_0

/-- The rows' block of a point is 512 rows of the tokens. -/
theorem iblk0_eq (c : Dev nD) (t : Fin cfg0.N) (y : S512x1024.Idx) :
    iblk m c 0 t y = m ((c : Thread nD τ).loc main_arg0) (ix2 ⟨t.val * 512 + (y 0).val, by have := lt64 t; have h : (y 0).val < 512 := (y 0).isLt; omega⟩ (y 1)) := by
  blk_ext! [iblk, V, idx t]

/-- The second projection's block is the argument. -/
theorem iblk2_eq (c : Dev nD) (t : Fin cfg0.N) (y : S256x1024.Idx) :
    iblk m c 2 t y = m ((c : Thread nD τ).loc main_arg3) y := by
  blk_ext! [iblk, V, idx t]

/-- The first projection's array as the launch finds it: the gate's weights and the other factor's side by side. -/
theorem weights_at (c : Dev nD) (k : Fin 1024) (j : Fin 512) :
    (V m c main_v1 : S1024x512.Idx → EReal) (ix2 k j) = if h : j.val < 256 then m ((c : Thread nD τ).loc main_arg1) (ix2 k ⟨j.val, h⟩)
      else m ((c : Thread nD τ).loc main_arg2) (ix2 k ⟨j.val - 256, by omega⟩) := by
  unfold V
  entry_read
  pointwise

/-- The first projection's block is that array. -/
theorem iblk1_eq (c : Dev nD) (t : Fin cfg0.N) (k : Fin 1024) (j : Fin 512) :
    iblk m c 1 t (ix2 k j) = (V m c main_v1 : S1024x512.Idx → EReal) (ix2 k j) := by
  blk_ext [iblk, idx t]

/-- The first projection's block, in its first half the gate's weights … -/
theorem iblk1_gate (c : Dev nD) (t : Fin cfg0.N) (k : Fin 1024) (f : Fin 256) :
    iblk m c 1 t (ix2 k ⟨f.val, by omega⟩) = m ((c : Thread nD τ).loc main_arg1) (ix2 k f) := by
  rw [iblk1_eq, weights_at, dif_pos f.isLt]

/-- … and in its second the other factor's. -/
theorem iblk1_up (c : Dev nD) (t : Fin cfg0.N) (k : Fin 1024) (f : Fin 256) :
    iblk m c 1 t (ix2 k ⟨256 + f.val, by omega⟩) = m ((c : Thread nD τ).loc main_arg2) (ix2 k f) := by
  rw [iblk1_eq, weights_at, dif_neg (by simp)]
  refine congrArg (fun z => m ((c : Thread nD τ).loc main_arg2) (ix2 k z)) (Fin.ext ?_)
  simp

/-- The hidden unit of the expert, from its two projections. -/
def hidden (g u : EReal) : EReal := g * Ideal.div 1 (1 + Ideal.exp (-g)) * u

/-- The kernel's payload at an index. -/
theorem pay_apply (x0 : Vec Ideal S512x1024 .bf16) (x1 : Vec Ideal S1024x512 .bf16) (x2 : Vec Ideal S256x1024 .bf16) (r : Fin 512) (d : Fin 1024) :
    k0_pay1 (F := Ideal) x0 x1 x2 (ix2 r d) = ∑ f : Fin 256, hidden (∑ k : Fin 1024, x0 (ix2 r k) * x1 (ix2 k ⟨f.val, by omega⟩))
      (∑ k : Fin 1024, x0 (ix2 r k) * x1 (ix2 k ⟨256 + f.val, by omega⟩)) * x2 (ix2 f d) := by
  pointwise [k0_pay1]
  simp only [zero_sub]
  rfl

/-- The kernel's result at an index, of its arguments. -/
def outAt (x : S32768x1024.Idx → EReal) (wg wu : S1024x256.Idx → EReal) (wd : S256x1024.Idx → EReal) (r : Fin 32768) (d : Fin 1024) : EReal :=
  ∑ f : Fin 256, hidden (∑ k : Fin 1024, x (ix2 r k) * wg (ix2 k f)) (∑ k : Fin 1024, x (ix2 r k) * wu (ix2 k f)) * wd (ix2 f d)

/-- What a grid point leaves in its output block. -/
theorem out_point (c : Dev nD) (t : Fin cfg0.N) (y : S512x1024.Idx) (r : Fin 32768) (d : Fin 1024)
    (hr : r.val = t.val * 512 + (y 0).val) (hd : d.val = (y 1).val) :
    out0_3 (iblk m c 0 t) (iblk m c 1 t) (iblk m c 2 t) y = outAt (m ((c : Thread nD τ).loc main_arg0))
      (m ((c : Thread nD τ).loc main_arg1)) (m ((c : Thread nD τ).loc main_arg2)) (m ((c : Thread nD τ).loc main_arg3)) r d := by
  idx_vars y
  frame_out
  rw [pay_apply]
  unfold outAt
  have e0 : ∀ k : Fin 1024, (iblk m c 0 t : Vec Ideal S512x1024 .bf16) (ix2 y0 k) = m ((c : Thread nD τ).loc main_arg0) (ix2 r k) := fun k => by
    rw [iblk0_eq]
    exact congrArg (m ((c : Thread nD τ).loc main_arg0)) (congrArg (fun z => ix2 z k) (Fin.ext hr.symm))
  have ed : y1 = d := Fin.ext hd.symm
  subst ed
  refine Finset.sum_congr rfl fun f _ => ?_
  rw [iblk2_eq m c t]
  simp only [e0, iblk1_gate m c t, iblk1_up m c t]

/-- THE RESULT ARRAY after the run: `outAt` of the arguments, element by element. -/
theorem arr_eq (c : Dev nD) :
    (dats m 0 c).arrAt 3 cfg0.N = fun i : S32768x1024.Idx => outAt (m ((c : Thread nD τ).loc main_arg0))
      (m ((c : Thread nD τ).loc main_arg1)) (m ((c : Thread nD τ).loc main_arg2)) (m ((c : Thread nD τ).loc main_arg3)) (i 0) (i 1) := by
  refine (dats m 0 c).arrAt_eq_of_covers 3 _ (by decide +kernel) fun t hf y => ?_
  blk_simp
  rw [after0_3]
  refine out_point m c t y _ _ ?_ ?_
  · blk_simp [idx t]
  · blk_simp [idx t]

end Cert.SharedLastIdeal.Expert

end
-- ==== Proof.SharedLast.RefAt.lean ====
/- The shared expert's reference read at an index. Hand-written, untrusted. -/
module

public import proofs.«01_k».proof.Proof.Gen.SharedLastReferenceIdeal.Read
public import Idealize.ShloMosaic.Lib.Pointwise

@[expose] public section

set_option maxRecDepth 16384

noncomputable section

namespace Cert.SharedLastReferenceIdeal.Expert

open Cert.SharedLastReferenceIdeal Cert.SharedLastReferenceIdeal.Gen Cert.SharedLastReferenceIdeal.Read Idealize.ShloMosaic Idealize.ShloMosaic.TcCoe
open Idealize.ShloMosaic.Tactic

/-- The reference's result at an index. -/
theorem ref_apply (x : S32768x1024.Idx → EReal) (wg wu : S1024x256.Idx → EReal) (wd : S256x1024.Idx → EReal) (r : Fin 32768) (d : Fin 1024) :
    val_main_v5 (F := Ideal) x wg wu wd (ix2 r d)
      = ∑ f : Fin 256, (∑ k : Fin 1024, x (ix2 r k) * wg (ix2 k f)) * Ideal.div 1 (1 + Ideal.exp (-∑ k : Fin 1024, x (ix2 r k) * wg (ix2 k f)))
          * (∑ k : Fin 1024, x (ix2 r k) * wu (ix2 k f)) * wd (ix2 f d) := by
  pointwise [val_main_v5, val_main_v4, val_main_v3, val_main_v2, val_main_v1, val_main_v0, val_main_call0_v5, val_main_call0_v4, val_main_call0_v3,
    val_main_call0_v2, val_main_call0_v1, val_main_call0_v0, val_main_call0_cst, val_main_call0_cst_0]

end Cert.SharedLastReferenceIdeal.Expert

end
-- ==== Proof.SharedLast.Equation.lean ====
/- The shared expert's claim: the array the kernel leaves is the reference's. Hand-written, untrusted. -/
module

public import proofs.«01_k».proof.Proof.SharedLast.KernelAt
public import proofs.«01_k».proof.Proof.SharedLast.RefAt

@[expose] public section

set_option maxRecDepth 16384

noncomputable section

namespace Cert.SharedLastIdeal.Expert

open Cert.SharedLastIdeal Cert.SharedLastIdeal.Gen Idealize.ShloMosaic Idealize.ShloMosaic.TcCoe Idealize.SL.Sem

/-- The array the kernel leaves is the array the reference computes of the same arguments. -/
theorem arr_eq_ref (m : (ℓ : Loc nD τ sig) → Buf (Elt Ideal) ℓ) (c : Dev nD) :
    (dats m 0 c).arrAt 3 cfg0.N = Cert.SharedLastReferenceIdeal.Read.val_main_v5 (F := Ideal) (m ((c : Thread nD τ).loc main_arg0))
      (m ((c : Thread nD τ).loc main_arg1)) (m ((c : Thread nD τ).loc main_arg2)) (m ((c : Thread nD τ).loc main_arg3)) := by
  rw [arr_eq]
  funext i
  refine (Cert.SharedLastReferenceIdeal.Expert.ref_apply _ _ _ _ (i 0) (i 1)).symm.trans (congrArg _ ?_)
  exact funext fun a => match a with | ⟨0, _⟩ => rfl | ⟨1, _⟩ => rfl

end Cert.SharedLastIdeal.Expert

end
-- ==== Proof.Mods.Spec.lean ====
/- The modulations of the layers as one function of the arguments, which both programs are compared with. Hand-written, untrusted. -/
module

public import Idealize.ShloMosaic.PureOps.Ideal

@[expose] public section

noncomputable section

namespace Cert.Mods.Spec

open Idealize.ShloMosaic

/-- The swish of a number. -/
def swish (y : EReal) : EReal := y * Ideal.div 1 (1 + Ideal.exp (-y))

/-- Zero's swish is zero. -/
theorem swish_zero : swish 0 = 0 := zero_mul _

/-- A modulation: the swish of a row of conditioning times a column of the weight, and the bias. -/
def modulation (cond w : Fin 1024 → EReal) (b : EReal) : EReal := (∑ k : Fin 1024, swish (cond k) * w k) + b

end Cert.Mods.Spec

end
-- ==== Proof.Mods.RefAt.lean ====
/- The modulations' reference read at an index. Hand-written, untrusted. -/
module

public import proofs.«01_k».proof.Proof.Gen.ModsReferenceIdeal.Read
public import proofs.«01_k».proof.Proof.Mods.Spec
public import Idealize.ShloMosaic.Lib.Pointwise

@[expose] public section

set_option maxRecDepth 16384

noncomputable section

namespace Cert.ModsReferenceIdeal.Cond

open Cert.Mods.Spec Cert.ModsReferenceIdeal Cert.ModsReferenceIdeal.Gen Cert.ModsReferenceIdeal.Read Idealize.ShloMosaic Idealize.ShloMosaic.TcCoe
open Idealize.ShloMosaic.Tactic

variable (x : S8x1024.Idx → EReal) (xc : S1024.Idx → EReal) (w : S2x1024x6144.Idx → EReal) (b : S2x6144.Idx → EReal)

/-- The first layer's modulations of the sequences. -/
theorem v8_at (r : Fin 8) (j : Fin 6144) : val_main_v8 (F := Ideal) x w b (ix2 r j)
    = modulation (fun k => x (ix2 r k)) (fun k => w (ix3 0 k j)) (b (ix2 0 j)) := by
  pointwise [val_main_v8, val_main_v7, val_main_v6, val_main_v5, val_main_v4, val_main_v3, val_main_v2, val_main_v1, val_main_v0,
    val_main_call0_v5, val_main_call0_v4, val_main_call0_v3, val_main_call0_v2, val_main_call0_v1, val_main_call0_v0, val_main_call0_cst,
    val_main_call0_cst_0]
  rfl

/-- The first layer's modulations of the context. -/
theorem v17_at (j : Fin 6144) : val_main_v17 (F := Ideal) xc w b (ix2 0 j)
    = modulation (fun k => xc (ix1 k)) (fun k => w (ix3 0 k j)) (b (ix2 0 j)) := by
  pointwise [val_main_v17, val_main_v16, val_main_v15, val_main_v14, val_main_v13, val_main_v12, val_main_v11, val_main_v10, val_main_v9,
    val_main_call1_v5, val_main_call1_v4, val_main_call1_v3, val_main_call1_v2, val_main_call1_v1, val_main_call1_v0, val_main_call1_cst,
    val_main_call1_cst_0]
  rfl

/-- The first layer's modulations of no conditioning: the bias. -/
theorem v26_at (r : Fin 7) (j : Fin 6144) : val_main_v26 (F := Ideal) w b (ix2 r j) = b (ix2 0 j) := by
  pointwise [val_main_v26, val_main_v25, val_main_v24, val_main_v23, val_main_v22, val_main_v21, val_main_v20, val_main_v19, val_main_v18,
    val_main_cst]
  simp only [zero_mul, Finset.sum_const_zero, zero_add]

/-- The second layer's modulations of the sequences. -/
theorem v36_at (r : Fin 8) (j : Fin 6144) : val_main_v36 (F := Ideal) x w b (ix2 r j)
    = modulation (fun k => x (ix2 r k)) (fun k => w (ix3 1 k j)) (b (ix2 1 j)) := by
  pointwise [val_main_v36, val_main_v35, val_main_v34, val_main_v33, val_main_v32, val_main_v31, val_main_v30, val_main_v29, val_main_v28,
    val_main_call2_v5, val_main_call2_v4, val_main_call2_v3, val_main_call2_v2, val_main_call2_v1, val_main_call2_v0, val_main_call2_cst,
    val_main_call2_cst_0]
  rfl

/-- The second layer's modulations of the context. -/
theorem v45_at (j : Fin 6144) : val_main_v45 (F := Ideal) xc w b (ix2 0 j)
    = modulation (fun k => xc (ix1 k)) (fun k => w (ix3 1 k j)) (b (ix2 1 j)) := by
  pointwise [val_main_v45, val_main_v44, val_main_v43, val_main_v42, val_main_v41, val_main_v40, val_main_v39, val_main_v38, val_main_v37,
    val_main_call3_v5, val_main_call3_v4, val_main_call3_v3, val_main_call3_v2, val_main_call3_v1, val_main_call3_v0, val_main_call3_cst,
    val_main_call3_cst_0]
  rfl

/-- The second layer's modulations of no conditioning: the bias. -/
theorem v54_at (r : Fin 7) (j : Fin 6144) : val_main_v54 (F := Ideal) w b (ix2 r j) = b (ix2 1 j) := by
  pointwise [val_main_v54, val_main_v53, val_main_v52, val_main_v51, val_main_v50, val_main_v49, val_main_v48, val_main_v47, val_main_v46,
    val_main_cst_0]
  simp only [zero_mul, Finset.sum_const_zero, zero_add]

/-- The conditioning as sixteen rows. -/
def row (r : Fin 16) (k : Fin 1024) : EReal := if h : r.val < 8 then x (ix2 ⟨r.val, h⟩ k) else if r.val < 9 then xc (ix1 k) else 0

/-- The modulations of no conditioning are the bias. -/
theorem modulation_zero (v : Fin 1024 → EReal) (b : EReal) : modulation (fun _ => 0) v b = b := by
  unfold modulation
  simp only [swish_zero, zero_mul, Finset.sum_const_zero, zero_add]

/-- Rows of three arrays, one after the other. -/
theorem stacked (u : S8x6144.Idx → EReal) (v : S1x6144.Idx → EReal) (z : S7x6144.Idx → EReal) (r : Fin 16) (j : Fin 6144) :
    concatenate S16x6144 0 [⟨S8x6144, u⟩, ⟨S1x6144, v⟩, ⟨S7x6144, z⟩] concatenates_S8x6144_S1x6144_S7x6144_S16x6144_d0 (ix2 r j)
      = if h : r.val < 8 then u (ix2 ⟨r.val, h⟩ j) else if h' : r.val < 9 then v (ix2 0 j) else z (ix2 ⟨r.val - 9, by omega⟩ j) := by
  pointwise
  by_cases h : r.val < 8
  · rw [dif_pos h, dif_pos h]
  · rw [dif_neg h, dif_neg h]
    by_cases h' : r.val < 9
    · have h'' : r.val - 8 < 1 := by omega
      rw [dif_pos h', dif_pos h'']
      refine congrArg v (congrArg (fun q => ix2 q j) ?_)
      exact Subsingleton.elim _ _
    · have h'' : ¬ r.val - 8 < 1 := by omega
      rw [dif_neg h', dif_neg h'']
      refine congrArg z (congrArg (fun q => ix2 q j) (Fin.ext ?_))
      show _ = r.val - 9
      simp only []
      omega

/-- A layer's modulations, all rows, from those of its three parts. -/
theorem all_rows (l : Fin 2) (u : S8x6144.Idx → EReal) (v : S1x6144.Idx → EReal) (z : S7x6144.Idx → EReal)
    (hu : ∀ (r : Fin 8) (j : Fin 6144), u (ix2 r j) = modulation (fun k => x (ix2 r k)) (fun k => w (ix3 l k j)) (b (ix2 l j)))
    (hv : ∀ j : Fin 6144, v (ix2 0 j) = modulation (fun k => xc (ix1 k)) (fun k => w (ix3 l k j)) (b (ix2 l j)))
    (hz : ∀ (r : Fin 7) (j : Fin 6144), z (ix2 r j) = b (ix2 l j)) (r : Fin 16) (j : Fin 6144) :
    concatenate S16x6144 0 [⟨S8x6144, u⟩, ⟨S1x6144, v⟩, ⟨S7x6144, z⟩] concatenates_S8x6144_S1x6144_S7x6144_S16x6144_d0 (ix2 r j)
      = modulation (row x xc r) (fun k => w (ix3 l k j)) (b (ix2 l j)) := by
  rw [stacked]
  by_cases h : r.val < 8
  · have e : row x xc r = fun k => x (ix2 ⟨r.val, h⟩ k) := funext fun k => dif_pos h
    rw [dif_pos h, hu, e]
  · rw [dif_neg h]
    by_cases h' : r.val < 9
    · have e : row x xc r = fun k => xc (ix1 k) := funext fun k => (dif_neg h).trans (if_pos h')
      rw [dif_pos h', hv, e]
    · have e : row x xc r = fun _ => 0 := funext fun k => (dif_neg h).trans (if_neg h')
      rw [dif_neg h', hz, e, modulation_zero]

/-- The first layer's modulations, all rows. -/
theorem v27_at (r : Fin 16) (j : Fin 6144) : val_main_v27 (F := Ideal) x xc w b (ix2 r j)
    = modulation (row x xc r) (fun k => w (ix3 0 k j)) (b (ix2 0 j)) :=
  all_rows x xc w b 0 _ _ _ (v8_at x w b) (v17_at xc w b) (v26_at w b) r j

/-- The second layer's modulations, all rows. -/
theorem v55_at (r : Fin 16) (j : Fin 6144) : val_main_v55 (F := Ideal) x xc w b (ix2 r j)
    = modulation (row x xc r) (fun k => w (ix3 1 k j)) (b (ix2 1 j)) :=
  all_rows x xc w b 1 _ _ _ (v36_at x w b) (v45_at xc w b) (v54_at w b) r j

/-- The reference's result at an index. -/
theorem ref_at (l : Fin 2) (r : Fin 16) (j : Fin 6144) : val_main_v58 (F := Ideal) x xc w b (ix3 l r j)
    = modulation (row x xc r) (fun k => w (ix3 l k j)) (b (ix2 l j)) := by
  unfold val_main_v58
  rw [concatenate_pair_apply]
  obtain rfl | rfl : l = 0 ∨ l = 1 := by omega
  · refine (dif_pos (show (0 : ℕ) < 1 by decide)).trans ?_
    pointwise [val_main_v56]
    exact v27_at x xc w b r j
  · refine (dif_neg (show ¬ (1 : ℕ) < 1 by decide)).trans ?_
    pointwise [val_main_v57]
    exact v55_at x xc w b r j

end Cert.ModsReferenceIdeal.Cond

end
-- ==== Proof.Mods.KernelAt.lean ====
/- The modulations' kernel read at an index, and the claim: the array it leaves is the reference's. Hand-written, untrusted. -/
module

public import proofs.«01_k».proof.Proof.Gen.ModsIdeal.Value
public import proofs.«01_k».proof.Proof.Mods.RefAt
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ModsIdeal.Cond

open Cert.Mods.Spec Cert.ModsIdeal Cert.ModsIdeal.Gen Idealize.ShloMosaic Idealize.ShloMosaic.TcCoe Idealize.SL.Sem
open Idealize.ShloMosaic.Tactic
open Cert.ModsReferenceIdeal.Cond (row)

/-- The block indices of every window at every grid point. -/
theorem idx : ∀ t : Fin grid0.N, win0_0.index t = ![0, 0] ∧ win0_1.index t = ![t.val / 4, 0, t.val % 4]
    ∧ win0_2.index t = ![t.val / 4, 0, t.val % 4] ∧ win0_3.index t = ![t.val / 4, 0, t.val % 4] := by decide +kernel

variable (m : (ℓ : Loc nD τ sig) → Buf (Elt Ideal) ℓ)

theorem lt8 (t : Fin cfg0.N) : t.val < 8 := lt_of_lt_of_eq t.isLt N_0

/-- A point's layer. -/
theorem layer_lt (t : Fin cfg0.N) : t.val / 4 < 2 := by have := lt8 t; omega

/-- A point's quarter of the columns. -/
theorem col_lt (t : Fin cfg0.N) (j : Fin 1536) : t.val % 4 * 1536 + j.val < 6144 := by omega

/-- The conditioning as the launch finds it: the sequences', the context's and rows of zeros. -/
def condTab (a : S8x1024.Idx → EReal) (b : S1x1024.Idx → EReal) : S16x1024.Idx → EReal :=
  concatenate S16x1024 0 [⟨S8x1024, a⟩, ⟨S1x1024, b⟩,
    ⟨S7x1024, broadcastInDim S7x1024 ![] bcast_S_S7x1024 (constant (F := Ideal) S_ .f32 0x00000000#32)⟩]
    concatenates_S8x1024_S1x1024_S7x1024_S16x1024_d0

theorem cond_eq (c : Dev nD) : (V m c main_v2 : S16x1024.Idx → EReal)
    = condTab (m ((c : Thread nD τ).loc main_arg0)) (broadcastInDim S1x1024 ![1] bcast_S1024_S1x1024_1 (m ((c : Thread nD τ).loc main_arg1))) := by
  unfold V
  rfl

theorem condTab_at (a : S8x1024.Idx → EReal) (b : S1024.Idx → EReal) (r : Fin 16) (k : Fin 1024) :
    condTab a (broadcastInDim S1x1024 ![1] bcast_S1024_S1x1024_1 b) (ix2 r k) = row a b r k := by
  unfold condTab row
  pointwise
  by_cases h : r.val < 8
  · rw [dif_pos h, dif_pos h]
  · rw [dif_neg h, dif_neg h]
    by_cases h' : r.val < 9
    · have h'' : r.val - 8 < 1 := by omega
      simp only [h', h'', if_true, dite_true]
    · have h'' : ¬ r.val - 8 < 1 := by omega
      simp only [h', h'', if_false, dite_false]

/-- The conditioning as the launch finds it: sixteen rows. -/
theorem cond_at (c : Dev nD) (r : Fin 16) (k : Fin 1024) : (V m c main_v2 : S16x1024.Idx → EReal) (ix2 r k)
    = row (m ((c : Thread nD τ).loc main_arg0)) (m ((c : Thread nD τ).loc main_arg1)) r k := by
  rw [cond_eq, condTab_at]

/-- The bias as the launch finds it. -/
theorem bias_at (c : Dev nD) (l : Fin 2) (j : Fin 6144) : (V m c main_v3 : S2x1x6144.Idx → EReal) (ix3 l 0 j)
    = m ((c : Thread nD τ).loc main_arg3) (ix2 l j) := by
  unfold V
  entry_read
  pointwise

theorem iblk0_eq (c : Dev nD) (t : Fin cfg0.N) (r : Fin 16) (k : Fin 1024) :
    iblk m c 0 t (ix2 r k) = (V m c main_v2 : S16x1024.Idx → EReal) (ix2 r k) := by
  blk_ext [iblk, idx t]

/-- The weight's block of a point: a quarter of a layer's columns. -/
theorem iblk1_eq (c : Dev nD) (t : Fin cfg0.N) (k : Fin 1024) (j : Fin 1536) : iblk m c 1 t (ix3 0 k j)
    = m ((c : Thread nD τ).loc main_arg2) (ix3 ⟨t.val / 4, layer_lt t⟩ k ⟨t.val % 4 * 1536 + j.val, col_lt t j⟩) := by
  blk_ext! [iblk, V, idx t]

theorem iblk2_eq (c : Dev nD) (t : Fin cfg0.N) (j : Fin 1536) : iblk m c 2 t (ix3 0 0 j)
    = (V m c main_v3 : S2x1x6144.Idx → EReal) (ix3 ⟨t.val / 4, layer_lt t⟩ 0 ⟨t.val % 4 * 1536 + j.val, col_lt t j⟩) := by
  blk_ext [iblk, idx t]

/-- The kernel's payload at an index. -/
theorem pay_apply (x0 : Vec Ideal S16x1024 .f32) (x1 : Vec Ideal S1x1024x1536 .f32) (x2 : Vec Ideal S1x1x1536 .f32) (r : Fin 16) (j : Fin 1536) :
    k0_pay1 (F := Ideal) x0 x1 x2 (ix3 0 r j) = modulation (fun k => x0 (ix2 r k)) (fun k => x1 (ix3 0 k j)) (x2 (ix3 0 0 j)) := by
  pointwise [k0_pay1]
  simp only [zero_sub]
  rfl

/-- What a grid point leaves in its output block. -/
theorem out_point (c : Dev nD) (t : Fin cfg0.N) (y : S1x16x1536.Idx) (l : Fin 2) (r : Fin 16) (j : Fin 6144)
    (hl : l.val = t.val / 4) (hr : r.val = (y 1).val) (hj : j.val = t.val % 4 * 1536 + (y 2).val) :
    out0_3 (iblk m c 0 t) (iblk m c 1 t) (iblk m c 2 t) y
      = modulation (row (m ((c : Thread nD τ).loc main_arg0)) (m ((c : Thread nD τ).loc main_arg1)) r)
          (fun k => m ((c : Thread nD τ).loc main_arg2) (ix3 l k j)) (m ((c : Thread nD τ).loc main_arg3) (ix2 l j)) := by
  idx_vars y
  frame_out
  have e0 : y0 = 0 := Subsingleton.elim _ _
  subst e0
  rw [pay_apply]
  have el : l = ⟨t.val / 4, layer_lt t⟩ := Fin.ext hl
  have er : r = y1 := Fin.ext hr
  have ej : j = ⟨t.val % 4 * 1536 + y2.val, col_lt t y2⟩ := Fin.ext hj
  subst el er ej
  rw [iblk2_eq m c t, bias_at m c]
  simp only [iblk0_eq m c t, iblk1_eq m c t, cond_at m c]

/-- THE RESULT ARRAY after the run: the array the reference computes of the same arguments. -/
theorem arr_eq_ref (c : Dev nD) :
    (dats m 0 c).arrAt 3 cfg0.N = Cert.ModsReferenceIdeal.Read.val_main_v58 (F := Ideal) (m ((c : Thread nD τ).loc main_arg0))
      (m ((c : Thread nD τ).loc main_arg1)) (m ((c : Thread nD τ).loc main_arg2)) (m ((c : Thread nD τ).loc main_arg3)) := by
  have e : (dats m 0 c).arrAt 3 cfg0.N = fun i : S2x16x6144.Idx =>
      modulation (row (m ((c : Thread nD τ).loc main_arg0)) (m ((c : Thread nD τ).loc main_arg1)) (i 1))
        (fun k => m ((c : Thread nD τ).loc main_arg2) (ix3 (i 0) k (i 2))) (m ((c : Thread nD τ).loc main_arg3) (ix2 (i 0) (i 2))) := by
    refine (dats m 0 c).arrAt_eq_of_covers 3 _ (by decide +kernel) fun t hf y => ?_
    blk_simp
    rw [after0_3]
    refine out_point m c t y _ _ _ ?_ ?_ ?_
    · blk_simp [idx t]
    · blk_simp [idx t]
    · blk_simp [idx t]
  rw [e]
  funext i
  refine (Cert.ModsReferenceIdeal.Cond.ref_at _ _ _ _ (i 0) (i 1) (i 2)).symm.trans (congrArg _ ?_)
  exact funext fun a => match a with | ⟨0, _⟩ => rfl | ⟨1, _⟩ => rfl | ⟨2, _⟩ => rfl

end Cert.ModsIdeal.Cond

end
-- ==== Proof.Dest.Spec.lean ====
/- The first row of a token's expert as one function of the arguments, which both programs are compared with. Hand-written, untrusted. -/
module

public import Idealize.ShloMosaic.PureOps.Ideal
public import Idealize.ShloMosaic.Lib.Pointwise

@[expose] public section

noncomputable section

namespace Cert.Dest.Spec

open Idealize.ShloMosaic

/-- The first row of expert `e`: the `e`-th of the 64 starts, zero where `e` is no expert's number. -/
def first (e : BitVec 32) (ps : Fin 64 → BitVec 32) : BitVec 32 := if h : e.toNat < 64 then ps ⟨e.toNat, h⟩ else 0#32

/-- The rows ahead of a half of the row space: none before the first half, the first half's before the second. -/
def ahead (j : Fin 2) : BitVec 32 := if j = 0 then 0#32 else 274432#32

theorem ahead_zero : ahead 0 = 0#32 := if_pos rfl

theorem ahead_one : ahead 1 = 274432#32 := if_neg (by decide)

/-- An expert's number as a word is its own number. -/
theorem word_eq {e : BitVec 32} {q : Fin 64} (h : e = BitVec.ofNat 32 q.val) : e.toNat = q.val := by
  rw [h, BitVec.toNat_ofNat]
  have := q.isLt
  omega

/-- A fold of words by their sum in which every term is zero. -/
theorem fold_zero (s : Finset (Fin 64)) (f : Fin 64 → BitVec 32) (h : ∀ q ∈ s, f q = 0#32) : s.fold IntOp.addi 0#32 f = 0#32 := by
  induction s using Finset.cons_induction with
  | empty => rfl
  | cons a s ha ih =>
    rw [Finset.fold_cons, ih fun q hq => h q (Finset.mem_cons_of_mem hq), h a (Finset.mem_cons_self a s)]
    rfl

/-- The sum of the starts over the experts, each taken where the number is the expert's, is the expert's start. -/
theorem fold_first (e : BitVec 32) (ps f : Fin 64 → BitVec 32) (hf : ∀ q, f q = if e = BitVec.ofNat 32 q.val then ps q else 0#32) :
    Finset.univ.fold IntOp.addi 0#32 f = first e ps := by
  unfold first
  by_cases h : e.toNat < 64
  · rw [dif_pos h, ← Finset.insert_erase (Finset.mem_univ (⟨e.toNat, h⟩ : Fin 64)), Finset.fold_insert (Finset.notMem_erase _ _),
      fold_zero, hf, if_pos]
    · exact BitVec.add_zero _
    · exact (BitVec.ofNat_toNat 32 e).symm.trans rfl |>.trans rfl
    · intro q hq
      rw [hf, if_neg]
      intro he
      exact Finset.ne_of_mem_erase hq (Fin.ext (word_eq he).symm)
  · rw [dif_neg h]
    refine fold_zero _ _ fun q _ => ?_
    rw [hf, if_neg]
    intro he
    have := word_eq he
    have := q.isLt
    omega

/-- Two words are equal where the numbers they stand for are. -/
theorem cast_eq_iff (q : Fin 64) (e : BitVec 32) :
    ((((BitVec.ofNat 32 q.val).toInt : ℝ) : EReal) = ((e.toInt : ℝ) : EReal)) ↔ e = BitVec.ofNat 32 q.val := by
  rw [EReal.coe_eq_coe_iff, Int.cast_inj, BitVec.toInt_inj]
  exact eq_comm

/-- The same sum over the numbers. -/
theorem sum_first (e : BitVec 32) (ps : Fin 64 → BitVec 32) (f : Fin 64 → EReal)
    (hf : ∀ q, f q = if e = BitVec.ofNat 32 q.val then (((ps q).toInt : ℝ) : EReal) else 0) :
    ∑ q : Fin 64, f q = (((first e ps).toInt : ℝ) : EReal) := by
  unfold first
  by_cases h : e.toNat < 64
  · rw [dif_pos h, Finset.sum_eq_single (⟨e.toNat, h⟩ : Fin 64), hf, if_pos]
    · exact (BitVec.ofNat_toNat 32 e).symm.trans rfl |>.trans rfl
    · intro q _ hq
      rw [hf, if_neg]
      intro he
      exact hq (Fin.ext (word_eq he).symm)
    · intro hn
      exact absurd (Finset.mem_univ _) hn
  · rw [dif_neg h]
    refine (Finset.sum_eq_zero fun q _ => ?_).trans ?_
    · rw [hf, if_neg]
      intro he
      have := word_eq he
      have := q.isLt
      omega
    · simp

/-- A word's number converted back is the word. -/
theorem back (w : BitVec 32) : Ideal.fptosi 32 ((w.toInt : ℝ) : EReal) = w := by
  have h₁ := BitVec.toInt_lt (x := w)
  have h₂ := BitVec.le_toInt (x := w)
  rw [Ideal.fptosi, Ideal.toIntClamped_coe, Int.floor_intCast, Int.ceil_intCast, ite_self, min_eq_right, max_eq_right, BitVec.ofInt_toInt]
  · norm_num at h₁ h₂ ⊢
    omega
  · norm_num at h₁ h₂ ⊢
    omega

end Cert.Dest.Spec

end
-- ==== Proof.Dest.RefAt.lean ====
/- The destination rows' reference read at an index. Hand-written, untrusted. -/
module

public import proofs.«01_k».proof.Proof.Gen.DestReferenceIdeal.Read
public import proofs.«01_k».proof.Proof.Dest.Spec
public import Idealize.ShloMosaic.Lib.Pointwise

@[expose] public section

set_option maxRecDepth 16384

noncomputable section

namespace Cert.DestReferenceIdeal.Rows

open Cert.Dest.Spec Cert.DestReferenceIdeal Cert.DestReferenceIdeal.Gen Cert.DestReferenceIdeal.Read Idealize.ShloMosaic Idealize.ShloMosaic.TcCoe
open Idealize.ShloMosaic.Tactic

variable (e p : S8x34816.Idx → BitVec 32) (ps : S64.Idx → BitVec 32)

/-- The start of the expert of one assignment. -/
theorem v8_at (k : Fin 8) (r : Fin 34816) : val_main_v8 (F := Ideal) e ps (ix2 k r) = first (e (ix2 k r)) fun q => ps (ix1 q) := by
  pointwise [val_main_v8, val_main_v7, val_main_v6, val_main_v5, val_main_v4, val_main_v3, val_main_v2, val_main_v1, val_main_v0,
    val_main_c, val_main_c_0, val_main_call0_v0, val_main_call0_v1, val_main_call0_v2]
  refine fold_first _ _ _ fun q => ?_
  show Scalar.select (IntOp.cmpi CmpIPredicate.eq (e (ix2 k r)) (BitVec.ofNat 32 q.val)) (ps (ix1 q)) 0#32 = _
  by_cases h : e (ix2 k r) = BitVec.ofNat 32 q.val
  · rw [if_pos h, h]
    simp [IntOp.cmpi, Scalar.select]
  · rw [if_neg h]
    have hb : (e (ix2 k r) == BitVec.ofNat 32 q.val) = false := beq_eq_false_iff_ne.2 h
    simp [IntOp.cmpi, Scalar.select, hb]

/-- The reference's result at an index. -/
theorem ref_at (j : Fin 2) (k : Fin 8) (r : Fin 34816) : val_main_v15 (F := Ideal) e p ps (ix3 j k r)
    = first (e (ix2 k r)) (fun q => ps (ix1 q)) + p (ix2 k r) + ahead j := by
  unfold val_main_v15
  rw [concatenate_pair_apply]
  obtain rfl | rfl : j = 0 ∨ j = 1 := by omega
  · refine (dif_pos (show (0 : ℕ) < 1 by decide)).trans ?_
    pointwise [val_main_v13, val_main_v9]
    rw [v8_at]
    exact (BitVec.add_zero _).symm
  · refine (dif_neg (show ¬ (1 : ℕ) < 1 by decide)).trans ?_
    pointwise [val_main_v14, val_main_v12, val_main_v10, val_main_v11, val_main_c_1]
    rw [v8_at]
    rfl

end Cert.DestReferenceIdeal.Rows

end
-- ==== Proof.Dest.KernelAt.lean ====
/- The destination rows' kernel read at an index, and the claim: the array it leaves is the reference's. Hand-written, untrusted. -/
module

public import proofs.«01_k».proof.Proof.Gen.DestIdeal.Value
public import proofs.«01_k».proof.Proof.Dest.RefAt
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DestIdeal.Rows

open Cert.Dest.Spec Cert.DestIdeal Cert.DestIdeal.Gen Idealize.ShloMosaic Idealize.ShloMosaic.TcCoe Idealize.SL.Sem
open Idealize.ShloMosaic.Tactic

/-- The block indices of every window at every grid point. -/
theorem idx : ∀ t : Fin grid0.N, win0_0.index t = ![0, t.val] ∧ win0_1.index t = ![0, t.val]
    ∧ win0_2.index t = ![0, 0] ∧ win0_3.index t = ![0, 0, t.val] := by decide +kernel

variable (m : (ℓ : Loc nD τ sig) → Buf (Elt Ideal) ℓ)

theorem lt68 (t : Fin cfg0.N) : t.val < 68 := lt_of_lt_of_eq t.isLt N_0

/-- An assignment's place among all tokens. -/
theorem tok_lt (t : Fin cfg0.N) (r : Fin 512) : t.val * 512 + r.val < 34816 := by have := lt68 t; omega

/-- The starts as the launch finds them: the words' numbers, as a column. -/
theorem start_at (c : Dev nD) (q : Fin 64) : (V m c main_v1 : S64x1.Idx → EReal) (ix2 q 0)
    = ((((m ((c : Thread nD τ).loc main_arg2) : S64.Idx → BitVec 32) (ix1 q)).toInt : ℝ) : EReal) := by
  unfold V
  entry_read
  pointwise
  rfl

theorem iblk0_eq (c : Dev nD) (t : Fin cfg0.N) (k : Fin 8) (r : Fin 512) : iblk m c 0 t (ix2 k r)
    = m ((c : Thread nD τ).loc main_arg0) (ix2 k ⟨t.val * 512 + r.val, tok_lt t r⟩) := by
  blk_ext! [iblk, V, idx t]

theorem iblk1_eq (c : Dev nD) (t : Fin cfg0.N) (k : Fin 8) (r : Fin 512) : iblk m c 1 t (ix2 k r)
    = m ((c : Thread nD τ).loc main_arg1) (ix2 k ⟨t.val * 512 + r.val, tok_lt t r⟩) := by
  blk_ext! [iblk, V, idx t]

theorem iblk2_eq (c : Dev nD) (t : Fin cfg0.N) (q : Fin 64) : iblk m c 2 t (ix2 q 0)
    = (V m c main_v1 : S64x1.Idx → EReal) (ix2 q 0) := by
  blk_ext [iblk, idx t]

/-- The sum over the experts, for one assignment. -/
theorem pick (e : BitVec 32) (ps : Fin 64 → BitVec 32) (x2 : Vec Ideal S64x1 .f32)
    (h2 : ∀ q : Fin 64, x2 (ix2 q 0) = (((ps q).toInt : ℝ) : EReal)) :
    (∑ q : Fin 64, if ((((BitVec.ofNat 32 q.val).toInt : ℝ) : EReal) = ((e.toInt : ℝ) : EReal)) then x2 (ix2 q 0) else 0)
      = (((first e ps).toInt : ℝ) : EReal) := by
  refine sum_first e ps _ fun q => ?_
  rw [h2]
  exact if_congr (cast_eq_iff q e) rfl rfl

/-! The experts' starts of the block's first four rows, which the kernel's text computes apart. -/

theorem row0 (x0 : Vec Ideal S8x512 .i32) (x2 : Vec Ideal S64x1 .f32) (r : Fin 512) (ps : Fin 64 → BitVec 32)
    (h2 : ∀ q : Fin 64, x2 (ix2 q 0) = (((ps q).toInt : ℝ) : EReal)) :
    k0_pay5 (F := Ideal) x0 x2 (ix2 0 r) = (((first (x0 (ix2 0 r)) ps).toInt : ℝ) : EReal) := by
  pointwise [k0_pay5, k0_pay4, k0_pay3, k0_pay2]
  exact pick _ ps x2 h2

theorem row1 (x0 : Vec Ideal S8x512 .i32) (x2 : Vec Ideal S64x1 .f32) (r : Fin 512) (ps : Fin 64 → BitVec 32)
    (h2 : ∀ q : Fin 64, x2 (ix2 q 0) = (((ps q).toInt : ℝ) : EReal)) :
    k0_pay6 (F := Ideal) x0 x2 (ix2 0 r) = (((first (x0 (ix2 1 r)) ps).toInt : ℝ) : EReal) := by
  pointwise [k0_pay6, k0_pay4, k0_pay3, k0_pay2]
  exact pick _ ps x2 h2

theorem row2 (x0 : Vec Ideal S8x512 .i32) (x2 : Vec Ideal S64x1 .f32) (r : Fin 512) (ps : Fin 64 → BitVec 32)
    (h2 : ∀ q : Fin 64, x2 (ix2 q 0) = (((ps q).toInt : ℝ) : EReal)) :
    k0_pay7 (F := Ideal) x0 x2 (ix2 0 r) = (((first (x0 (ix2 2 r)) ps).toInt : ℝ) : EReal) := by
  pointwise [k0_pay7, k0_pay4, k0_pay3, k0_pay2]
  exact pick _ ps x2 h2

theorem row3 (x0 : Vec Ideal S8x512 .i32) (x2 : Vec Ideal S64x1 .f32) (r : Fin 512) (ps : Fin 64 → BitVec 32)
    (h2 : ∀ q : Fin 64, x2 (ix2 q 0) = (((ps q).toInt : ℝ) : EReal)) :
    k0_pay8 (F := Ideal) x0 x2 (ix2 0 r) = (((first (x0 (ix2 3 r)) ps).toInt : ℝ) : EReal) := by
  pointwise [k0_pay8, k0_pay4, k0_pay3, k0_pay2]
  exact pick _ ps x2 h2

/-- A start's number, converted back and added to the position. -/
theorem landed (v : EReal) (w p : BitVec 32) (h : v = ((w.toInt : ℝ) : EReal)) : IntOp.addi (Ideal.fptosi 32 v) p = w + p := by
  rw [h, back]
  rfl

/-- The kernel's destinations in the first half of the row space, at an index. -/
theorem pay_apply (x0 x1 : Vec Ideal S8x512 .i32) (x2 : Vec Ideal S64x1 .f32) (k : Fin 8) (r : Fin 512) (ps : Fin 64 → BitVec 32)
    (h2 : ∀ q : Fin 64, x2 (ix2 q 0) = (((ps q).toInt : ℝ) : EReal)) :
    k0_pay11 (F := Ideal) (k0_pay2 x0) (k0_pay3 x2) (k0_pay4 (F := Ideal)) (k0_pay5 x0 x2) (k0_pay6 x0 x2) (k0_pay7 x0 x2) (k0_pay8 x0 x2) (k0_pay9 x0)
      (Scalar.ofBits .f32 0x00000000#32) (k0_pay10 x2) x1 (ix2 k r) = first (x0 (ix2 k r)) ps + x1 (ix2 k r) := by
  match k with
  | ⟨0, _⟩ =>
    pointwise [k0_pay11]
    exact landed _ _ _ (row0 x0 x2 r ps h2)
  | ⟨1, _⟩ =>
    pointwise [k0_pay11]
    exact landed _ _ _ (row1 x0 x2 r ps h2)
  | ⟨2, _⟩ =>
    pointwise [k0_pay11]
    exact landed _ _ _ (row2 x0 x2 r ps h2)
  | ⟨3, _⟩ =>
    pointwise [k0_pay11]
    exact landed _ _ _ (row3 x0 x2 r ps h2)
  | ⟨4, _⟩ =>
    pointwise [k0_pay11, k0_pay10, k0_pay9, k0_pay4, k0_pay3, k0_pay2]
    exact landed _ _ _ (pick _ ps x2 h2)
  | ⟨5, _⟩ =>
    pointwise [k0_pay11, k0_pay10, k0_pay9, k0_pay4, k0_pay3, k0_pay2]
    exact landed _ _ _ (pick _ ps x2 h2)
  | ⟨6, _⟩ =>
    pointwise [k0_pay11, k0_pay10, k0_pay9, k0_pay4, k0_pay3, k0_pay2]
    exact landed _ _ _ (pick _ ps x2 h2)
  | ⟨7, _⟩ =>
    pointwise [k0_pay11, k0_pay10, k0_pay9, k0_pay4, k0_pay3, k0_pay2]
    exact landed _ _ _ (pick _ ps x2 h2)

/-- What is stored into the block's second half. -/
theorem later (v1 : FVec Ideal S8x512 .f32) (v3 : FVec Ideal S64x1 .f32) (v5 : FVec Ideal S64x512 .f32)
    (v14 v23 v32 v41 : FVec Ideal S1x512 .f32) (v44 : IVec S64x512 1) (z0 : Ideal .f32) (v45 : FVec Ideal S64x1 .f32) (v80 : Vec Ideal S8x512 .i32) (k : Fin 8) (r : Fin 512) :
    k0_pay1 (k0_pay13 (F := Ideal) v1 v3 v5 v14 v23 v32 v41 v44 z0 v45 v80) (ix3 0 k r) = k0_pay11 v1 v3 v5 v14 v23 v32 v41 v44 z0 v45 v80 (ix2 k r) + ahead 1 := by
  unfold k0_pay1 k0_pay13
  generalize k0_pay11 v1 v3 v5 v14 v23 v32 v41 v44 z0 v45 v80 = w
  rw [ahead_one]
  pointwise
  rfl

/-- What is stored into its first half. -/
theorem sooner (v1 : FVec Ideal S8x512 .f32) (v3 : FVec Ideal S64x1 .f32) (v5 : FVec Ideal S64x512 .f32)
    (v14 v23 v32 v41 : FVec Ideal S1x512 .f32) (v44 : IVec S64x512 1) (z0 : Ideal .f32) (v45 : FVec Ideal S64x1 .f32) (v80 : Vec Ideal S8x512 .i32) (k : Fin 8) (r : Fin 512) :
    k0_pay12 (F := Ideal) v1 v3 v5 v14 v23 v32 v41 v44 z0 v45 v80 (ix3 0 k r) = k0_pay11 v1 v3 v5 v14 v23 v32 v41 v44 z0 v45 v80 (ix2 k r) + ahead 0 := by
  unfold k0_pay12
  generalize k0_pay11 v1 v3 v5 v14 v23 v32 v41 v44 z0 v45 v80 = w
  rw [ahead_zero]
  pointwise
  rfl

/-- The output block at an index, from the input blocks. -/
theorem out_at (x0 x1 : Vec Ideal S8x512 .i32) (x2 : Vec Ideal S64x1 .f32) (ps : Fin 64 → BitVec 32)
    (h2 : ∀ q : Fin 64, x2 (ix2 q 0) = (((ps q).toInt : ℝ) : EReal)) (j : Fin 2) (k : Fin 8) (r : Fin 512) :
    out0_3 x0 x1 x2 (ix3 j k r) = first (x0 (ix2 k r)) ps + x1 (ix2 k r) + ahead j := by
  frame_out
  unfold k0_pay22 k0_pay21 k0_pay20 k0_pay19 k0_pay18 k0_pay17 k0_pay16 k0_pay15 k0_pay14
  simp (disch := decide) only [View.ld_unit_lit', View.readAt_eq_ld]
  rw [← pay_apply x0 x1 x2 k r ps h2]
  canon_tiles z h
  · have hj : j = 1 := Fin.ext (by
      have : j.val = 1 + (z 0).val := h0
      omega)
    have hz : z = ix3 0 k r := funext fun a => match a with
      | ⟨0, _⟩ => Fin.ext (by show (z 0).val = 0; omega)
      | ⟨1, _⟩ => Fin.ext h1.symm
      | ⟨2, _⟩ => Fin.ext h2.symm
    rw [hj, hz]
    exact later _ _ _ _ _ _ _ _ _ _ _ k r
  · have hj : j = 0 := Fin.ext (by
      have : j.val = (z 0).val := h0
      show j.val = 0
      omega)
    have hz : z = ix3 0 k r := funext fun a => match a with
      | ⟨0, _⟩ => Fin.ext (by show (z 0).val = 0; omega)
      | ⟨1, _⟩ => Fin.ext h1.symm
      | ⟨2, _⟩ => Fin.ext h2.symm
    rw [hj, hz]
    exact sooner _ _ _ _ _ _ _ _ _ _ _ k r

/-- What a grid point leaves in its output block. -/
theorem out_point (c : Dev nD) (t : Fin cfg0.N) (y : S2x8x512.Idx) (j : Fin 2) (k : Fin 8) (r : Fin 34816)
    (hj : j.val = (y 0).val) (hk : k.val = (y 1).val) (hr : r.val = t.val * 512 + (y 2).val) :
    out0_3 (iblk m c 0 t) (iblk m c 1 t) (iblk m c 2 t) y
      = first ((m ((c : Thread nD τ).loc main_arg0) : S8x34816.Idx → BitVec 32) (ix2 k r))
          (fun q => (m ((c : Thread nD τ).loc main_arg2) : S64.Idx → BitVec 32) (ix1 q))
        + (m ((c : Thread nD τ).loc main_arg1) : S8x34816.Idx → BitVec 32) (ix2 k r) + ahead j := by
  idx_vars y
  have h2 : ∀ q : Fin 64, iblk m c 2 t (ix2 q 0)
      = ((((m ((c : Thread nD τ).loc main_arg2) : S64.Idx → BitVec 32) (ix1 q)).toInt : ℝ) : EReal) := fun q =>
    (iblk2_eq m c t q).trans (start_at m c q)
  have er : r = ⟨t.val * 512 + y2.val, tok_lt t y2⟩ := Fin.ext hr
  have ek : k = y1 := Fin.ext hk
  have ej : j = y0 := Fin.ext hj
  subst er ek ej
  rw [← iblk0_eq m c t, ← iblk1_eq m c t]
  exact out_at _ _ _ _ h2 _ _ _

/-- THE RESULT ARRAY after the run: the array the reference computes of the same arguments. -/
theorem arr_eq_ref (c : Dev nD) :
    (dats m 0 c).arrAt 3 cfg0.N = Cert.DestReferenceIdeal.Read.val_main_v15 (F := Ideal) (m ((c : Thread nD τ).loc main_arg0))
      (m ((c : Thread nD τ).loc main_arg1)) (m ((c : Thread nD τ).loc main_arg2)) := by
  have e : (dats m 0 c).arrAt 3 cfg0.N = fun i : S2x8x34816.Idx =>
      first ((m ((c : Thread nD τ).loc main_arg0) : S8x34816.Idx → BitVec 32) (ix2 (i 1) (i 2)))
          (fun q => (m ((c : Thread nD τ).loc main_arg2) : S64.Idx → BitVec 32) (ix1 q))
        + (m ((c : Thread nD τ).loc main_arg1) : S8x34816.Idx → BitVec 32) (ix2 (i 1) (i 2))
        + ahead (i 0) := by
    refine (dats m 0 c).arrAt_eq_of_covers 3 _ (by decide +kernel) fun t hf y => ?_
    blk_simp
    rw [after0_3]
    refine out_point m c t y _ _ _ ?_ ?_ ?_
    · blk_simp [idx t]
    · blk_simp [idx t]
    · blk_simp [idx t]
  rw [e]
  funext i
  refine (Cert.DestReferenceIdeal.Rows.ref_at _ _ _ (i 0) (i 1) (i 2)).symm.trans (congrArg _ ?_)
  exact funext fun a => match a with | ⟨0, _⟩ => rfl | ⟨1, _⟩ => rfl | ⟨2, _⟩ => rfl

end Cert.DestIdeal.Rows

end
-- ==== Proof.Outproj.Spec.lean ====
/- The output projection's results as functions of its arguments, element by element. Hand-written, untrusted. -/
module

public import proofs.«01_k».proof.Proof.Qkv.Spec

@[expose] public section

noncomputable section

namespace Cert.Outproj.Spec

open Idealize.ShloMosaic

/-- A row of heads times a weight's columns. -/
def mixed (o : Fin 1024 → EReal) (w : Fin 1024 → Fin 1024 → EReal) (j : Fin 1024) : EReal := ∑ k, o k * w k j

/-- A row plus a gate times another row over its root mean square, with a gain. -/
def residual (x y g gate : Fin 1024 → EReal) (j : Fin 1024) : EReal :=
  x j + gate j * (y j * Ideal.rsqrt (Ideal.div (∑ k, y k * y k) (Ideal.ofBits .f32 0x44800000#32) + Ideal.ofBits .f32 0x358637BD#32) * g j)

end Cert.Outproj.Spec

end
-- ==== Proof.Combine.Spec.lean ====
/- The experts' sum as a function of its arguments, element by element. Hand-written, untrusted. -/
module

public import proofs.«01_k».proof.Proof.Outproj.Spec

@[expose] public section

noncomputable section

namespace Cert.Combine.Spec

open Idealize.ShloMosaic

/-- An expert's row out of its words: the words' low halves, and after them their high halves. -/
def halves (w : Fin 512 → BitVec 32) (j : Fin 1024) : EReal :=
  if h : j.val < 512 then Ideal.ofBits .f32 (IntOp.shli .host (w ⟨j.val, h⟩) 16#32)
  else Ideal.ofBits .f32 (IntOp.andi (w ⟨j.val - 512, by omega⟩) 4294901760#32)

/-- The rows of a token's six experts, each times its gate, and the shared expert's row. -/
def summed (w : Fin 6 → Fin 512 → BitVec 32) (gk : Fin 6 → EReal) (sh : Fin 1024 → EReal) (j : Fin 1024) : EReal :=
  (∑ k, halves (w k) j * gk k) + sh j

theorem halves_low (w : Fin 512 → BitVec 32) (j : Fin 1024) (h : j.val < 512) :
    halves w j = Ideal.ofBits .f32 (IntOp.shli .host (w ⟨j.val, h⟩) 16#32) := dif_pos h

theorem halves_high (w : Fin 512 → BitVec 32) (j : Fin 1024) (h : ¬ j.val < 512) :
    halves w j = Ideal.ofBits .f32 (IntOp.andi (w ⟨j.val - 512, by omega⟩) 4294901760#32) := dif_neg h

end Cert.Combine.Spec

end
-- ==== Proof.Combine.Pieces.lean ====
/- What the experts' sum's kernel computes from its blocks, read at an index. Hand-written, untrusted. -/
module

public import proofs.«01_k».proof.Proof.Gen.CombineIdeal.Skeleton
public import proofs.«01_k».proof.Proof.Combine.Spec
public import Idealize.ShloMosaic.Lib.Pipeline.Value
public import Idealize.ShloMosaic.Lib.Pipeline.ValueKit
public import Idealize.ShloMosaic.Lib.Pointwise

@[expose] public section

set_option maxRecDepth 16384

noncomputable section

namespace Cert.CombineIdeal.Sum

open Cert.Outproj.Spec Cert.Combine.Spec Cert.CombineIdeal Cert.CombineIdeal.Gen Idealize.ShloMosaic Idealize.ShloMosaic.TcCoe
open Idealize.ShloMosaic.Tactic

/-- A word of a block's row, of the two halves in which the row is kept. -/
def joined (a b : Vec Ideal S1x1x512x256 .i32) (r q : Fin 512) : BitVec 32 :=
  if h : q.val < 256 then a (ix4 0 0 r ⟨q.val, h⟩) else b (ix4 0 0 r ⟨q.val - 256, by omega⟩)

theorem pay3_at (a b : Vec Ideal S1x1x512x256 .i32) (r q : Fin 512) : k0_pay3 (F := Ideal) a b (ix2 r q) = joined a b r q := by
  unfold k0_pay3 joined
  rw [concatenate_pair_apply]
  by_cases h : q.val < 256
  · refine (dif_pos h).trans ((Eq.trans ?_ (dif_pos h).symm))
    pointwise
  · refine (dif_neg h).trans ((Eq.trans ?_ (dif_neg h).symm))
    pointwise

theorem pay6_at (a b : Vec Ideal S1x1x512x256 .i32) (r q : Fin 512) : k0_pay6 (F := Ideal) a b (ix2 r q) = joined a b r q := pay3_at a b r q

theorem pay10_at (a b : Vec Ideal S1x1x512x256 .i32) (r q : Fin 512) : k0_pay10 (F := Ideal) a b (ix2 r q) = joined a b r q := pay3_at a b r q

theorem pay12_at (a b : Vec Ideal S1x1x512x256 .i32) (r q : Fin 512) : k0_pay12 (F := Ideal) a b (ix2 r q) = joined a b r q := pay3_at a b r q

/-- The low half of a word, as a value. -/
def low (a b : Vec Ideal S1x1x512x256 .i32) (r q : Fin 512) : EReal := Ideal.ofBits .f32 (IntOp.shli .host (joined a b r q) 16#32)

/-- Its high half. -/
def high (a b : Vec Ideal S1x1x512x256 .i32) (r q : Fin 512) : EReal := Ideal.ofBits .f32 (IntOp.andi (joined a b r q) 4294901760#32)

variable (z : Vec Ideal S512x8 .f32) (a0 b0 a1 b1 a2 b2 a3 b3 a4 b4 a5 b5 : Vec Ideal S1x1x512x256 .i32) (r q : Fin 512)

theorem pay9_at : k0_pay9 (F := Ideal) z a0 b0 a1 b1 (ix2 r q) = low a0 b0 r q * z (ix2 r 0) + low a1 b1 r q * z (ix2 r 1) := by
  pointwise [k0_pay9, k0_pay4, k0_pay8]
  rw [pay3_at, pay6_at]
  rfl

theorem pay14_at (s : FVec Ideal S512x512 .f32) : k0_pay14 (F := Ideal) z s a2 b2 a3 b3 (ix2 r q)
    = s (ix2 r q) + low a2 b2 r q * z (ix2 r 2) + low a3 b3 r q * z (ix2 r 3) := by
  pointwise [k0_pay14, k0_pay11, k0_pay13]
  rw [pay10_at, pay12_at]
  rfl

theorem pay5_at : k0_pay5 (F := Ideal) z a0 b0 (ix2 r q) = high a0 b0 r q * z (ix2 r 0) := by
  pointwise [k0_pay5, k0_pay4]
  rw [pay3_at]
  rfl

theorem pay7_at : k0_pay7 (F := Ideal) a1 b1 (ix2 r q) = high a1 b1 r q := by
  pointwise [k0_pay7]
  rw [pay6_at]
  rfl

theorem pay15_at (s t : FVec Ideal S512x512 .f32) : k0_pay15 (F := Ideal) z s t (k0_pay8 z) a2 b2 a3 b3 (ix2 r q)
    = s (ix2 r q) + t (ix2 r q) * z (ix2 r 1) + high a2 b2 r q * z (ix2 r 2) + high a3 b3 r q * z (ix2 r 3) := by
  pointwise [k0_pay15, k0_pay8, k0_pay11, k0_pay13]
  rw [pay10_at, pay12_at]
  rfl

theorem pay16_low (x0 : Vec Ideal S512x1024 .bf16) (s t : FVec Ideal S512x512 .f32) (j : Fin 1024) (h : j.val < 512) :
    k0_pay16 (F := Ideal) (k0_pay2 x0) z s t a4 b4 a5 b5 (ix2 r j)
      = s (ix2 r ⟨j.val, h⟩) + low a4 b4 r ⟨j.val, h⟩ * z (ix2 r 4) + low a5 b5 r ⟨j.val, h⟩ * z (ix2 r 5) + x0 (ix2 r j) := by
  pointwise [k0_pay16, k0_pay2]
  exact congrArg (· + x0 (ix2 r j)) (dif_pos h)

theorem pay16_high (x0 : Vec Ideal S512x1024 .bf16) (s t : FVec Ideal S512x512 .f32) (j : Fin 1024) (h : ¬ j.val < 512) :
    k0_pay16 (F := Ideal) (k0_pay2 x0) z s t a4 b4 a5 b5 (ix2 r j)
      = t (ix2 r ⟨j.val - 512, by omega⟩) + high a4 b4 r ⟨j.val - 512, by omega⟩ * z (ix2 r 4) + high a5 b5 r ⟨j.val - 512, by omega⟩ * z (ix2 r 5)
        + x0 (ix2 r j) := by
  pointwise [k0_pay16, k0_pay2]
  exact congrArg (· + x0 (ix2 r j)) (dif_neg h)

/-- The sum of the experts of a block, at an index. -/
theorem sum_at (x0 : Vec Ideal S512x1024 .bf16) (w : Fin 6 → Fin 512 → BitVec 32) (h0 : ∀ q, joined a0 b0 r q = w 0 q) (h1 : ∀ q, joined a1 b1 r q = w 1 q)
    (h2 : ∀ q, joined a2 b2 r q = w 2 q) (h3 : ∀ q, joined a3 b3 r q = w 3 q) (h4 : ∀ q, joined a4 b4 r q = w 4 q)
    (h5 : ∀ q, joined a5 b5 r q = w 5 q) (j : Fin 1024) :
    k0_pay16 (F := Ideal) (k0_pay2 x0) z (k0_pay14 z (k0_pay9 z a0 b0 a1 b1) a2 b2 a3 b3)
        (k0_pay15 z (k0_pay5 z a0 b0) (k0_pay7 a1 b1) (k0_pay8 z) a2 b2 a3 b3) a4 b4 a5 b5 (ix2 r j)
      = summed w (fun k => z (ix2 r ⟨k.val, by omega⟩)) (fun j => x0 (ix2 r j)) j := by
  unfold summed
  rw [Fin.sum_univ_six]
  by_cases h : j.val < 512
  · rw [pay16_low _ _ _ _ _ _ _ _ _ _ h, pay14_at, pay9_at]
    simp only [halves_low _ _ h, low, h0, h1, h2, h3, h4, h5]
    rfl
  · rw [pay16_high _ _ _ _ _ _ _ _ _ _ h, pay15_at, pay5_at, pay7_at]
    simp only [halves_high _ _ h, high, h0, h1, h2, h3, h4, h5]
    rfl

/-- The stored rows at an index. -/
theorem pay1_at (s : FVec Ideal S512x1024 .f32) (x3 : Vec Ideal S512x1024 .f32) (x5 : Vec Ideal S1x1x1024 .f32) (x4 : Vec Ideal S1x1024 .f32) (j : Fin 1024) :
    k0_pay1 (F := Ideal) s x3 x5 x4 (ix2 r j)
      = residual (fun j => x3 (ix2 r j)) (fun j => s (ix2 r j)) (fun j => x4 (ix2 0 j)) (fun j => x5 (ix3 0 0 j)) j := by
  pointwise [k0_pay1]
  rfl

end Cert.CombineIdeal.Sum

end
-- ==== Proof.Combine.RefAt.lean ====
/- The reference of the experts' sum read at an index. Hand-written, untrusted. -/
module

public import proofs.«01_k».proof.Proof.Gen.CombineReferenceIdeal.Read
public import proofs.«01_k».proof.Proof.Combine.Spec
public import Idealize.ShloMosaic.Lib.Pointwise

@[expose] public section

set_option maxRecDepth 16384

noncomputable section

namespace Cert.CombineReferenceIdeal.Sum

open Cert.Outproj.Spec Cert.Combine.Spec Cert.CombineReferenceIdeal Cert.CombineReferenceIdeal.Gen Cert.CombineReferenceIdeal.Read
open Idealize.ShloMosaic Idealize.ShloMosaic.TcCoe Idealize.ShloMosaic.Tactic

variable (sh : S32768x1024.Idx → EReal) (yg : S2x6x32768x256.Idx → BitVec 32) (gk : S32768x8.Idx → EReal)
  (x : S8x4096x1024.Idx → EReal) (g : S1024.Idx → EReal) (gate : S8x1x1024.Idx → EReal)

/-- A word of an expert's row, of the two halves in which the row is kept. -/
def word (r : Fin 32768) (k : Fin 6) (q : Fin 512) : BitVec 32 :=
  if h : q.val < 256 then yg (ix4 0 k r ⟨q.val, h⟩) else yg (ix4 1 k r ⟨q.val - 256, by omega⟩)

theorem v4_at (k : Fin 6) (r : Fin 32768) (q : Fin 512) : val_main_v4 (F := Ideal) yg (ix3 k r q) = word yg r k q := by
  unfold val_main_v4 word
  rw [concatenate_pair_apply]
  by_cases h : q.val < 256
  · refine (dif_pos h).trans ((Eq.trans ?_ (dif_pos h).symm))
    pointwise [val_main_v1, val_main_v0]
  · refine (dif_neg h).trans ((Eq.trans ?_ (dif_neg h).symm))
    pointwise [val_main_v3, val_main_v2]

theorem v7_at (k : Fin 6) (r : Fin 32768) (q : Fin 512) : val_main_v7 (F := Ideal) yg (ix3 k r q)
    = Ideal.ofBits .f32 (IntOp.shli .host (word yg r k q) 16#32) := by
  pointwise [val_main_v7, val_main_v6, val_main_v5, val_main_c]
  rw [v4_at]

theorem v10_at (k : Fin 6) (r : Fin 32768) (q : Fin 512) : val_main_v10 (F := Ideal) yg (ix3 k r q)
    = Ideal.ofBits .f32 (IntOp.andi (word yg r k q) 4294901760#32) := by
  pointwise [val_main_v10, val_main_v9, val_main_v8, val_main_c_0]
  rw [v4_at]

/-- The experts' rows. -/
theorem v11_at (k : Fin 6) (r : Fin 32768) (j : Fin 1024) : val_main_v11 (F := Ideal) yg (ix3 k r j) = halves (word yg r k) j := by
  unfold val_main_v11
  rw [concatenate_pair_apply]
  by_cases h : j.val < 512
  · rw [halves_low _ _ h, ← v7_at]
    refine (dif_pos h).trans (congrArg _ ?_)
    exact funext fun a => match a with | ⟨0, _⟩ => rfl | ⟨1, _⟩ => rfl | ⟨2, _⟩ => rfl
  · rw [halves_high _ _ h, ← v10_at]
    refine (dif_neg h).trans (congrArg _ ?_)
    exact funext fun a => match a with | ⟨0, _⟩ => rfl | ⟨1, _⟩ => rfl | ⟨2, _⟩ => rfl

/-- The sum of the experts. -/
def sumAt (r : Fin 32768) : Fin 1024 → EReal :=
  summed (word yg r) (fun k => gk (ix2 r ⟨k.val, by omega⟩)) (fun j => sh (ix2 r j))

theorem v18_at (r : Fin 32768) (j : Fin 1024) : val_main_v18 (F := Ideal) sh yg gk (ix2 r j) = sumAt sh yg gk r j := by
  pointwise [val_main_v18, val_main_v17, val_main_v16, val_main_v15, val_main_v14, val_main_v13, val_main_v12, val_main_cst]
  simp only [v11_at]
  rfl

theorem v19_at (b : Fin 8) (s : Fin 4096) (j : Fin 1024) : val_main_v19 (F := Ideal) sh yg gk (ix3 b s j)
    = sumAt sh yg gk ⟨b.val * 4096 + s.val, by omega⟩ j := by
  rw [← v18_at]
  pointwise [val_main_v19]

/-- The residual stream after the layer. -/
def lastAt (b : Fin 8) (s : Fin 4096) : Fin 1024 → EReal :=
  residual (fun j => x (ix3 b s j)) (sumAt sh yg gk ⟨b.val * 4096 + s.val, by omega⟩) (fun j => g (ix1 j)) (fun j => gate (ix3 b 0 j))

/-- The squares' sum of a row of the sum of the experts. -/
theorem v22_at (b : Fin 8) (s : Fin 4096) : val_main_v22 (F := Ideal) sh yg gk (ix3 b s 0)
    = ∑ k : Fin 1024, sumAt sh yg gk ⟨b.val * 4096 + s.val, by omega⟩ k * sumAt sh yg gk ⟨b.val * 4096 + s.val, by omega⟩ k := by
  refine (val_main_v22_apply (F := Ideal) sh yg gk (ix3 b s 0)).trans ((val_main_v21_apply sh yg gk _).trans ?_)
  have h0 : val_main_cst_1 (F := Ideal) (Shape.Idx.first h_S_) = (0 : EReal) := by pointwise [val_main_cst_1]
  rw [h0]
  refine (zero_add _).trans (Finset.sum_congr rfl fun k _ => ?_)
  refine (val_main_v20_apply (F := Ideal) sh yg gk _).trans ?_
  have e : idx_main_v21 (idx_main_v22 (ix3 b s 0)) k = ix3 b s k := funext fun a => match a with | ⟨0, _⟩ => rfl | ⟨1, _⟩ => rfl | ⟨2, _⟩ => rfl
  rw [e, v19_at]
  generalize sumAt sh yg gk ⟨b.val * 4096 + s.val, by omega⟩ k = y
  rfl

/-- One over a row's root mean square. -/
theorem v27_at (b : Fin 8) (s : Fin 4096) : val_main_v27 (F := Ideal) sh yg gk (ix3 b s 0)
    = Ideal.rsqrt (Ideal.div (∑ k : Fin 1024, sumAt sh yg gk ⟨b.val * 4096 + s.val, by omega⟩ k * sumAt sh yg gk ⟨b.val * 4096 + s.val, by omega⟩ k)
        (Ideal.ofBits .f32 0x44800000#32) + Ideal.ofBits .f32 0x358637BD#32) := by
  refine (val_main_v27_apply (F := Ideal) sh yg gk _).trans ?_
  rw [val_main_v26_apply, val_main_v24_apply, v22_at, val_main_v23_apply, val_main_v25_apply, val_main_cst_2_apply, val_main_cst_3_apply]
  generalize (∑ k : Fin 1024, sumAt sh yg gk ⟨b.val * 4096 + s.val, by omega⟩ k * sumAt sh yg gk ⟨b.val * 4096 + s.val, by omega⟩ k) = y
  rfl

theorem v28_at (b : Fin 8) (s : Fin 4096) (j : Fin 1024) : val_main_v28 (F := Ideal) sh yg gk (ix3 b s j) = val_main_v27 (F := Ideal) sh yg gk (ix3 b s 0) := by
  rw [val_main_v28_apply]
  exact congrArg _ (funext fun a => match a with | ⟨0, _⟩ => rfl | ⟨1, _⟩ => rfl | ⟨2, _⟩ => rfl)

theorem v31_at (b : Fin 8) (s : Fin 4096) (j : Fin 1024) : val_main_v31 (F := Ideal) g (ix3 b s j) = g (ix1 j) := by
  pointwise [val_main_v31, val_main_v30]

theorem v33_at (b : Fin 8) (s : Fin 4096) (j : Fin 1024) : val_main_v33 (F := Ideal) gate (ix3 b s j) = gate (ix3 b 0 j) := by
  pointwise [val_main_v33]

theorem v35_at (b : Fin 8) (s : Fin 4096) (j : Fin 1024) : val_main_v35 (F := Ideal) sh yg gk x g gate (ix3 b s j)
    = lastAt sh yg gk x g gate b s j := by
  refine (val_main_v35_apply (F := Ideal) sh yg gk x g gate _).trans ?_
  rw [val_main_v34_apply, val_main_v32_apply, val_main_v29_apply, v28_at, v27_at, v31_at, v33_at, v19_at]
  unfold lastAt Cert.Outproj.Spec.residual
  generalize sumAt sh yg gk ⟨b.val * 4096 + s.val, by omega⟩ = y
  rfl

/-- All rows. -/
theorem v36_at (r : Fin 32768) (j : Fin 1024) : val_main_v36 (F := Ideal) sh yg gk x g gate (ix2 r j)
    = lastAt sh yg gk x g gate ⟨r.val / 4096, by omega⟩ ⟨r.val % 4096, by omega⟩ j := by
  pointwise [val_main_v36]
  rw [v35_at]

end Cert.CombineReferenceIdeal.Sum

end
-- ==== Proof.Combine.KernelAt.lean ====
/- The experts' sum's array after its run, and that it is the reference's. Hand-written, untrusted. -/
module

public import proofs.«01_k».proof.Proof.Gen.CombineIdeal.Value
public import proofs.«01_k».proof.Proof.Combine.Pieces
public import proofs.«01_k».proof.Proof.Combine.RefAt
public import Idealize.ShloMosaic.Lib.Pipeline.ReadBack

@[expose] public section

set_option maxRecDepth 16384

noncomputable section

namespace Cert.CombineIdeal.Sum

open Cert.Outproj.Spec Cert.Combine.Spec Cert.CombineIdeal Cert.CombineIdeal.Gen Idealize.ShloMosaic Idealize.ShloMosaic.TcCoe Idealize.SL.Sem
open Idealize.ShloMosaic.Tactic

/-- The block indices of every window at every grid point. -/
theorem idx : ∀ t : Fin grid0.N, win0_0.index t = ![t.val, 0] ∧ win0_1.index t = ![0, 0, t.val, 0] ∧ win0_2.index t = ![t.val, 0]
    ∧ win0_3.index t = ![t.val, 0] ∧ win0_4.index t = ![0, 0] ∧ win0_5.index t = ![t.val / 8, 0, 0] ∧ win0_6.index t = ![t.val, 0] := by
  decide +kernel

variable (m : (ℓ : Loc nD τ sig) → Buf (Elt Ideal) ℓ) (c : Dev nD)

theorem lt64 (t : Fin cfg0.N) : t.val < 64 := lt_of_lt_of_eq t.isLt N_0

/-- A block's row among all rows. -/
theorem row_lt (t : Fin cfg0.N) (r : Fin 512) : t.val * 512 + r.val < 32768 := by have := lt64 t; omega

/-- The residual stream's rows as the launch finds them. -/
theorem rows_at (r : Fin 32768) (j : Fin 1024) : (V m c main_v3 : S32768x1024.Idx → EReal) (ix2 r j)
    = m ((c : Thread nD τ).loc main_arg3) (ix3 ⟨r.val / 4096, by omega⟩ ⟨r.val % 4096, by omega⟩ j) := by
  unfold V
  entry_read
  pointwise

theorem gain_at (j : Fin 1024) : (V m c main_v4 : S1x1024.Idx → EReal) (ix2 0 j) = m ((c : Thread nD τ).loc main_arg4) (ix1 j) := by
  unfold V
  entry_read
  pointwise

/-- The gates as the launch finds them: the sequences' and rows of zeros. -/
def gates (a : S8x1x1024.Idx → EReal) : S16x1x1024.Idx → EReal :=
  concatenate S16x1x1024 0 [⟨S8x1x1024, a⟩,
    ⟨S8x1x1024, broadcastInDim S8x1x1024 ![] bcast_S_S8x1x1024 (constant (F := Ideal) S_ .f32 0x00000000#32)⟩]
    concatenates_S8x1x1024_S8x1x1024_S16x1x1024_d0

theorem gates_eq : (V m c main_v1 : S16x1x1024.Idx → EReal) = gates (m ((c : Thread nD τ).loc main_arg5)) := by
  unfold V
  rfl

theorem gates_seq (a : S8x1x1024.Idx → EReal) (s : Fin 16) (h : s.val < 8) (j : Fin 1024) : gates a (ix3 s 0 j) = a (ix3 ⟨s.val, h⟩ 0 j) := by
  unfold gates
  pointwise
  rw [dif_pos h]

theorem iblk0_eq (t : Fin cfg0.N) (r : Fin 512) (j : Fin 1024) :
    iblk m c 0 t (ix2 r j) = m ((c : Thread nD τ).loc main_arg0) (ix2 ⟨t.val * 512 + r.val, row_lt t r⟩ j) := by
  blk_ext! [iblk, V, idx t]

theorem iblk1_eq (t : Fin cfg0.N) (p : Fin 2) (k : Fin 6) (r : Fin 512) (q : Fin 256) :
    iblk m c 1 t (ix4 p k r q) = m ((c : Thread nD τ).loc main_arg1) (ix4 p k ⟨t.val * 512 + r.val, row_lt t r⟩ q) := by
  blk_ext! [iblk, V, idx t]

theorem iblk2_eq (t : Fin cfg0.N) (r : Fin 512) (k : Fin 8) :
    iblk m c 2 t (ix2 r k) = m ((c : Thread nD τ).loc main_arg2) (ix2 ⟨t.val * 512 + r.val, row_lt t r⟩ k) := by
  blk_ext! [iblk, V, idx t]

theorem iblk3_eq (t : Fin cfg0.N) (r : Fin 512) (j : Fin 1024) :
    iblk m c 3 t (ix2 r j) = (V m c main_v3 : S32768x1024.Idx → EReal) (ix2 ⟨t.val * 512 + r.val, row_lt t r⟩ j) := by
  blk_ext [iblk, idx t]

theorem iblk4_eq (t : Fin cfg0.N) (j : Fin 1024) : iblk m c 4 t (ix2 0 j) = (V m c main_v4 : S1x1024.Idx → EReal) (ix2 0 j) := by
  blk_ext [iblk, idx t]

theorem iblk5_eq (t : Fin cfg0.N) (j : Fin 1024) : iblk m c 5 t (ix3 0 0 j)
    = (V m c main_v1 : S16x1x1024.Idx → EReal) (ix3 ⟨t.val / 8, by have := lt64 t; omega⟩ 0 j) := by
  blk_ext [iblk, idx t]

/-- A word of an expert's row in a block, of the two halves in which the row is kept. -/
def kept (x1 : Vec Ideal S2x6x512x256 .i32) (r : Fin 512) (k : Fin 6) (q : Fin 512) : BitVec 32 :=
  if h : q.val < 256 then x1 (ix4 0 k r ⟨q.val, h⟩) else x1 (ix4 1 k r ⟨q.val - 256, by omega⟩)

/-- The two loads of an expert's rows give its words. -/
theorem joined_ld (x1 : Vec Ideal S2x6x512x256 .i32) (r : Fin 512) (k : Fin 6) (i₀ i₁) (q : Fin 512) :
    joined (View.ld x1 (Rect.unit (s := S2x6x512x256) ![0, k.val, 0, 0] S1x1x512x256.size i₀))
      (View.ld x1 (Rect.unit (s := S2x6x512x256) ![1, k.val, 0, 0] S1x1x512x256.size i₁)) r q = kept x1 r k q := by
  unfold joined kept
  refine dite_congr rfl (fun h => ?_) (fun h => ?_)
  · refine View.ld_unit_apply_of x1 _ _ i₀ _ _ fun a => ?_
    match a with
    | ⟨0, _⟩ => rfl
    | ⟨1, _⟩ => rfl
    | ⟨2, _⟩ => exact (Nat.zero_add _).symm
    | ⟨3, _⟩ => exact (Nat.zero_add _).symm
  · refine View.ld_unit_apply_of x1 _ _ i₁ _ _ fun a => ?_
    match a with
    | ⟨0, _⟩ => rfl
    | ⟨1, _⟩ => rfl
    | ⟨2, _⟩ => exact (Nat.zero_add _).symm
    | ⟨3, _⟩ => exact (Nat.zero_add _).symm

/-- The output block at an index, from the input blocks. -/
theorem out_at (x0 : Vec Ideal S512x1024 .bf16) (x1 : Vec Ideal S2x6x512x256 .i32) (x2 : Vec Ideal S512x8 .f32) (x3 : Vec Ideal S512x1024 .f32)
    (x4 : Vec Ideal S1x1024 .f32) (x5 : Vec Ideal S1x1x1024 .f32) (r : Fin 512) (j : Fin 1024) :
    out0_6 x0 x1 x2 x3 x4 x5 (ix2 r j) = residual (fun j => x3 (ix2 r j))
      (summed (kept x1 r) (fun k => x2 (ix2 r ⟨k.val, by omega⟩)) (fun j => x0 (ix2 r j))) (fun j => x4 (ix2 0 j)) (fun j => x5 (ix3 0 0 j)) j := by
  frame_out
  refine (pay1_at _ _ _ _ _ _).trans (congrArg (fun y => residual _ y _ _ j) (funext fun j => ?_))
  exact sum_at _ _ _ _ _ _ _ _ _ _ _ _ _ _ _ _ (joined_ld x1 r 0 _ _) (joined_ld x1 r 1 _ _) (joined_ld x1 r 2 _ _) (joined_ld x1 r 3 _ _)
    (joined_ld x1 r 4 _ _) (joined_ld x1 r 5 _ _) j

/-- The residual stream's row `r` of all rows, of the launch's arguments. -/
def lastOf (r : Fin 32768) : Fin 1024 → EReal :=
  Cert.CombineReferenceIdeal.Sum.lastAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    ⟨r.val / 4096, by omega⟩ ⟨r.val % 4096, by omega⟩

/-- What a grid point leaves in its output block. -/
theorem out_point (t : Fin cfg0.N) (y : S512x1024.Idx) (r : Fin 32768) (j : Fin 1024) (hr : r.val = t.val * 512 + (y 0).val) (hj : j.val = (y 1).val) :
    out0_6 (iblk m c 0 t) (iblk m c 1 t) (iblk m c 2 t) (iblk m c 3 t) (iblk m c 4 t) (iblk m c 5 t) y = lastOf m c r j := by
  idx_vars y
  have ht := lt64 t
  have er : r = ⟨t.val * 512 + y0.val, row_lt t y0⟩ := Fin.ext hr
  have ej : j = y1 := Fin.ext hj
  subst er ej
  rw [out_at]
  unfold lastOf Cert.CombineReferenceIdeal.Sum.lastAt Cert.CombineReferenceIdeal.Sum.sumAt
  have es : (⟨(t.val * 512 + y0.val) / 4096 * 4096 + (t.val * 512 + y0.val) % 4096, by omega⟩ : Fin 32768) = ⟨t.val * 512 + y0.val, row_lt t y0⟩ :=
    Fin.ext (Nat.div_add_mod' _ _)
  have eb : (⟨t.val / 8, by omega⟩ : Fin 8) = ⟨(t.val * 512 + y0.val) / 4096, by omega⟩ := Fin.ext (by
    have hy : y0.val < 512 := y0.isLt
    show t.val / 8 = (t.val * 512 + y0.val) / 4096
    omega)
  have h1 : kept (iblk m c 1 t) y0 = Cert.CombineReferenceIdeal.Sum.word (m ((c : Thread nD τ).loc main_arg1)) ⟨t.val * 512 + y0.val, row_lt t y0⟩ := by
    funext k q
    exact dite_congr rfl (fun h => iblk1_eq m c t 0 k y0 _) (fun h => iblk1_eq m c t 1 k y0 _)
  have h5 : ∀ j : Fin 1024, (iblk m c 5 t : Vec Ideal S1x1x1024 .f32) (ix3 0 0 j)
      = m ((c : Thread nD τ).loc main_arg5) (ix3 (⟨(t.val * 512 + y0.val) / 4096, by omega⟩ : Fin 8) 0 j) := fun j => by
    rw [iblk5_eq, gates_eq, gates_seq _ _ (show t.val / 8 < 8 by omega)]
    exact congrArg (fun z => m ((c : Thread nD τ).loc main_arg5) (ix3 z 0 j)) eb
  have h0 : ∀ j : Fin 1024, (iblk m c 0 t : Vec Ideal S512x1024 .bf16) (ix2 y0 j) = m ((c : Thread nD τ).loc main_arg0) (ix2 ⟨t.val * 512 + y0.val, row_lt t y0⟩ j) :=
    iblk0_eq m c t y0
  have h2 : ∀ k : Fin 8, (iblk m c 2 t : Vec Ideal S512x8 .f32) (ix2 y0 k) = m ((c : Thread nD τ).loc main_arg2) (ix2 ⟨t.val * 512 + y0.val, row_lt t y0⟩ k) :=
    iblk2_eq m c t y0
  have h3 : ∀ j : Fin 1024, (iblk m c 3 t : Vec Ideal S512x1024 .f32) (ix2 y0 j) = m ((c : Thread nD τ).loc main_arg3)
      (ix3 (⟨(t.val * 512 + y0.val) / 4096, by omega⟩ : Fin 8) (⟨(t.val * 512 + y0.val) % 4096, by omega⟩ : Fin 4096) j) := fun j => by
    rw [iblk3_eq, rows_at]
  have h4 : ∀ j : Fin 1024, (iblk m c 4 t : Vec Ideal S1x1024 .f32) (ix2 0 j) = m ((c : Thread nD τ).loc main_arg4) (ix1 j) := fun j => by
    rw [iblk4_eq, gain_at]
  simp only [h0, h1, h2, h3, h4, h5, es]

/-- THE RESULT ARRAY after the run: the array the reference computes of the same arguments. -/
theorem arr_eq_ref : (dats m 0 c).arrAt 6 cfg0.N = Cert.CombineReferenceIdeal.Read.val_main_v36 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) := by
  have e : (dats m 0 c).arrAt 6 cfg0.N = fun i : S32768x1024.Idx => lastOf m c (i 0) (i 1) := by
    refine (dats m 0 c).arrAt_eq_of_covers 6 _ (by decide +kernel) fun t hf y => ?_
    blk_simp
    rw [after0_6]
    refine out_point m c t y _ _ ?_ ?_
    · blk_simp [idx t]
    · blk_simp [idx t]
  rw [e]
  funext i
  refine Eq.trans ?_ ((Cert.CombineReferenceIdeal.Sum.v36_at _ _ _ _ _ _ (i 0) (i 1)).symm.trans (congrArg _ ?_))
  · rfl
  · exact funext fun a => match a with | ⟨0, _⟩ => rfl | ⟨1, _⟩ => rfl

end Cert.CombineIdeal.Sum

end
-- ==== Proof.Outproj.Pieces.lean ====
/- What a grid point of the output projection leaves in the blocks of its first two results, read at an index.
   Hand-written, untrusted. -/
module

public import proofs.«01_k».proof.Proof.Gen.OutprojIdeal.Frame
public import proofs.«01_k».proof.Proof.Outproj.Spec
public import Idealize.ShloMosaic.Lib.Pipeline.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.OutprojIdeal.Proj

open Cert.OutprojIdeal Cert.OutprojIdeal.Gen Idealize.ShloMosaic Idealize.ShloMosaic.TcCoe Idealize.SL.Sem
open Idealize.ShloMosaic.Tactic

/-- The residual rows at an index. -/
theorem pay4_apply (i : grid0.Coords) (o0 o1 : Vec Ideal S512x1024 .bf16) (w : Vec Ideal S1024x1024 .bf16) (x0 x1 : Vec Ideal S512x1024 .f32)
    (gate : Vec Ideal S1x1x1024 .f32) (g : Vec Ideal S1x1024 .f32) (r : Fin 512) (col : Fin 1024) : k0_pay4 (F := Ideal) i o0 o1 w x0 x1 gate g (ix2 r col)
      = Cert.Outproj.Spec.residual (fun j => x0 (ix2 r j)) (Cert.Outproj.Spec.mixed (fun j => o0 (ix2 r j)) (fun k j => w (ix2 k j)))
          (fun j => g (ix2 0 j)) (fun j => gate (ix3 0 0 j)) col := by
  have h : Scalar.cmpi .slt (BitVec.ofNat 32 (i 0).val) 64#32 = 1#1 := by
    have e : ∀ n : Fin 64, Scalar.cmpi .slt (BitVec.ofNat 32 n.val) 64#32 = 1#1 := by decide +kernel
    exact e ⟨_, (i 0).isLt⟩
  unfold k0_pay4
  simp only [h]
  pointwise
  rfl

/-- The modulated rows at an index. -/
theorem pay6_apply (v : FVec Ideal S512x1024 .f32) (g : Vec Ideal S1x1024 .f32) (sh sc : Vec Ideal S1x1x1024 .f32) (r : Fin 512) (col : Fin 1024) :
    k0_pay6 (F := Ideal) v g sh sc (ix2 r col)
      = Cert.Proj.modulated (fun j => v (ix2 r j)) (fun j => g (ix2 0 j)) (fun j => sh (ix3 0 0 j)) (fun j => sc (ix3 0 0 j)) col := by
  pointwise [k0_pay6, k0_pay5]
  rfl

variable (m : (ℓ : Loc nD τ sig) → Buf (Elt Ideal) ℓ)

/-- The residual rows of a grid point. -/
def resid (c : Dev nD) (t : Fin cfg0.N) : FVec Ideal S512x1024 .f32 :=
  k0_pay4 (F := Ideal) (grid0.coords t) (iblk m c 0 t) (iblk m c 1 t) (iblk m c 2 t) (iblk m c 3 t) (iblk m c 4 t) (iblk m c 6 t) (iblk m c 5 t)

set_option maxHeartbeats 4000000 in
/-- A grid point leaves the residual rows in the block of the first result … -/
theorem left_residual (c : Dev nD) (t : Fin cfg0.N) (y : S512x1024.Idx) : (outsAt0 m c t.val t.isLt).1 y = resid m c t y := by
  unfold resid
  by_cases h0 : t.val % 64 = 0
  · rw [outsAt0_A m c t h0]
    dsimp only
    frame_out
  · rw [outsAt0_B m c t h0]
    dsimp only
    frame_out

set_option maxHeartbeats 4000000 in
/-- … and the modulated rows in that of the second. -/
theorem left_tokens (c : Dev nD) (t : Fin cfg0.N) (y : S512x1024.Idx) : (outsAt0 m c t.val t.isLt).2.1 y
    = k0_pay6 (F := Ideal) (resid m c t) (iblk m c 7 t) (iblk m c 8 t) (iblk m c 9 t) y := by
  unfold resid
  by_cases h0 : t.val % 64 = 0
  · rw [outsAt0_A m c t h0]
    dsimp only
    frame_out
  · rw [outsAt0_B m c t h0]
    dsimp only
    frame_out

end Cert.OutprojIdeal.Proj

end
-- ==== Proof.Outproj.Blocks.lean ====
/- The blocks that a grid point of the output projection reads, as elements of the program's arguments. Hand-written,
   untrusted. -/
module

public import proofs.«01_k».proof.Proof.Gen.OutprojIdeal.Frame
public import Idealize.ShloMosaic.Lib.Pipeline.Value
public import Idealize.ShloMosaic.Lib.Pipeline.ValueKit
public import Idealize.ShloMosaic.Lib.Pointwise

@[expose] public section

set_option maxRecDepth 16384

noncomputable section

namespace Cert.OutprojIdeal.Proj

open Cert.OutprojIdeal Cert.OutprojIdeal.Gen Idealize.ShloMosaic Idealize.ShloMosaic.TcCoe Idealize.SL.Sem
open Idealize.ShloMosaic.Tactic

/-- The block indices of the windows of interest at every grid point. -/
theorem idx : ∀ t : Fin grid0.N, win0_0.index t = ![min t.val 63, 0] ∧ win0_2.index t = ![0, 0] ∧ win0_3.index t = ![min t.val 63, 0]
    ∧ win0_5.index t = ![0, 0] ∧ win0_6.index t = ![t.val / 8, 0, 0] ∧ win0_7.index t = ![0, 0] ∧ win0_8.index t = ![t.val / 8, 0, 0]
    ∧ win0_9.index t = ![t.val / 8, 0, 0] ∧ win0_13.index t = ![t.val, 0] ∧ win0_14.index t = ![t.val, 0] := by decide +kernel

variable (m : (ℓ : Loc nD τ sig) → Buf (Elt Ideal) ℓ)

theorem lt64 (t : Fin cfg0.N) : t.val < 64 := lt_of_lt_of_eq t.isLt N_0

/-- The heads' rows as the launch finds them. -/
theorem heads_at (c : Dev nD) (r : Fin 32768) (j : Fin 1024) : (V m c main_v1 : S32768x1024.Idx → EReal) (ix2 r j)
    = m ((c : Thread nD τ).loc main_arg0) (ix3 ⟨r.val / 4096, by omega⟩ ⟨r.val % 4096, by omega⟩ j) := by
  unfold V
  entry_read
  pointwise

/-- The residual stream's rows. -/
theorem rows_at (c : Dev nD) (r : Fin 32768) (j : Fin 1024) : (V m c main_v2 : S32768x1024.Idx → EReal) (ix2 r j)
    = m ((c : Thread nD τ).loc main_arg1) (ix3 ⟨r.val / 4096, by omega⟩ ⟨r.val % 4096, by omega⟩ j) := by
  unfold V
  entry_read
  pointwise

theorem gain_at (c : Dev nD) (j : Fin 1024) :
    (V m c main_v4 : S1x1024.Idx → EReal) (ix2 0 j) = m ((c : Thread nD τ).loc main_arg2) (ix1 j) := by
  unfold V
  entry_read
  pointwise

theorem next_gain_at (c : Dev nD) (j : Fin 1024) :
    (V m c main_v7 : S1x1024.Idx → EReal) (ix2 0 j) = m ((c : Thread nD τ).loc main_arg4) (ix1 j) := by
  unfold V
  entry_read
  pointwise

/-- The modulations as the launch finds them: the sequences' and rows of zeros. -/
def modTab (a : S8x1x1024.Idx → EReal) : S16x1x1024.Idx → EReal :=
  concatenate S16x1x1024 0 [⟨S8x1x1024, a⟩,
    ⟨S8x1x1024, broadcastInDim S8x1x1024 ![] bcast_S_S8x1x1024 (constant (F := Ideal) S_ .f32 0x00000000#32)⟩]
    concatenates_S8x1x1024_S8x1x1024_S16x1x1024_d0

theorem gate_eq (c : Dev nD) : (V m c main_v6 : S16x1x1024.Idx → EReal) = modTab (m ((c : Thread nD τ).loc main_arg3)) := by
  unfold V
  rfl

theorem shift_eq (c : Dev nD) : (V m c main_v9 : S16x1x1024.Idx → EReal) = modTab (m ((c : Thread nD τ).loc main_arg5)) := by
  unfold V
  rfl

theorem scale_eq (c : Dev nD) : (V m c main_v11 : S16x1x1024.Idx → EReal) = modTab (m ((c : Thread nD τ).loc main_arg6)) := by
  unfold V
  rfl

theorem modTab_seq (a : S8x1x1024.Idx → EReal) (s : Fin 16) (h : s.val < 8) (j : Fin 1024) :
    modTab a (ix3 s 0 j) = a (ix3 ⟨s.val, h⟩ 0 j) := by
  unfold modTab
  pointwise
  rw [dif_pos h]

theorem iblk0_eq (c : Dev nD) (t : Fin cfg0.N) (r : Fin 512) (j : Fin 1024) :
    iblk m c 0 t (ix2 r j) = (V m c main_v1 : S32768x1024.Idx → EReal) (ix2 ⟨512 * min t.val 63 + r.val, by omega⟩ j) := by
  blk_ext [iblk, idx t]

theorem iblk2_eq (c : Dev nD) (t : Fin cfg0.N) (k j : Fin 1024) :
    iblk m c 2 t (ix2 k j) = m ((c : Thread nD τ).loc main_arg7) (ix2 k j) := by
  blk_ext! [iblk, V, idx t]

theorem iblk3_eq (c : Dev nD) (t : Fin cfg0.N) (r : Fin 512) (j : Fin 1024) :
    iblk m c 3 t (ix2 r j) = (V m c main_v2 : S32768x1024.Idx → EReal) (ix2 ⟨512 * min t.val 63 + r.val, by omega⟩ j) := by
  blk_ext [iblk, idx t]

theorem iblk5_eq (c : Dev nD) (t : Fin cfg0.N) (j : Fin 1024) :
    iblk m c 5 t (ix2 0 j) = (V m c main_v4 : S1x1024.Idx → EReal) (ix2 0 j) := by
  blk_ext [iblk, idx t]

theorem iblk6_eq (c : Dev nD) (t : Fin cfg0.N) (j : Fin 1024) :
    iblk m c 6 t (ix3 0 0 j) = (V m c main_v6 : S16x1x1024.Idx → EReal) (ix3 ⟨t.val / 8, by have := lt64 t; omega⟩ 0 j) := by
  blk_ext [iblk, idx t]

theorem iblk7_eq (c : Dev nD) (t : Fin cfg0.N) (j : Fin 1024) :
    iblk m c 7 t (ix2 0 j) = (V m c main_v7 : S1x1024.Idx → EReal) (ix2 0 j) := by
  blk_ext [iblk, idx t]

theorem iblk8_eq (c : Dev nD) (t : Fin cfg0.N) (j : Fin 1024) :
    iblk m c 8 t (ix3 0 0 j) = (V m c main_v9 : S16x1x1024.Idx → EReal) (ix3 ⟨t.val / 8, by have := lt64 t; omega⟩ 0 j) := by
  blk_ext [iblk, idx t]

theorem iblk9_eq (c : Dev nD) (t : Fin cfg0.N) (j : Fin 1024) :
    iblk m c 9 t (ix3 0 0 j) = (V m c main_v11 : S16x1x1024.Idx → EReal) (ix3 ⟨t.val / 8, by have := lt64 t; omega⟩ 0 j) := by
  blk_ext [iblk, idx t]

end Cert.OutprojIdeal.Proj

end
-- ==== Proof.Outproj.RefAt.lean ====
/- The output projection's reference read at an index. Hand-written, untrusted. -/
module

public import proofs.«01_k».proof.Proof.Gen.OutprojReferenceIdeal.Read
public import proofs.«01_k».proof.Proof.Outproj.Spec
public import Idealize.ShloMosaic.Lib.Pointwise

@[expose] public section

set_option maxRecDepth 16384

noncomputable section

namespace Cert.OutprojReferenceIdeal.Proj

open Cert.Outproj.Spec Cert.OutprojReferenceIdeal Cert.OutprojReferenceIdeal.Gen Cert.OutprojReferenceIdeal.Read Idealize.ShloMosaic Idealize.ShloMosaic.TcCoe
open Idealize.ShloMosaic.Tactic

variable (o x : S8x4096x1024.Idx → EReal) (g : S1024.Idx → EReal) (gate : S8x1x1024.Idx → EReal) (g2 : S1024.Idx → EReal)
  (sh sc : S8x1x1024.Idx → EReal) (w : S1024x1024.Idx → EReal)

/-- The heads' rows times the weight. -/
theorem v0_at (b : Fin 8) (s : Fin 4096) (j : Fin 1024) : val_main_v0 (F := Ideal) o w (ix3 b s j)
    = mixed (fun k => o (ix3 b s k)) (fun k j => w (ix2 k j)) j := by
  pointwise [val_main_v0]
  rfl

/-- The residual stream after the projection. -/
def residAt (b : Fin 8) (s : Fin 4096) (j : Fin 1024) : EReal :=
  residual (fun j => x (ix3 b s j)) (mixed (fun k => o (ix3 b s k)) (fun k j => w (ix2 k j))) (fun j => g (ix1 j)) (fun j => gate (ix3 b 0 j)) j

theorem v16_at (b : Fin 8) (s : Fin 4096) (j : Fin 1024) : val_main_v16 (F := Ideal) o x g gate w (ix3 b s j) = residAt o x g gate w b s j := by
  pointwise [val_main_v16, val_main_v15, val_main_v14, val_main_v13, val_main_v12, val_main_v11, val_main_v10, val_main_v9, val_main_v8, val_main_v7,
    val_main_v6, val_main_v5, val_main_v4, val_main_v3, val_main_v2, val_main_v1, val_main_cst, val_main_cst_0, val_main_cst_1]
  simp only [v0_at]
  rfl

/-- The stream's rows over their root mean square, with gain, scale and shift. -/
theorem v35_at (b : Fin 8) (s : Fin 4096) (j : Fin 1024) : val_main_v35 (F := Ideal) o x g gate g2 sh sc w (ix3 b s j)
    = Cert.Proj.modulated (residAt o x g gate w b s) (fun j => g2 (ix1 j)) (fun j => sh (ix3 b 0 j)) (fun j => sc (ix3 b 0 j)) j := by
  pointwise [val_main_v35, val_main_v34, val_main_v33, val_main_v32, val_main_v31, val_main_v30, val_main_v29, val_main_v28, val_main_v27, val_main_v26,
    val_main_v25, val_main_v24, val_main_v23, val_main_v22, val_main_v21, val_main_v20, val_main_v19, val_main_v18, val_main_v17, val_main_cst_2,
    val_main_cst_3, val_main_cst_4, val_main_cst_5]
  simp only [v16_at]
  rfl

/-- The first result, all rows. -/
theorem v36_at (r : Fin 32768) (j : Fin 1024) : val_main_v36 (F := Ideal) o x g gate w (ix2 r j)
    = residAt o x g gate w ⟨r.val / 4096, by omega⟩ ⟨r.val % 4096, by omega⟩ j := by
  pointwise [val_main_v36]
  rw [v16_at]

/-- Over the reals a value stored in fewer bits is the value. -/
theorem stored (y : EReal) : FloatOps.truncf (F := Ideal) (φ := .f32) .bf16 bitsLt_bf16_f32 y = y := rfl

/-- The second result, all rows. -/
theorem v38_at (r : Fin 32768) (j : Fin 1024) : val_main_v38 (F := Ideal) o x g gate g2 sh sc w (ix2 r j)
    = Cert.Proj.modulated (residAt o x g gate w ⟨r.val / 4096, by omega⟩ ⟨r.val % 4096, by omega⟩) (fun j => g2 (ix1 j))
        (fun j => sh (ix3 ⟨r.val / 4096, by omega⟩ 0 j)) (fun j => sc (ix3 ⟨r.val / 4096, by omega⟩ 0 j)) j := by
  rw [val_main_v38_apply]
  refine (stored _).trans ?_
  pointwise [val_main_v37]
  rw [v35_at]

end Cert.OutprojReferenceIdeal.Proj

end
-- ==== Proof.Outproj.KernelAt.lean ====
/- The output projection's first two arrays after its run, element by element, and that they are the reference's.
   Hand-written, untrusted. -/
module

public import proofs.«01_k».proof.Proof.Outproj.Pieces
public import proofs.«01_k».proof.Proof.Outproj.Blocks
public import proofs.«01_k».proof.Proof.Outproj.RefAt

@[expose] public section

set_option maxRecDepth 16384

noncomputable section

namespace Cert.OutprojIdeal.Proj

open Cert.Outproj.Spec Cert.OutprojIdeal Cert.OutprojIdeal.Gen Idealize.ShloMosaic Idealize.ShloMosaic.TcCoe Idealize.SL.Sem
open Idealize.ShloMosaic.Tactic

variable (m : (ℓ : Loc nD τ sig) → Buf (Elt Ideal) ℓ) (c : Dev nD)

/-- The residual stream's row of the launch's arguments. -/
def residRow (b : Fin 8) (s : Fin 4096) : Fin 1024 → EReal :=
  Cert.OutprojReferenceIdeal.Proj.residAt (m ((c : Thread nD τ).loc main_arg0)) (m ((c : Thread nD τ).loc main_arg1)) (m ((c : Thread nD τ).loc main_arg2))
    (m ((c : Thread nD τ).loc main_arg3)) (m ((c : Thread nD τ).loc main_arg7)) b s

/-- The token's row of the launch's arguments. -/
def tokenRow (b : Fin 8) (s : Fin 4096) : Fin 1024 → EReal :=
  Cert.Proj.modulated (residRow m c b s) (fun j => m ((c : Thread nD τ).loc main_arg4) (ix1 j)) (fun j => m ((c : Thread nD τ).loc main_arg5) (ix3 b 0 j))
    (fun j => m ((c : Thread nD τ).loc main_arg6) (ix3 b 0 j))

/-- A grid point's block of a table of modulations is its sequence's. -/
theorem seq_eq (t : Fin cfg0.N) (y0 : Fin 512) (r : Fin 32768) (hr : r.val = t.val * 512 + y0.val) (h : t.val / 8 < 8) :
    (⟨t.val / 8, h⟩ : Fin 8) = ⟨r.val / 4096, by omega⟩ := Fin.ext (by show t.val / 8 = r.val / 4096; omega)

/-- The residual rows of a grid point. -/
theorem resid_point (t : Fin cfg0.N) (y0 : Fin 512) (r : Fin 32768) (hr : r.val = t.val * 512 + y0.val) (col : Fin 1024) :
    resid m c t (ix2 y0 col) = residRow m c ⟨r.val / 4096, by omega⟩ ⟨r.val % 4096, by omega⟩ col := by
  have ht := lt64 t
  unfold resid residRow Cert.OutprojReferenceIdeal.Proj.residAt
  rw [pay4_apply]
  have h0 : ∀ j : Fin 1024, (iblk m c 0 t : Vec Ideal S512x1024 .bf16) (ix2 y0 j)
      = m ((c : Thread nD τ).loc main_arg0) (ix3 (⟨r.val / 4096, by omega⟩ : Fin 8) (⟨r.val % 4096, by omega⟩ : Fin 4096) j) := fun j => by
    rw [iblk0_eq, heads_at]
    refine congrArg (m ((c : Thread nD τ).loc main_arg0)) (congrArg₂ (fun a b => ix3 a b j) (Fin.ext ?_) (Fin.ext ?_))
    · show (512 * min t.val 63 + y0.val) / 4096 = r.val / 4096; omega
    · show (512 * min t.val 63 + y0.val) % 4096 = r.val % 4096; omega
  have h3 : ∀ j : Fin 1024, (iblk m c 3 t : Vec Ideal S512x1024 .f32) (ix2 y0 j)
      = m ((c : Thread nD τ).loc main_arg1) (ix3 (⟨r.val / 4096, by omega⟩ : Fin 8) (⟨r.val % 4096, by omega⟩ : Fin 4096) j) := fun j => by
    rw [iblk3_eq, rows_at]
    refine congrArg (m ((c : Thread nD τ).loc main_arg1)) (congrArg₂ (fun a b => ix3 a b j) (Fin.ext ?_) (Fin.ext ?_))
    · show (512 * min t.val 63 + y0.val) / 4096 = r.val / 4096; omega
    · show (512 * min t.val 63 + y0.val) % 4096 = r.val % 4096; omega
  have h2 : ∀ k j : Fin 1024, (iblk m c 2 t : Vec Ideal S1024x1024 .bf16) (ix2 k j) = m ((c : Thread nD τ).loc main_arg7) (ix2 k j) := fun k j =>
    iblk2_eq m c t k j
  have h5 : ∀ j : Fin 1024, (iblk m c 5 t : Vec Ideal S1x1024 .f32) (ix2 0 j) = m ((c : Thread nD τ).loc main_arg2) (ix1 j) := fun j => by
    rw [iblk5_eq, gain_at]
  have h6 : ∀ j : Fin 1024, (iblk m c 6 t : Vec Ideal S1x1x1024 .f32) (ix3 0 0 j)
      = m ((c : Thread nD τ).loc main_arg3) (ix3 (⟨r.val / 4096, by omega⟩ : Fin 8) 0 j) := fun j => by
    rw [iblk6_eq, gate_eq, modTab_seq _ _ (show t.val / 8 < 8 by omega)]
    exact congrArg (fun z => m ((c : Thread nD τ).loc main_arg3) (ix3 z 0 j)) (seq_eq t y0 r hr _)
  simp only [h0, h2, h3, h5, h6]

/-- The token rows of a grid point. -/
theorem token_point (t : Fin cfg0.N) (y0 : Fin 512) (r : Fin 32768) (hr : r.val = t.val * 512 + y0.val) (col : Fin 1024) :
    k0_pay6 (F := Ideal) (resid m c t) (iblk m c 7 t) (iblk m c 8 t) (iblk m c 9 t) (ix2 y0 col)
      = tokenRow m c ⟨r.val / 4096, by omega⟩ ⟨r.val % 4096, by omega⟩ col := by
  have ht := lt64 t
  unfold tokenRow
  rw [pay6_apply]
  have h7 : ∀ j : Fin 1024, (iblk m c 7 t : Vec Ideal S1x1024 .f32) (ix2 0 j) = m ((c : Thread nD τ).loc main_arg4) (ix1 j) := fun j => by
    rw [iblk7_eq, next_gain_at]
  have h8 : ∀ j : Fin 1024, (iblk m c 8 t : Vec Ideal S1x1x1024 .f32) (ix3 0 0 j)
      = m ((c : Thread nD τ).loc main_arg5) (ix3 (⟨r.val / 4096, by omega⟩ : Fin 8) 0 j) := fun j => by
    rw [iblk8_eq, shift_eq, modTab_seq _ _ (show t.val / 8 < 8 by omega)]
    exact congrArg (fun z => m ((c : Thread nD τ).loc main_arg5) (ix3 z 0 j)) (seq_eq t y0 r hr _)
  have h9 : ∀ j : Fin 1024, (iblk m c 9 t : Vec Ideal S1x1x1024 .f32) (ix3 0 0 j)
      = m ((c : Thread nD τ).loc main_arg6) (ix3 (⟨r.val / 4096, by omega⟩ : Fin 8) 0 j) := fun j => by
    rw [iblk9_eq, scale_eq, modTab_seq _ _ (show t.val / 8 < 8 by omega)]
    exact congrArg (fun z => m ((c : Thread nD τ).loc main_arg6) (ix3 z 0 j)) (seq_eq t y0 r hr _)
  have hx : (fun j : Fin 1024 => resid m c t (ix2 y0 j)) = residRow m c ⟨r.val / 4096, by omega⟩ ⟨r.val % 4096, by omega⟩ :=
    funext fun j => resid_point m c t y0 r hr j
  rw [hx]
  simp only [h7, h8, h9]

/-- The residual stream's row of row `r` of all rows. -/
def residOf (r : Fin 32768) : Fin 1024 → EReal := residRow m c ⟨r.val / 4096, by omega⟩ ⟨r.val % 4096, by omega⟩

/-- The token's row of row `r` of all rows. -/
def tokenOf (r : Fin 32768) : Fin 1024 → EReal := tokenRow m c ⟨r.val / 4096, by omega⟩ ⟨r.val % 4096, by omega⟩

theorem resid_block (t : Fin cfg0.N) (y : S512x1024.Idx) (r : Fin 32768) (x : Fin 1024) (hr : r.val = t.val * 512 + (y 0).val) (hx : x.val = (y 1).val) :
    (outsAt0 m c t.val t.isLt).1 y = residOf m c r x := by
  rw [left_residual]
  idx_vars y
  have ex : x = y1 := Fin.ext hx
  subst ex
  exact resid_point m c t y0 r hr _

theorem token_block (t : Fin cfg0.N) (y : S512x1024.Idx) (r : Fin 32768) (x : Fin 1024) (hr : r.val = t.val * 512 + (y 0).val) (hx : x.val = (y 1).val) :
    (outsAt0 m c t.val t.isLt).2.1 y = tokenOf m c r x := by
  rw [left_tokens]
  idx_vars y
  have ex : x = y1 := Fin.ext hx
  subst ex
  exact token_point m c t y0 r hr _

/-- The array of the residual stream after the run. -/
theorem resid_arr : (dats m 0 c).arrAt 13 cfg0.N = fun i : S32768x1024.Idx => residOf m c (i 0) (i 1) := by
  refine (dats m 0 c).arrAt_eq_of_covers 13 _ (by decide +kernel) fun t hf y => ?_
  blk_simp
  rw [after0_13]
  refine resid_block m c t y _ _ ?_ ?_
  · blk_simp [idx t]
  · blk_simp [idx t]

/-- The array of the tokens after the run. -/
theorem token_arr : (dats m 0 c).arrAt 14 cfg0.N = fun i : S32768x1024.Idx => tokenOf m c (i 0) (i 1) := by
  refine (dats m 0 c).arrAt_eq_of_covers 14 _ (by decide +kernel) fun t hf y => ?_
  blk_simp
  rw [after0_14]
  refine token_block m c t y _ _ ?_ ?_
  · blk_simp [idx t]
  · blk_simp [idx t]

/-- The residual stream the kernel leaves is the one the reference computes of the same arguments. -/
theorem resid_eq_ref : (dats m 0 c).arrAt 13 cfg0.N = Cert.OutprojReferenceIdeal.Read.val_main_v36 (F := Ideal) (m ((c : Thread nD τ).loc main_arg0))
      (m ((c : Thread nD τ).loc main_arg1)) (m ((c : Thread nD τ).loc main_arg2)) (m ((c : Thread nD τ).loc main_arg3))
      (m ((c : Thread nD τ).loc main_arg7)) := by
  rw [resid_arr]
  funext i
  refine Eq.trans ?_ ((Cert.OutprojReferenceIdeal.Proj.v36_at _ _ _ _ _ (i 0) (i 1)).symm.trans (congrArg _ ?_))
  · rfl
  · exact funext fun a => match a with | ⟨0, _⟩ => rfl | ⟨1, _⟩ => rfl

/-- The tokens the kernel leaves are the ones the reference computes of the same arguments. -/
theorem token_eq_ref : (dats m 0 c).arrAt 14 cfg0.N = Cert.OutprojReferenceIdeal.Read.val_main_v38 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) := by
  rw [token_arr]
  funext i
  refine Eq.trans ?_ ((Cert.OutprojReferenceIdeal.Proj.v38_at _ _ _ _ _ _ _ _ (i 0) (i 1)).symm.trans (congrArg _ ?_))
  · rfl
  · exact funext fun a => match a with | ⟨0, _⟩ => rfl | ⟨1, _⟩ => rfl

end Cert.OutprojIdeal.Proj

end
-- ==== Proof.Outproj.Run.lean ====
/- The output projection's run, with the two arrays it is claimed of named. Hand-written, untrusted. -/
module

public import proofs.«01_k».proof.Proof.Gen.OutprojIdeal.Frame
public import Idealize.ShloMosaic.Lib.Pipeline.Value
public import Idealize.ShloMosaic.PureOps.Ideal

@[expose] public section

set_option maxRecDepth 16384

noncomputable section

namespace Cert.OutprojIdeal.Proj

open Cert.OutprojIdeal Cert.OutprojIdeal.Gen Idealize.ShloMosaic Idealize.ShloMosaic.TcCoe Idealize.SL.Sem

variable (m : (ℓ : Loc nD τ sig) → Buf (Elt Ideal) ℓ) (ρ : Dev nD → PrngReg)

/-- After the run the two results hold what the grid's points wrote into them, and the arguments are as launched. -/
theorem two_results : θ_run defs (onTc (τ := τ) (main (F := Ideal))) ⟨m, fun _ => 0, ρ⟩ fun r => ∀ c : Dev nD,
      r.2.mem ((c : Thread nD τ).loc main_v18_0) = (dats m 0 c).arrAt 13 cfg0.N
      ∧ r.2.mem ((c : Thread nD τ).loc main_v18_1) = (dats m 0 c).arrAt 14 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) := by
  refine (θ_run defs _ _).mono (fun r h c => ?_) (run_main (F := Ideal) m ρ)
  exact ⟨(h c).1 13, (h c).1 14,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c)⟩

end Cert.OutprojIdeal.Proj

end
-- ==== Proof.DestLast.Spec.lean ====
/- The halves of the second layer's row space. Hand-written, untrusted. -/
module

public import proofs.«01_k».proof.Proof.Dest.Spec

@[expose] public section

noncomputable section

namespace Cert.DestLast.Spec

/-- The rows ahead of a half of the row space: none before the first half, the first half's before the second. -/
def ahead (j : Fin 2) : BitVec 32 := if j = 0 then 0#32 else 262144#32

theorem ahead_zero : ahead 0 = 0#32 := if_pos rfl

theorem ahead_one : ahead 1 = 262144#32 := if_neg (by decide)

end Cert.DestLast.Spec

end
-- ==== Proof.DestLast.RefAt.lean ====
/- The second layer's destination rows' reference read at an index. Hand-written, untrusted. -/
module

public import proofs.«01_k».proof.Proof.Gen.DestLastReferenceIdeal.Read
public import proofs.«01_k».proof.Proof.DestLast.Spec
public import Idealize.ShloMosaic.Lib.Pointwise

@[expose] public section

set_option maxRecDepth 16384

noncomputable section

namespace Cert.DestLastReferenceIdeal.Rows

open Cert.Dest.Spec hiding ahead ahead_zero ahead_one
open Cert.DestLast.Spec Cert.DestLastReferenceIdeal Cert.DestLastReferenceIdeal.Gen Cert.DestLastReferenceIdeal.Read Idealize.ShloMosaic Idealize.ShloMosaic.TcCoe
open Idealize.ShloMosaic.Tactic

variable (e p : S8x32768.Idx → BitVec 32) (ps : S64.Idx → BitVec 32)

/-- The start of the expert of one assignment. -/
theorem v8_at (k : Fin 8) (r : Fin 32768) : val_main_v8 (F := Ideal) e ps (ix2 k r) = first (e (ix2 k r)) fun q => ps (ix1 q) := by
  pointwise [val_main_v8, val_main_v7, val_main_v6, val_main_v5, val_main_v4, val_main_v3, val_main_v2, val_main_v1, val_main_v0,
    val_main_c, val_main_c_0, val_main_call0_v0, val_main_call0_v1, val_main_call0_v2]
  refine fold_first _ _ _ fun q => ?_
  show Scalar.select (IntOp.cmpi CmpIPredicate.eq (e (ix2 k r)) (BitVec.ofNat 32 q.val)) (ps (ix1 q)) 0#32 = _
  by_cases h : e (ix2 k r) = BitVec.ofNat 32 q.val
  · rw [if_pos h, h]
    simp [IntOp.cmpi, Scalar.select]
  · rw [if_neg h]
    have hb : (e (ix2 k r) == BitVec.ofNat 32 q.val) = false := beq_eq_false_iff_ne.2 h
    simp [IntOp.cmpi, Scalar.select, hb]

/-- The reference's result at an index. -/
theorem ref_at (j : Fin 2) (k : Fin 8) (r : Fin 32768) : val_main_v15 (F := Ideal) e p ps (ix3 j k r)
    = first (e (ix2 k r)) (fun q => ps (ix1 q)) + p (ix2 k r) + ahead j := by
  unfold val_main_v15
  rw [concatenate_pair_apply]
  obtain rfl | rfl : j = 0 ∨ j = 1 := by omega
  · refine (dif_pos (show (0 : ℕ) < 1 by decide)).trans ?_
    pointwise [val_main_v13, val_main_v9]
    rw [v8_at]
    exact (BitVec.add_zero _).symm
  · refine (dif_neg (show ¬ (1 : ℕ) < 1 by decide)).trans ?_
    pointwise [val_main_v14, val_main_v12, val_main_v10, val_main_v11, val_main_c_1]
    rw [v8_at]
    rfl

end Cert.DestLastReferenceIdeal.Rows

end
-- ==== Proof.DestLast.KernelAt.lean ====
/- The second layer's destination rows' kernel read at an index, and the claim: the array it leaves is the reference's. Hand-written, untrusted. -/
module

public import proofs.«01_k».proof.Proof.Gen.DestLastIdeal.Value
public import proofs.«01_k».proof.Proof.DestLast.RefAt
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DestLastIdeal.Rows

open Cert.Dest.Spec hiding ahead ahead_zero ahead_one
open Cert.DestLast.Spec Cert.DestLastIdeal Cert.DestLastIdeal.Gen Idealize.ShloMosaic Idealize.ShloMosaic.TcCoe Idealize.SL.Sem
open Idealize.ShloMosaic.Tactic

/-- The block indices of every window at every grid point. -/
theorem idx : ∀ t : Fin grid0.N, win0_0.index t = ![0, t.val] ∧ win0_1.index t = ![0, t.val]
    ∧ win0_2.index t = ![0, 0] ∧ win0_3.index t = ![0, 0, t.val] := by decide +kernel

variable (m : (ℓ : Loc nD τ sig) → Buf (Elt Ideal) ℓ)

theorem lt64 (t : Fin cfg0.N) : t.val < 64 := lt_of_lt_of_eq t.isLt N_0

/-- An assignment's place among all tokens. -/
theorem tok_lt (t : Fin cfg0.N) (r : Fin 512) : t.val * 512 + r.val < 32768 := by have := lt64 t; omega

/-- The starts as the launch finds them: the words' numbers, as a column. -/
theorem start_at (c : Dev nD) (q : Fin 64) : (V m c main_v1 : S64x1.Idx → EReal) (ix2 q 0)
    = ((((m ((c : Thread nD τ).loc main_arg2) : S64.Idx → BitVec 32) (ix1 q)).toInt : ℝ) : EReal) := by
  unfold V
  entry_read
  pointwise
  rfl

theorem iblk0_eq (c : Dev nD) (t : Fin cfg0.N) (k : Fin 8) (r : Fin 512) : iblk m c 0 t (ix2 k r)
    = m ((c : Thread nD τ).loc main_arg0) (ix2 k ⟨t.val * 512 + r.val, tok_lt t r⟩) := by
  blk_ext! [iblk, V, idx t]

theorem iblk1_eq (c : Dev nD) (t : Fin cfg0.N) (k : Fin 8) (r : Fin 512) : iblk m c 1 t (ix2 k r)
    = m ((c : Thread nD τ).loc main_arg1) (ix2 k ⟨t.val * 512 + r.val, tok_lt t r⟩) := by
  blk_ext! [iblk, V, idx t]

theorem iblk2_eq (c : Dev nD) (t : Fin cfg0.N) (q : Fin 64) : iblk m c 2 t (ix2 q 0)
    = (V m c main_v1 : S64x1.Idx → EReal) (ix2 q 0) := by
  blk_ext [iblk, idx t]

/-- The sum over the experts, for one assignment. -/
theorem pick (e : BitVec 32) (ps : Fin 64 → BitVec 32) (x2 : Vec Ideal S64x1 .f32)
    (h2 : ∀ q : Fin 64, x2 (ix2 q 0) = (((ps q).toInt : ℝ) : EReal)) :
    (∑ q : Fin 64, if ((((BitVec.ofNat 32 q.val).toInt : ℝ) : EReal) = ((e.toInt : ℝ) : EReal)) then x2 (ix2 q 0) else 0)
      = (((first e ps).toInt : ℝ) : EReal) := by
  refine sum_first e ps _ fun q => ?_
  rw [h2]
  exact if_congr (cast_eq_iff q e) rfl rfl

/-! The experts' starts of the block's first four rows, which the kernel's text computes apart. -/

theorem row0 (x0 : Vec Ideal S8x512 .i32) (x2 : Vec Ideal S64x1 .f32) (r : Fin 512) (ps : Fin 64 → BitVec 32)
    (h2 : ∀ q : Fin 64, x2 (ix2 q 0) = (((ps q).toInt : ℝ) : EReal)) :
    k0_pay5 (F := Ideal) x0 x2 (ix2 0 r) = (((first (x0 (ix2 0 r)) ps).toInt : ℝ) : EReal) := by
  pointwise [k0_pay5, k0_pay4, k0_pay3, k0_pay2]
  exact pick _ ps x2 h2

theorem row1 (x0 : Vec Ideal S8x512 .i32) (x2 : Vec Ideal S64x1 .f32) (r : Fin 512) (ps : Fin 64 → BitVec 32)
    (h2 : ∀ q : Fin 64, x2 (ix2 q 0) = (((ps q).toInt : ℝ) : EReal)) :
    k0_pay6 (F := Ideal) x0 x2 (ix2 0 r) = (((first (x0 (ix2 1 r)) ps).toInt : ℝ) : EReal) := by
  pointwise [k0_pay6, k0_pay4, k0_pay3, k0_pay2]
  exact pick _ ps x2 h2

theorem row2 (x0 : Vec Ideal S8x512 .i32) (x2 : Vec Ideal S64x1 .f32) (r : Fin 512) (ps : Fin 64 → BitVec 32)
    (h2 : ∀ q : Fin 64, x2 (ix2 q 0) = (((ps q).toInt : ℝ) : EReal)) :
    k0_pay7 (F := Ideal) x0 x2 (ix2 0 r) = (((first (x0 (ix2 2 r)) ps).toInt : ℝ) : EReal) := by
  pointwise [k0_pay7, k0_pay4, k0_pay3, k0_pay2]
  exact pick _ ps x2 h2

theorem row3 (x0 : Vec Ideal S8x512 .i32) (x2 : Vec Ideal S64x1 .f32) (r : Fin 512) (ps : Fin 64 → BitVec 32)
    (h2 : ∀ q : Fin 64, x2 (ix2 q 0) = (((ps q).toInt : ℝ) : EReal)) :
    k0_pay8 (F := Ideal) x0 x2 (ix2 0 r) = (((first (x0 (ix2 3 r)) ps).toInt : ℝ) : EReal) := by
  pointwise [k0_pay8, k0_pay4, k0_pay3, k0_pay2]
  exact pick _ ps x2 h2

/-- A start's number, converted back and added to the position. -/
theorem landed (v : EReal) (w p : BitVec 32) (h : v = ((w.toInt : ℝ) : EReal)) : IntOp.addi (Ideal.fptosi 32 v) p = w + p := by
  rw [h, back]
  rfl

/-- The kernel's destinations in the first half of the row space, at an index. -/
theorem pay_apply (x0 x1 : Vec Ideal S8x512 .i32) (x2 : Vec Ideal S64x1 .f32) (k : Fin 8) (r : Fin 512) (ps : Fin 64 → BitVec 32)
    (h2 : ∀ q : Fin 64, x2 (ix2 q 0) = (((ps q).toInt : ℝ) : EReal)) :
    k0_pay11 (F := Ideal) (k0_pay2 x0) (k0_pay3 x2) (k0_pay4 (F := Ideal)) (k0_pay5 x0 x2) (k0_pay6 x0 x2) (k0_pay7 x0 x2) (k0_pay8 x0 x2) (k0_pay9 x0)
      (Scalar.ofBits .f32 0x00000000#32) (k0_pay10 x2) x1 (ix2 k r) = first (x0 (ix2 k r)) ps + x1 (ix2 k r) := by
  match k with
  | ⟨0, _⟩ =>
    pointwise [k0_pay11]
    exact landed _ _ _ (row0 x0 x2 r ps h2)
  | ⟨1, _⟩ =>
    pointwise [k0_pay11]
    exact landed _ _ _ (row1 x0 x2 r ps h2)
  | ⟨2, _⟩ =>
    pointwise [k0_pay11]
    exact landed _ _ _ (row2 x0 x2 r ps h2)
  | ⟨3, _⟩ =>
    pointwise [k0_pay11]
    exact landed _ _ _ (row3 x0 x2 r ps h2)
  | ⟨4, _⟩ =>
    pointwise [k0_pay11, k0_pay10, k0_pay9, k0_pay4, k0_pay3, k0_pay2]
    exact landed _ _ _ (pick _ ps x2 h2)
  | ⟨5, _⟩ =>
    pointwise [k0_pay11, k0_pay10, k0_pay9, k0_pay4, k0_pay3, k0_pay2]
    exact landed _ _ _ (pick _ ps x2 h2)
  | ⟨6, _⟩ =>
    pointwise [k0_pay11, k0_pay10, k0_pay9, k0_pay4, k0_pay3, k0_pay2]
    exact landed _ _ _ (pick _ ps x2 h2)
  | ⟨7, _⟩ =>
    pointwise [k0_pay11, k0_pay10, k0_pay9, k0_pay4, k0_pay3, k0_pay2]
    exact landed _ _ _ (pick _ ps x2 h2)

/-- What is stored into the block's second half. -/
theorem later (v1 : FVec Ideal S8x512 .f32) (v3 : FVec Ideal S64x1 .f32) (v5 : FVec Ideal S64x512 .f32)
    (v14 v23 v32 v41 : FVec Ideal S1x512 .f32) (v44 : IVec S64x512 1) (z0 : Ideal .f32) (v45 : FVec Ideal S64x1 .f32) (v80 : Vec Ideal S8x512 .i32) (k : Fin 8) (r : Fin 512) :
    k0_pay1 (k0_pay13 (F := Ideal) v1 v3 v5 v14 v23 v32 v41 v44 z0 v45 v80) (ix3 0 k r) = k0_pay11 v1 v3 v5 v14 v23 v32 v41 v44 z0 v45 v80 (ix2 k r) + ahead 1 := by
  unfold k0_pay1 k0_pay13
  generalize k0_pay11 v1 v3 v5 v14 v23 v32 v41 v44 z0 v45 v80 = w
  rw [ahead_one]
  pointwise
  rfl

/-- What is stored into its first half. -/
theorem sooner (v1 : FVec Ideal S8x512 .f32) (v3 : FVec Ideal S64x1 .f32) (v5 : FVec Ideal S64x512 .f32)
    (v14 v23 v32 v41 : FVec Ideal S1x512 .f32) (v44 : IVec S64x512 1) (z0 : Ideal .f32) (v45 : FVec Ideal S64x1 .f32) (v80 : Vec Ideal S8x512 .i32) (k : Fin 8) (r : Fin 512) :
    k0_pay12 (F := Ideal) v1 v3 v5 v14 v23 v32 v41 v44 z0 v45 v80 (ix3 0 k r) = k0_pay11 v1 v3 v5 v14 v23 v32 v41 v44 z0 v45 v80 (ix2 k r) + ahead 0 := by
  unfold k0_pay12
  generalize k0_pay11 v1 v3 v5 v14 v23 v32 v41 v44 z0 v45 v80 = w
  rw [ahead_zero]
  pointwise
  rfl

/-- The output block at an index, from the input blocks. -/
theorem out_at (x0 x1 : Vec Ideal S8x512 .i32) (x2 : Vec Ideal S64x1 .f32) (ps : Fin 64 → BitVec 32)
    (h2 : ∀ q : Fin 64, x2 (ix2 q 0) = (((ps q).toInt : ℝ) : EReal)) (j : Fin 2) (k : Fin 8) (r : Fin 512) :
    out0_3 x0 x1 x2 (ix3 j k r) = first (x0 (ix2 k r)) ps + x1 (ix2 k r) + ahead j := by
  frame_out
  unfold k0_pay22 k0_pay21 k0_pay20 k0_pay19 k0_pay18 k0_pay17 k0_pay16 k0_pay15 k0_pay14
  simp (disch := decide) only [View.ld_unit_lit', View.readAt_eq_ld]
  rw [← pay_apply x0 x1 x2 k r ps h2]
  canon_tiles z h
  · have hj : j = 1 := Fin.ext (by
      have : j.val = 1 + (z 0).val := h0
      omega)
    have hz : z = ix3 0 k r := funext fun a => match a with
      | ⟨0, _⟩ => Fin.ext (by show (z 0).val = 0; omega)
      | ⟨1, _⟩ => Fin.ext h1.symm
      | ⟨2, _⟩ => Fin.ext h2.symm
    rw [hj, hz]
    exact later _ _ _ _ _ _ _ _ _ _ _ k r
  · have hj : j = 0 := Fin.ext (by
      have : j.val = (z 0).val := h0
      show j.val = 0
      omega)
    have hz : z = ix3 0 k r := funext fun a => match a with
      | ⟨0, _⟩ => Fin.ext (by show (z 0).val = 0; omega)
      | ⟨1, _⟩ => Fin.ext h1.symm
      | ⟨2, _⟩ => Fin.ext h2.symm
    rw [hj, hz]
    exact sooner _ _ _ _ _ _ _ _ _ _ _ k r

/-- What a grid point leaves in its output block. -/
theorem out_point (c : Dev nD) (t : Fin cfg0.N) (y : S2x8x512.Idx) (j : Fin 2) (k : Fin 8) (r : Fin 32768)
    (hj : j.val = (y 0).val) (hk : k.val = (y 1).val) (hr : r.val = t.val * 512 + (y 2).val) :
    out0_3 (iblk m c 0 t) (iblk m c 1 t) (iblk m c 2 t) y
      = first ((m ((c : Thread nD τ).loc main_arg0) : S8x32768.Idx → BitVec 32) (ix2 k r))
          (fun q => (m ((c : Thread nD τ).loc main_arg2) : S64.Idx → BitVec 32) (ix1 q))
        + (m ((c : Thread nD τ).loc main_arg1) : S8x32768.Idx → BitVec 32) (ix2 k r) + ahead j := by
  idx_vars y
  have h2 : ∀ q : Fin 64, iblk m c 2 t (ix2 q 0)
      = ((((m ((c : Thread nD τ).loc main_arg2) : S64.Idx → BitVec 32) (ix1 q)).toInt : ℝ) : EReal) := fun q =>
    (iblk2_eq m c t q).trans (start_at m c q)
  have er : r = ⟨t.val * 512 + y2.val, tok_lt t y2⟩ := Fin.ext hr
  have ek : k = y1 := Fin.ext hk
  have ej : j = y0 := Fin.ext hj
  subst er ek ej
  rw [← iblk0_eq m c t, ← iblk1_eq m c t]
  exact out_at _ _ _ _ h2 _ _ _

/-- THE RESULT ARRAY after the run: the array the reference computes of the same arguments. -/
theorem arr_eq_ref (c : Dev nD) :
    (dats m 0 c).arrAt 3 cfg0.N = Cert.DestLastReferenceIdeal.Read.val_main_v15 (F := Ideal) (m ((c : Thread nD τ).loc main_arg0))
      (m ((c : Thread nD τ).loc main_arg1)) (m ((c : Thread nD τ).loc main_arg2)) := by
  have e : (dats m 0 c).arrAt 3 cfg0.N = fun i : S2x8x32768.Idx =>
      first ((m ((c : Thread nD τ).loc main_arg0) : S8x32768.Idx → BitVec 32) (ix2 (i 1) (i 2)))
          (fun q => (m ((c : Thread nD τ).loc main_arg2) : S64.Idx → BitVec 32) (ix1 q))
        + (m ((c : Thread nD τ).loc main_arg1) : S8x32768.Idx → BitVec 32) (ix2 (i 1) (i 2))
        + ahead (i 0) := by
    refine (dats m 0 c).arrAt_eq_of_covers 3 _ (by decide +kernel) fun t hf y => ?_
    blk_simp
    rw [after0_3]
    refine out_point m c t y _ _ _ ?_ ?_ ?_
    · blk_simp [idx t]
    · blk_simp [idx t]
    · blk_simp [idx t]
  rw [e]
  funext i
  refine (Cert.DestLastReferenceIdeal.Rows.ref_at _ _ _ (i 0) (i 1) (i 2)).symm.trans (congrArg _ ?_)
  exact funext fun a => match a with | ⟨0, _⟩ => rfl | ⟨1, _⟩ => rfl | ⟨2, _⟩ => rfl

end Cert.DestLastIdeal.Rows

end
-- ==== Proof.CombineFirst.Pieces.lean ====
/- What the first layer's experts' sum's kernel computes from its blocks, read at an index. Hand-written, untrusted. -/
module

public import proofs.«01_k».proof.Proof.Gen.CombineFirstIdeal.Skeleton
public import proofs.«01_k».proof.Proof.Combine.Spec
public import Idealize.ShloMosaic.Lib.Pipeline.Value
public import Idealize.ShloMosaic.Lib.Pipeline.ValueKit
public import Idealize.ShloMosaic.Lib.Pointwise

@[expose] public section

set_option maxRecDepth 16384

noncomputable section

namespace Cert.CombineFirstIdeal.Sum

open Cert.Outproj.Spec Cert.Combine.Spec Cert.CombineFirstIdeal Cert.CombineFirstIdeal.Gen Idealize.ShloMosaic Idealize.ShloMosaic.TcCoe
open Idealize.ShloMosaic.Tactic

/-- A word of a block's row, of the two halves in which the row is kept. -/
def joined (a b : Vec Ideal S1x1x512x256 .i32) (r q : Fin 512) : BitVec 32 :=
  if h : q.val < 256 then a (ix4 0 0 r ⟨q.val, h⟩) else b (ix4 0 0 r ⟨q.val - 256, by omega⟩)

theorem pay3_at (a b : Vec Ideal S1x1x512x256 .i32) (r q : Fin 512) : k0_pay3 (F := Ideal) a b (ix2 r q) = joined a b r q := by
  unfold k0_pay3 joined
  rw [concatenate_pair_apply]
  by_cases h : q.val < 256
  · refine (dif_pos h).trans ((Eq.trans ?_ (dif_pos h).symm))
    pointwise
  · refine (dif_neg h).trans ((Eq.trans ?_ (dif_neg h).symm))
    pointwise

theorem pay6_at (a b : Vec Ideal S1x1x512x256 .i32) (r q : Fin 512) : k0_pay6 (F := Ideal) a b (ix2 r q) = joined a b r q := pay3_at a b r q

theorem pay10_at (a b : Vec Ideal S1x1x512x256 .i32) (r q : Fin 512) : k0_pay10 (F := Ideal) a b (ix2 r q) = joined a b r q := pay3_at a b r q

theorem pay12_at (a b : Vec Ideal S1x1x512x256 .i32) (r q : Fin 512) : k0_pay12 (F := Ideal) a b (ix2 r q) = joined a b r q := pay3_at a b r q

/-- The low half of a word, as a value. -/
def low (a b : Vec Ideal S1x1x512x256 .i32) (r q : Fin 512) : EReal := Ideal.ofBits .f32 (IntOp.shli .host (joined a b r q) 16#32)

/-- Its high half. -/
def high (a b : Vec Ideal S1x1x512x256 .i32) (r q : Fin 512) : EReal := Ideal.ofBits .f32 (IntOp.andi (joined a b r q) 4294901760#32)

variable (z : Vec Ideal S512x8 .f32) (a0 b0 a1 b1 a2 b2 a3 b3 a4 b4 a5 b5 : Vec Ideal S1x1x512x256 .i32) (r q : Fin 512)

theorem pay9_at : k0_pay9 (F := Ideal) z a0 b0 a1 b1 (ix2 r q) = low a0 b0 r q * z (ix2 r 0) + low a1 b1 r q * z (ix2 r 1) := by
  pointwise [k0_pay9, k0_pay4, k0_pay8]
  rw [pay3_at, pay6_at]
  rfl

theorem pay14_at (s : FVec Ideal S512x512 .f32) : k0_pay14 (F := Ideal) z s a2 b2 a3 b3 (ix2 r q)
    = s (ix2 r q) + low a2 b2 r q * z (ix2 r 2) + low a3 b3 r q * z (ix2 r 3) := by
  pointwise [k0_pay14, k0_pay11, k0_pay13]
  rw [pay10_at, pay12_at]
  rfl

theorem pay5_at : k0_pay5 (F := Ideal) z a0 b0 (ix2 r q) = high a0 b0 r q * z (ix2 r 0) := by
  pointwise [k0_pay5, k0_pay4]
  rw [pay3_at]
  rfl

theorem pay7_at : k0_pay7 (F := Ideal) a1 b1 (ix2 r q) = high a1 b1 r q := by
  pointwise [k0_pay7]
  rw [pay6_at]
  rfl

theorem pay15_at (s t : FVec Ideal S512x512 .f32) : k0_pay15 (F := Ideal) z s t (k0_pay8 z) a2 b2 a3 b3 (ix2 r q)
    = s (ix2 r q) + t (ix2 r q) * z (ix2 r 1) + high a2 b2 r q * z (ix2 r 2) + high a3 b3 r q * z (ix2 r 3) := by
  pointwise [k0_pay15, k0_pay8, k0_pay11, k0_pay13]
  rw [pay10_at, pay12_at]
  rfl

theorem pay16_low (x0 : Vec Ideal S512x1024 .bf16) (s t : FVec Ideal S512x512 .f32) (j : Fin 1024) (h : j.val < 512) :
    k0_pay16 (F := Ideal) (k0_pay2 x0) z s t a4 b4 a5 b5 (ix2 r j)
      = s (ix2 r ⟨j.val, h⟩) + low a4 b4 r ⟨j.val, h⟩ * z (ix2 r 4) + low a5 b5 r ⟨j.val, h⟩ * z (ix2 r 5) + x0 (ix2 r j) := by
  pointwise [k0_pay16, k0_pay2]
  exact congrArg (· + x0 (ix2 r j)) (dif_pos h)

theorem pay16_high (x0 : Vec Ideal S512x1024 .bf16) (s t : FVec Ideal S512x512 .f32) (j : Fin 1024) (h : ¬ j.val < 512) :
    k0_pay16 (F := Ideal) (k0_pay2 x0) z s t a4 b4 a5 b5 (ix2 r j)
      = t (ix2 r ⟨j.val - 512, by omega⟩) + high a4 b4 r ⟨j.val - 512, by omega⟩ * z (ix2 r 4) + high a5 b5 r ⟨j.val - 512, by omega⟩ * z (ix2 r 5)
        + x0 (ix2 r j) := by
  pointwise [k0_pay16, k0_pay2]
  exact congrArg (· + x0 (ix2 r j)) (dif_neg h)

/-- The sum of the experts of a block, at an index. -/
theorem sum_at (x0 : Vec Ideal S512x1024 .bf16) (w : Fin 6 → Fin 512 → BitVec 32) (h0 : ∀ q, joined a0 b0 r q = w 0 q) (h1 : ∀ q, joined a1 b1 r q = w 1 q)
    (h2 : ∀ q, joined a2 b2 r q = w 2 q) (h3 : ∀ q, joined a3 b3 r q = w 3 q) (h4 : ∀ q, joined a4 b4 r q = w 4 q)
    (h5 : ∀ q, joined a5 b5 r q = w 5 q) (j : Fin 1024) :
    k0_pay16 (F := Ideal) (k0_pay2 x0) z (k0_pay14 z (k0_pay9 z a0 b0 a1 b1) a2 b2 a3 b3)
        (k0_pay15 z (k0_pay5 z a0 b0) (k0_pay7 a1 b1) (k0_pay8 z) a2 b2 a3 b3) a4 b4 a5 b5 (ix2 r j)
      = summed w (fun k => z (ix2 r ⟨k.val, by omega⟩)) (fun j => x0 (ix2 r j)) j := by
  unfold summed
  rw [Fin.sum_univ_six]
  by_cases h : j.val < 512
  · rw [pay16_low _ _ _ _ _ _ _ _ _ _ h, pay14_at, pay9_at]
    simp only [halves_low _ _ h, low, h0, h1, h2, h3, h4, h5]
    rfl
  · rw [pay16_high _ _ _ _ _ _ _ _ _ _ h, pay15_at, pay5_at, pay7_at]
    simp only [halves_high _ _ h, high, h0, h1, h2, h3, h4, h5]
    rfl

/-- The stored rows at an index. -/
theorem pay1_at (s : FVec Ideal S512x1024 .f32) (x3 : Vec Ideal S512x1024 .f32) (x5 : Vec Ideal S1x1x1024 .f32) (x4 : Vec Ideal S1x1024 .f32) (j : Fin 1024) :
    k0_pay1 (F := Ideal) s x3 x5 x4 (ix2 r j)
      = residual (fun j => x3 (ix2 r j)) (fun j => s (ix2 r j)) (fun j => x4 (ix2 0 j)) (fun j => x5 (ix3 0 0 j)) j := by
  pointwise [k0_pay1]
  rfl

end Cert.CombineFirstIdeal.Sum

end
-- ==== Proof.CombineFirst.RefAt.lean ====
/- The reference of the first layer's experts' sum read at an index. Hand-written, untrusted. -/
module

public import proofs.«01_k».proof.Proof.Gen.CombineFirstReferenceIdeal.Read
public import proofs.«01_k».proof.Proof.Combine.Spec
public import Idealize.ShloMosaic.Lib.Pointwise

@[expose] public section

set_option maxRecDepth 16384

noncomputable section

namespace Cert.CombineFirstReferenceIdeal.Sum

open Cert.Outproj.Spec Cert.Combine.Spec Cert.CombineFirstReferenceIdeal Cert.CombineFirstReferenceIdeal.Gen Cert.CombineFirstReferenceIdeal.Read
open Idealize.ShloMosaic Idealize.ShloMosaic.TcCoe Idealize.ShloMosaic.Tactic

variable (sh : S34816x1024.Idx → EReal) (yg : S2x6x34816x256.Idx → BitVec 32) (gk : S34816x8.Idx → EReal)
  (x : S8x4096x1024.Idx → EReal) (ctx : S8x256x1024.Idx → EReal) (g : S1024.Idx → EReal)
  (gate : S8x1x1024.Idx → EReal) (gateC : S1x1x1024.Idx → EReal)

/-- A word of an expert's row, of the two halves in which the row is kept. -/
def word (r : Fin 34816) (k : Fin 6) (q : Fin 512) : BitVec 32 :=
  if h : q.val < 256 then yg (ix4 0 k r ⟨q.val, h⟩) else yg (ix4 1 k r ⟨q.val - 256, by omega⟩)

theorem v4_at (k : Fin 6) (r : Fin 34816) (q : Fin 512) : val_main_v4 (F := Ideal) yg (ix3 k r q) = word yg r k q := by
  unfold val_main_v4 word
  rw [concatenate_pair_apply]
  by_cases h : q.val < 256
  · refine (dif_pos h).trans ((Eq.trans ?_ (dif_pos h).symm))
    pointwise [val_main_v1, val_main_v0]
  · refine (dif_neg h).trans ((Eq.trans ?_ (dif_neg h).symm))
    pointwise [val_main_v3, val_main_v2]

theorem v7_at (k : Fin 6) (r : Fin 34816) (q : Fin 512) : val_main_v7 (F := Ideal) yg (ix3 k r q)
    = Ideal.ofBits .f32 (IntOp.shli .host (word yg r k q) 16#32) := by
  pointwise [val_main_v7, val_main_v6, val_main_v5, val_main_c]
  rw [v4_at]

theorem v10_at (k : Fin 6) (r : Fin 34816) (q : Fin 512) : val_main_v10 (F := Ideal) yg (ix3 k r q)
    = Ideal.ofBits .f32 (IntOp.andi (word yg r k q) 4294901760#32) := by
  pointwise [val_main_v10, val_main_v9, val_main_v8, val_main_c_0]
  rw [v4_at]

/-- The experts' rows. -/
theorem v11_at (k : Fin 6) (r : Fin 34816) (j : Fin 1024) : val_main_v11 (F := Ideal) yg (ix3 k r j) = halves (word yg r k) j := by
  unfold val_main_v11
  rw [concatenate_pair_apply]
  by_cases h : j.val < 512
  · rw [halves_low _ _ h, ← v7_at]
    refine (dif_pos h).trans (congrArg _ ?_)
    exact funext fun a => match a with | ⟨0, _⟩ => rfl | ⟨1, _⟩ => rfl | ⟨2, _⟩ => rfl
  · rw [halves_high _ _ h, ← v10_at]
    refine (dif_neg h).trans (congrArg _ ?_)
    exact funext fun a => match a with | ⟨0, _⟩ => rfl | ⟨1, _⟩ => rfl | ⟨2, _⟩ => rfl

/-- The sum of the experts. -/
def sumAt (r : Fin 34816) : Fin 1024 → EReal :=
  summed (word yg r) (fun k => gk (ix2 r ⟨k.val, by omega⟩)) (fun j => sh (ix2 r j))

theorem v18_at (r : Fin 34816) (j : Fin 1024) : val_main_v18 (F := Ideal) sh yg gk (ix2 r j) = sumAt sh yg gk r j := by
  pointwise [val_main_v18, val_main_v17, val_main_v16, val_main_v15, val_main_v14, val_main_v13, val_main_v12, val_main_cst]
  simp only [v11_at]
  rfl

/-- The squares' sum of a row of the sum of the experts. -/
theorem v21_at (r : Fin 34816) : val_main_v21 (F := Ideal) sh yg gk (ix2 r 0) = ∑ k : Fin 1024, sumAt sh yg gk r k * sumAt sh yg gk r k := by
  refine (val_main_v21_apply (F := Ideal) sh yg gk (ix2 r 0)).trans ((val_main_v20_apply sh yg gk _).trans ?_)
  have h0 : val_main_cst_1 (F := Ideal) (Shape.Idx.first h_S_) = (0 : EReal) := by pointwise [val_main_cst_1]
  rw [h0]
  refine (zero_add _).trans (Finset.sum_congr rfl fun k _ => ?_)
  refine (val_main_v19_apply (F := Ideal) sh yg gk _).trans ?_
  have e : idx_main_v20 (idx_main_v21 (ix2 r 0)) k = ix2 r k := funext fun a => match a with | ⟨0, _⟩ => rfl | ⟨1, _⟩ => rfl
  rw [e, v18_at]
  generalize sumAt sh yg gk r k = y
  rfl

/-- One over a row's root mean square. -/
theorem v26_at (r : Fin 34816) : val_main_v26 (F := Ideal) sh yg gk (ix2 r 0)
    = Ideal.rsqrt (Ideal.div (∑ k : Fin 1024, sumAt sh yg gk r k * sumAt sh yg gk r k) (Ideal.ofBits .f32 0x44800000#32) + Ideal.ofBits .f32 0x358637BD#32) := by
  refine (val_main_v26_apply (F := Ideal) sh yg gk _).trans ?_
  rw [val_main_v25_apply, val_main_v23_apply, v21_at, val_main_v22_apply, val_main_v24_apply, val_main_cst_2_apply, val_main_cst_3_apply]
  generalize (∑ k : Fin 1024, sumAt sh yg gk r k * sumAt sh yg gk r k) = y
  rfl

theorem v27_at (r : Fin 34816) (j : Fin 1024) : val_main_v27 (F := Ideal) sh yg gk (ix2 r j) = val_main_v26 (F := Ideal) sh yg gk (ix2 r 0) := by
  rw [val_main_v27_apply]
  exact congrArg _ (funext fun a => match a with | ⟨0, _⟩ => rfl | ⟨1, _⟩ => rfl)

theorem v30_at (r : Fin 34816) (j : Fin 1024) : val_main_v30 (F := Ideal) g (ix2 r j) = g (ix1 j) := by
  pointwise [val_main_v30, val_main_v29]

/-- A row of the sum over its root mean square, with the gain. -/
def normAt (r : Fin 34816) (j : Fin 1024) : EReal :=
  sumAt sh yg gk r j * Ideal.rsqrt (Ideal.div (∑ k : Fin 1024, sumAt sh yg gk r k * sumAt sh yg gk r k) (Ideal.ofBits .f32 0x44800000#32)
    + Ideal.ofBits .f32 0x358637BD#32) * g (ix1 j)

theorem v31_at (r : Fin 34816) (j : Fin 1024) : val_main_v31 (F := Ideal) sh yg gk g (ix2 r j) = normAt sh yg gk g r j := by
  refine (val_main_v31_apply (F := Ideal) sh yg gk g _).trans ?_
  rw [val_main_v28_apply, v27_at, v26_at, v30_at, v18_at]
  unfold normAt
  generalize sumAt sh yg gk r = y
  rfl

theorem v33_at (b : Fin 8) (s : Fin 4096) (j : Fin 1024) : val_main_v33 (F := Ideal) sh yg gk g (ix3 b s j)
    = normAt sh yg gk g ⟨b.val * 4096 + s.val, by omega⟩ j := by
  rw [← v31_at]
  pointwise [val_main_v33, val_main_v32]

theorem v38_at (b : Fin 8) (s : Fin 256) (j : Fin 1024) : val_main_v38 (F := Ideal) sh yg gk g (ix3 b s j)
    = normAt sh yg gk g ⟨32768 + (b.val * 256 + s.val), by omega⟩ j := by
  rw [← v31_at]
  pointwise [val_main_v38, val_main_v37]

theorem v34_at (b : Fin 8) (s : Fin 4096) (j : Fin 1024) : val_main_v34 (F := Ideal) gate (ix3 b s j) = gate (ix3 b 0 j) := by
  pointwise [val_main_v34]

theorem v39_at (b : Fin 8) (s : Fin 256) (j : Fin 1024) : val_main_v39 (F := Ideal) gateC (ix3 b s j) = gateC (ix3 0 0 j) := by
  pointwise [val_main_v39]

/-- The sequences' residual stream after the layer. -/
theorem v36_at (b : Fin 8) (s : Fin 4096) (j : Fin 1024) : val_main_v36 (F := Ideal) sh yg gk x g gate (ix3 b s j)
    = x (ix3 b s j) + gate (ix3 b 0 j) * normAt sh yg gk g ⟨b.val * 4096 + s.val, by omega⟩ j := by
  refine (val_main_v36_apply (F := Ideal) sh yg gk x g gate _).trans ?_
  rw [val_main_v35_apply, v34_at, v33_at]
  generalize normAt sh yg gk g ⟨b.val * 4096 + s.val, by omega⟩ j = y
  rfl

/-- The contexts'. -/
theorem v41_at (b : Fin 8) (s : Fin 256) (j : Fin 1024) : val_main_v41 (F := Ideal) sh yg gk ctx g gateC (ix3 b s j)
    = ctx (ix3 b s j) + gateC (ix3 0 0 j) * normAt sh yg gk g ⟨32768 + (b.val * 256 + s.val), by omega⟩ j := by
  refine (val_main_v41_apply (F := Ideal) sh yg gk ctx g gateC _).trans ?_
  rw [val_main_v40_apply, v39_at, v38_at]
  generalize normAt sh yg gk g ⟨32768 + (b.val * 256 + s.val), by omega⟩ j = y
  rfl

/-- The residual stream's row `r` before the layer, the sequences' rows and then the contexts'. -/
def streamAt (r : Fin 34816) (j : Fin 1024) : EReal :=
  if h : r.val < 32768 then x (ix3 ⟨r.val / 4096, by omega⟩ ⟨r.val % 4096, by omega⟩ j)
  else ctx (ix3 ⟨(r.val - 32768) / 256, by omega⟩ ⟨(r.val - 32768) % 256, by omega⟩ j)

/-- The gate of row `r`. -/
def gateAt (r : Fin 34816) (j : Fin 1024) : EReal := if h : r.val < 32768 then gate (ix3 ⟨r.val / 4096, by omega⟩ 0 j) else gateC (ix3 0 0 j)

/-- All rows. -/
theorem v44_at (r : Fin 34816) (j : Fin 1024) : val_main_v44 (F := Ideal) sh yg gk x ctx g gate gateC (ix2 r j)
    = streamAt x ctx r j + gateAt gate gateC r j * normAt sh yg gk g r j := by
  unfold val_main_v44 streamAt gateAt
  rw [concatenate_pair_apply]
  by_cases h : r.val < 32768
  · rw [dif_pos h, dif_pos h]
    refine (dif_pos h).trans ?_
    pointwise [val_main_v42]
    rw [v36_at]
    refine congrArg (fun z => _ + _ * normAt sh yg gk g z j) (Fin.ext ?_)
    exact Nat.div_add_mod' _ _
  · rw [dif_neg h, dif_neg h]
    refine (dif_neg h).trans ?_
    pointwise [val_main_v43]
    rw [v41_at]
    refine congrArg (fun z => _ + _ * normAt sh yg gk g z j) (Fin.ext ?_)
    show 32768 + ((r.val - 32768) / 256 * 256 + (r.val - 32768) % 256) = r.val
    omega

end Cert.CombineFirstReferenceIdeal.Sum

end
-- ==== Proof.CombineFirst.KernelAt.lean ====
/- The first layer's experts' sum's array after its run, and that it is the reference's. Hand-written, untrusted. -/
module

public import proofs.«01_k».proof.Proof.Gen.CombineFirstIdeal.Value
public import proofs.«01_k».proof.Proof.CombineFirst.Pieces
public import proofs.«01_k».proof.Proof.CombineFirst.RefAt
public import Idealize.ShloMosaic.Lib.Pipeline.ReadBack

@[expose] public section

set_option maxRecDepth 16384

noncomputable section

namespace Cert.CombineFirstIdeal.Sum

open Cert.Outproj.Spec Cert.Combine.Spec Cert.CombineFirstIdeal Cert.CombineFirstIdeal.Gen Idealize.ShloMosaic Idealize.ShloMosaic.TcCoe Idealize.SL.Sem
open Idealize.ShloMosaic.Tactic

/-- The block indices of every window at every grid point. -/
theorem idx : ∀ t : Fin grid0.N, win0_0.index t = ![t.val, 0] ∧ win0_1.index t = ![0, 0, t.val, 0] ∧ win0_2.index t = ![t.val, 0]
    ∧ win0_3.index t = ![t.val, 0] ∧ win0_4.index t = ![0, 0] ∧ win0_5.index t = ![t.val / 8, 0, 0] ∧ win0_6.index t = ![t.val, 0] := by
  decide +kernel

variable (m : (ℓ : Loc nD τ sig) → Buf (Elt Ideal) ℓ) (c : Dev nD)

theorem lt68 (t : Fin cfg0.N) : t.val < 68 := lt_of_lt_of_eq t.isLt N_0

/-- A block's row among all rows. -/
theorem row_lt (t : Fin cfg0.N) (r : Fin 512) : t.val * 512 + r.val < 34816 := by have := lt68 t; omega

/-- The residual stream's rows as the launch finds them. -/
def streams (a : S8x4096x1024.Idx → EReal) (b : S8x256x1024.Idx → EReal) : S34816x1024.Idx → EReal :=
  concatenate S34816x1024 0 [⟨S32768x1024, shapeCast S32768x1024 a shapeCasts_S8x4096x1024_S32768x1024⟩,
    ⟨S2048x1024, shapeCast S2048x1024 b shapeCasts_S8x256x1024_S2048x1024⟩] concatenates_S32768x1024_S2048x1024_S34816x1024_d0

theorem streams_eq : (V m c main_v2 : S34816x1024.Idx → EReal)
    = streams (m ((c : Thread nD τ).loc main_arg3)) (m ((c : Thread nD τ).loc main_arg4)) := by
  unfold V
  rfl

theorem streams_at (a : S8x4096x1024.Idx → EReal) (b : S8x256x1024.Idx → EReal) (r : Fin 34816) (j : Fin 1024) :
    streams a b (ix2 r j) = Cert.CombineFirstReferenceIdeal.Sum.streamAt a b r j := by
  unfold streams Cert.CombineFirstReferenceIdeal.Sum.streamAt
  rw [concatenate_pair_apply]
  by_cases h : r.val < 32768
  · rw [dif_pos h]
    refine (dif_pos h).trans ?_
    pointwise
  · rw [dif_neg h]
    refine (dif_neg h).trans ?_
    pointwise

theorem gain_at (j : Fin 1024) : (V m c main_v6 : S1x1024.Idx → EReal) (ix2 0 j) = m ((c : Thread nD τ).loc main_arg5) (ix1 j) := by
  unfold V
  entry_read
  pointwise

/-- The gates as the launch finds them: the sequences', the contexts' and rows of zeros. -/
def gates (a : S8x1x1024.Idx → EReal) (b : S1x1x1024.Idx → EReal) : S16x1x1024.Idx → EReal :=
  concatenate S16x1x1024 0 [⟨S8x1x1024, a⟩, ⟨S1x1x1024, b⟩,
    ⟨S7x1x1024, broadcastInDim S7x1x1024 ![] bcast_S_S7x1x1024 (constant (F := Ideal) S_ .f32 0x00000000#32)⟩]
    concatenates_S8x1x1024_S1x1x1024_S7x1x1024_S16x1x1024_d0

theorem gates_eq : (V m c main_v4 : S16x1x1024.Idx → EReal) = gates (m ((c : Thread nD τ).loc main_arg6)) (m ((c : Thread nD τ).loc main_arg7)) := by
  unfold V
  rfl

theorem gates_seq (a : S8x1x1024.Idx → EReal) (b : S1x1x1024.Idx → EReal) (s : Fin 16) (h : s.val < 8) (j : Fin 1024) :
    gates a b (ix3 s 0 j) = a (ix3 ⟨s.val, h⟩ 0 j) := by
  unfold gates
  pointwise
  rw [dif_pos h]

theorem gates_ctx (a : S8x1x1024.Idx → EReal) (b : S1x1x1024.Idx → EReal) (j : Fin 1024) :
    gates a b (ix3 8 0 j) = b (ix3 0 0 j) := by
  unfold gates
  pointwise

theorem iblk0_eq (t : Fin cfg0.N) (r : Fin 512) (j : Fin 1024) :
    iblk m c 0 t (ix2 r j) = m ((c : Thread nD τ).loc main_arg0) (ix2 ⟨t.val * 512 + r.val, row_lt t r⟩ j) := by
  blk_ext! [iblk, V, idx t]

theorem iblk1_eq (t : Fin cfg0.N) (p : Fin 2) (k : Fin 6) (r : Fin 512) (q : Fin 256) :
    iblk m c 1 t (ix4 p k r q) = m ((c : Thread nD τ).loc main_arg1) (ix4 p k ⟨t.val * 512 + r.val, row_lt t r⟩ q) := by
  blk_ext! [iblk, V, idx t]

theorem iblk2_eq (t : Fin cfg0.N) (r : Fin 512) (k : Fin 8) :
    iblk m c 2 t (ix2 r k) = m ((c : Thread nD τ).loc main_arg2) (ix2 ⟨t.val * 512 + r.val, row_lt t r⟩ k) := by
  blk_ext! [iblk, V, idx t]

theorem iblk3_eq (t : Fin cfg0.N) (r : Fin 512) (j : Fin 1024) :
    iblk m c 3 t (ix2 r j) = (V m c main_v2 : S34816x1024.Idx → EReal) (ix2 ⟨t.val * 512 + r.val, row_lt t r⟩ j) := by
  blk_ext [iblk, idx t]

theorem iblk4_eq (t : Fin cfg0.N) (j : Fin 1024) : iblk m c 4 t (ix2 0 j) = (V m c main_v6 : S1x1024.Idx → EReal) (ix2 0 j) := by
  blk_ext [iblk, idx t]

theorem iblk5_eq (t : Fin cfg0.N) (j : Fin 1024) : iblk m c 5 t (ix3 0 0 j)
    = (V m c main_v4 : S16x1x1024.Idx → EReal) (ix3 ⟨t.val / 8, by have := lt68 t; omega⟩ 0 j) := by
  blk_ext [iblk, idx t]

/-- A word of an expert's row in a block, of the two halves in which the row is kept. -/
def kept (x1 : Vec Ideal S2x6x512x256 .i32) (r : Fin 512) (k : Fin 6) (q : Fin 512) : BitVec 32 :=
  if h : q.val < 256 then x1 (ix4 0 k r ⟨q.val, h⟩) else x1 (ix4 1 k r ⟨q.val - 256, by omega⟩)

/-- The two loads of an expert's rows give its words. -/
theorem joined_ld (x1 : Vec Ideal S2x6x512x256 .i32) (r : Fin 512) (k : Fin 6) (i₀ i₁) (q : Fin 512) :
    joined (View.ld x1 (Rect.unit (s := S2x6x512x256) ![0, k.val, 0, 0] S1x1x512x256.size i₀))
      (View.ld x1 (Rect.unit (s := S2x6x512x256) ![1, k.val, 0, 0] S1x1x512x256.size i₁)) r q = kept x1 r k q := by
  unfold joined kept
  refine dite_congr rfl (fun h => ?_) (fun h => ?_)
  · refine View.ld_unit_apply_of x1 _ _ i₀ _ _ fun a => ?_
    match a with
    | ⟨0, _⟩ => rfl
    | ⟨1, _⟩ => rfl
    | ⟨2, _⟩ => exact (Nat.zero_add _).symm
    | ⟨3, _⟩ => exact (Nat.zero_add _).symm
  · refine View.ld_unit_apply_of x1 _ _ i₁ _ _ fun a => ?_
    match a with
    | ⟨0, _⟩ => rfl
    | ⟨1, _⟩ => rfl
    | ⟨2, _⟩ => exact (Nat.zero_add _).symm
    | ⟨3, _⟩ => exact (Nat.zero_add _).symm

/-- The output block at an index, from the input blocks. -/
theorem out_at (x0 : Vec Ideal S512x1024 .bf16) (x1 : Vec Ideal S2x6x512x256 .i32) (x2 : Vec Ideal S512x8 .f32) (x3 : Vec Ideal S512x1024 .f32)
    (x4 : Vec Ideal S1x1024 .f32) (x5 : Vec Ideal S1x1x1024 .f32) (r : Fin 512) (j : Fin 1024) :
    out0_6 x0 x1 x2 x3 x4 x5 (ix2 r j) = residual (fun j => x3 (ix2 r j))
      (summed (kept x1 r) (fun k => x2 (ix2 r ⟨k.val, by omega⟩)) (fun j => x0 (ix2 r j))) (fun j => x4 (ix2 0 j)) (fun j => x5 (ix3 0 0 j)) j := by
  frame_out
  refine (pay1_at _ _ _ _ _ _).trans (congrArg (fun y => residual _ y _ _ j) (funext fun j => ?_))
  exact sum_at _ _ _ _ _ _ _ _ _ _ _ _ _ _ _ _ (joined_ld x1 r 0 _ _) (joined_ld x1 r 1 _ _) (joined_ld x1 r 2 _ _) (joined_ld x1 r 3 _ _)
    (joined_ld x1 r 4 _ _) (joined_ld x1 r 5 _ _) j

/-- The residual stream's row `r` of all rows, of the launch's arguments. -/
def lastOf (r : Fin 34816) (j : Fin 1024) : EReal :=
  Cert.CombineFirstReferenceIdeal.Sum.streamAt (m ((c : Thread nD τ).loc main_arg3)) (m ((c : Thread nD τ).loc main_arg4)) r j
    + Cert.CombineFirstReferenceIdeal.Sum.gateAt (m ((c : Thread nD τ).loc main_arg6)) (m ((c : Thread nD τ).loc main_arg7)) r j
      * Cert.CombineFirstReferenceIdeal.Sum.normAt (m ((c : Thread nD τ).loc main_arg0)) (m ((c : Thread nD τ).loc main_arg1))
          (m ((c : Thread nD τ).loc main_arg2)) (m ((c : Thread nD τ).loc main_arg5)) r j

/-- The gate of a grid point's rows. -/
theorem gate_point (t : Fin cfg0.N) (y0 : Fin 512) (j : Fin 1024) : (iblk m c 5 t : Vec Ideal S1x1x1024 .f32) (ix3 0 0 j)
    = Cert.CombineFirstReferenceIdeal.Sum.gateAt (m ((c : Thread nD τ).loc main_arg6)) (m ((c : Thread nD τ).loc main_arg7))
        ⟨t.val * 512 + y0.val, row_lt t y0⟩ j := by
  have ht := lt68 t
  rw [iblk5_eq, gates_eq]
  unfold Cert.CombineFirstReferenceIdeal.Sum.gateAt
  by_cases h : t.val < 64
  · rw [dif_pos (show t.val * 512 + y0.val < 32768 by omega), gates_seq _ _ _ (show t.val / 8 < 8 by omega)]
    refine congrArg (fun z => m ((c : Thread nD τ).loc main_arg6) (ix3 z 0 j)) (Fin.ext ?_)
    show t.val / 8 = (t.val * 512 + y0.val) / 4096
    omega
  · rw [dif_neg (show ¬ t.val * 512 + y0.val < 32768 by omega)]
    have e8 : (⟨t.val / 8, by omega⟩ : Fin 16) = 8 := Fin.ext (by show t.val / 8 = 8; omega)
    rw [e8, gates_ctx]

/-- What a grid point leaves in its output block. -/
theorem out_point (t : Fin cfg0.N) (y : S512x1024.Idx) (r : Fin 34816) (j : Fin 1024) (hr : r.val = t.val * 512 + (y 0).val) (hj : j.val = (y 1).val) :
    out0_6 (iblk m c 0 t) (iblk m c 1 t) (iblk m c 2 t) (iblk m c 3 t) (iblk m c 4 t) (iblk m c 5 t) y = lastOf m c r j := by
  idx_vars y
  have ht := lt68 t
  have er : r = ⟨t.val * 512 + y0.val, row_lt t y0⟩ := Fin.ext hr
  have ej : j = y1 := Fin.ext hj
  subst er ej
  rw [out_at]
  unfold lastOf Cert.CombineFirstReferenceIdeal.Sum.normAt Cert.CombineFirstReferenceIdeal.Sum.sumAt Cert.Outproj.Spec.residual
  have h1 : kept (iblk m c 1 t) y0 = Cert.CombineFirstReferenceIdeal.Sum.word (m ((c : Thread nD τ).loc main_arg1)) ⟨t.val * 512 + y0.val, row_lt t y0⟩ := by
    funext k q
    exact dite_congr rfl (fun h => iblk1_eq m c t 0 k y0 _) (fun h => iblk1_eq m c t 1 k y0 _)
  have h0 : ∀ j : Fin 1024, (iblk m c 0 t : Vec Ideal S512x1024 .bf16) (ix2 y0 j) = m ((c : Thread nD τ).loc main_arg0) (ix2 ⟨t.val * 512 + y0.val, row_lt t y0⟩ j) :=
    iblk0_eq m c t y0
  have h2 : ∀ k : Fin 8, (iblk m c 2 t : Vec Ideal S512x8 .f32) (ix2 y0 k) = m ((c : Thread nD τ).loc main_arg2) (ix2 ⟨t.val * 512 + y0.val, row_lt t y0⟩ k) :=
    iblk2_eq m c t y0
  have h3 : ∀ j : Fin 1024, (iblk m c 3 t : Vec Ideal S512x1024 .f32) (ix2 y0 j)
      = Cert.CombineFirstReferenceIdeal.Sum.streamAt (m ((c : Thread nD τ).loc main_arg3)) (m ((c : Thread nD τ).loc main_arg4))
          ⟨t.val * 512 + y0.val, row_lt t y0⟩ j := fun j => by
    rw [iblk3_eq, streams_eq, streams_at]
  have h4 : ∀ j : Fin 1024, (iblk m c 4 t : Vec Ideal S1x1024 .f32) (ix2 0 j) = m ((c : Thread nD τ).loc main_arg5) (ix1 j) := fun j => by
    rw [iblk4_eq, gain_at]
  simp only [h0, h1, h2, h3, h4, gate_point m c t y0]

/-- THE RESULT ARRAY after the run: the array the reference computes of the same arguments. -/
theorem arr_eq_ref : (dats m 0 c).arrAt 6 cfg0.N = Cert.CombineFirstReferenceIdeal.Read.val_main_v44 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) := by
  have e : (dats m 0 c).arrAt 6 cfg0.N = fun i : S34816x1024.Idx => lastOf m c (i 0) (i 1) := by
    refine (dats m 0 c).arrAt_eq_of_covers 6 _ (by decide +kernel) fun t hf y => ?_
    blk_simp
    rw [after0_6]
    refine out_point m c t y _ _ ?_ ?_
    · blk_simp [idx t]
    · blk_simp [idx t]
  rw [e]
  funext i
  refine Eq.trans ?_ ((Cert.CombineFirstReferenceIdeal.Sum.v44_at _ _ _ _ _ _ _ _ (i 0) (i 1)).symm.trans (congrArg _ ?_))
  · rfl
  · exact funext fun a => match a with | ⟨0, _⟩ => rfl | ⟨1, _⟩ => rfl

end Cert.CombineFirstIdeal.Sum

end
-- ==== Proof.lean ====
module

public import proofs.«01_k».proof.Proof.Gen.Mods
public import proofs.«01_k».proof.Proof.Gen.Mods.Frame
public import proofs.«01_k».proof.Proof.Gen.ModsIdeal
public import proofs.«01_k».proof.Proof.Gen.ModsIdeal.Frame
public import proofs.«01_k».proof.Proof.Gen.ModsIdeal.Value
public import proofs.«01_k».proof.Proof.Gen.ModsReferenceIdeal
public import proofs.«01_k».proof.Proof.Gen.ModsReferenceIdeal.Run
public import proofs.«01_k».proof.Proof.Gen.ModsReferenceIdeal.Read
public import proofs.«01_k».proof.Proof.Gen.Dest
public import proofs.«01_k».proof.Proof.Gen.Dest.Frame
public import proofs.«01_k».proof.Proof.Gen.DestIdeal
public import proofs.«01_k».proof.Proof.Gen.DestIdeal.Frame
public import proofs.«01_k».proof.Proof.Gen.DestIdeal.Value
public import proofs.«01_k».proof.Proof.Gen.DestReferenceIdeal
public import proofs.«01_k».proof.Proof.Gen.DestReferenceIdeal.Run
public import proofs.«01_k».proof.Proof.Gen.DestReferenceIdeal.Read
public import proofs.«01_k».proof.Proof.Gen.Combine
public import proofs.«01_k».proof.Proof.Gen.Combine.Frame
public import proofs.«01_k».proof.Proof.Gen.CombineIdeal
public import proofs.«01_k».proof.Proof.Gen.CombineIdeal.Frame
public import proofs.«01_k».proof.Proof.Gen.CombineIdeal.Value
public import proofs.«01_k».proof.Proof.Gen.CombineReferenceIdeal
public import proofs.«01_k».proof.Proof.Gen.CombineReferenceIdeal.Run
public import proofs.«01_k».proof.Proof.Gen.CombineReferenceIdeal.Read
public import proofs.«01_k».proof.Proof.Gen.Outproj
public import proofs.«01_k».proof.Proof.Gen.Outproj.Frame
public import proofs.«01_k».proof.Proof.Gen.OutprojIdeal
public import proofs.«01_k».proof.Proof.Gen.OutprojIdeal.Frame
public import proofs.«01_k».proof.Proof.Gen.OutprojReferenceIdeal
public import proofs.«01_k».proof.Proof.Gen.OutprojReferenceIdeal.Run
public import proofs.«01_k».proof.Proof.Gen.OutprojReferenceIdeal.Read
public import proofs.«01_k».proof.Proof.Gen.Inproj
public import proofs.«01_k».proof.Proof.Gen.Inproj.Frame
public import proofs.«01_k».proof.Proof.Gen.InprojIdeal
public import proofs.«01_k».proof.Proof.Gen.InprojIdeal.Frame
public import proofs.«01_k».proof.Proof.Gen.InprojIdeal.Value
public import proofs.«01_k».proof.Proof.Gen.InprojReferenceIdeal
public import proofs.«01_k».proof.Proof.Gen.InprojReferenceIdeal.Run
public import proofs.«01_k».proof.Proof.Gen.InprojReferenceIdeal.Read
public import proofs.«01_k».proof.Proof.Gen.SharedLast
public import proofs.«01_k».proof.Proof.Gen.SharedLast.Frame
public import proofs.«01_k».proof.Proof.Gen.SharedLastIdeal
public import proofs.«01_k».proof.Proof.Gen.SharedLastIdeal.Frame
public import proofs.«01_k».proof.Proof.Gen.SharedLastIdeal.Value
public import proofs.«01_k».proof.Proof.Gen.SharedLastReferenceIdeal
public import proofs.«01_k».proof.Proof.Gen.SharedLastReferenceIdeal.Run
public import proofs.«01_k».proof.Proof.Gen.SharedLastReferenceIdeal.Read
public import proofs.«01_k».proof.Proof.Gen.Qkv
public import proofs.«01_k».proof.Proof.Gen.Qkv.Frame
public import proofs.«01_k».proof.Proof.Gen.QkvIdeal
public import proofs.«01_k».proof.Proof.Gen.QkvIdeal.Frame
public import proofs.«01_k».proof.Proof.Gen.QkvIdeal.Value
public import proofs.«01_k».proof.Proof.Gen.QkvReferenceIdeal
public import proofs.«01_k».proof.Proof.Gen.QkvReferenceIdeal.Run
public import proofs.«01_k».proof.Proof.Gen.QkvReferenceIdeal.Read
public import proofs.«01_k».proof.Proof.Gen.Shared
public import proofs.«01_k».proof.Proof.Gen.Shared.Frame
public import proofs.«01_k».proof.Proof.Gen.SharedIdeal
public import proofs.«01_k».proof.Proof.Gen.SharedIdeal.Frame
public import proofs.«01_k».proof.Proof.Gen.SharedIdeal.Value
public import proofs.«01_k».proof.Proof.Gen.SharedReferenceIdeal
public import proofs.«01_k».proof.Proof.Gen.SharedReferenceIdeal.Run
public import proofs.«01_k».proof.Proof.Gen.SharedReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Attn.Equation
public import proofs.«01_k».proof.Proof.Qkv.Equation
public import proofs.«01_k».proof.Proof.Shared.Equation
public import proofs.«01_k».proof.Proof.Inproj.Equation
public import proofs.«01_k».proof.Proof.SharedLast.Equation
public import proofs.«01_k».proof.Proof.Mods.KernelAt
public import proofs.«01_k».proof.Proof.Dest.KernelAt
public import proofs.«01_k».proof.Proof.Combine.KernelAt
public import proofs.«01_k».proof.Proof.Outproj.KernelAt
public import proofs.«01_k».proof.Proof.Outproj.Run
public import Idealize.ShloMosaic.Adequacy
public import Idealize.ShloMosaic.Lib.Bf16Pair
public import Idealize.ShloMosaic.Lib.Bf16PairInverse
public import Idealize.ShloMosaic.Init
public import proofs.«01_k».proof.Proof.Gen.DestLast
public import proofs.«01_k».proof.Proof.Gen.DestLast.Frame
public import proofs.«01_k».proof.Proof.Gen.DestLastIdeal
public import proofs.«01_k».proof.Proof.Gen.DestLastIdeal.Frame
public import proofs.«01_k».proof.Proof.Gen.DestLastIdeal.Value
public import proofs.«01_k».proof.Proof.Gen.DestLastReferenceIdeal
public import proofs.«01_k».proof.Proof.Gen.DestLastReferenceIdeal.Run
public import proofs.«01_k».proof.Proof.Gen.DestLastReferenceIdeal.Read
public import proofs.«01_k».proof.Proof.DestLast.KernelAt
public import proofs.«01_k».proof.Proof.Gen.CombineFirst
public import proofs.«01_k».proof.Proof.Gen.CombineFirst.Frame
public import proofs.«01_k».proof.Proof.Gen.CombineFirstIdeal
public import proofs.«01_k».proof.Proof.Gen.CombineFirstIdeal.Frame
public import proofs.«01_k».proof.Proof.Gen.CombineFirstIdeal.Value
public import proofs.«01_k».proof.Proof.Gen.CombineFirstReferenceIdeal
public import proofs.«01_k».proof.Proof.Gen.CombineFirstReferenceIdeal.Run
public import proofs.«01_k».proof.Proof.Gen.CombineFirstReferenceIdeal.Read
public import proofs.«01_k».proof.Proof.CombineFirst.KernelAt

@[expose] public section

noncomputable section

namespace Cert.Proof

open Idealize.ShloMosaic Idealize.SL.Sem Cert.Kernel

/-- Over the reals, from memories that agree on the arguments, the kernel and the reference end with one result. -/
theorem algebraic [Cert.Pre_finite_inputs.Facts] : Cert.algebraic_KernelIdeal_ReferenceIdeal_pre_finite_inputs := by
  intro m g m' g' hpre hargs
  refine ⟨fun c => (Cert.KernelIdeal.Gen.dats m 0 c).arrAt 5 Cert.KernelIdeal.cfg0.N, Cert.KernelIdeal.Value.run_blocks m g, ?_⟩
  refine (θ_run _ _ _).mono (fun r h c => ?_) (Cert.ReferenceIdeal.Value.run m' g')
  refine ⟨(h c).1.trans ?_, (h c).2⟩
  obtain ⟨a0, a1, a2, a3, a4⟩ := hargs c
  rw [Cert.ReferenceIdeal.Read.val_main_v57_eq, a0, a1, a2, a3, a4]
  exact (Cert.KernelIdeal.Attn.arr_eq_ref m hpre c).symm

/-- The reference runs, its arguments end unchanged, and it has no semaphore. -/
theorem reference_frame : Cert.quiescent_ReferenceIdeal := fun m g _ =>
  (θ_run _ _ _).mono (fun r h => And.intro (fun c => (h c).2) (sem_eq_zero_of_no_sems rfl r.2)) (Cert.ReferenceIdeal.Value.run m g)

/-- Over the reals, the projection call and its reference end with one result: queries, keys and values. -/
theorem algebraic_qkv : Cert.algebraic_QkvIdeal_QkvReferenceIdeal := by
  intro m g m' g' hpre hargs
  refine ⟨fun c => (Cert.QkvIdeal.Gen.dats m 0 c).arrAt 7 Cert.QkvIdeal.cfg0.N, fun c => (Cert.QkvIdeal.Gen.dats m 0 c).arrAt 8 Cert.QkvIdeal.cfg0.N,
    fun c => (Cert.QkvIdeal.Gen.dats m 0 c).arrAt 9 Cert.QkvIdeal.cfg0.N, Cert.QkvIdeal.Value.run_blocks m g, ?_⟩
  refine (θ_run _ _ _).mono (fun r h c => ?_) (Cert.QkvReferenceIdeal.Value.run m' g')
  refine ⟨(h c).1.trans ?_, (h c).2.1.trans ?_, (h c).2.2.1.trans ?_, (h c).2.2.2⟩
  all_goals obtain ⟨a0, a1, a2, a3, a4, a5, a6, a7, a8, a9⟩ := hargs c
  · rw [Cert.QkvReferenceIdeal.Read.val_main_v87_eq, a0, a1, a2, a3, a4, a5, a6, a7, a8, a9]
    exact (Cert.QkvIdeal.Proj.query_eq_ref m c).symm
  · rw [Cert.QkvReferenceIdeal.Read.val_main_v89_eq, a0, a1, a2, a3, a4, a5, a6, a7, a8, a9]
    exact (Cert.QkvIdeal.Proj.key_eq_ref m c).symm
  · refine (Cert.QkvReferenceIdeal.Read.val_main_v91_eq _ _ _ _ _ _ _ _).trans ?_
    rw [a0, a1, a2, a3, a4, a5, a6, a7]
    exact (Cert.QkvIdeal.Proj.value_eq_ref m c).symm

/-- Over the reals, the shared expert's call and its reference end with one result. -/
theorem algebraic_shared : Cert.algebraic_SharedIdeal_SharedReferenceIdeal := by
  intro m g m' g' hpre hargs
  refine ⟨fun c => (Cert.SharedIdeal.Gen.dats m 0 c).arrAt 3 Cert.SharedIdeal.cfg0.N, Cert.SharedIdeal.Value.run_blocks m g, ?_⟩
  refine (θ_run _ _ _).mono (fun r h c => ?_) (Cert.SharedReferenceIdeal.Value.run m' g')
  refine ⟨(h c).1.trans ?_, (h c).2⟩
  obtain ⟨a0, a1, a2, a3⟩ := hargs c
  refine (Cert.SharedReferenceIdeal.Read.val_main_v5_eq _ _ _ _).trans ?_
  rw [a0, a1, a2, a3]
  exact (Cert.SharedIdeal.Expert.arr_eq_ref m c).symm

/-- The projections' reference runs, its arguments end unchanged, and it has no semaphore. -/
theorem qkv_reference_frame : Cert.quiescent_QkvReferenceIdeal := fun m g _ =>
  (θ_run _ _ _).mono (fun r h => And.intro (fun c => (h c).2.2.2) (sem_eq_zero_of_no_sems rfl r.2)) (Cert.QkvReferenceIdeal.Value.run m g)

/-- The shared expert's reference runs, its arguments end unchanged, and it has no semaphore. -/
theorem shared_reference_frame : Cert.quiescent_SharedReferenceIdeal := fun m g _ =>
  (θ_run _ _ _).mono (fun r h => And.intro (fun c => (h c).2) (sem_eq_zero_of_no_sems rfl r.2)) (Cert.SharedReferenceIdeal.Value.run m g)

/-- Over the reals, the input projection's call and its reference end with one result: the gated half and the transformed channels. -/
theorem algebraic_inproj : Cert.algebraic_InprojIdeal_InprojReferenceIdeal := by
  intro m g m' g' hpre hargs
  refine ⟨fun c => (Cert.InprojIdeal.Gen.dats m 0 c).arrAt 7 Cert.InprojIdeal.cfg0.N, fun c => (Cert.InprojIdeal.Gen.dats m 0 c).arrAt 8 Cert.InprojIdeal.cfg0.N,
    Cert.InprojIdeal.Value.run_blocks m g, ?_⟩
  refine (θ_run _ _ _).mono (fun r h c => ?_) (Cert.InprojReferenceIdeal.Value.run m' g')
  refine ⟨(h c).1.trans ?_, (h c).2.1.trans ?_, (h c).2.2⟩
  all_goals obtain ⟨a0, a1, a2, a3, a4, a5, a6, a7, a8, a9⟩ := hargs c
  · rw [Cert.InprojReferenceIdeal.Read.val_main_v75_eq, a0, a1, a2, a3, a4, a5, a6, a7]
    exact (Cert.InprojIdeal.Proj.gate_eq_ref m c).symm
  · rw [Cert.InprojReferenceIdeal.Read.val_main_v76_eq, a0, a1, a2, a3, a4, a5, a6, a7, a8, a9]
    exact (Cert.InprojIdeal.Proj.wave_eq_ref m c).symm

/-- Over the reals, the last layer's shared expert and its reference end with one result. -/
theorem algebraic_shared_last : Cert.algebraic_SharedLastIdeal_SharedLastReferenceIdeal := by
  intro m g m' g' hpre hargs
  refine ⟨fun c => (Cert.SharedLastIdeal.Gen.dats m 0 c).arrAt 3 Cert.SharedLastIdeal.cfg0.N, Cert.SharedLastIdeal.Value.run_blocks m g, ?_⟩
  refine (θ_run _ _ _).mono (fun r h c => ?_) (Cert.SharedLastReferenceIdeal.Value.run m' g')
  refine ⟨(h c).1.trans ?_, (h c).2⟩
  obtain ⟨a0, a1, a2, a3⟩ := hargs c
  refine (Cert.SharedLastReferenceIdeal.Read.val_main_v5_eq _ _ _ _).trans ?_
  rw [a0, a1, a2, a3]
  exact (Cert.SharedLastIdeal.Expert.arr_eq_ref m c).symm

/-- The input projection's reference runs, its arguments end unchanged, and it has no semaphore. -/
theorem inproj_reference_frame : Cert.quiescent_InprojReferenceIdeal := fun m g _ =>
  (θ_run _ _ _).mono (fun r h => And.intro (fun c => (h c).2.2) (sem_eq_zero_of_no_sems rfl r.2)) (Cert.InprojReferenceIdeal.Value.run m g)

/-- The last layer's shared expert's reference runs, its arguments end unchanged, and it has no semaphore. -/
theorem shared_last_reference_frame : Cert.quiescent_SharedLastReferenceIdeal := fun m g _ =>
  (θ_run _ _ _).mono (fun r h => And.intro (fun c => (h c).2) (sem_eq_zero_of_no_sems rfl r.2)) (Cert.SharedLastReferenceIdeal.Value.run m g)

/-- Over the reals, the output projection's call and its reference end with one residual stream and one array of tokens. -/
theorem algebraic_outproj : Cert.algebraic_OutprojIdeal_OutprojReferenceIdeal := by
  intro m g m' g' hpre hargs
  refine ⟨fun c => (Cert.OutprojIdeal.Gen.dats m 0 c).arrAt 13 Cert.OutprojIdeal.cfg0.N, fun c => (Cert.OutprojIdeal.Gen.dats m 0 c).arrAt 14 Cert.OutprojIdeal.cfg0.N,
    Cert.OutprojIdeal.Proj.two_results m g, ?_⟩
  refine (θ_run _ _ _).mono (fun r h c => ?_) (Cert.OutprojReferenceIdeal.Value.run m' g')
  refine ⟨(h c).1.trans ?_, (h c).2.1.trans ?_, (h c).2.2⟩
  all_goals obtain ⟨a0, a1, a2, a3, a4, a5, a6, a7, a8, a9⟩ := hargs c
  · refine (Cert.OutprojReferenceIdeal.Read.val_main_v36_eq _ _ _ _ _).trans ?_
    rw [a0, a1, a2, a3, a7]
    exact (Cert.OutprojIdeal.Proj.resid_eq_ref m c).symm
  · rw [Cert.OutprojReferenceIdeal.Read.val_main_v38_eq, a0, a1, a2, a3, a4, a5, a6, a7]
    exact (Cert.OutprojIdeal.Proj.token_eq_ref m c).symm

/-- The output projection's reference runs, its arguments end unchanged, and it has no semaphore. -/
theorem outproj_reference_frame : Cert.quiescent_OutprojReferenceIdeal := fun m g _ =>
  (θ_run _ _ _).mono (fun r h => And.intro (fun c => (h c).2.2) (sem_eq_zero_of_no_sems rfl r.2)) (Cert.OutprojReferenceIdeal.Value.run m g)

/-- The packed words of bf16 pairs carry the pairs they are read as. -/
theorem outproj_words : Cert.preserves_Outproj_OutprojIdeal :=
  ⟨IdealRules.bf16_pair.bufferStatement _ _, IdealRules.bf16_pair.bufferStatement _ _, IdealRules.bf16_pair.packStatement _,
    IdealRules.bf16_pair.statement _ _⟩

/-- Over the reals, the modulations' call and its reference end with one array. -/
theorem algebraic_mods : Cert.algebraic_ModsIdeal_ModsReferenceIdeal := by
  intro m g m' g' hpre hargs
  refine ⟨fun c => (Cert.ModsIdeal.Gen.dats m 0 c).arrAt 3 Cert.ModsIdeal.cfg0.N, Cert.ModsIdeal.Value.run_blocks m g, ?_⟩
  refine (θ_run _ _ _).mono (fun r h c => ?_) (Cert.ModsReferenceIdeal.Value.run m' g')
  refine ⟨(h c).1.trans ?_, (h c).2⟩
  obtain ⟨a0, a1, a2, a3⟩ := hargs c
  refine (Cert.ModsReferenceIdeal.Read.val_main_v58_eq _ _).trans ?_
  rw [a0, a1, a2, a3]
  exact (Cert.ModsIdeal.Cond.arr_eq_ref m c).symm

/-- The modulations' reference runs, its arguments end unchanged, and it has no semaphore. -/
theorem mods_reference_frame : Cert.quiescent_ModsReferenceIdeal := fun m g _ =>
  (θ_run _ _ _).mono (fun r h => And.intro (fun c => (h c).2) (sem_eq_zero_of_no_sems rfl r.2)) (Cert.ModsReferenceIdeal.Value.run m g)

/-- Over the reals, the destination rows' call and its reference end with one array. -/
theorem algebraic_dest : Cert.algebraic_DestIdeal_DestReferenceIdeal := by
  intro m g m' g' hpre hargs
  refine ⟨fun c => (Cert.DestIdeal.Gen.dats m 0 c).arrAt 3 Cert.DestIdeal.cfg0.N, Cert.DestIdeal.Value.run_blocks m g, ?_⟩
  refine (θ_run _ _ _).mono (fun r h c => ?_) (Cert.DestReferenceIdeal.Value.run m' g')
  refine ⟨(h c).1.trans ?_, (h c).2⟩
  obtain ⟨a0, a1, a2⟩ := hargs c
  refine (Cert.DestReferenceIdeal.Read.val_main_v15_eq _ _ _).trans ?_
  rw [a0, a1, a2]
  exact (Cert.DestIdeal.Rows.arr_eq_ref m c).symm

/-- The destination rows' reference runs, its arguments end unchanged, and it has no semaphore. -/
theorem dest_reference_frame : Cert.quiescent_DestReferenceIdeal := fun m g _ =>
  (θ_run _ _ _).mono (fun r h => And.intro (fun c => (h c).2) (sem_eq_zero_of_no_sems rfl r.2)) (Cert.DestReferenceIdeal.Value.run m g)

/-- Over the reals, the call that sums the experts and its reference end with one array. -/
theorem algebraic_combine : Cert.algebraic_CombineIdeal_CombineReferenceIdeal := by
  intro m g m' g' hpre hargs
  refine ⟨fun c => (Cert.CombineIdeal.Gen.dats m 0 c).arrAt 6 Cert.CombineIdeal.cfg0.N, Cert.CombineIdeal.Value.run_blocks m g, ?_⟩
  refine (θ_run _ _ _).mono (fun r h c => ?_) (Cert.CombineReferenceIdeal.Value.run m' g')
  refine ⟨(h c).1.trans ?_, (h c).2⟩
  obtain ⟨a0, a1, a2, a3, a4, a5⟩ := hargs c
  refine (Cert.CombineReferenceIdeal.Read.val_main_v36_eq _ _).trans ?_
  rw [a0, a1, a2, a3, a4, a5]
  exact (Cert.CombineIdeal.Sum.arr_eq_ref m c).symm

/-- The reference of the experts' sum runs, its arguments end unchanged, and it has no semaphore. -/
theorem combine_reference_frame : Cert.quiescent_CombineReferenceIdeal := fun m g _ =>
  (θ_run _ _ _).mono (fun r h => And.intro (fun c => (h c).2) (sem_eq_zero_of_no_sems rfl r.2)) (Cert.CombineReferenceIdeal.Value.run m g)

/-- Over the reals, the second layer's destination rows' call and its reference end with one array. -/
theorem algebraic_dest_last : Cert.algebraic_DestLastIdeal_DestLastReferenceIdeal := by
  intro m g m' g' hpre hargs
  refine ⟨fun c => (Cert.DestLastIdeal.Gen.dats m 0 c).arrAt 3 Cert.DestLastIdeal.cfg0.N, Cert.DestLastIdeal.Value.run_blocks m g, ?_⟩
  refine (θ_run _ _ _).mono (fun r h c => ?_) (Cert.DestLastReferenceIdeal.Value.run m' g')
  refine ⟨(h c).1.trans ?_, (h c).2⟩
  obtain ⟨a0, a1, a2⟩ := hargs c
  refine (Cert.DestLastReferenceIdeal.Read.val_main_v15_eq _ _ _).trans ?_
  rw [a0, a1, a2]
  exact (Cert.DestLastIdeal.Rows.arr_eq_ref m c).symm

/-- The second layer's destination rows' reference runs, its arguments end unchanged, and it has no semaphore. -/
theorem dest_last_reference_frame : Cert.quiescent_DestLastReferenceIdeal := fun m g _ =>
  (θ_run _ _ _).mono (fun r h => And.intro (fun c => (h c).2) (sem_eq_zero_of_no_sems rfl r.2)) (Cert.DestLastReferenceIdeal.Value.run m g)

/-- Over the reals, the first layer's call that sums the experts and its reference end with one array. -/
theorem algebraic_combine_first : Cert.algebraic_CombineFirstIdeal_CombineFirstReferenceIdeal := by
  intro m g m' g' hpre hargs
  refine ⟨fun c => (Cert.CombineFirstIdeal.Gen.dats m 0 c).arrAt 6 Cert.CombineFirstIdeal.cfg0.N, Cert.CombineFirstIdeal.Value.run_blocks m g, ?_⟩
  refine (θ_run _ _ _).mono (fun r h c => ?_) (Cert.CombineFirstReferenceIdeal.Value.run m' g')
  refine ⟨(h c).1.trans ?_, (h c).2⟩
  obtain ⟨a0, a1, a2, a3, a4, a5, a6, a7⟩ := hargs c
  refine (Cert.CombineFirstReferenceIdeal.Read.val_main_v44_eq _ _).trans ?_
  rw [a0, a1, a2, a3, a4, a5, a6, a7]
  exact (Cert.CombineFirstIdeal.Sum.arr_eq_ref m c).symm

/-- The reference of the first layer's experts' sum runs, its arguments end unchanged, and it has no semaphore. -/
theorem combine_first_reference_frame : Cert.quiescent_CombineFirstReferenceIdeal := fun m g _ =>
  (θ_run _ _ _).mono (fun r h => And.intro (fun c => (h c).2) (sem_eq_zero_of_no_sems rfl r.2)) (Cert.CombineFirstReferenceIdeal.Value.run m g)

theorem claim : Cert.Claim := ⟨Cert.Kernel.Gen.facts, Cert.KernelIdeal.Gen.facts, Cert.ReferenceIdeal.Gen.facts,
  Cert.Qkv.Gen.facts, Cert.QkvIdeal.Gen.facts, Cert.QkvReferenceIdeal.Gen.facts,
  Cert.Shared.Gen.facts, Cert.SharedIdeal.Gen.facts, Cert.SharedReferenceIdeal.Gen.facts,
  Cert.Inproj.Gen.facts, Cert.InprojIdeal.Gen.facts, Cert.InprojReferenceIdeal.Gen.facts,
  Cert.SharedLast.Gen.facts, Cert.SharedLastIdeal.Gen.facts, Cert.SharedLastReferenceIdeal.Gen.facts,
  Cert.Outproj.Gen.facts, Cert.OutprojIdeal.Gen.facts, Cert.OutprojReferenceIdeal.Gen.facts,
  Cert.Mods.Gen.facts, Cert.ModsIdeal.Gen.facts, Cert.ModsReferenceIdeal.Gen.facts,
  Cert.Dest.Gen.facts, Cert.DestIdeal.Gen.facts, Cert.DestReferenceIdeal.Gen.facts,
  Cert.Combine.Gen.facts, Cert.CombineIdeal.Gen.facts, Cert.CombineReferenceIdeal.Gen.facts,
  Cert.DestLast.Gen.facts, Cert.DestLastIdeal.Gen.facts, Cert.DestLastReferenceIdeal.Gen.facts,
  Cert.CombineFirst.Gen.facts, Cert.CombineFirstIdeal.Gen.facts, Cert.CombineFirstReferenceIdeal.Gen.facts, ⟨by decide, by decide, by decide, by decide⟩, by
  letI : Cert.Pre_finite_inputs.Facts := ⟨by decide, by decide, by decide, by decide⟩
  exact ⟨fun m ρ _ => Cert.Kernel.Gen.frame m ρ, fun m ρ _ => Cert.KernelIdeal.Gen.frame m ρ, fun m ρ _ => Cert.KernelIdeal.Gen.frame m ρ,
    reference_frame, fun m ρ _ => reference_frame m ρ trivial,
    fun m ρ _ => Cert.Qkv.Gen.frame m ρ, fun m ρ _ => Cert.QkvIdeal.Gen.frame m ρ, qkv_reference_frame,
    fun m ρ _ => Cert.Shared.Gen.frame m ρ, fun m ρ _ => Cert.SharedIdeal.Gen.frame m ρ, shared_reference_frame,
    fun m ρ _ => Cert.Inproj.Gen.frame m ρ, fun m ρ _ => Cert.InprojIdeal.Gen.frame m ρ, inproj_reference_frame,
    fun m ρ _ => Cert.SharedLast.Gen.frame m ρ, fun m ρ _ => Cert.SharedLastIdeal.Gen.frame m ρ, shared_last_reference_frame,
    fun m ρ _ => Cert.Outproj.Gen.frame m ρ, fun m ρ _ => Cert.OutprojIdeal.Gen.frame m ρ, outproj_reference_frame,
    fun m ρ _ => Cert.Mods.Gen.frame m ρ, fun m ρ _ => Cert.ModsIdeal.Gen.frame m ρ, mods_reference_frame,
    fun m ρ _ => Cert.Dest.Gen.frame m ρ, fun m ρ _ => Cert.DestIdeal.Gen.frame m ρ, dest_reference_frame,
    fun m ρ _ => Cert.Combine.Gen.frame m ρ, fun m ρ _ => Cert.CombineIdeal.Gen.frame m ρ, combine_reference_frame,
    fun m ρ _ => Cert.DestLast.Gen.frame m ρ, fun m ρ _ => Cert.DestLastIdeal.Gen.frame m ρ, dest_last_reference_frame,
    fun m ρ _ => Cert.CombineFirst.Gen.frame m ρ, fun m ρ _ => Cert.CombineFirstIdeal.Gen.frame m ρ, combine_first_reference_frame,
    IdealRules.named_const.statement Cert.KernelIdeal.κ "q_scale" .f32 0x3E38AA3B#32 _ rfl, algebraic,
    trivial, algebraic_qkv, trivial, algebraic_shared, trivial, algebraic_inproj, trivial, algebraic_shared_last, outproj_words, algebraic_outproj, trivial, algebraic_mods,
    trivial, algebraic_dest, trivial, algebraic_combine, trivial, algebraic_dest_last, trivial, algebraic_combine_first⟩⟩

end Cert.Proof

end
